-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v86)) (v3 : (c : Dev Cert.KernelIdeal.nD) → Buf (Elt Ideal) ((c.tc : Thread Cert.KernelIdeal.nD Cert.KernelIdeal.τ).loc Cert.KernelIdeal.main_v153)) (v4 : (c : Dev Cert.KernelIdeal.nD) → Buf (Elt Ideal) ((c.tc : Thread Cert.KernelIdeal.nD Cert.KernelIdeal.τ).loc Cert.KernelIdeal.main_v220)) (v5 : (c : Dev Cert.KernelIdeal.nD) → Buf (Elt Ideal) ((c.tc : Thread Cert.KernelIdeal.nD Cert.KernelIdeal.τ).loc Cert.KernelIdeal.main_arg1)) (v6 : (c : Dev Cert.KernelIdeal.nD) → Buf (Elt Ideal) ((c.tc : Thread Cert.KernelIdeal.nD Cert.KernelIdeal.τ).loc Cert.KernelIdeal.main_v68)) (v7 : (c : Dev Cert.KernelIdeal.nD) → Buf (Elt Ideal) ((c.tc : Thread Cert.KernelIdeal.nD Cert.KernelIdeal.τ).loc Cert.KernelIdeal.main_v135)) (v8 : (c : Dev Cert.KernelIdeal.nD) → Buf (Elt Ideal) ((c.tc : Thread Cert.KernelIdeal.nD Cert.KernelIdeal.τ).loc Cert.KernelIdeal.main_v202)) (v9 : (c : Dev Cert.KernelIdeal.nD) → Buf (Elt Ideal) ((c.tc : Thread Cert.KernelIdeal.nD Cert.KernelIdeal.τ).loc Cert.KernelIdeal.main_v269)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v86) = v2 c
          ∧ r.2.mem ((c.tc : Thread Cert.KernelIdeal.nD Cert.KernelIdeal.τ).loc Cert.KernelIdeal.main_v153) = v3 c
          ∧ r.2.mem ((c.tc : Thread Cert.KernelIdeal.nD Cert.KernelIdeal.τ).loc Cert.KernelIdeal.main_v220) = v4 c
          ∧ r.2.mem ((c.tc : Thread Cert.KernelIdeal.nD Cert.KernelIdeal.τ).loc Cert.KernelIdeal.main_arg1) = v5 c
          ∧ r.2.mem ((c.tc : Thread Cert.KernelIdeal.nD Cert.KernelIdeal.τ).loc Cert.KernelIdeal.main_v68) = v6 c
          ∧ r.2.mem ((c.tc : Thread Cert.KernelIdeal.nD Cert.KernelIdeal.τ).loc Cert.KernelIdeal.main_v135) = v7 c
          ∧ r.2.mem ((c.tc : Thread Cert.KernelIdeal.nD Cert.KernelIdeal.τ).loc Cert.KernelIdeal.main_v202) = v8 c
          ∧ r.2.mem ((c.tc : Thread Cert.KernelIdeal.nD Cert.KernelIdeal.τ).loc Cert.KernelIdeal.main_v269) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_v171) = v4 c
          ∧ r.2.mem ((c.tc : Thread Cert.ReferenceIdeal.nD Cert.ReferenceIdeal.τ).loc Cert.ReferenceIdeal.main_arg1) = v5 c
          ∧ r.2.mem ((c.tc : Thread Cert.ReferenceIdeal.nD Cert.ReferenceIdeal.τ).loc Cert.ReferenceIdeal.main_v55) = v6 c
          ∧ r.2.mem ((c.tc : Thread Cert.ReferenceIdeal.nD Cert.ReferenceIdeal.τ).loc Cert.ReferenceIdeal.main_v110) = v7 c
          ∧ r.2.mem ((c.tc : Thread Cert.ReferenceIdeal.nD Cert.ReferenceIdeal.τ).loc Cert.ReferenceIdeal.main_v165) = v8 c
          ∧ r.2.mem ((c.tc : Thread Cert.ReferenceIdeal.nD Cert.ReferenceIdeal.τ).loc Cert.ReferenceIdeal.main_v220) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x65536x3 : Shape := ⟨3, ![1, 65536, 3]⟩
abbrev S1x3x65536 : Shape := ⟨3, ![1, 3, 65536]⟩
abbrev S64x6 : Shape := ⟨2, ![64, 6]⟩
abbrev S64 : Shape := ⟨1, ![64]⟩
abbrev S128x67 : Shape := ⟨2, ![128, 67]⟩
abbrev S128 : Shape := ⟨1, ![128]⟩
abbrev S256x131 : Shape := ⟨2, ![256, 131]⟩
abbrev S256 : Shape := ⟨1, ![256]⟩
abbrev S256x259 : Shape := ⟨2, ![256, 259]⟩
abbrev S_ : Shape := ⟨0, ![]⟩
abbrev S1x1x65536 : Shape := ⟨3, ![1, 1, 65536]⟩
abbrev S1x65536 : Shape := ⟨2, ![1, 65536]⟩
abbrev S1x512x128 : Shape := ⟨3, ![1, 512, 128]⟩
abbrev S512x128 : Shape := ⟨2, ![512, 128]⟩
abbrev S1x128 : Shape := ⟨2, ![1, 128]⟩
abbrev S1x1 : Shape := ⟨2, ![1, 1]⟩
abbrev S1 : Shape := ⟨1, ![1]⟩
abbrev S1x1x1 : Shape := ⟨3, ![1, 1, 1]⟩
abbrev S1x65526 : Shape := ⟨2, ![1, 65526]⟩
abbrev S1x65526x1 : Shape := ⟨3, ![1, 65526, 1]⟩
abbrev S1x65526x3 : Shape := ⟨3, ![1, 65526, 3]⟩
abbrev S1x1x3 : Shape := ⟨3, ![1, 1, 3]⟩
abbrev S1x10x3 : Shape := ⟨3, ![1, 10, 3]⟩
abbrev S1x128x512x3 : Shape := ⟨4, ![1, 128, 512, 3]⟩
abbrev S65536 : Shape := ⟨1, ![65536]⟩
abbrev S128x1x512x3 : Shape := ⟨4, ![128, 1, 512, 3]⟩
abbrev S128x1x512x32 : Shape := ⟨4, ![128, 1, 512, 32]⟩
abbrev S1x1x512x3 : Shape := ⟨4, ![1, 1, 512, 3]⟩
abbrev S1x512x3 : Shape := ⟨3, ![1, 512, 3]⟩
abbrev S1x512 : Shape := ⟨2, ![1, 512]⟩
abbrev S1x512x1 : Shape := ⟨3, ![1, 512, 1]⟩
abbrev S1x512x65536 : Shape := ⟨3, ![1, 512, 65536]⟩
abbrev S512x65536 : Shape := ⟨2, ![512, 65536]⟩
abbrev S1x512x32 : Shape := ⟨3, ![1, 512, 32]⟩
abbrev S1x1x512x32 : Shape := ⟨4, ![1, 1, 512, 32]⟩
abbrev S1x128x512x32 : Shape := ⟨4, ![1, 128, 512, 32]⟩
abbrev S1x65536x32 : Shape := ⟨3, ![1, 65536, 32]⟩
abbrev S1x65526x32 : Shape := ⟨3, ![1, 65526, 32]⟩
abbrev S1x2096832 : Shape := ⟨2, ![1, 2096832]⟩
abbrev S1x2096832x1 : Shape := ⟨3, ![1, 2096832, 1]⟩
abbrev S1x2096832x3 : Shape := ⟨3, ![1, 2096832, 3]⟩
abbrev S1x65526x32x3 : Shape := ⟨4, ![1, 65526, 32, 3]⟩
abbrev S1x65526x1x3 : Shape := ⟨4, ![1, 65526, 1, 3]⟩
abbrev S1x65526x32x6 : Shape := ⟨4, ![1, 65526, 32, 6]⟩
abbrev S6x64 : Shape := ⟨2, ![6, 64]⟩
abbrev S1x65526x32x64 : Shape := ⟨4, ![1, 65526, 32, 64]⟩
abbrev S1x64 : Shape := ⟨2, ![1, 64]⟩
abbrev S1x1x1x64 : Shape := ⟨4, ![1, 1, 1, 64]⟩
abbrev S1x1x64 : Shape := ⟨3, ![1, 1, 64]⟩
abbrev S1x65526x64 : Shape := ⟨3, ![1, 65526, 64]⟩
abbrev S1x64x65526 : Shape := ⟨3, ![1, 64, 65526]⟩
abbrev S256x128 : Shape := ⟨2, ![256, 128]⟩
abbrev S1x256x128 : Shape := ⟨3, ![1, 256, 128]⟩
abbrev S1x32768 : Shape := ⟨2, ![1, 32768]⟩
abbrev S1x32768x1 : Shape := ⟨3, ![1, 32768, 1]⟩
abbrev S1x32768x3 : Shape := ⟨3, ![1, 32768, 3]⟩
abbrev S1x0x3 : Shape := ⟨3, ![1, 0, 3]⟩
abbrev S1x64x512x3 : Shape := ⟨4, ![1, 64, 512, 3]⟩
abbrev S65526 : Shape := ⟨1, ![65526]⟩
abbrev S64x1x512x3 : Shape := ⟨4, ![64, 1, 512, 3]⟩
abbrev S64x1x512x32 : Shape := ⟨4, ![64, 1, 512, 32]⟩
abbrev S1x1x65526 : Shape := ⟨3, ![1, 1, 65526]⟩
abbrev S1x512x65526 : Shape := ⟨3, ![1, 512, 65526]⟩
abbrev S1x3x65526 : Shape := ⟨3, ![1, 3, 65526]⟩
abbrev S512x65526 : Shape := ⟨2, ![512, 65526]⟩
abbrev S1x64x512x32 : Shape := ⟨4, ![1, 64, 512, 32]⟩
abbrev S1x32768x32 : Shape := ⟨3, ![1, 32768, 32]⟩
abbrev S1x1048576 : Shape := ⟨2, ![1, 1048576]⟩
abbrev S1x1048576x1 : Shape := ⟨3, ![1, 1048576, 1]⟩
abbrev S1x1048576x3 : Shape := ⟨3, ![1, 1048576, 3]⟩
abbrev S1x32768x32x3 : Shape := ⟨4, ![1, 32768, 32, 3]⟩
abbrev S1x32768x1x3 : Shape := ⟨4, ![1, 32768, 1, 3]⟩
abbrev S1x1048576x64 : Shape := ⟨3, ![1, 1048576, 64]⟩
abbrev S1x32768x32x64 : Shape := ⟨4, ![1, 32768, 32, 64]⟩
abbrev S1x32768x32x67 : Shape := ⟨4, ![1, 32768, 32, 67]⟩
abbrev S67x128 : Shape := ⟨2, ![67, 128]⟩
abbrev S1x32768x32x128 : Shape := ⟨4, ![1, 32768, 32, 128]⟩
abbrev S1x1x1x128 : Shape := ⟨4, ![1, 1, 1, 128]⟩
abbrev S1x1x128 : Shape := ⟨3, ![1, 1, 128]⟩
abbrev S1x32768x128 : Shape := ⟨3, ![1, 32768, 128]⟩
abbrev S1x128x32768 : Shape := ⟨3, ![1, 128, 32768]⟩
abbrev S1x3x32768 : Shape := ⟨3, ![1, 3, 32768]⟩
abbrev S1x1x32768 : Shape := ⟨3, ![1, 1, 32768]⟩
abbrev S128x128 : Shape := ⟨2, ![128, 128]⟩
abbrev S1x128x128 : Shape := ⟨3, ![1, 128, 128]⟩
abbrev S1x16384 : Shape := ⟨2, ![1, 16384]⟩
abbrev S1x16384x1 : Shape := ⟨3, ![1, 16384, 1]⟩
abbrev S1x16384x3 : Shape := ⟨3, ![1, 16384, 3]⟩
abbrev S1x32x512x3 : Shape := ⟨4, ![1, 32, 512, 3]⟩
abbrev S32768 : Shape := ⟨1, ![32768]⟩
abbrev S32x1x512x3 : Shape := ⟨4, ![32, 1, 512, 3]⟩
abbrev S32x1x512x64 : Shape := ⟨4, ![32, 1, 512, 64]⟩
abbrev S1x512x32768 : Shape := ⟨3, ![1, 512, 32768]⟩
abbrev S512x32768 : Shape := ⟨2, ![512, 32768]⟩
abbrev S1x512x64 : Shape := ⟨3, ![1, 512, 64]⟩
abbrev S1x1x512x64 : Shape := ⟨4, ![1, 1, 512, 64]⟩
abbrev S1x32x512x64 : Shape := ⟨4, ![1, 32, 512, 64]⟩
abbrev S1x16384x64 : Shape := ⟨3, ![1, 16384, 64]⟩
abbrev S1x16384x64x3 : Shape := ⟨4, ![1, 16384, 64, 3]⟩
abbrev S1x16384x1x3 : Shape := ⟨4, ![1, 16384, 1, 3]⟩
abbrev S1x1048576x128 : Shape := ⟨3, ![1, 1048576, 128]⟩
abbrev S1x16384x64x128 : Shape := ⟨4, ![1, 16384, 64, 128]⟩
abbrev S1x16384x64x131 : Shape := ⟨4, ![1, 16384, 64, 131]⟩
abbrev S131x256 : Shape := ⟨2, ![131, 256]⟩
abbrev S1x16384x64x256 : Shape := ⟨4, ![1, 16384, 64, 256]⟩
abbrev S1x256 : Shape := ⟨2, ![1, 256]⟩
abbrev S1x1x1x256 : Shape := ⟨4, ![1, 1, 1, 256]⟩
abbrev S1x1x256 : Shape := ⟨3, ![1, 1, 256]⟩
abbrev S1x16384x256 : Shape := ⟨3, ![1, 16384, 256]⟩
abbrev S1x256x16384 : Shape := ⟨3, ![1, 256, 16384]⟩
abbrev S1x3x16384 : Shape := ⟨3, ![1, 3, 16384]⟩
abbrev S1x1x16384 : Shape := ⟨3, ![1, 1, 16384]⟩
abbrev S64x128 : Shape := ⟨2, ![64, 128]⟩
abbrev S1x64x128 : Shape := ⟨3, ![1, 64, 128]⟩
abbrev S1x8192 : Shape := ⟨2, ![1, 8192]⟩
abbrev S1x8192x1 : Shape := ⟨3, ![1, 8192, 1]⟩
abbrev S1x8192x3 : Shape := ⟨3, ![1, 8192, 3]⟩
abbrev S1x16x512x3 : Shape := ⟨4, ![1, 16, 512, 3]⟩
abbrev S16384 : Shape := ⟨1, ![16384]⟩
abbrev S16x1x512x3 : Shape := ⟨4, ![16, 1, 512, 3]⟩
abbrev S16x1x512x64 : Shape := ⟨4, ![16, 1, 512, 64]⟩
abbrev S1x512x16384 : Shape := ⟨3, ![1, 512, 16384]⟩
abbrev S512x16384 : Shape := ⟨2, ![512, 16384]⟩
abbrev S1x16x512x64 : Shape := ⟨4, ![1, 16, 512, 64]⟩
abbrev S1x8192x64 : Shape := ⟨3, ![1, 8192, 64]⟩
abbrev S1x524288 : Shape := ⟨2, ![1, 524288]⟩
abbrev S1x524288x1 : Shape := ⟨3, ![1, 524288, 1]⟩
abbrev S1x524288x3 : Shape := ⟨3, ![1, 524288, 3]⟩
abbrev S1x8192x64x3 : Shape := ⟨4, ![1, 8192, 64, 3]⟩
abbrev S1x8192x1x3 : Shape := ⟨4, ![1, 8192, 1, 3]⟩
abbrev S1x524288x256 : Shape := ⟨3, ![1, 524288, 256]⟩
abbrev S1x8192x64x256 : Shape := ⟨4, ![1, 8192, 64, 256]⟩
abbrev S1x8192x64x259 : Shape := ⟨4, ![1, 8192, 64, 259]⟩
abbrev S259x256 : Shape := ⟨2, ![259, 256]⟩
abbrev S1x8192x256 : Shape := ⟨3, ![1, 8192, 256]⟩
abbrev S1x256x8192 : Shape := ⟨3, ![1, 256, 8192]⟩

abbrev nBuf : Space → Nat
  | .hbm => 928
  | .vmem => 20
  | .smem => 0
  | _ => 0

abbrev hbmTy0_0 (i : Nat) : BufTy := match i % 128 with
  | 0 => ⟨S1x65536x3, .f32⟩
  | 1 => ⟨S1x3x65536, .f32⟩
  | 2 => ⟨S64x6, .f32⟩
  | 3 => ⟨S64, .f32⟩
  | 4 => ⟨S64, .f32⟩
  | 5 => ⟨S128x67, .f32⟩
  | 6 => ⟨S128, .f32⟩
  | 7 => ⟨S128, .f32⟩
  | 8 => ⟨S256x131, .f32⟩
  | 9 => ⟨S256, .f32⟩
  | 10 => ⟨S256, .f32⟩
  | 11 => ⟨S256x259, .f32⟩
  | 12 => ⟨S256, .f32⟩
  | 13 => ⟨S256, .f32⟩
  | 14 => ⟨S_, .i32⟩
  | 15 => ⟨S_, .f32⟩
  | 16 => ⟨S1x65536x3, .f32⟩
  | 17 => ⟨S1x3x65536, .f32⟩
  | 18 => ⟨S1x1x65536, .f32⟩
  | 19 => ⟨S1x65536, .f32⟩
  | 20 => ⟨S1x512x128, .f32⟩
  | 21 => ⟨S1x1x65536, .f32⟩
  | 22 => ⟨S1x65536, .f32⟩
  | 23 => ⟨S1x512x128, .f32⟩
  | 24 => ⟨S1x1x65536, .f32⟩
  | 25 => ⟨S1x65536, .f32⟩
  | 26 => ⟨S1x512x128, .f32⟩
  | 27 => ⟨S512x128, .f32⟩
  | 28 => ⟨S512x128, .f32⟩
  | 29 => ⟨S512x128, .f32⟩
  | 30 => ⟨S512x128, .i32⟩
  | 31 => ⟨S1x512x128, .i32⟩
  | 32 => ⟨S1x65536, .i32⟩
  | 33 => ⟨S1x65526, .i32⟩
  | 34 => ⟨S_, .i32⟩
  | 35 => ⟨S1x65526, .i32⟩
  | 36 => ⟨S1x65526, .i1⟩
  | 37 => ⟨S_, .i32⟩
  | 38 => ⟨S1x65526, .i32⟩
  | 39 => ⟨S1x65526, .i32⟩
  | 40 => ⟨S1x65526, .i32⟩
  | 41 => ⟨S1x65526x1, .i32⟩
  | 42 => ⟨S1, .i32⟩
  | 43 => ⟨S_, .i32⟩
  | 44 => ⟨S1x65526x1, .i32⟩
  | 45 => ⟨S1x65526x1, .i1⟩
  | 46 => ⟨S1x1x1, .i32⟩
  | 47 => ⟨S1x65526x1, .i32⟩
  | 48 => ⟨S1x65526x1, .i1⟩
  | 49 => ⟨S1x65526x1, .i1⟩
  | 50 => ⟨S_, .i1⟩
  | 51 => ⟨S1x65526, .i1⟩
  | 52 => ⟨S1x65526x3, .f32⟩
  | 53 => ⟨S1x65526x3, .i1⟩
  | 54 => ⟨S_, .f32⟩
  | 55 => ⟨S1x65526x3, .f32⟩
  | 56 => ⟨S1x65526x3, .f32⟩
  | 57 => ⟨S1x1x3, .f32⟩
  | 58 => ⟨S1x10x3, .f32⟩
  | 59 => ⟨S1x65536x3, .f32⟩
  | 60 => ⟨S1x128x512x3, .f32⟩
  | 61 => ⟨S1x65536x3, .f32⟩
  | 62 => ⟨S_, .f32⟩
  | 63 => ⟨S1x65536, .f32⟩
  | 64 => ⟨S65536, .i32⟩
  | 65 => ⟨S128x1x512x3, .f32⟩
  | 66 => ⟨S_, .i32⟩
  | 67 => ⟨S128x1x512x32, .i32⟩
  | 68 => ⟨S_, .i32⟩
  | 69 => ⟨S128x1x512x3, .f32⟩
  | 70 => ⟨S1x65536, .f32⟩
  | 71 => ⟨S1x65536x3, .f32⟩
  | 72 => ⟨S65536, .i32⟩
  | 73 => ⟨S_, .i32⟩
  | 74 => ⟨S128x1x512x32, .i32⟩
  | 75 => ⟨S_, .i32⟩
  | 76 => ⟨S_, .i1⟩
  | 77 => ⟨S_, .i32⟩
  | 78 => ⟨S_, .i32⟩
  | 79 => ⟨S_, .i32⟩
  | 80 => ⟨S1x1x512x3, .f32⟩
  | 81 => ⟨S1x512x3, .f32⟩
  | 82 => ⟨S1x512x3, .f32⟩
  | 83 => ⟨S_, .f32⟩
  | 84 => ⟨S1x512, .f32⟩
  | 85 => ⟨S1x512x1, .f32⟩
  | 86 => ⟨S1x1x65536, .f32⟩
  | 87 => ⟨S1x512x65536, .f32⟩
  | 88 => ⟨S1x512x65536, .f32⟩
  | 89 => ⟨S1x512x65536, .f32⟩
  | 90 => ⟨S1x3x65536, .f32⟩
  | 91 => ⟨S1x512x65536, .f32⟩
  | 92 => ⟨S_, .f32⟩
  | 93 => ⟨S1x512x65536, .f32⟩
  | 94 => ⟨S1x512x65536, .f32⟩
  | 95 => ⟨S1x512x65536, .f32⟩
  | 96 => ⟨S_, .f32⟩
  | 97 => ⟨S1x512x65536, .f32⟩
  | 98 => ⟨S1x512x65536, .i1⟩
  | 99 => ⟨S_, .i32⟩
  | 100 => ⟨S_, .i32⟩
  | 101 => ⟨S512x65536, .i32⟩
  | 102 => ⟨S512x65536, .i32⟩
  | 103 => ⟨S1x512x65536, .i32⟩
  | 104 => ⟨S1x512x65536, .i32⟩
  | 105 => ⟨S1x512x65536, .i32⟩
  | 106 => ⟨S1x512x65536, .i32⟩
  | 107 => ⟨S1x512x32, .i32⟩
  | 108 => ⟨S1x512x32, .i32⟩
  | 109 => ⟨S1x512x32, .i32⟩
  | 110 => ⟨S_, .i32⟩
  | 111 => ⟨S1x512x32, .i32⟩
  | 112 => ⟨S1x512x32, .i1⟩
  | 113 => ⟨S1x512x1, .i32⟩
  | 114 => ⟨S1x512x32, .i32⟩
  | 115 => ⟨S1x512x32, .i32⟩
  | 116 => ⟨S_, .i32⟩
  | 117 => ⟨S_, .i32⟩
  | 118 => ⟨S_, .i32⟩
  | 119 => ⟨S1x512x32, .i32⟩
  | 120 => ⟨S1x512x32, .i32⟩
  | 121 => ⟨S_, .i32⟩
  | 122 => ⟨S1x512x32, .i32⟩
  | 123 => ⟨S1x512x32, .i32⟩
  | 124 => ⟨S1x1x512x32, .i32⟩
  | 125 => ⟨S_, .i32⟩
  | 126 => ⟨S_, .i32⟩
  | 127 => ⟨S_, .i32⟩
  | _ => ⟨S1x65536x3, .f32⟩

abbrev hbmTy0_1 (i : Nat) : BufTy := match i % 128 with
  | 0 => ⟨S128x1x512x32, .i32⟩
  | 1 => ⟨S_, .i32⟩
  | 2 => ⟨S_, .i32⟩
  | 3 => ⟨S1x128x512x32, .i32⟩
  | 4 => ⟨S1x65536x32, .i32⟩
  | 5 => ⟨S1x65526x32, .i32⟩
  | 6 => ⟨S1x2096832, .i32⟩
  | 7 => ⟨S_, .i32⟩
  | 8 => ⟨S1x2096832, .i32⟩
  | 9 => ⟨S1x2096832, .i1⟩
  | 10 => ⟨S_, .i32⟩
  | 11 => ⟨S1x2096832, .i32⟩
  | 12 => ⟨S1x2096832, .i32⟩
  | 13 => ⟨S1x2096832, .i32⟩
  | 14 => ⟨S1x2096832x1, .i32⟩
  | 15 => ⟨S1, .i32⟩
  | 16 => ⟨S_, .i32⟩
  | 17 => ⟨S1x2096832x1, .i32⟩
  | 18 => ⟨S1x2096832x1, .i1⟩
  | 19 => ⟨S1x1x1, .i32⟩
  | 20 => ⟨S1x2096832x1, .i32⟩
  | 21 => ⟨S1x2096832x1, .i1⟩
  | 22 => ⟨S1x2096832x1, .i1⟩
  | 23 => ⟨S_, .i1⟩
  | 24 => ⟨S1x2096832, .i1⟩
  | 25 => ⟨S1x2096832x3, .f32⟩
  | 26 => ⟨S1x2096832x3, .i1⟩
  | 27 => ⟨S_, .f32⟩
  | 28 => ⟨S1x2096832x3, .f32⟩
  | 29 => ⟨S1x2096832x3, .f32⟩
  | 30 => ⟨S1x65526x32x3, .f32⟩
  | 31 => ⟨S1x65526x1x3, .f32⟩
  | 32 => ⟨S1x65526x32x3, .f32⟩
  | 33 => ⟨S1x65526x32x3, .f32⟩
  | 34 => ⟨S1x65536x3, .f32⟩
  | 35 => ⟨S1x2096832, .i32⟩
  | 36 => ⟨S_, .i32⟩
  | 37 => ⟨S1x2096832, .i32⟩
  | 38 => ⟨S1x2096832, .i1⟩
  | 39 => ⟨S_, .i32⟩
  | 40 => ⟨S1x2096832, .i32⟩
  | 41 => ⟨S1x2096832, .i32⟩
  | 42 => ⟨S1x2096832, .i32⟩
  | 43 => ⟨S1x2096832x1, .i32⟩
  | 44 => ⟨S1, .i32⟩
  | 45 => ⟨S_, .i32⟩
  | 46 => ⟨S1x2096832x1, .i32⟩
  | 47 => ⟨S1x2096832x1, .i1⟩
  | 48 => ⟨S1x1x1, .i32⟩
  | 49 => ⟨S1x2096832x1, .i32⟩
  | 50 => ⟨S1x2096832x1, .i1⟩
  | 51 => ⟨S1x2096832x1, .i1⟩
  | 52 => ⟨S_, .i1⟩
  | 53 => ⟨S1x2096832, .i1⟩
  | 54 => ⟨S1x2096832x3, .f32⟩
  | 55 => ⟨S1x2096832x3, .i1⟩
  | 56 => ⟨S_, .f32⟩
  | 57 => ⟨S1x2096832x3, .f32⟩
  | 58 => ⟨S1x2096832x3, .f32⟩
  | 59 => ⟨S1x65526x32x3, .f32⟩
  | 60 => ⟨S1x65526x32x6, .f32⟩
  | 61 => ⟨S6x64, .f32⟩
  | 62 => ⟨S1x65526x32x64, .f32⟩
  | 63 => ⟨S_, .f32⟩
  | 64 => ⟨S1x64, .f32⟩
  | 65 => ⟨S_, .f32⟩
  | 66 => ⟨S1x64, .f32⟩
  | 67 => ⟨S1x64, .f32⟩
  | 68 => ⟨S_, .i32⟩
  | 69 => ⟨S_, .f32⟩
  | 70 => ⟨S1x64, .f32⟩
  | 71 => ⟨S1x1x1x64, .f32⟩
  | 72 => ⟨S_, .f32⟩
  | 73 => ⟨S1x1x1x64, .f32⟩
  | 74 => ⟨S1x1x1x64, .f32⟩
  | 75 => ⟨S1x65526x32x64, .f32⟩
  | 76 => ⟨S1x65526x32x64, .f32⟩
  | 77 => ⟨S1x65526x32x64, .f32⟩
  | 78 => ⟨S_, .f32⟩
  | 79 => ⟨S_, .f32⟩
  | 80 => ⟨S_, .f32⟩
  | 81 => ⟨S_, .f32⟩
  | 82 => ⟨S1x64, .f32⟩
  | 83 => ⟨S1x64, .f32⟩
  | 84 => ⟨S1x64, .f32⟩
  | 85 => ⟨S_, .f32⟩
  | 86 => ⟨S_, .i1⟩
  | 87 => ⟨S_, .f32⟩
  | 88 => ⟨S_, .f32⟩
  | 89 => ⟨S64, .f32⟩
  | 90 => ⟨S1x64, .f32⟩
  | 91 => ⟨S1x64, .f32⟩
  | 92 => ⟨S1x1x1x64, .f32⟩
  | 93 => ⟨S1x65526x32x64, .f32⟩
  | 94 => ⟨S1x65526x32x64, .f32⟩
  | 95 => ⟨S_, .f32⟩
  | 96 => ⟨S1x64, .f32⟩
  | 97 => ⟨S1x64, .f32⟩
  | 98 => ⟨S1x64, .f32⟩
  | 99 => ⟨S1x1x1x64, .f32⟩
  | 100 => ⟨S1x65526x32x64, .f32⟩
  | 101 => ⟨S1x65526x32x64, .f32⟩
  | 102 => ⟨S1x1x64, .f32⟩
  | 103 => ⟨S1x1x1x64, .f32⟩
  | 104 => ⟨S1x65526x32x64, .f32⟩
  | 105 => ⟨S1x65526x32x64, .f32⟩
  | 106 => ⟨S1x1x64, .f32⟩
  | 107 => ⟨S1x1x1x64, .f32⟩
  | 108 => ⟨S1x65526x32x64, .f32⟩
  | 109 => ⟨S1x65526x32x64, .f32⟩
  | 110 => ⟨S_, .f32⟩
  | 111 => ⟨S1x65526x32x64, .f32⟩
  | 112 => ⟨S1x65526x32x64, .f32⟩
  | 113 => ⟨S_, .f32⟩
  | 114 => ⟨S1x65526x64, .f32⟩
  | 115 => ⟨S1x64x65526, .f32⟩
  | 116 => ⟨S_, .i32⟩
  | 117 => ⟨S_, .f32⟩
  | 118 => ⟨S1x65536x3, .f32⟩
  | 119 => ⟨S1x3x65536, .f32⟩
  | 120 => ⟨S1x1x65536, .f32⟩
  | 121 => ⟨S1x65536, .f32⟩
  | 122 => ⟨S1x512x128, .f32⟩
  | 123 => ⟨S1x1x65536, .f32⟩
  | 124 => ⟨S1x65536, .f32⟩
  | 125 => ⟨S1x512x128, .f32⟩
  | 126 => ⟨S1x1x65536, .f32⟩
  | 127 => ⟨S1x65536, .f32⟩
  | _ => ⟨S1x65536x3, .f32⟩

abbrev hbmTy0_2 (i : Nat) : BufTy := match i % 128 with
  | 0 => ⟨S1x512x128, .f32⟩
  | 1 => ⟨S512x128, .f32⟩
  | 2 => ⟨S512x128, .f32⟩
  | 3 => ⟨S512x128, .f32⟩
  | 4 => ⟨S256x128, .i32⟩
  | 5 => ⟨S1x256x128, .i32⟩
  | 6 => ⟨S1x32768, .i32⟩
  | 7 => ⟨S_, .i32⟩
  | 8 => ⟨S1x32768, .i32⟩
  | 9 => ⟨S1x32768, .i1⟩
  | 10 => ⟨S_, .i32⟩
  | 11 => ⟨S1x32768, .i32⟩
  | 12 => ⟨S1x32768, .i32⟩
  | 13 => ⟨S1x32768, .i32⟩
  | 14 => ⟨S1x32768x1, .i32⟩
  | 15 => ⟨S1, .i32⟩
  | 16 => ⟨S_, .i32⟩
  | 17 => ⟨S1x32768x1, .i32⟩
  | 18 => ⟨S1x32768x1, .i1⟩
  | 19 => ⟨S1x1x1, .i32⟩
  | 20 => ⟨S1x32768x1, .i32⟩
  | 21 => ⟨S1x32768x1, .i1⟩
  | 22 => ⟨S1x32768x1, .i1⟩
  | 23 => ⟨S_, .i1⟩
  | 24 => ⟨S1x32768, .i1⟩
  | 25 => ⟨S1x32768x3, .f32⟩
  | 26 => ⟨S1x32768x3, .i1⟩
  | 27 => ⟨S_, .f32⟩
  | 28 => ⟨S1x32768x3, .f32⟩
  | 29 => ⟨S1x32768x3, .f32⟩
  | 30 => ⟨S1x1x3, .f32⟩
  | 31 => ⟨S1x0x3, .f32⟩
  | 32 => ⟨S1x32768x3, .f32⟩
  | 33 => ⟨S1x64x512x3, .f32⟩
  | 34 => ⟨S1x65526x3, .f32⟩
  | 35 => ⟨S_, .f32⟩
  | 36 => ⟨S1x65526, .f32⟩
  | 37 => ⟨S65526, .i32⟩
  | 38 => ⟨S64x1x512x3, .f32⟩
  | 39 => ⟨S_, .i32⟩
  | 40 => ⟨S64x1x512x32, .i32⟩
  | 41 => ⟨S_, .i32⟩
  | 42 => ⟨S64x1x512x3, .f32⟩
  | 43 => ⟨S1x65526, .f32⟩
  | 44 => ⟨S1x65526x3, .f32⟩
  | 45 => ⟨S65526, .i32⟩
  | 46 => ⟨S_, .i32⟩
  | 47 => ⟨S64x1x512x32, .i32⟩
  | 48 => ⟨S_, .i32⟩
  | 49 => ⟨S_, .i1⟩
  | 50 => ⟨S_, .i32⟩
  | 51 => ⟨S_, .i32⟩
  | 52 => ⟨S_, .i32⟩
  | 53 => ⟨S1x1x512x3, .f32⟩
  | 54 => ⟨S1x512x3, .f32⟩
  | 55 => ⟨S1x512x3, .f32⟩
  | 56 => ⟨S_, .f32⟩
  | 57 => ⟨S1x512, .f32⟩
  | 58 => ⟨S1x512x1, .f32⟩
  | 59 => ⟨S1x1x65526, .f32⟩
  | 60 => ⟨S1x512x65526, .f32⟩
  | 61 => ⟨S1x512x65526, .f32⟩
  | 62 => ⟨S1x512x65526, .f32⟩
  | 63 => ⟨S1x3x65526, .f32⟩
  | 64 => ⟨S1x512x65526, .f32⟩
  | 65 => ⟨S_, .f32⟩
  | 66 => ⟨S1x512x65526, .f32⟩
  | 67 => ⟨S1x512x65526, .f32⟩
  | 68 => ⟨S1x512x65526, .f32⟩
  | 69 => ⟨S_, .f32⟩
  | 70 => ⟨S1x512x65526, .f32⟩
  | 71 => ⟨S1x512x65526, .i1⟩
  | 72 => ⟨S_, .i32⟩
  | 73 => ⟨S_, .i32⟩
  | 74 => ⟨S512x65526, .i32⟩
  | 75 => ⟨S512x65526, .i32⟩
  | 76 => ⟨S1x512x65526, .i32⟩
  | 77 => ⟨S1x512x65526, .i32⟩
  | 78 => ⟨S1x512x65526, .i32⟩
  | 79 => ⟨S1x512x65526, .i32⟩
  | 80 => ⟨S1x512x32, .i32⟩
  | 81 => ⟨S1x512x32, .i32⟩
  | 82 => ⟨S1x512x32, .i32⟩
  | 83 => ⟨S_, .i32⟩
  | 84 => ⟨S1x512x32, .i32⟩
  | 85 => ⟨S1x512x32, .i1⟩
  | 86 => ⟨S1x512x1, .i32⟩
  | 87 => ⟨S1x512x32, .i32⟩
  | 88 => ⟨S1x512x32, .i32⟩
  | 89 => ⟨S_, .i32⟩
  | 90 => ⟨S_, .i32⟩
  | 91 => ⟨S_, .i32⟩
  | 92 => ⟨S1x512x32, .i32⟩
  | 93 => ⟨S1x512x32, .i32⟩
  | 94 => ⟨S_, .i32⟩
  | 95 => ⟨S1x512x32, .i32⟩
  | 96 => ⟨S1x512x32, .i32⟩
  | 97 => ⟨S1x1x512x32, .i32⟩
  | 98 => ⟨S_, .i32⟩
  | 99 => ⟨S_, .i32⟩
  | 100 => ⟨S_, .i32⟩
  | 101 => ⟨S64x1x512x32, .i32⟩
  | 102 => ⟨S_, .i32⟩
  | 103 => ⟨S_, .i32⟩
  | 104 => ⟨S1x64x512x32, .i32⟩
  | 105 => ⟨S1x32768x32, .i32⟩
  | 106 => ⟨S1x1048576, .i32⟩
  | 107 => ⟨S_, .i32⟩
  | 108 => ⟨S1x1048576, .i32⟩
  | 109 => ⟨S1x1048576, .i1⟩
  | 110 => ⟨S_, .i32⟩
  | 111 => ⟨S1x1048576, .i32⟩
  | 112 => ⟨S1x1048576, .i32⟩
  | 113 => ⟨S1x1048576, .i32⟩
  | 114 => ⟨S1x1048576x1, .i32⟩
  | 115 => ⟨S1, .i32⟩
  | 116 => ⟨S_, .i32⟩
  | 117 => ⟨S1x1048576x1, .i32⟩
  | 118 => ⟨S1x1048576x1, .i1⟩
  | 119 => ⟨S1x1x1, .i32⟩
  | 120 => ⟨S1x1048576x1, .i32⟩
  | 121 => ⟨S1x1048576x1, .i1⟩
  | 122 => ⟨S1x1048576x1, .i1⟩
  | 123 => ⟨S_, .i1⟩
  | 124 => ⟨S1x1048576, .i1⟩
  | 125 => ⟨S1x1048576x3, .f32⟩
  | 126 => ⟨S1x1048576x3, .i1⟩
  | 127 => ⟨S_, .f32⟩
  | _ => ⟨S1x65536x3, .f32⟩

abbrev hbmTy0_3 (i : Nat) : BufTy := match i % 128 with
  | 0 => ⟨S1x1048576x3, .f32⟩
  | 1 => ⟨S1x1048576x3, .f32⟩
  | 2 => ⟨S1x32768x32x3, .f32⟩
  | 3 => ⟨S1x32768x1x3, .f32⟩
  | 4 => ⟨S1x32768x32x3, .f32⟩
  | 5 => ⟨S1x32768x32x3, .f32⟩
  | 6 => ⟨S1x65526x64, .f32⟩
  | 7 => ⟨S1x1048576, .i32⟩
  | 8 => ⟨S_, .i32⟩
  | 9 => ⟨S1x1048576, .i32⟩
  | 10 => ⟨S1x1048576, .i1⟩
  | 11 => ⟨S_, .i32⟩
  | 12 => ⟨S1x1048576, .i32⟩
  | 13 => ⟨S1x1048576, .i32⟩
  | 14 => ⟨S1x1048576, .i32⟩
  | 15 => ⟨S1x1048576x1, .i32⟩
  | 16 => ⟨S1, .i32⟩
  | 17 => ⟨S_, .i32⟩
  | 18 => ⟨S1x1048576x1, .i32⟩
  | 19 => ⟨S1x1048576x1, .i1⟩
  | 20 => ⟨S1x1x1, .i32⟩
  | 21 => ⟨S1x1048576x1, .i32⟩
  | 22 => ⟨S1x1048576x1, .i1⟩
  | 23 => ⟨S1x1048576x1, .i1⟩
  | 24 => ⟨S_, .i1⟩
  | 25 => ⟨S1x1048576, .i1⟩
  | 26 => ⟨S1x1048576x64, .f32⟩
  | 27 => ⟨S1x1048576x64, .i1⟩
  | 28 => ⟨S_, .f32⟩
  | 29 => ⟨S1x1048576x64, .f32⟩
  | 30 => ⟨S1x1048576x64, .f32⟩
  | 31 => ⟨S1x32768x32x64, .f32⟩
  | 32 => ⟨S1x32768x32x67, .f32⟩
  | 33 => ⟨S67x128, .f32⟩
  | 34 => ⟨S1x32768x32x128, .f32⟩
  | 35 => ⟨S_, .f32⟩
  | 36 => ⟨S1x128, .f32⟩
  | 37 => ⟨S_, .f32⟩
  | 38 => ⟨S1x128, .f32⟩
  | 39 => ⟨S1x128, .f32⟩
  | 40 => ⟨S_, .i32⟩
  | 41 => ⟨S_, .f32⟩
  | 42 => ⟨S1x128, .f32⟩
  | 43 => ⟨S1x1x1x128, .f32⟩
  | 44 => ⟨S_, .f32⟩
  | 45 => ⟨S1x1x1x128, .f32⟩
  | 46 => ⟨S1x1x1x128, .f32⟩
  | 47 => ⟨S1x32768x32x128, .f32⟩
  | 48 => ⟨S1x32768x32x128, .f32⟩
  | 49 => ⟨S1x32768x32x128, .f32⟩
  | 50 => ⟨S_, .f32⟩
  | 51 => ⟨S_, .f32⟩
  | 52 => ⟨S_, .f32⟩
  | 53 => ⟨S_, .f32⟩
  | 54 => ⟨S1x128, .f32⟩
  | 55 => ⟨S1x128, .f32⟩
  | 56 => ⟨S1x128, .f32⟩
  | 57 => ⟨S_, .f32⟩
  | 58 => ⟨S_, .i1⟩
  | 59 => ⟨S_, .f32⟩
  | 60 => ⟨S_, .f32⟩
  | 61 => ⟨S128, .f32⟩
  | 62 => ⟨S1x128, .f32⟩
  | 63 => ⟨S1x128, .f32⟩
  | 64 => ⟨S1x1x1x128, .f32⟩
  | 65 => ⟨S1x32768x32x128, .f32⟩
  | 66 => ⟨S1x32768x32x128, .f32⟩
  | 67 => ⟨S_, .f32⟩
  | 68 => ⟨S1x128, .f32⟩
  | 69 => ⟨S1x128, .f32⟩
  | 70 => ⟨S1x128, .f32⟩
  | 71 => ⟨S1x1x1x128, .f32⟩
  | 72 => ⟨S1x32768x32x128, .f32⟩
  | 73 => ⟨S1x32768x32x128, .f32⟩
  | 74 => ⟨S1x1x128, .f32⟩
  | 75 => ⟨S1x1x1x128, .f32⟩
  | 76 => ⟨S1x32768x32x128, .f32⟩
  | 77 => ⟨S1x32768x32x128, .f32⟩
  | 78 => ⟨S1x1x128, .f32⟩
  | 79 => ⟨S1x1x1x128, .f32⟩
  | 80 => ⟨S1x32768x32x128, .f32⟩
  | 81 => ⟨S1x32768x32x128, .f32⟩
  | 82 => ⟨S_, .f32⟩
  | 83 => ⟨S1x32768x32x128, .f32⟩
  | 84 => ⟨S1x32768x32x128, .f32⟩
  | 85 => ⟨S_, .f32⟩
  | 86 => ⟨S1x32768x128, .f32⟩
  | 87 => ⟨S1x128x32768, .f32⟩
  | 88 => ⟨S_, .i32⟩
  | 89 => ⟨S_, .f32⟩
  | 90 => ⟨S1x32768x3, .f32⟩
  | 91 => ⟨S1x3x32768, .f32⟩
  | 92 => ⟨S1x1x32768, .f32⟩
  | 93 => ⟨S1x32768, .f32⟩
  | 94 => ⟨S1x256x128, .f32⟩
  | 95 => ⟨S1x1x32768, .f32⟩
  | 96 => ⟨S1x32768, .f32⟩
  | 97 => ⟨S1x256x128, .f32⟩
  | 98 => ⟨S1x1x32768, .f32⟩
  | 99 => ⟨S1x32768, .f32⟩
  | 100 => ⟨S1x256x128, .f32⟩
  | 101 => ⟨S256x128, .f32⟩
  | 102 => ⟨S256x128, .f32⟩
  | 103 => ⟨S256x128, .f32⟩
  | 104 => ⟨S128x128, .i32⟩
  | 105 => ⟨S1x128x128, .i32⟩
  | 106 => ⟨S1x16384, .i32⟩
  | 107 => ⟨S_, .i32⟩
  | 108 => ⟨S1x16384, .i32⟩
  | 109 => ⟨S1x16384, .i1⟩
  | 110 => ⟨S_, .i32⟩
  | 111 => ⟨S1x16384, .i32⟩
  | 112 => ⟨S1x16384, .i32⟩
  | 113 => ⟨S1x16384, .i32⟩
  | 114 => ⟨S1x16384x1, .i32⟩
  | 115 => ⟨S1, .i32⟩
  | 116 => ⟨S_, .i32⟩
  | 117 => ⟨S1x16384x1, .i32⟩
  | 118 => ⟨S1x16384x1, .i1⟩
  | 119 => ⟨S1x1x1, .i32⟩
  | 120 => ⟨S1x16384x1, .i32⟩
  | 121 => ⟨S1x16384x1, .i1⟩
  | 122 => ⟨S1x16384x1, .i1⟩
  | 123 => ⟨S_, .i1⟩
  | 124 => ⟨S1x16384, .i1⟩
  | 125 => ⟨S1x16384x3, .f32⟩
  | 126 => ⟨S1x16384x3, .i1⟩
  | 127 => ⟨S_, .f32⟩
  | _ => ⟨S1x65536x3, .f32⟩

abbrev hbmTy0_4 (i : Nat) : BufTy := match i % 128 with
  | 0 => ⟨S1x16384x3, .f32⟩
  | 1 => ⟨S1x16384x3, .f32⟩
  | 2 => ⟨S1x1x3, .f32⟩
  | 3 => ⟨S1x0x3, .f32⟩
  | 4 => ⟨S1x16384x3, .f32⟩
  | 5 => ⟨S1x32x512x3, .f32⟩
  | 6 => ⟨S1x32768x3, .f32⟩
  | 7 => ⟨S_, .f32⟩
  | 8 => ⟨S1x32768, .f32⟩
  | 9 => ⟨S32768, .i32⟩
  | 10 => ⟨S32x1x512x3, .f32⟩
  | 11 => ⟨S_, .i32⟩
  | 12 => ⟨S32x1x512x64, .i32⟩
  | 13 => ⟨S_, .i32⟩
  | 14 => ⟨S32x1x512x3, .f32⟩
  | 15 => ⟨S1x32768, .f32⟩
  | 16 => ⟨S1x32768x3, .f32⟩
  | 17 => ⟨S32768, .i32⟩
  | 18 => ⟨S_, .i32⟩
  | 19 => ⟨S32x1x512x64, .i32⟩
  | 20 => ⟨S_, .i32⟩
  | 21 => ⟨S_, .i1⟩
  | 22 => ⟨S_, .i32⟩
  | 23 => ⟨S_, .i32⟩
  | 24 => ⟨S_, .i32⟩
  | 25 => ⟨S1x1x512x3, .f32⟩
  | 26 => ⟨S1x512x3, .f32⟩
  | 27 => ⟨S1x512x3, .f32⟩
  | 28 => ⟨S_, .f32⟩
  | 29 => ⟨S1x512, .f32⟩
  | 30 => ⟨S1x512x1, .f32⟩
  | 31 => ⟨S1x1x32768, .f32⟩
  | 32 => ⟨S1x512x32768, .f32⟩
  | 33 => ⟨S1x512x32768, .f32⟩
  | 34 => ⟨S1x512x32768, .f32⟩
  | 35 => ⟨S1x3x32768, .f32⟩
  | 36 => ⟨S1x512x32768, .f32⟩
  | 37 => ⟨S_, .f32⟩
  | 38 => ⟨S1x512x32768, .f32⟩
  | 39 => ⟨S1x512x32768, .f32⟩
  | 40 => ⟨S1x512x32768, .f32⟩
  | 41 => ⟨S_, .f32⟩
  | 42 => ⟨S1x512x32768, .f32⟩
  | 43 => ⟨S1x512x32768, .i1⟩
  | 44 => ⟨S_, .i32⟩
  | 45 => ⟨S_, .i32⟩
  | 46 => ⟨S512x32768, .i32⟩
  | 47 => ⟨S512x32768, .i32⟩
  | 48 => ⟨S1x512x32768, .i32⟩
  | 49 => ⟨S1x512x32768, .i32⟩
  | 50 => ⟨S1x512x32768, .i32⟩
  | 51 => ⟨S1x512x32768, .i32⟩
  | 52 => ⟨S1x512x64, .i32⟩
  | 53 => ⟨S1x512x64, .i32⟩
  | 54 => ⟨S1x512x64, .i32⟩
  | 55 => ⟨S_, .i32⟩
  | 56 => ⟨S1x512x64, .i32⟩
  | 57 => ⟨S1x512x64, .i1⟩
  | 58 => ⟨S1x512x1, .i32⟩
  | 59 => ⟨S1x512x64, .i32⟩
  | 60 => ⟨S1x512x64, .i32⟩
  | 61 => ⟨S_, .i32⟩
  | 62 => ⟨S_, .i32⟩
  | 63 => ⟨S_, .i32⟩
  | 64 => ⟨S1x512x64, .i32⟩
  | 65 => ⟨S1x512x64, .i32⟩
  | 66 => ⟨S_, .i32⟩
  | 67 => ⟨S1x512x64, .i32⟩
  | 68 => ⟨S1x512x64, .i32⟩
  | 69 => ⟨S1x1x512x64, .i32⟩
  | 70 => ⟨S_, .i32⟩
  | 71 => ⟨S_, .i32⟩
  | 72 => ⟨S_, .i32⟩
  | 73 => ⟨S32x1x512x64, .i32⟩
  | 74 => ⟨S_, .i32⟩
  | 75 => ⟨S_, .i32⟩
  | 76 => ⟨S1x32x512x64, .i32⟩
  | 77 => ⟨S1x16384x64, .i32⟩
  | 78 => ⟨S1x1048576, .i32⟩
  | 79 => ⟨S_, .i32⟩
  | 80 => ⟨S1x1048576, .i32⟩
  | 81 => ⟨S1x1048576, .i1⟩
  | 82 => ⟨S_, .i32⟩
  | 83 => ⟨S1x1048576, .i32⟩
  | 84 => ⟨S1x1048576, .i32⟩
  | 85 => ⟨S1x1048576, .i32⟩
  | 86 => ⟨S1x1048576x1, .i32⟩
  | 87 => ⟨S1, .i32⟩
  | 88 => ⟨S_, .i32⟩
  | 89 => ⟨S1x1048576x1, .i32⟩
  | 90 => ⟨S1x1048576x1, .i1⟩
  | 91 => ⟨S1x1x1, .i32⟩
  | 92 => ⟨S1x1048576x1, .i32⟩
  | 93 => ⟨S1x1048576x1, .i1⟩
  | 94 => ⟨S1x1048576x1, .i1⟩
  | 95 => ⟨S_, .i1⟩
  | 96 => ⟨S1x1048576, .i1⟩
  | 97 => ⟨S1x1048576x3, .f32⟩
  | 98 => ⟨S1x1048576x3, .i1⟩
  | 99 => ⟨S_, .f32⟩
  | 100 => ⟨S1x1048576x3, .f32⟩
  | 101 => ⟨S1x1048576x3, .f32⟩
  | 102 => ⟨S1x16384x64x3, .f32⟩
  | 103 => ⟨S1x16384x1x3, .f32⟩
  | 104 => ⟨S1x16384x64x3, .f32⟩
  | 105 => ⟨S1x16384x64x3, .f32⟩
  | 106 => ⟨S1x32768x128, .f32⟩
  | 107 => ⟨S1x1048576, .i32⟩
  | 108 => ⟨S_, .i32⟩
  | 109 => ⟨S1x1048576, .i32⟩
  | 110 => ⟨S1x1048576, .i1⟩
  | 111 => ⟨S_, .i32⟩
  | 112 => ⟨S1x1048576, .i32⟩
  | 113 => ⟨S1x1048576, .i32⟩
  | 114 => ⟨S1x1048576, .i32⟩
  | 115 => ⟨S1x1048576x1, .i32⟩
  | 116 => ⟨S1, .i32⟩
  | 117 => ⟨S_, .i32⟩
  | 118 => ⟨S1x1048576x1, .i32⟩
  | 119 => ⟨S1x1048576x1, .i1⟩
  | 120 => ⟨S1x1x1, .i32⟩
  | 121 => ⟨S1x1048576x1, .i32⟩
  | 122 => ⟨S1x1048576x1, .i1⟩
  | 123 => ⟨S1x1048576x1, .i1⟩
  | 124 => ⟨S_, .i1⟩
  | 125 => ⟨S1x1048576, .i1⟩
  | 126 => ⟨S1x1048576x128, .f32⟩
  | 127 => ⟨S1x1048576x128, .i1⟩
  | _ => ⟨S1x65536x3, .f32⟩

abbrev hbmTy0_5 (i : Nat) : BufTy := match i % 128 with
  | 0 => ⟨S_, .f32⟩
  | 1 => ⟨S1x1048576x128, .f32⟩
  | 2 => ⟨S1x1048576x128, .f32⟩
  | 3 => ⟨S1x16384x64x128, .f32⟩
  | 4 => ⟨S1x16384x64x131, .f32⟩
  | 5 => ⟨S131x256, .f32⟩
  | 6 => ⟨S1x16384x64x256, .f32⟩
  | 7 => ⟨S_, .f32⟩
  | 8 => ⟨S1x256, .f32⟩
  | 9 => ⟨S_, .f32⟩
  | 10 => ⟨S1x256, .f32⟩
  | 11 => ⟨S1x256, .f32⟩
  | 12 => ⟨S_, .i32⟩
  | 13 => ⟨S_, .f32⟩
  | 14 => ⟨S1x256, .f32⟩
  | 15 => ⟨S1x1x1x256, .f32⟩
  | 16 => ⟨S_, .f32⟩
  | 17 => ⟨S1x1x1x256, .f32⟩
  | 18 => ⟨S1x1x1x256, .f32⟩
  | 19 => ⟨S1x16384x64x256, .f32⟩
  | 20 => ⟨S1x16384x64x256, .f32⟩
  | 21 => ⟨S1x16384x64x256, .f32⟩
  | 22 => ⟨S_, .f32⟩
  | 23 => ⟨S_, .f32⟩
  | 24 => ⟨S_, .f32⟩
  | 25 => ⟨S_, .f32⟩
  | 26 => ⟨S1x256, .f32⟩
  | 27 => ⟨S1x256, .f32⟩
  | 28 => ⟨S1x256, .f32⟩
  | 29 => ⟨S_, .f32⟩
  | 30 => ⟨S_, .i1⟩
  | 31 => ⟨S_, .f32⟩
  | 32 => ⟨S_, .f32⟩
  | 33 => ⟨S256, .f32⟩
  | 34 => ⟨S1x256, .f32⟩
  | 35 => ⟨S1x256, .f32⟩
  | 36 => ⟨S1x1x1x256, .f32⟩
  | 37 => ⟨S1x16384x64x256, .f32⟩
  | 38 => ⟨S1x16384x64x256, .f32⟩
  | 39 => ⟨S_, .f32⟩
  | 40 => ⟨S1x256, .f32⟩
  | 41 => ⟨S1x256, .f32⟩
  | 42 => ⟨S1x256, .f32⟩
  | 43 => ⟨S1x1x1x256, .f32⟩
  | 44 => ⟨S1x16384x64x256, .f32⟩
  | 45 => ⟨S1x16384x64x256, .f32⟩
  | 46 => ⟨S1x1x256, .f32⟩
  | 47 => ⟨S1x1x1x256, .f32⟩
  | 48 => ⟨S1x16384x64x256, .f32⟩
  | 49 => ⟨S1x16384x64x256, .f32⟩
  | 50 => ⟨S1x1x256, .f32⟩
  | 51 => ⟨S1x1x1x256, .f32⟩
  | 52 => ⟨S1x16384x64x256, .f32⟩
  | 53 => ⟨S1x16384x64x256, .f32⟩
  | 54 => ⟨S_, .f32⟩
  | 55 => ⟨S1x16384x64x256, .f32⟩
  | 56 => ⟨S1x16384x64x256, .f32⟩
  | 57 => ⟨S_, .f32⟩
  | 58 => ⟨S1x16384x256, .f32⟩
  | 59 => ⟨S1x256x16384, .f32⟩
  | 60 => ⟨S_, .i32⟩
  | 61 => ⟨S_, .f32⟩
  | 62 => ⟨S1x16384x3, .f32⟩
  | 63 => ⟨S1x3x16384, .f32⟩
  | 64 => ⟨S1x1x16384, .f32⟩
  | 65 => ⟨S1x16384, .f32⟩
  | 66 => ⟨S1x128x128, .f32⟩
  | 67 => ⟨S1x1x16384, .f32⟩
  | 68 => ⟨S1x16384, .f32⟩
  | 69 => ⟨S1x128x128, .f32⟩
  | 70 => ⟨S1x1x16384, .f32⟩
  | 71 => ⟨S1x16384, .f32⟩
  | 72 => ⟨S1x128x128, .f32⟩
  | 73 => ⟨S128x128, .f32⟩
  | 74 => ⟨S128x128, .f32⟩
  | 75 => ⟨S128x128, .f32⟩
  | 76 => ⟨S64x128, .i32⟩
  | 77 => ⟨S1x64x128, .i32⟩
  | 78 => ⟨S1x8192, .i32⟩
  | 79 => ⟨S_, .i32⟩
  | 80 => ⟨S1x8192, .i32⟩
  | 81 => ⟨S1x8192, .i1⟩
  | 82 => ⟨S_, .i32⟩
  | 83 => ⟨S1x8192, .i32⟩
  | 84 => ⟨S1x8192, .i32⟩
  | 85 => ⟨S1x8192, .i32⟩
  | 86 => ⟨S1x8192x1, .i32⟩
  | 87 => ⟨S1, .i32⟩
  | 88 => ⟨S_, .i32⟩
  | 89 => ⟨S1x8192x1, .i32⟩
  | 90 => ⟨S1x8192x1, .i1⟩
  | 91 => ⟨S1x1x1, .i32⟩
  | 92 => ⟨S1x8192x1, .i32⟩
  | 93 => ⟨S1x8192x1, .i1⟩
  | 94 => ⟨S1x8192x1, .i1⟩
  | 95 => ⟨S_, .i1⟩
  | 96 => ⟨S1x8192, .i1⟩
  | 97 => ⟨S1x8192x3, .f32⟩
  | 98 => ⟨S1x8192x3, .i1⟩
  | 99 => ⟨S_, .f32⟩
  | 100 => ⟨S1x8192x3, .f32⟩
  | 101 => ⟨S1x8192x3, .f32⟩
  | 102 => ⟨S1x1x3, .f32⟩
  | 103 => ⟨S1x0x3, .f32⟩
  | 104 => ⟨S1x8192x3, .f32⟩
  | 105 => ⟨S1x16x512x3, .f32⟩
  | 106 => ⟨S1x16384x3, .f32⟩
  | 107 => ⟨S_, .f32⟩
  | 108 => ⟨S1x16384, .f32⟩
  | 109 => ⟨S16384, .i32⟩
  | 110 => ⟨S16x1x512x3, .f32⟩
  | 111 => ⟨S_, .i32⟩
  | 112 => ⟨S16x1x512x64, .i32⟩
  | 113 => ⟨S_, .i32⟩
  | 114 => ⟨S16x1x512x3, .f32⟩
  | 115 => ⟨S1x16384, .f32⟩
  | 116 => ⟨S1x16384x3, .f32⟩
  | 117 => ⟨S16384, .i32⟩
  | 118 => ⟨S_, .i32⟩
  | 119 => ⟨S16x1x512x64, .i32⟩
  | 120 => ⟨S_, .i32⟩
  | 121 => ⟨S_, .i1⟩
  | 122 => ⟨S_, .i32⟩
  | 123 => ⟨S_, .i32⟩
  | 124 => ⟨S_, .i32⟩
  | 125 => ⟨S1x1x512x3, .f32⟩
  | 126 => ⟨S1x512x3, .f32⟩
  | 127 => ⟨S1x512x3, .f32⟩
  | _ => ⟨S1x65536x3, .f32⟩

abbrev hbmTy0_6 (i : Nat) : BufTy := match i % 128 with
  | 0 => ⟨S_, .f32⟩
  | 1 => ⟨S1x512, .f32⟩
  | 2 => ⟨S1x512x1, .f32⟩
  | 3 => ⟨S1x1x16384, .f32⟩
  | 4 => ⟨S1x512x16384, .f32⟩
  | 5 => ⟨S1x512x16384, .f32⟩
  | 6 => ⟨S1x512x16384, .f32⟩
  | 7 => ⟨S1x3x16384, .f32⟩
  | 8 => ⟨S1x512x16384, .f32⟩
  | 9 => ⟨S_, .f32⟩
  | 10 => ⟨S1x512x16384, .f32⟩
  | 11 => ⟨S1x512x16384, .f32⟩
  | 12 => ⟨S1x512x16384, .f32⟩
  | 13 => ⟨S_, .f32⟩
  | 14 => ⟨S1x512x16384, .f32⟩
  | 15 => ⟨S1x512x16384, .i1⟩
  | 16 => ⟨S_, .i32⟩
  | 17 => ⟨S_, .i32⟩
  | 18 => ⟨S512x16384, .i32⟩
  | 19 => ⟨S512x16384, .i32⟩
  | 20 => ⟨S1x512x16384, .i32⟩
  | 21 => ⟨S1x512x16384, .i32⟩
  | 22 => ⟨S1x512x16384, .i32⟩
  | 23 => ⟨S1x512x16384, .i32⟩
  | 24 => ⟨S1x512x64, .i32⟩
  | 25 => ⟨S1x512x64, .i32⟩
  | 26 => ⟨S1x512x64, .i32⟩
  | 27 => ⟨S_, .i32⟩
  | 28 => ⟨S1x512x64, .i32⟩
  | 29 => ⟨S1x512x64, .i1⟩
  | 30 => ⟨S1x512x1, .i32⟩
  | 31 => ⟨S1x512x64, .i32⟩
  | 32 => ⟨S1x512x64, .i32⟩
  | 33 => ⟨S_, .i32⟩
  | 34 => ⟨S_, .i32⟩
  | 35 => ⟨S_, .i32⟩
  | 36 => ⟨S1x512x64, .i32⟩
  | 37 => ⟨S1x512x64, .i32⟩
  | 38 => ⟨S_, .i32⟩
  | 39 => ⟨S1x512x64, .i32⟩
  | 40 => ⟨S1x512x64, .i32⟩
  | 41 => ⟨S1x1x512x64, .i32⟩
  | 42 => ⟨S_, .i32⟩
  | 43 => ⟨S_, .i32⟩
  | 44 => ⟨S_, .i32⟩
  | 45 => ⟨S16x1x512x64, .i32⟩
  | 46 => ⟨S_, .i32⟩
  | 47 => ⟨S_, .i32⟩
  | 48 => ⟨S1x16x512x64, .i32⟩
  | 49 => ⟨S1x8192x64, .i32⟩
  | 50 => ⟨S1x524288, .i32⟩
  | 51 => ⟨S_, .i32⟩
  | 52 => ⟨S1x524288, .i32⟩
  | 53 => ⟨S1x524288, .i1⟩
  | 54 => ⟨S_, .i32⟩
  | 55 => ⟨S1x524288, .i32⟩
  | 56 => ⟨S1x524288, .i32⟩
  | 57 => ⟨S1x524288, .i32⟩
  | 58 => ⟨S1x524288x1, .i32⟩
  | 59 => ⟨S1, .i32⟩
  | 60 => ⟨S_, .i32⟩
  | 61 => ⟨S1x524288x1, .i32⟩
  | 62 => ⟨S1x524288x1, .i1⟩
  | 63 => ⟨S1x1x1, .i32⟩
  | 64 => ⟨S1x524288x1, .i32⟩
  | 65 => ⟨S1x524288x1, .i1⟩
  | 66 => ⟨S1x524288x1, .i1⟩
  | 67 => ⟨S_, .i1⟩
  | 68 => ⟨S1x524288, .i1⟩
  | 69 => ⟨S1x524288x3, .f32⟩
  | 70 => ⟨S1x524288x3, .i1⟩
  | 71 => ⟨S_, .f32⟩
  | 72 => ⟨S1x524288x3, .f32⟩
  | 73 => ⟨S1x524288x3, .f32⟩
  | 74 => ⟨S1x8192x64x3, .f32⟩
  | 75 => ⟨S1x8192x1x3, .f32⟩
  | 76 => ⟨S1x8192x64x3, .f32⟩
  | 77 => ⟨S1x8192x64x3, .f32⟩
  | 78 => ⟨S1x16384x256, .f32⟩
  | 79 => ⟨S1x524288, .i32⟩
  | 80 => ⟨S_, .i32⟩
  | 81 => ⟨S1x524288, .i32⟩
  | 82 => ⟨S1x524288, .i1⟩
  | 83 => ⟨S_, .i32⟩
  | 84 => ⟨S1x524288, .i32⟩
  | 85 => ⟨S1x524288, .i32⟩
  | 86 => ⟨S1x524288, .i32⟩
  | 87 => ⟨S1x524288x1, .i32⟩
  | 88 => ⟨S1, .i32⟩
  | 89 => ⟨S_, .i32⟩
  | 90 => ⟨S1x524288x1, .i32⟩
  | 91 => ⟨S1x524288x1, .i1⟩
  | 92 => ⟨S1x1x1, .i32⟩
  | 93 => ⟨S1x524288x1, .i32⟩
  | 94 => ⟨S1x524288x1, .i1⟩
  | 95 => ⟨S1x524288x1, .i1⟩
  | 96 => ⟨S_, .i1⟩
  | 97 => ⟨S1x524288, .i1⟩
  | 98 => ⟨S1x524288x256, .f32⟩
  | 99 => ⟨S1x524288x256, .i1⟩
  | 100 => ⟨S_, .f32⟩
  | 101 => ⟨S1x524288x256, .f32⟩
  | 102 => ⟨S1x524288x256, .f32⟩
  | 103 => ⟨S1x8192x64x256, .f32⟩
  | 104 => ⟨S1x8192x64x259, .f32⟩
  | 105 => ⟨S259x256, .f32⟩
  | 106 => ⟨S1x8192x64x256, .f32⟩
  | 107 => ⟨S_, .f32⟩
  | 108 => ⟨S1x256, .f32⟩
  | 109 => ⟨S_, .f32⟩
  | 110 => ⟨S1x256, .f32⟩
  | 111 => ⟨S1x256, .f32⟩
  | 112 => ⟨S_, .i32⟩
  | 113 => ⟨S_, .f32⟩
  | 114 => ⟨S1x256, .f32⟩
  | 115 => ⟨S1x1x1x256, .f32⟩
  | 116 => ⟨S_, .f32⟩
  | 117 => ⟨S1x1x1x256, .f32⟩
  | 118 => ⟨S1x1x1x256, .f32⟩
  | 119 => ⟨S1x8192x64x256, .f32⟩
  | 120 => ⟨S1x8192x64x256, .f32⟩
  | 121 => ⟨S1x8192x64x256, .f32⟩
  | 122 => ⟨S_, .f32⟩
  | 123 => ⟨S_, .f32⟩
  | 124 => ⟨S_, .f32⟩
  | 125 => ⟨S_, .f32⟩
  | 126 => ⟨S1x256, .f32⟩
  | 127 => ⟨S1x256, .f32⟩
  | _ => ⟨S1x65536x3, .f32⟩

abbrev hbmTy0_7 (i : Nat) : BufTy := match i % 128 with
  | 0 => ⟨S1x256, .f32⟩
  | 1 => ⟨S_, .f32⟩
  | 2 => ⟨S_, .i1⟩
  | 3 => ⟨S_, .f32⟩
  | 4 => ⟨S_, .f32⟩
  | 5 => ⟨S256, .f32⟩
  | 6 => ⟨S1x256, .f32⟩
  | 7 => ⟨S1x256, .f32⟩
  | 8 => ⟨S1x1x1x256, .f32⟩
  | 9 => ⟨S1x8192x64x256, .f32⟩
  | 10 => ⟨S1x8192x64x256, .f32⟩
  | 11 => ⟨S_, .f32⟩
  | 12 => ⟨S1x256, .f32⟩
  | 13 => ⟨S1x256, .f32⟩
  | 14 => ⟨S1x256, .f32⟩
  | 15 => ⟨S1x1x1x256, .f32⟩
  | 16 => ⟨S1x8192x64x256, .f32⟩
  | 17 => ⟨S1x8192x64x256, .f32⟩
  | 18 => ⟨S1x1x256, .f32⟩
  | 19 => ⟨S1x1x1x256, .f32⟩
  | 20 => ⟨S1x8192x64x256, .f32⟩
  | 21 => ⟨S1x8192x64x256, .f32⟩
  | 22 => ⟨S1x1x256, .f32⟩
  | 23 => ⟨S1x1x1x256, .f32⟩
  | 24 => ⟨S1x8192x64x256, .f32⟩
  | 25 => ⟨S1x8192x64x256, .f32⟩
  | 26 => ⟨S_, .f32⟩
  | 27 => ⟨S1x8192x64x256, .f32⟩
  | 28 => ⟨S1x8192x64x256, .f32⟩
  | 29 => ⟨S_, .f32⟩
  | 30 => ⟨S1x8192x256, .f32⟩
  | 31 => ⟨S1x256x8192, .f32⟩
  | _ => ⟨S1x65536x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S1x65536x3, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .i32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S256x128, .i32⟩
  | .local _ .vmem, ⟨9, _⟩ => ⟨S512x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S128x128, .i32⟩
  | .local _ .vmem, ⟨14, _⟩ => ⟨S256x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S64x128, .i32⟩
  | .local _ .vmem, ⟨19, _⟩ => ⟨S128x128, .f32⟩
  | _, _ => ⟨S1x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_c_0 : Ref sig .tc := ⟨.hbm, 66, rfl⟩
abbrev main_v27 : Ref sig .tc := ⟨.hbm, 67, rfl⟩
abbrev main_c_1 : Ref sig .tc := ⟨.hbm, 68, rfl⟩
abbrev main_v28_0 : Ref sig .tc := ⟨.hbm, 69, rfl⟩
abbrev main_v28_1 : Ref sig .tc := ⟨.hbm, 70, rfl⟩
abbrev main_v28_2 : Ref sig .tc := ⟨.hbm, 71, rfl⟩
abbrev main_v28_3 : Ref sig .tc := ⟨.hbm, 72, rfl⟩
abbrev main_v28_4 : Ref sig .tc := ⟨.hbm, 73, rfl⟩
abbrev main_v28_5 : Ref sig .tc := ⟨.hbm, 74, rfl⟩
abbrev main_while0c_c_39 : Ref sig .tc := ⟨.hbm, 75, rfl⟩
abbrev main_while0c_v270 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_v0 : Ref sig .tc := ⟨.hbm, 80, rfl⟩
abbrev main_while0b_v270 : Ref sig .tc := ⟨.hbm, 81, rfl⟩
abbrev main_while0b_v271 : Ref sig .tc := ⟨.hbm, 82, rfl⟩
abbrev main_while0b_cst_39 : Ref sig .tc := ⟨.hbm, 83, rfl⟩
abbrev main_while0b_v272 : Ref sig .tc := ⟨.hbm, 84, rfl⟩
abbrev main_while0b_v273 : Ref sig .tc := ⟨.hbm, 85, rfl⟩
abbrev main_while0b_v274 : Ref sig .tc := ⟨.hbm, 86, rfl⟩
abbrev main_while0b_v275 : Ref sig .tc := ⟨.hbm, 87, rfl⟩
abbrev main_while0b_v276 : Ref sig .tc := ⟨.hbm, 88, rfl⟩
abbrev main_while0b_v277 : Ref sig .tc := ⟨.hbm, 89, rfl⟩
abbrev main_while0b_v278 : Ref sig .tc := ⟨.hbm, 90, rfl⟩
abbrev main_while0b_v279 : Ref sig .tc := ⟨.hbm, 91, rfl⟩
abbrev main_while0b_cst_40 : Ref sig .tc := ⟨.hbm, 92, rfl⟩
abbrev main_while0b_v280 : Ref sig .tc := ⟨.hbm, 93, rfl⟩
abbrev main_while0b_v281 : Ref sig .tc := ⟨.hbm, 94, rfl⟩
abbrev main_while0b_v282 : Ref sig .tc := ⟨.hbm, 95, rfl⟩
abbrev main_while0b_cst_41 : Ref sig .tc := ⟨.hbm, 96, rfl⟩
abbrev main_while0b_v283 : Ref sig .tc := ⟨.hbm, 97, rfl⟩
abbrev main_while0b_v284 : Ref sig .tc := ⟨.hbm, 98, rfl⟩
abbrev main_while0b_c_42 : Ref sig .tc := ⟨.hbm, 99, rfl⟩
abbrev main_while0b_call3_v0 : Ref sig .tc := ⟨.hbm, 100, rfl⟩
abbrev main_while0b_call3_v1 : Ref sig .tc := ⟨.hbm, 101, rfl⟩
abbrev main_while0b_call3_v2 : Ref sig .tc := ⟨.hbm, 102, rfl⟩
abbrev main_while0b_call3_v3 : Ref sig .tc := ⟨.hbm, 103, rfl⟩
abbrev main_while0b_call3_v4 : Ref sig .tc := ⟨.hbm, 104, rfl⟩
abbrev main_while0b_v285 : Ref sig .tc := ⟨.hbm, 105, rfl⟩
abbrev main_while0b_v286 : Ref sig .tc := ⟨.hbm, 106, rfl⟩
abbrev main_while0b_values : Ref sig .tc := ⟨.hbm, 107, rfl⟩
abbrev main_while0b_indices : Ref sig .tc := ⟨.hbm, 108, rfl⟩
abbrev main_while0b_v287 : Ref sig .tc := ⟨.hbm, 109, rfl⟩
abbrev main_while0b_c_43 : Ref sig .tc := ⟨.hbm, 110, rfl⟩
abbrev main_while0b_v288 : Ref sig .tc := ⟨.hbm, 111, rfl⟩
abbrev main_while0b_v289 : Ref sig .tc := ⟨.hbm, 112, rfl⟩
abbrev main_while0b_v290 : Ref sig .tc := ⟨.hbm, 113, rfl⟩
abbrev main_while0b_call4_v0 : Ref sig .tc := ⟨.hbm, 114, rfl⟩
abbrev main_while0b_v291 : Ref sig .tc := ⟨.hbm, 115, rfl⟩
abbrev main_while0b_c_44 : Ref sig .tc := ⟨.hbm, 116, rfl⟩
abbrev main_while0b_c_45 : Ref sig .tc := ⟨.hbm, 117, rfl⟩
abbrev main_while0b_call5_v0 : Ref sig .tc := ⟨.hbm, 118, rfl⟩
abbrev main_while0b_call5_v1 : Ref sig .tc := ⟨.hbm, 119, rfl⟩
abbrev main_while0b_call5_v2 : Ref sig .tc := ⟨.hbm, 120, rfl⟩
abbrev main_while0b_call5_v3 : Ref sig .tc := ⟨.hbm, 121, rfl⟩
abbrev main_while0b_call5_v4 : Ref sig .tc := ⟨.hbm, 122, rfl⟩
abbrev main_while0b_v292 : Ref sig .tc := ⟨.hbm, 123, rfl⟩
abbrev main_while0b_call6_v0 : Ref sig .tc := ⟨.hbm, 124, rfl⟩
abbrev main_while0b_call6_c : Ref sig .tc := ⟨.hbm, 125, rfl⟩
abbrev main_while0b_call6_c_0 : Ref sig .tc := ⟨.hbm, 126, rfl⟩
abbrev main_while0b_call6_c_1 : Ref sig .tc := ⟨.hbm, 127, rfl⟩
abbrev main_while0b_v293 : Ref sig .tc := ⟨.hbm, 128, rfl⟩
abbrev main_while0b_c_46 : Ref sig .tc := ⟨.hbm, 129, rfl⟩
abbrev main_while0b_v294 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_call7_c : Ref sig .tc := ⟨.hbm, 135, rfl⟩
abbrev main_call7_v0 : Ref sig .tc := ⟨.hbm, 136, rfl⟩
abbrev main_call7_v1 : Ref sig .tc := ⟨.hbm, 137, rfl⟩
abbrev main_call7_c_0 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_call7_v5 : Ref sig .tc := ⟨.hbm, 142, rfl⟩
abbrev main_call7_c_1 : Ref sig .tc := ⟨.hbm, 143, rfl⟩
abbrev main_call7_c_2 : Ref sig .tc := ⟨.hbm, 144, rfl⟩
abbrev main_call7_v6 : Ref sig .tc := ⟨.hbm, 145, rfl⟩
abbrev main_call7_v7 : Ref sig .tc := ⟨.hbm, 146, rfl⟩
abbrev main_call7_v8 : Ref sig .tc := ⟨.hbm, 147, rfl⟩
abbrev main_call7_v9 : Ref sig .tc := ⟨.hbm, 148, rfl⟩
abbrev main_call7_v10 : Ref sig .tc := ⟨.hbm, 149, rfl⟩
abbrev main_call7_v11 : Ref sig .tc := ⟨.hbm, 150, rfl⟩
abbrev main_call7_c_3 : Ref sig .tc := ⟨.hbm, 151, rfl⟩
abbrev main_call7_v12 : Ref sig .tc := ⟨.hbm, 152, rfl⟩
abbrev main_call7_v13 : Ref sig .tc := ⟨.hbm, 153, rfl⟩
abbrev main_call7_v14 : Ref sig .tc := ⟨.hbm, 154, rfl⟩
abbrev main_call7_cst : Ref sig .tc := ⟨.hbm, 155, rfl⟩
abbrev main_call7_v15 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_call8_c : Ref sig .tc := ⟨.hbm, 164, rfl⟩
abbrev main_call8_v0 : Ref sig .tc := ⟨.hbm, 165, rfl⟩
abbrev main_call8_v1 : Ref sig .tc := ⟨.hbm, 166, rfl⟩
abbrev main_call8_c_0 : Ref sig .tc := ⟨.hbm, 167, rfl⟩
abbrev main_call8_v2 : Ref sig .tc := ⟨.hbm, 168, rfl⟩
abbrev main_call8_v3 : Ref sig .tc := ⟨.hbm, 169, rfl⟩
abbrev main_call8_v4 : Ref sig .tc := ⟨.hbm, 170, rfl⟩
abbrev main_call8_v5 : Ref sig .tc := ⟨.hbm, 171, rfl⟩
abbrev main_call8_c_1 : Ref sig .tc := ⟨.hbm, 172, rfl⟩
abbrev main_call8_c_2 : Ref sig .tc := ⟨.hbm, 173, rfl⟩
abbrev main_call8_v6 : Ref sig .tc := ⟨.hbm, 174, rfl⟩
abbrev main_call8_v7 : Ref sig .tc := ⟨.hbm, 175, rfl⟩
abbrev main_call8_v8 : Ref sig .tc := ⟨.hbm, 176, rfl⟩
abbrev main_call8_v9 : Ref sig .tc := ⟨.hbm, 177, rfl⟩
abbrev main_call8_v10 : Ref sig .tc := ⟨.hbm, 178, rfl⟩
abbrev main_call8_v11 : Ref sig .tc := ⟨.hbm, 179, rfl⟩
abbrev main_call8_c_3 : Ref sig .tc := ⟨.hbm, 180, rfl⟩
abbrev main_call8_v12 : Ref sig .tc := ⟨.hbm, 181, rfl⟩
abbrev main_call8_v13 : Ref sig .tc := ⟨.hbm, 182, rfl⟩
abbrev main_call8_v14 : Ref sig .tc := ⟨.hbm, 183, rfl⟩
abbrev main_call8_cst : Ref sig .tc := ⟨.hbm, 184, rfl⟩
abbrev main_call8_v15 : Ref sig .tc := ⟨.hbm, 185, rfl⟩
abbrev main_v40 : Ref sig .tc := ⟨.hbm, 186, rfl⟩
abbrev main_v41 : Ref sig .tc := ⟨.hbm, 187, rfl⟩
abbrev main_v42 : Ref sig .tc := ⟨.hbm, 188, rfl⟩
abbrev main_v43 : Ref sig .tc := ⟨.hbm, 189, rfl⟩
abbrev main_v44 : Ref sig .tc := ⟨.hbm, 190, rfl⟩
abbrev main_cst_2 : Ref sig .tc := ⟨.hbm, 191, rfl⟩
abbrev main_v45 : Ref sig .tc := ⟨.hbm, 192, rfl⟩
abbrev main_cst_3 : Ref sig .tc := ⟨.hbm, 193, rfl⟩
abbrev main_v46 : Ref sig .tc := ⟨.hbm, 194, rfl⟩
abbrev main_v47 : Ref sig .tc := ⟨.hbm, 195, rfl⟩
abbrev main_c_4 : Ref sig .tc := ⟨.hbm, 196, rfl⟩
abbrev main_call9_cst : Ref sig .tc := ⟨.hbm, 197, rfl⟩
abbrev main_call9_v0 : Ref sig .tc := ⟨.hbm, 198, rfl⟩
abbrev main_call9_v1 : Ref sig .tc := ⟨.hbm, 199, rfl⟩
abbrev main_call9_cst_0 : Ref sig .tc := ⟨.hbm, 200, rfl⟩
abbrev main_call9_v2 : Ref sig .tc := ⟨.hbm, 201, rfl⟩
abbrev main_call9_v3 : Ref sig .tc := ⟨.hbm, 202, rfl⟩
abbrev main_call9_v4 : Ref sig .tc := ⟨.hbm, 203, rfl⟩
abbrev main_call9_v5 : Ref sig .tc := ⟨.hbm, 204, rfl⟩
abbrev main_call9_v6 : Ref sig .tc := ⟨.hbm, 205, rfl⟩
abbrev main_call9_v7 : Ref sig .tc := ⟨.hbm, 206, rfl⟩
abbrev main_call9_cst_1 : Ref sig .tc := ⟨.hbm, 207, rfl⟩
abbrev main_call9_v8 : Ref sig .tc := ⟨.hbm, 208, rfl⟩
abbrev main_call9_cst_2 : Ref sig .tc := ⟨.hbm, 209, rfl⟩
abbrev main_call9_v9 : Ref sig .tc := ⟨.hbm, 210, rfl⟩
abbrev main_call9_v10 : Ref sig .tc := ⟨.hbm, 211, rfl⟩
abbrev main_call9_v11 : Ref sig .tc := ⟨.hbm, 212, rfl⟩
abbrev main_call9_cst_3 : Ref sig .tc := ⟨.hbm, 213, rfl⟩
abbrev main_call9_v12 : Ref sig .tc := ⟨.hbm, 214, rfl⟩
abbrev main_call9_cst_4 : Ref sig .tc := ⟨.hbm, 215, rfl⟩
abbrev main_call9_call0_v0 : Ref sig .tc := ⟨.hbm, 216, rfl⟩
abbrev main_call9_call0_v1 : Ref sig .tc := ⟨.hbm, 217, rfl⟩
abbrev main_call9_call0_v2 : Ref sig .tc := ⟨.hbm, 218, rfl⟩
abbrev main_v48 : Ref sig .tc := ⟨.hbm, 219, rfl⟩
abbrev main_v49 : Ref sig .tc := ⟨.hbm, 220, rfl⟩
abbrev main_v50 : Ref sig .tc := ⟨.hbm, 221, rfl⟩
abbrev main_v51 : Ref sig .tc := ⟨.hbm, 222, rfl⟩
abbrev main_cst_5 : Ref sig .tc := ⟨.hbm, 223, rfl⟩
abbrev main_v52 : Ref sig .tc := ⟨.hbm, 224, rfl⟩
abbrev main_v53 : Ref sig .tc := ⟨.hbm, 225, rfl⟩
abbrev main_v54 : Ref sig .tc := ⟨.hbm, 226, rfl⟩
abbrev main_v55 : Ref sig .tc := ⟨.hbm, 227, rfl⟩
abbrev main_v56 : Ref sig .tc := ⟨.hbm, 228, rfl⟩
abbrev main_v57 : Ref sig .tc := ⟨.hbm, 229, rfl⟩
abbrev main_v58 : Ref sig .tc := ⟨.hbm, 230, rfl⟩
abbrev main_v59 : Ref sig .tc := ⟨.hbm, 231, rfl⟩
abbrev main_v60 : Ref sig .tc := ⟨.hbm, 232, rfl⟩
abbrev main_v61 : Ref sig .tc := ⟨.hbm, 233, rfl⟩
abbrev main_v62 : Ref sig .tc := ⟨.hbm, 234, rfl⟩
abbrev main_v63 : Ref sig .tc := ⟨.hbm, 235, rfl⟩
abbrev main_v64 : Ref sig .tc := ⟨.hbm, 236, rfl⟩
abbrev main_v65 : Ref sig .tc := ⟨.hbm, 237, rfl⟩
abbrev main_call10_cst : Ref sig .tc := ⟨.hbm, 238, rfl⟩
abbrev main_call10_v0 : Ref sig .tc := ⟨.hbm, 239, rfl⟩
abbrev main_v66 : Ref sig .tc := ⟨.hbm, 240, rfl⟩
abbrev main_cst_6 : Ref sig .tc := ⟨.hbm, 241, rfl⟩
abbrev main_v67 : Ref sig .tc := ⟨.hbm, 242, rfl⟩
abbrev main_v68 : Ref sig .tc := ⟨.hbm, 243, rfl⟩
abbrev main_c_7 : Ref sig .tc := ⟨.hbm, 244, rfl⟩
abbrev main_call11_v0 : Ref sig .tc := ⟨.hbm, 245, rfl⟩
abbrev main_v69 : Ref sig .tc := ⟨.hbm, 246, rfl⟩
abbrev main_v70 : Ref sig .tc := ⟨.hbm, 247, rfl⟩
abbrev main_v71 : Ref sig .tc := ⟨.hbm, 248, rfl⟩
abbrev main_v72 : Ref sig .tc := ⟨.hbm, 249, rfl⟩
abbrev main_v73 : Ref sig .tc := ⟨.hbm, 250, rfl⟩
abbrev main_v74 : Ref sig .tc := ⟨.hbm, 251, rfl⟩
abbrev main_v75 : Ref sig .tc := ⟨.hbm, 252, rfl⟩
abbrev main_v76 : Ref sig .tc := ⟨.hbm, 253, rfl⟩
abbrev main_v77 : Ref sig .tc := ⟨.hbm, 254, rfl⟩
abbrev main_v78 : Ref sig .tc := ⟨.hbm, 255, rfl⟩
abbrev main_v79 : Ref sig .tc := ⟨.hbm, 256, rfl⟩
abbrev main_v80 : Ref sig .tc := ⟨.hbm, 257, rfl⟩
abbrev main_v81 : Ref sig .tc := ⟨.hbm, 258, rfl⟩
abbrev main_v82 : Ref sig .tc := ⟨.hbm, 259, rfl⟩
abbrev main_v83 : Ref sig .tc := ⟨.hbm, 260, rfl⟩
abbrev main_v84 : Ref sig .tc := ⟨.hbm, 261, rfl⟩
abbrev main_v85 : Ref sig .tc := ⟨.hbm, 262, rfl⟩
abbrev main_call12_c : Ref sig .tc := ⟨.hbm, 263, rfl⟩
abbrev main_call12_v0 : Ref sig .tc := ⟨.hbm, 264, rfl⟩
abbrev main_call12_v1 : Ref sig .tc := ⟨.hbm, 265, rfl⟩
abbrev main_call12_c_0 : Ref sig .tc := ⟨.hbm, 266, rfl⟩
abbrev main_call12_v2 : Ref sig .tc := ⟨.hbm, 267, rfl⟩
abbrev main_call12_v3 : Ref sig .tc := ⟨.hbm, 268, rfl⟩
abbrev main_call12_v4 : Ref sig .tc := ⟨.hbm, 269, rfl⟩
abbrev main_call12_v5 : Ref sig .tc := ⟨.hbm, 270, rfl⟩
abbrev main_call12_c_1 : Ref sig .tc := ⟨.hbm, 271, rfl⟩
abbrev main_call12_c_2 : Ref sig .tc := ⟨.hbm, 272, rfl⟩
abbrev main_call12_v6 : Ref sig .tc := ⟨.hbm, 273, rfl⟩
abbrev main_call12_v7 : Ref sig .tc := ⟨.hbm, 274, rfl⟩
abbrev main_call12_v8 : Ref sig .tc := ⟨.hbm, 275, rfl⟩
abbrev main_call12_v9 : Ref sig .tc := ⟨.hbm, 276, rfl⟩
abbrev main_call12_v10 : Ref sig .tc := ⟨.hbm, 277, rfl⟩
abbrev main_call12_v11 : Ref sig .tc := ⟨.hbm, 278, rfl⟩
abbrev main_call12_c_3 : Ref sig .tc := ⟨.hbm, 279, rfl⟩
abbrev main_call12_v12 : Ref sig .tc := ⟨.hbm, 280, rfl⟩
abbrev main_call12_v13 : Ref sig .tc := ⟨.hbm, 281, rfl⟩
abbrev main_call12_v14 : Ref sig .tc := ⟨.hbm, 282, rfl⟩
abbrev main_call12_cst : Ref sig .tc := ⟨.hbm, 283, rfl⟩
abbrev main_call12_v15 : Ref sig .tc := ⟨.hbm, 284, rfl⟩
abbrev main_v86 : Ref sig .tc := ⟨.hbm, 285, rfl⟩
abbrev main_v87 : Ref sig .tc := ⟨.hbm, 286, rfl⟩
abbrev main_v88 : Ref sig .tc := ⟨.hbm, 287, rfl⟩
abbrev main_v89 : Ref sig .tc := ⟨.hbm, 288, rfl⟩
abbrev main_v90 : Ref sig .tc := ⟨.hbm, 289, rfl⟩
abbrev main_v91 : Ref sig .tc := ⟨.hbm, 290, rfl⟩
abbrev main_cst_8 : Ref sig .tc := ⟨.hbm, 291, rfl⟩
abbrev main_v92 : Ref sig .tc := ⟨.hbm, 292, rfl⟩
abbrev main_v93 : Ref sig .tc := ⟨.hbm, 293, rfl⟩
abbrev main_v94 : Ref sig .tc := ⟨.hbm, 294, rfl⟩
abbrev main_c_9 : Ref sig .tc := ⟨.hbm, 295, rfl⟩
abbrev main_v95 : Ref sig .tc := ⟨.hbm, 296, rfl⟩
abbrev main_c_10 : Ref sig .tc := ⟨.hbm, 297, rfl⟩
abbrev main_v96_0 : Ref sig .tc := ⟨.hbm, 298, rfl⟩
abbrev main_v96_1 : Ref sig .tc := ⟨.hbm, 299, rfl⟩
abbrev main_v96_2 : Ref sig .tc := ⟨.hbm, 300, rfl⟩
abbrev main_v96_3 : Ref sig .tc := ⟨.hbm, 301, rfl⟩
abbrev main_v96_4 : Ref sig .tc := ⟨.hbm, 302, rfl⟩
abbrev main_v96_5 : Ref sig .tc := ⟨.hbm, 303, rfl⟩
abbrev main_while1c_c_39 : Ref sig .tc := ⟨.hbm, 304, rfl⟩
abbrev main_while1c_v270 : Ref sig .tc := ⟨.hbm, 305, rfl⟩
abbrev main_while1b_call13_c : Ref sig .tc := ⟨.hbm, 306, rfl⟩
abbrev main_while1b_call13_c_0 : Ref sig .tc := ⟨.hbm, 307, rfl⟩
abbrev main_while1b_call13_c_1 : Ref sig .tc := ⟨.hbm, 308, rfl⟩
abbrev main_while1b_call13_v0 : Ref sig .tc := ⟨.hbm, 309, rfl⟩
abbrev main_while1b_v270 : Ref sig .tc := ⟨.hbm, 310, rfl⟩
abbrev main_while1b_v271 : Ref sig .tc := ⟨.hbm, 311, rfl⟩
abbrev main_while1b_cst_39 : Ref sig .tc := ⟨.hbm, 312, rfl⟩
abbrev main_while1b_v272 : Ref sig .tc := ⟨.hbm, 313, rfl⟩
abbrev main_while1b_v273 : Ref sig .tc := ⟨.hbm, 314, rfl⟩
abbrev main_while1b_v274 : Ref sig .tc := ⟨.hbm, 315, rfl⟩
abbrev main_while1b_v275 : Ref sig .tc := ⟨.hbm, 316, rfl⟩
abbrev main_while1b_v276 : Ref sig .tc := ⟨.hbm, 317, rfl⟩
abbrev main_while1b_v277 : Ref sig .tc := ⟨.hbm, 318, rfl⟩
abbrev main_while1b_v278 : Ref sig .tc := ⟨.hbm, 319, rfl⟩
abbrev main_while1b_v279 : Ref sig .tc := ⟨.hbm, 320, rfl⟩
abbrev main_while1b_cst_40 : Ref sig .tc := ⟨.hbm, 321, rfl⟩
abbrev main_while1b_v280 : Ref sig .tc := ⟨.hbm, 322, rfl⟩
abbrev main_while1b_v281 : Ref sig .tc := ⟨.hbm, 323, rfl⟩
abbrev main_while1b_v282 : Ref sig .tc := ⟨.hbm, 324, rfl⟩
abbrev main_while1b_cst_41 : Ref sig .tc := ⟨.hbm, 325, rfl⟩
abbrev main_while1b_v283 : Ref sig .tc := ⟨.hbm, 326, rfl⟩
abbrev main_while1b_v284 : Ref sig .tc := ⟨.hbm, 327, rfl⟩
abbrev main_while1b_c_42 : Ref sig .tc := ⟨.hbm, 328, rfl⟩
abbrev main_while1b_call14_v0 : Ref sig .tc := ⟨.hbm, 329, rfl⟩
abbrev main_while1b_call14_v1 : Ref sig .tc := ⟨.hbm, 330, rfl⟩
abbrev main_while1b_call14_v2 : Ref sig .tc := ⟨.hbm, 331, rfl⟩
abbrev main_while1b_call14_v3 : Ref sig .tc := ⟨.hbm, 332, rfl⟩
abbrev main_while1b_call14_v4 : Ref sig .tc := ⟨.hbm, 333, rfl⟩
abbrev main_while1b_v285 : Ref sig .tc := ⟨.hbm, 334, rfl⟩
abbrev main_while1b_v286 : Ref sig .tc := ⟨.hbm, 335, rfl⟩
abbrev main_while1b_values : Ref sig .tc := ⟨.hbm, 336, rfl⟩
abbrev main_while1b_indices : Ref sig .tc := ⟨.hbm, 337, rfl⟩
abbrev main_while1b_v287 : Ref sig .tc := ⟨.hbm, 338, rfl⟩
abbrev main_while1b_c_43 : Ref sig .tc := ⟨.hbm, 339, rfl⟩
abbrev main_while1b_v288 : Ref sig .tc := ⟨.hbm, 340, rfl⟩
abbrev main_while1b_v289 : Ref sig .tc := ⟨.hbm, 341, rfl⟩
abbrev main_while1b_v290 : Ref sig .tc := ⟨.hbm, 342, rfl⟩
abbrev main_while1b_call15_v0 : Ref sig .tc := ⟨.hbm, 343, rfl⟩
abbrev main_while1b_v291 : Ref sig .tc := ⟨.hbm, 344, rfl⟩
abbrev main_while1b_c_44 : Ref sig .tc := ⟨.hbm, 345, rfl⟩
abbrev main_while1b_c_45 : Ref sig .tc := ⟨.hbm, 346, rfl⟩
abbrev main_while1b_call16_v0 : Ref sig .tc := ⟨.hbm, 347, rfl⟩
abbrev main_while1b_call16_v1 : Ref sig .tc := ⟨.hbm, 348, rfl⟩
abbrev main_while1b_call16_v2 : Ref sig .tc := ⟨.hbm, 349, rfl⟩
abbrev main_while1b_call16_v3 : Ref sig .tc := ⟨.hbm, 350, rfl⟩
abbrev main_while1b_call16_v4 : Ref sig .tc := ⟨.hbm, 351, rfl⟩
abbrev main_while1b_v292 : Ref sig .tc := ⟨.hbm, 352, rfl⟩
abbrev main_while1b_call17_v0 : Ref sig .tc := ⟨.hbm, 353, rfl⟩
abbrev main_while1b_call17_c : Ref sig .tc := ⟨.hbm, 354, rfl⟩
abbrev main_while1b_call17_c_0 : Ref sig .tc := ⟨.hbm, 355, rfl⟩
abbrev main_while1b_call17_c_1 : Ref sig .tc := ⟨.hbm, 356, rfl⟩
abbrev main_while1b_v293 : Ref sig .tc := ⟨.hbm, 357, rfl⟩
abbrev main_while1b_c_46 : Ref sig .tc := ⟨.hbm, 358, rfl⟩
abbrev main_while1b_v294 : Ref sig .tc := ⟨.hbm, 359, rfl⟩
abbrev main_v97 : Ref sig .tc := ⟨.hbm, 360, rfl⟩
abbrev main_v98 : Ref sig .tc := ⟨.hbm, 361, rfl⟩
abbrev main_v99 : Ref sig .tc := ⟨.hbm, 362, rfl⟩
abbrev main_call18_c : Ref sig .tc := ⟨.hbm, 363, rfl⟩
abbrev main_call18_v0 : Ref sig .tc := ⟨.hbm, 364, rfl⟩
abbrev main_call18_v1 : Ref sig .tc := ⟨.hbm, 365, rfl⟩
abbrev main_call18_c_0 : Ref sig .tc := ⟨.hbm, 366, rfl⟩
abbrev main_call18_v2 : Ref sig .tc := ⟨.hbm, 367, rfl⟩
abbrev main_call18_v3 : Ref sig .tc := ⟨.hbm, 368, rfl⟩
abbrev main_call18_v4 : Ref sig .tc := ⟨.hbm, 369, rfl⟩
abbrev main_call18_v5 : Ref sig .tc := ⟨.hbm, 370, rfl⟩
abbrev main_call18_c_1 : Ref sig .tc := ⟨.hbm, 371, rfl⟩
abbrev main_call18_c_2 : Ref sig .tc := ⟨.hbm, 372, rfl⟩
abbrev main_call18_v6 : Ref sig .tc := ⟨.hbm, 373, rfl⟩
abbrev main_call18_v7 : Ref sig .tc := ⟨.hbm, 374, rfl⟩
abbrev main_call18_v8 : Ref sig .tc := ⟨.hbm, 375, rfl⟩
abbrev main_call18_v9 : Ref sig .tc := ⟨.hbm, 376, rfl⟩
abbrev main_call18_v10 : Ref sig .tc := ⟨.hbm, 377, rfl⟩
abbrev main_call18_v11 : Ref sig .tc := ⟨.hbm, 378, rfl⟩
abbrev main_call18_c_3 : Ref sig .tc := ⟨.hbm, 379, rfl⟩
abbrev main_call18_v12 : Ref sig .tc := ⟨.hbm, 380, rfl⟩
abbrev main_call18_v13 : Ref sig .tc := ⟨.hbm, 381, rfl⟩
abbrev main_call18_v14 : Ref sig .tc := ⟨.hbm, 382, rfl⟩
abbrev main_call18_cst : Ref sig .tc := ⟨.hbm, 383, rfl⟩
abbrev main_call18_v15 : Ref sig .tc := ⟨.hbm, 384, rfl⟩
abbrev main_v100 : Ref sig .tc := ⟨.hbm, 385, rfl⟩
abbrev main_v101 : Ref sig .tc := ⟨.hbm, 386, rfl⟩
abbrev main_v102 : Ref sig .tc := ⟨.hbm, 387, rfl⟩
abbrev main_v103 : Ref sig .tc := ⟨.hbm, 388, rfl⟩
abbrev main_v104 : Ref sig .tc := ⟨.hbm, 389, rfl⟩
abbrev main_v105 : Ref sig .tc := ⟨.hbm, 390, rfl⟩
abbrev main_v106 : Ref sig .tc := ⟨.hbm, 391, rfl⟩
abbrev main_call19_c : Ref sig .tc := ⟨.hbm, 392, rfl⟩
abbrev main_call19_v0 : Ref sig .tc := ⟨.hbm, 393, rfl⟩
abbrev main_call19_v1 : Ref sig .tc := ⟨.hbm, 394, rfl⟩
abbrev main_call19_c_0 : Ref sig .tc := ⟨.hbm, 395, rfl⟩
abbrev main_call19_v2 : Ref sig .tc := ⟨.hbm, 396, rfl⟩
abbrev main_call19_v3 : Ref sig .tc := ⟨.hbm, 397, rfl⟩
abbrev main_call19_v4 : Ref sig .tc := ⟨.hbm, 398, rfl⟩
abbrev main_call19_v5 : Ref sig .tc := ⟨.hbm, 399, rfl⟩
abbrev main_call19_c_1 : Ref sig .tc := ⟨.hbm, 400, rfl⟩
abbrev main_call19_c_2 : Ref sig .tc := ⟨.hbm, 401, rfl⟩
abbrev main_call19_v6 : Ref sig .tc := ⟨.hbm, 402, rfl⟩
abbrev main_call19_v7 : Ref sig .tc := ⟨.hbm, 403, rfl⟩
abbrev main_call19_v8 : Ref sig .tc := ⟨.hbm, 404, rfl⟩
abbrev main_call19_v9 : Ref sig .tc := ⟨.hbm, 405, rfl⟩
abbrev main_call19_v10 : Ref sig .tc := ⟨.hbm, 406, rfl⟩
abbrev main_call19_v11 : Ref sig .tc := ⟨.hbm, 407, rfl⟩
abbrev main_call19_c_3 : Ref sig .tc := ⟨.hbm, 408, rfl⟩
abbrev main_call19_v12 : Ref sig .tc := ⟨.hbm, 409, rfl⟩
abbrev main_call19_v13 : Ref sig .tc := ⟨.hbm, 410, rfl⟩
abbrev main_call19_v14 : Ref sig .tc := ⟨.hbm, 411, rfl⟩
abbrev main_call19_cst : Ref sig .tc := ⟨.hbm, 412, rfl⟩
abbrev main_call19_v15 : Ref sig .tc := ⟨.hbm, 413, rfl⟩
abbrev main_v107 : Ref sig .tc := ⟨.hbm, 414, rfl⟩
abbrev main_v108 : Ref sig .tc := ⟨.hbm, 415, rfl⟩
abbrev main_v109 : Ref sig .tc := ⟨.hbm, 416, rfl⟩
abbrev main_v110 : Ref sig .tc := ⟨.hbm, 417, rfl⟩
abbrev main_v111 : Ref sig .tc := ⟨.hbm, 418, rfl⟩
abbrev main_cst_11 : Ref sig .tc := ⟨.hbm, 419, rfl⟩
abbrev main_v112 : Ref sig .tc := ⟨.hbm, 420, rfl⟩
abbrev main_cst_12 : Ref sig .tc := ⟨.hbm, 421, rfl⟩
abbrev main_v113 : Ref sig .tc := ⟨.hbm, 422, rfl⟩
abbrev main_v114 : Ref sig .tc := ⟨.hbm, 423, rfl⟩
abbrev main_c_13 : Ref sig .tc := ⟨.hbm, 424, rfl⟩
abbrev main_call20_cst : Ref sig .tc := ⟨.hbm, 425, rfl⟩
abbrev main_call20_v0 : Ref sig .tc := ⟨.hbm, 426, rfl⟩
abbrev main_call20_v1 : Ref sig .tc := ⟨.hbm, 427, rfl⟩
abbrev main_call20_cst_0 : Ref sig .tc := ⟨.hbm, 428, rfl⟩
abbrev main_call20_v2 : Ref sig .tc := ⟨.hbm, 429, rfl⟩
abbrev main_call20_v3 : Ref sig .tc := ⟨.hbm, 430, rfl⟩
abbrev main_call20_v4 : Ref sig .tc := ⟨.hbm, 431, rfl⟩
abbrev main_call20_v5 : Ref sig .tc := ⟨.hbm, 432, rfl⟩
abbrev main_call20_v6 : Ref sig .tc := ⟨.hbm, 433, rfl⟩
abbrev main_call20_v7 : Ref sig .tc := ⟨.hbm, 434, rfl⟩
abbrev main_call20_cst_1 : Ref sig .tc := ⟨.hbm, 435, rfl⟩
abbrev main_call20_v8 : Ref sig .tc := ⟨.hbm, 436, rfl⟩
abbrev main_call20_cst_2 : Ref sig .tc := ⟨.hbm, 437, rfl⟩
abbrev main_call20_v9 : Ref sig .tc := ⟨.hbm, 438, rfl⟩
abbrev main_call20_v10 : Ref sig .tc := ⟨.hbm, 439, rfl⟩
abbrev main_call20_v11 : Ref sig .tc := ⟨.hbm, 440, rfl⟩
abbrev main_call20_cst_3 : Ref sig .tc := ⟨.hbm, 441, rfl⟩
abbrev main_call20_v12 : Ref sig .tc := ⟨.hbm, 442, rfl⟩
abbrev main_call20_cst_4 : Ref sig .tc := ⟨.hbm, 443, rfl⟩
abbrev main_call20_call0_v0 : Ref sig .tc := ⟨.hbm, 444, rfl⟩
abbrev main_call20_call0_v1 : Ref sig .tc := ⟨.hbm, 445, rfl⟩
abbrev main_call20_call0_v2 : Ref sig .tc := ⟨.hbm, 446, rfl⟩
abbrev main_v115 : Ref sig .tc := ⟨.hbm, 447, rfl⟩
abbrev main_v116 : Ref sig .tc := ⟨.hbm, 448, rfl⟩
abbrev main_v117 : Ref sig .tc := ⟨.hbm, 449, rfl⟩
abbrev main_v118 : Ref sig .tc := ⟨.hbm, 450, rfl⟩
abbrev main_cst_14 : Ref sig .tc := ⟨.hbm, 451, rfl⟩
abbrev main_v119 : Ref sig .tc := ⟨.hbm, 452, rfl⟩
abbrev main_v120 : Ref sig .tc := ⟨.hbm, 453, rfl⟩
abbrev main_v121 : Ref sig .tc := ⟨.hbm, 454, rfl⟩
abbrev main_v122 : Ref sig .tc := ⟨.hbm, 455, rfl⟩
abbrev main_v123 : Ref sig .tc := ⟨.hbm, 456, rfl⟩
abbrev main_v124 : Ref sig .tc := ⟨.hbm, 457, rfl⟩
abbrev main_v125 : Ref sig .tc := ⟨.hbm, 458, rfl⟩
abbrev main_v126 : Ref sig .tc := ⟨.hbm, 459, rfl⟩
abbrev main_v127 : Ref sig .tc := ⟨.hbm, 460, rfl⟩
abbrev main_v128 : Ref sig .tc := ⟨.hbm, 461, rfl⟩
abbrev main_v129 : Ref sig .tc := ⟨.hbm, 462, rfl⟩
abbrev main_v130 : Ref sig .tc := ⟨.hbm, 463, rfl⟩
abbrev main_v131 : Ref sig .tc := ⟨.hbm, 464, rfl⟩
abbrev main_v132 : Ref sig .tc := ⟨.hbm, 465, rfl⟩
abbrev main_call21_cst : Ref sig .tc := ⟨.hbm, 466, rfl⟩
abbrev main_call21_v0 : Ref sig .tc := ⟨.hbm, 467, rfl⟩
abbrev main_v133 : Ref sig .tc := ⟨.hbm, 468, rfl⟩
abbrev main_cst_15 : Ref sig .tc := ⟨.hbm, 469, rfl⟩
abbrev main_v134 : Ref sig .tc := ⟨.hbm, 470, rfl⟩
abbrev main_v135 : Ref sig .tc := ⟨.hbm, 471, rfl⟩
abbrev main_c_16 : Ref sig .tc := ⟨.hbm, 472, rfl⟩
abbrev main_call22_v0 : Ref sig .tc := ⟨.hbm, 473, rfl⟩
abbrev main_v136 : Ref sig .tc := ⟨.hbm, 474, rfl⟩
abbrev main_v137 : Ref sig .tc := ⟨.hbm, 475, rfl⟩
abbrev main_v138 : Ref sig .tc := ⟨.hbm, 476, rfl⟩
abbrev main_v139 : Ref sig .tc := ⟨.hbm, 477, rfl⟩
abbrev main_v140 : Ref sig .tc := ⟨.hbm, 478, rfl⟩
abbrev main_v141 : Ref sig .tc := ⟨.hbm, 479, rfl⟩
abbrev main_v142 : Ref sig .tc := ⟨.hbm, 480, rfl⟩
abbrev main_v143 : Ref sig .tc := ⟨.hbm, 481, rfl⟩
abbrev main_v144 : Ref sig .tc := ⟨.hbm, 482, rfl⟩
abbrev main_v145 : Ref sig .tc := ⟨.hbm, 483, rfl⟩
abbrev main_v146 : Ref sig .tc := ⟨.hbm, 484, rfl⟩
abbrev main_v147 : Ref sig .tc := ⟨.hbm, 485, rfl⟩
abbrev main_v148 : Ref sig .tc := ⟨.hbm, 486, rfl⟩
abbrev main_v149 : Ref sig .tc := ⟨.hbm, 487, rfl⟩
abbrev main_v150 : Ref sig .tc := ⟨.hbm, 488, rfl⟩
abbrev main_v151 : Ref sig .tc := ⟨.hbm, 489, rfl⟩
abbrev main_v152 : Ref sig .tc := ⟨.hbm, 490, rfl⟩
abbrev main_call23_c : Ref sig .tc := ⟨.hbm, 491, rfl⟩
abbrev main_call23_v0 : Ref sig .tc := ⟨.hbm, 492, rfl⟩
abbrev main_call23_v1 : Ref sig .tc := ⟨.hbm, 493, rfl⟩
abbrev main_call23_c_0 : Ref sig .tc := ⟨.hbm, 494, rfl⟩
abbrev main_call23_v2 : Ref sig .tc := ⟨.hbm, 495, rfl⟩
abbrev main_call23_v3 : Ref sig .tc := ⟨.hbm, 496, rfl⟩
abbrev main_call23_v4 : Ref sig .tc := ⟨.hbm, 497, rfl⟩
abbrev main_call23_v5 : Ref sig .tc := ⟨.hbm, 498, rfl⟩
abbrev main_call23_c_1 : Ref sig .tc := ⟨.hbm, 499, rfl⟩
abbrev main_call23_c_2 : Ref sig .tc := ⟨.hbm, 500, rfl⟩
abbrev main_call23_v6 : Ref sig .tc := ⟨.hbm, 501, rfl⟩
abbrev main_call23_v7 : Ref sig .tc := ⟨.hbm, 502, rfl⟩
abbrev main_call23_v8 : Ref sig .tc := ⟨.hbm, 503, rfl⟩
abbrev main_call23_v9 : Ref sig .tc := ⟨.hbm, 504, rfl⟩
abbrev main_call23_v10 : Ref sig .tc := ⟨.hbm, 505, rfl⟩
abbrev main_call23_v11 : Ref sig .tc := ⟨.hbm, 506, rfl⟩
abbrev main_call23_c_3 : Ref sig .tc := ⟨.hbm, 507, rfl⟩
abbrev main_call23_v12 : Ref sig .tc := ⟨.hbm, 508, rfl⟩
abbrev main_call23_v13 : Ref sig .tc := ⟨.hbm, 509, rfl⟩
abbrev main_call23_v14 : Ref sig .tc := ⟨.hbm, 510, rfl⟩
abbrev main_call23_cst : Ref sig .tc := ⟨.hbm, 511, rfl⟩
abbrev main_call23_v15 : Ref sig .tc := ⟨.hbm, 512, rfl⟩
abbrev main_v153 : Ref sig .tc := ⟨.hbm, 513, rfl⟩
abbrev main_v154 : Ref sig .tc := ⟨.hbm, 514, rfl⟩
abbrev main_v155 : Ref sig .tc := ⟨.hbm, 515, rfl⟩
abbrev main_v156 : Ref sig .tc := ⟨.hbm, 516, rfl⟩
abbrev main_v157 : Ref sig .tc := ⟨.hbm, 517, rfl⟩
abbrev main_v158 : Ref sig .tc := ⟨.hbm, 518, rfl⟩
abbrev main_cst_17 : Ref sig .tc := ⟨.hbm, 519, rfl⟩
abbrev main_v159 : Ref sig .tc := ⟨.hbm, 520, rfl⟩
abbrev main_v160 : Ref sig .tc := ⟨.hbm, 521, rfl⟩
abbrev main_v161 : Ref sig .tc := ⟨.hbm, 522, rfl⟩
abbrev main_c_18 : Ref sig .tc := ⟨.hbm, 523, rfl⟩
abbrev main_v162 : Ref sig .tc := ⟨.hbm, 524, rfl⟩
abbrev main_c_19 : Ref sig .tc := ⟨.hbm, 525, rfl⟩
abbrev main_v163_0 : Ref sig .tc := ⟨.hbm, 526, rfl⟩
abbrev main_v163_1 : Ref sig .tc := ⟨.hbm, 527, rfl⟩
abbrev main_v163_2 : Ref sig .tc := ⟨.hbm, 528, rfl⟩
abbrev main_v163_3 : Ref sig .tc := ⟨.hbm, 529, rfl⟩
abbrev main_v163_4 : Ref sig .tc := ⟨.hbm, 530, rfl⟩
abbrev main_v163_5 : Ref sig .tc := ⟨.hbm, 531, rfl⟩
abbrev main_while2c_c_39 : Ref sig .tc := ⟨.hbm, 532, rfl⟩
abbrev main_while2c_v270 : Ref sig .tc := ⟨.hbm, 533, rfl⟩
abbrev main_while2b_call24_c : Ref sig .tc := ⟨.hbm, 534, rfl⟩
abbrev main_while2b_call24_c_0 : Ref sig .tc := ⟨.hbm, 535, rfl⟩
abbrev main_while2b_call24_c_1 : Ref sig .tc := ⟨.hbm, 536, rfl⟩
abbrev main_while2b_call24_v0 : Ref sig .tc := ⟨.hbm, 537, rfl⟩
abbrev main_while2b_v270 : Ref sig .tc := ⟨.hbm, 538, rfl⟩
abbrev main_while2b_v271 : Ref sig .tc := ⟨.hbm, 539, rfl⟩
abbrev main_while2b_cst_39 : Ref sig .tc := ⟨.hbm, 540, rfl⟩
abbrev main_while2b_v272 : Ref sig .tc := ⟨.hbm, 541, rfl⟩
abbrev main_while2b_v273 : Ref sig .tc := ⟨.hbm, 542, rfl⟩
abbrev main_while2b_v274 : Ref sig .tc := ⟨.hbm, 543, rfl⟩
abbrev main_while2b_v275 : Ref sig .tc := ⟨.hbm, 544, rfl⟩
abbrev main_while2b_v276 : Ref sig .tc := ⟨.hbm, 545, rfl⟩
abbrev main_while2b_v277 : Ref sig .tc := ⟨.hbm, 546, rfl⟩
abbrev main_while2b_v278 : Ref sig .tc := ⟨.hbm, 547, rfl⟩
abbrev main_while2b_v279 : Ref sig .tc := ⟨.hbm, 548, rfl⟩
abbrev main_while2b_cst_40 : Ref sig .tc := ⟨.hbm, 549, rfl⟩
abbrev main_while2b_v280 : Ref sig .tc := ⟨.hbm, 550, rfl⟩
abbrev main_while2b_v281 : Ref sig .tc := ⟨.hbm, 551, rfl⟩
abbrev main_while2b_v282 : Ref sig .tc := ⟨.hbm, 552, rfl⟩
abbrev main_while2b_cst_41 : Ref sig .tc := ⟨.hbm, 553, rfl⟩
abbrev main_while2b_v283 : Ref sig .tc := ⟨.hbm, 554, rfl⟩
abbrev main_while2b_v284 : Ref sig .tc := ⟨.hbm, 555, rfl⟩
abbrev main_while2b_c_42 : Ref sig .tc := ⟨.hbm, 556, rfl⟩
abbrev main_while2b_call25_v0 : Ref sig .tc := ⟨.hbm, 557, rfl⟩
abbrev main_while2b_call25_v1 : Ref sig .tc := ⟨.hbm, 558, rfl⟩
abbrev main_while2b_call25_v2 : Ref sig .tc := ⟨.hbm, 559, rfl⟩
abbrev main_while2b_call25_v3 : Ref sig .tc := ⟨.hbm, 560, rfl⟩
abbrev main_while2b_call25_v4 : Ref sig .tc := ⟨.hbm, 561, rfl⟩
abbrev main_while2b_v285 : Ref sig .tc := ⟨.hbm, 562, rfl⟩
abbrev main_while2b_v286 : Ref sig .tc := ⟨.hbm, 563, rfl⟩
abbrev main_while2b_values : Ref sig .tc := ⟨.hbm, 564, rfl⟩
abbrev main_while2b_indices : Ref sig .tc := ⟨.hbm, 565, rfl⟩
abbrev main_while2b_v287 : Ref sig .tc := ⟨.hbm, 566, rfl⟩
abbrev main_while2b_c_43 : Ref sig .tc := ⟨.hbm, 567, rfl⟩
abbrev main_while2b_v288 : Ref sig .tc := ⟨.hbm, 568, rfl⟩
abbrev main_while2b_v289 : Ref sig .tc := ⟨.hbm, 569, rfl⟩
abbrev main_while2b_v290 : Ref sig .tc := ⟨.hbm, 570, rfl⟩
abbrev main_while2b_call26_v0 : Ref sig .tc := ⟨.hbm, 571, rfl⟩
abbrev main_while2b_v291 : Ref sig .tc := ⟨.hbm, 572, rfl⟩
abbrev main_while2b_c_44 : Ref sig .tc := ⟨.hbm, 573, rfl⟩
abbrev main_while2b_c_45 : Ref sig .tc := ⟨.hbm, 574, rfl⟩
abbrev main_while2b_call27_v0 : Ref sig .tc := ⟨.hbm, 575, rfl⟩
abbrev main_while2b_call27_v1 : Ref sig .tc := ⟨.hbm, 576, rfl⟩
abbrev main_while2b_call27_v2 : Ref sig .tc := ⟨.hbm, 577, rfl⟩
abbrev main_while2b_call27_v3 : Ref sig .tc := ⟨.hbm, 578, rfl⟩
abbrev main_while2b_call27_v4 : Ref sig .tc := ⟨.hbm, 579, rfl⟩
abbrev main_while2b_v292 : Ref sig .tc := ⟨.hbm, 580, rfl⟩
abbrev main_while2b_call28_v0 : Ref sig .tc := ⟨.hbm, 581, rfl⟩
abbrev main_while2b_call28_c : Ref sig .tc := ⟨.hbm, 582, rfl⟩
abbrev main_while2b_call28_c_0 : Ref sig .tc := ⟨.hbm, 583, rfl⟩
abbrev main_while2b_call28_c_1 : Ref sig .tc := ⟨.hbm, 584, rfl⟩
abbrev main_while2b_v293 : Ref sig .tc := ⟨.hbm, 585, rfl⟩
abbrev main_while2b_c_46 : Ref sig .tc := ⟨.hbm, 586, rfl⟩
abbrev main_while2b_v294 : Ref sig .tc := ⟨.hbm, 587, rfl⟩
abbrev main_v164 : Ref sig .tc := ⟨.hbm, 588, rfl⟩
abbrev main_v165 : Ref sig .tc := ⟨.hbm, 589, rfl⟩
abbrev main_v166 : Ref sig .tc := ⟨.hbm, 590, rfl⟩
abbrev main_call29_c : Ref sig .tc := ⟨.hbm, 591, rfl⟩
abbrev main_call29_v0 : Ref sig .tc := ⟨.hbm, 592, rfl⟩
abbrev main_call29_v1 : Ref sig .tc := ⟨.hbm, 593, rfl⟩
abbrev main_call29_c_0 : Ref sig .tc := ⟨.hbm, 594, rfl⟩
abbrev main_call29_v2 : Ref sig .tc := ⟨.hbm, 595, rfl⟩
abbrev main_call29_v3 : Ref sig .tc := ⟨.hbm, 596, rfl⟩
abbrev main_call29_v4 : Ref sig .tc := ⟨.hbm, 597, rfl⟩
abbrev main_call29_v5 : Ref sig .tc := ⟨.hbm, 598, rfl⟩
abbrev main_call29_c_1 : Ref sig .tc := ⟨.hbm, 599, rfl⟩
abbrev main_call29_c_2 : Ref sig .tc := ⟨.hbm, 600, rfl⟩
abbrev main_call29_v6 : Ref sig .tc := ⟨.hbm, 601, rfl⟩
abbrev main_call29_v7 : Ref sig .tc := ⟨.hbm, 602, rfl⟩
abbrev main_call29_v8 : Ref sig .tc := ⟨.hbm, 603, rfl⟩
abbrev main_call29_v9 : Ref sig .tc := ⟨.hbm, 604, rfl⟩
abbrev main_call29_v10 : Ref sig .tc := ⟨.hbm, 605, rfl⟩
abbrev main_call29_v11 : Ref sig .tc := ⟨.hbm, 606, rfl⟩
abbrev main_call29_c_3 : Ref sig .tc := ⟨.hbm, 607, rfl⟩
abbrev main_call29_v12 : Ref sig .tc := ⟨.hbm, 608, rfl⟩
abbrev main_call29_v13 : Ref sig .tc := ⟨.hbm, 609, rfl⟩
abbrev main_call29_v14 : Ref sig .tc := ⟨.hbm, 610, rfl⟩
abbrev main_call29_cst : Ref sig .tc := ⟨.hbm, 611, rfl⟩
abbrev main_call29_v15 : Ref sig .tc := ⟨.hbm, 612, rfl⟩
abbrev main_v167 : Ref sig .tc := ⟨.hbm, 613, rfl⟩
abbrev main_v168 : Ref sig .tc := ⟨.hbm, 614, rfl⟩
abbrev main_v169 : Ref sig .tc := ⟨.hbm, 615, rfl⟩
abbrev main_v170 : Ref sig .tc := ⟨.hbm, 616, rfl⟩
abbrev main_v171 : Ref sig .tc := ⟨.hbm, 617, rfl⟩
abbrev main_v172 : Ref sig .tc := ⟨.hbm, 618, rfl⟩
abbrev main_v173 : Ref sig .tc := ⟨.hbm, 619, rfl⟩
abbrev main_call30_c : Ref sig .tc := ⟨.hbm, 620, rfl⟩
abbrev main_call30_v0 : Ref sig .tc := ⟨.hbm, 621, rfl⟩
abbrev main_call30_v1 : Ref sig .tc := ⟨.hbm, 622, rfl⟩
abbrev main_call30_c_0 : Ref sig .tc := ⟨.hbm, 623, rfl⟩
abbrev main_call30_v2 : Ref sig .tc := ⟨.hbm, 624, rfl⟩
abbrev main_call30_v3 : Ref sig .tc := ⟨.hbm, 625, rfl⟩
abbrev main_call30_v4 : Ref sig .tc := ⟨.hbm, 626, rfl⟩
abbrev main_call30_v5 : Ref sig .tc := ⟨.hbm, 627, rfl⟩
abbrev main_call30_c_1 : Ref sig .tc := ⟨.hbm, 628, rfl⟩
abbrev main_call30_c_2 : Ref sig .tc := ⟨.hbm, 629, rfl⟩
abbrev main_call30_v6 : Ref sig .tc := ⟨.hbm, 630, rfl⟩
abbrev main_call30_v7 : Ref sig .tc := ⟨.hbm, 631, rfl⟩
abbrev main_call30_v8 : Ref sig .tc := ⟨.hbm, 632, rfl⟩
abbrev main_call30_v9 : Ref sig .tc := ⟨.hbm, 633, rfl⟩
abbrev main_call30_v10 : Ref sig .tc := ⟨.hbm, 634, rfl⟩
abbrev main_call30_v11 : Ref sig .tc := ⟨.hbm, 635, rfl⟩
abbrev main_call30_c_3 : Ref sig .tc := ⟨.hbm, 636, rfl⟩
abbrev main_call30_v12 : Ref sig .tc := ⟨.hbm, 637, rfl⟩
abbrev main_call30_v13 : Ref sig .tc := ⟨.hbm, 638, rfl⟩
abbrev main_call30_v14 : Ref sig .tc := ⟨.hbm, 639, rfl⟩
abbrev main_call30_cst : Ref sig .tc := ⟨.hbm, 640, rfl⟩
abbrev main_call30_v15 : Ref sig .tc := ⟨.hbm, 641, rfl⟩
abbrev main_v174 : Ref sig .tc := ⟨.hbm, 642, rfl⟩
abbrev main_v175 : Ref sig .tc := ⟨.hbm, 643, rfl⟩
abbrev main_v176 : Ref sig .tc := ⟨.hbm, 644, rfl⟩
abbrev main_v177 : Ref sig .tc := ⟨.hbm, 645, rfl⟩
abbrev main_v178 : Ref sig .tc := ⟨.hbm, 646, rfl⟩
abbrev main_cst_20 : Ref sig .tc := ⟨.hbm, 647, rfl⟩
abbrev main_v179 : Ref sig .tc := ⟨.hbm, 648, rfl⟩
abbrev main_cst_21 : Ref sig .tc := ⟨.hbm, 649, rfl⟩
abbrev main_v180 : Ref sig .tc := ⟨.hbm, 650, rfl⟩
abbrev main_v181 : Ref sig .tc := ⟨.hbm, 651, rfl⟩
abbrev main_c_22 : Ref sig .tc := ⟨.hbm, 652, rfl⟩
abbrev main_call31_cst : Ref sig .tc := ⟨.hbm, 653, rfl⟩
abbrev main_call31_v0 : Ref sig .tc := ⟨.hbm, 654, rfl⟩
abbrev main_call31_v1 : Ref sig .tc := ⟨.hbm, 655, rfl⟩
abbrev main_call31_cst_0 : Ref sig .tc := ⟨.hbm, 656, rfl⟩
abbrev main_call31_v2 : Ref sig .tc := ⟨.hbm, 657, rfl⟩
abbrev main_call31_v3 : Ref sig .tc := ⟨.hbm, 658, rfl⟩
abbrev main_call31_v4 : Ref sig .tc := ⟨.hbm, 659, rfl⟩
abbrev main_call31_v5 : Ref sig .tc := ⟨.hbm, 660, rfl⟩
abbrev main_call31_v6 : Ref sig .tc := ⟨.hbm, 661, rfl⟩
abbrev main_call31_v7 : Ref sig .tc := ⟨.hbm, 662, rfl⟩
abbrev main_call31_cst_1 : Ref sig .tc := ⟨.hbm, 663, rfl⟩
abbrev main_call31_v8 : Ref sig .tc := ⟨.hbm, 664, rfl⟩
abbrev main_call31_cst_2 : Ref sig .tc := ⟨.hbm, 665, rfl⟩
abbrev main_call31_v9 : Ref sig .tc := ⟨.hbm, 666, rfl⟩
abbrev main_call31_v10 : Ref sig .tc := ⟨.hbm, 667, rfl⟩
abbrev main_call31_v11 : Ref sig .tc := ⟨.hbm, 668, rfl⟩
abbrev main_call31_cst_3 : Ref sig .tc := ⟨.hbm, 669, rfl⟩
abbrev main_call31_v12 : Ref sig .tc := ⟨.hbm, 670, rfl⟩
abbrev main_call31_cst_4 : Ref sig .tc := ⟨.hbm, 671, rfl⟩
abbrev main_call31_call0_v0 : Ref sig .tc := ⟨.hbm, 672, rfl⟩
abbrev main_call31_call0_v1 : Ref sig .tc := ⟨.hbm, 673, rfl⟩
abbrev main_call31_call0_v2 : Ref sig .tc := ⟨.hbm, 674, rfl⟩
abbrev main_v182 : Ref sig .tc := ⟨.hbm, 675, rfl⟩
abbrev main_v183 : Ref sig .tc := ⟨.hbm, 676, rfl⟩
abbrev main_v184 : Ref sig .tc := ⟨.hbm, 677, rfl⟩
abbrev main_v185 : Ref sig .tc := ⟨.hbm, 678, rfl⟩
abbrev main_cst_23 : Ref sig .tc := ⟨.hbm, 679, rfl⟩
abbrev main_v186 : Ref sig .tc := ⟨.hbm, 680, rfl⟩
abbrev main_v187 : Ref sig .tc := ⟨.hbm, 681, rfl⟩
abbrev main_v188 : Ref sig .tc := ⟨.hbm, 682, rfl⟩
abbrev main_v189 : Ref sig .tc := ⟨.hbm, 683, rfl⟩
abbrev main_v190 : Ref sig .tc := ⟨.hbm, 684, rfl⟩
abbrev main_v191 : Ref sig .tc := ⟨.hbm, 685, rfl⟩
abbrev main_v192 : Ref sig .tc := ⟨.hbm, 686, rfl⟩
abbrev main_v193 : Ref sig .tc := ⟨.hbm, 687, rfl⟩
abbrev main_v194 : Ref sig .tc := ⟨.hbm, 688, rfl⟩
abbrev main_v195 : Ref sig .tc := ⟨.hbm, 689, rfl⟩
abbrev main_v196 : Ref sig .tc := ⟨.hbm, 690, rfl⟩
abbrev main_v197 : Ref sig .tc := ⟨.hbm, 691, rfl⟩
abbrev main_v198 : Ref sig .tc := ⟨.hbm, 692, rfl⟩
abbrev main_v199 : Ref sig .tc := ⟨.hbm, 693, rfl⟩
abbrev main_call32_cst : Ref sig .tc := ⟨.hbm, 694, rfl⟩
abbrev main_call32_v0 : Ref sig .tc := ⟨.hbm, 695, rfl⟩
abbrev main_v200 : Ref sig .tc := ⟨.hbm, 696, rfl⟩
abbrev main_cst_24 : Ref sig .tc := ⟨.hbm, 697, rfl⟩
abbrev main_v201 : Ref sig .tc := ⟨.hbm, 698, rfl⟩
abbrev main_v202 : Ref sig .tc := ⟨.hbm, 699, rfl⟩
abbrev main_c_25 : Ref sig .tc := ⟨.hbm, 700, rfl⟩
abbrev main_call33_v0 : Ref sig .tc := ⟨.hbm, 701, rfl⟩
abbrev main_v203 : Ref sig .tc := ⟨.hbm, 702, rfl⟩
abbrev main_v204 : Ref sig .tc := ⟨.hbm, 703, rfl⟩
abbrev main_v205 : Ref sig .tc := ⟨.hbm, 704, rfl⟩
abbrev main_v206 : Ref sig .tc := ⟨.hbm, 705, rfl⟩
abbrev main_v207 : Ref sig .tc := ⟨.hbm, 706, rfl⟩
abbrev main_v208 : Ref sig .tc := ⟨.hbm, 707, rfl⟩
abbrev main_v209 : Ref sig .tc := ⟨.hbm, 708, rfl⟩
abbrev main_v210 : Ref sig .tc := ⟨.hbm, 709, rfl⟩
abbrev main_v211 : Ref sig .tc := ⟨.hbm, 710, rfl⟩
abbrev main_v212 : Ref sig .tc := ⟨.hbm, 711, rfl⟩
abbrev main_v213 : Ref sig .tc := ⟨.hbm, 712, rfl⟩
abbrev main_v214 : Ref sig .tc := ⟨.hbm, 713, rfl⟩
abbrev main_v215 : Ref sig .tc := ⟨.hbm, 714, rfl⟩
abbrev main_v216 : Ref sig .tc := ⟨.hbm, 715, rfl⟩
abbrev main_v217 : Ref sig .tc := ⟨.hbm, 716, rfl⟩
abbrev main_v218 : Ref sig .tc := ⟨.hbm, 717, rfl⟩
abbrev main_v219 : Ref sig .tc := ⟨.hbm, 718, rfl⟩
abbrev main_call34_c : Ref sig .tc := ⟨.hbm, 719, rfl⟩
abbrev main_call34_v0 : Ref sig .tc := ⟨.hbm, 720, rfl⟩
abbrev main_call34_v1 : Ref sig .tc := ⟨.hbm, 721, rfl⟩
abbrev main_call34_c_0 : Ref sig .tc := ⟨.hbm, 722, rfl⟩
abbrev main_call34_v2 : Ref sig .tc := ⟨.hbm, 723, rfl⟩
abbrev main_call34_v3 : Ref sig .tc := ⟨.hbm, 724, rfl⟩
abbrev main_call34_v4 : Ref sig .tc := ⟨.hbm, 725, rfl⟩
abbrev main_call34_v5 : Ref sig .tc := ⟨.hbm, 726, rfl⟩
abbrev main_call34_c_1 : Ref sig .tc := ⟨.hbm, 727, rfl⟩
abbrev main_call34_c_2 : Ref sig .tc := ⟨.hbm, 728, rfl⟩
abbrev main_call34_v6 : Ref sig .tc := ⟨.hbm, 729, rfl⟩
abbrev main_call34_v7 : Ref sig .tc := ⟨.hbm, 730, rfl⟩
abbrev main_call34_v8 : Ref sig .tc := ⟨.hbm, 731, rfl⟩
abbrev main_call34_v9 : Ref sig .tc := ⟨.hbm, 732, rfl⟩
abbrev main_call34_v10 : Ref sig .tc := ⟨.hbm, 733, rfl⟩
abbrev main_call34_v11 : Ref sig .tc := ⟨.hbm, 734, rfl⟩
abbrev main_call34_c_3 : Ref sig .tc := ⟨.hbm, 735, rfl⟩
abbrev main_call34_v12 : Ref sig .tc := ⟨.hbm, 736, rfl⟩
abbrev main_call34_v13 : Ref sig .tc := ⟨.hbm, 737, rfl⟩
abbrev main_call34_v14 : Ref sig .tc := ⟨.hbm, 738, rfl⟩
abbrev main_call34_cst : Ref sig .tc := ⟨.hbm, 739, rfl⟩
abbrev main_call34_v15 : Ref sig .tc := ⟨.hbm, 740, rfl⟩
abbrev main_v220 : Ref sig .tc := ⟨.hbm, 741, rfl⟩
abbrev main_v221 : Ref sig .tc := ⟨.hbm, 742, rfl⟩
abbrev main_v222 : Ref sig .tc := ⟨.hbm, 743, rfl⟩
abbrev main_v223 : Ref sig .tc := ⟨.hbm, 744, rfl⟩
abbrev main_v224 : Ref sig .tc := ⟨.hbm, 745, rfl⟩
abbrev main_v225 : Ref sig .tc := ⟨.hbm, 746, rfl⟩
abbrev main_cst_26 : Ref sig .tc := ⟨.hbm, 747, rfl⟩
abbrev main_v226 : Ref sig .tc := ⟨.hbm, 748, rfl⟩
abbrev main_v227 : Ref sig .tc := ⟨.hbm, 749, rfl⟩
abbrev main_v228 : Ref sig .tc := ⟨.hbm, 750, rfl⟩
abbrev main_c_27 : Ref sig .tc := ⟨.hbm, 751, rfl⟩
abbrev main_v229 : Ref sig .tc := ⟨.hbm, 752, rfl⟩
abbrev main_c_28 : Ref sig .tc := ⟨.hbm, 753, rfl⟩
abbrev main_v230_0 : Ref sig .tc := ⟨.hbm, 754, rfl⟩
abbrev main_v230_1 : Ref sig .tc := ⟨.hbm, 755, rfl⟩
abbrev main_v230_2 : Ref sig .tc := ⟨.hbm, 756, rfl⟩
abbrev main_v230_3 : Ref sig .tc := ⟨.hbm, 757, rfl⟩
abbrev main_v230_4 : Ref sig .tc := ⟨.hbm, 758, rfl⟩
abbrev main_v230_5 : Ref sig .tc := ⟨.hbm, 759, rfl⟩
abbrev main_while3c_c_39 : Ref sig .tc := ⟨.hbm, 760, rfl⟩
abbrev main_while3c_v270 : Ref sig .tc := ⟨.hbm, 761, rfl⟩
abbrev main_while3b_call35_c : Ref sig .tc := ⟨.hbm, 762, rfl⟩
abbrev main_while3b_call35_c_0 : Ref sig .tc := ⟨.hbm, 763, rfl⟩
abbrev main_while3b_call35_c_1 : Ref sig .tc := ⟨.hbm, 764, rfl⟩
abbrev main_while3b_call35_v0 : Ref sig .tc := ⟨.hbm, 765, rfl⟩
abbrev main_while3b_v270 : Ref sig .tc := ⟨.hbm, 766, rfl⟩
abbrev main_while3b_v271 : Ref sig .tc := ⟨.hbm, 767, rfl⟩
abbrev main_while3b_cst_39 : Ref sig .tc := ⟨.hbm, 768, rfl⟩
abbrev main_while3b_v272 : Ref sig .tc := ⟨.hbm, 769, rfl⟩
abbrev main_while3b_v273 : Ref sig .tc := ⟨.hbm, 770, rfl⟩
abbrev main_while3b_v274 : Ref sig .tc := ⟨.hbm, 771, rfl⟩
abbrev main_while3b_v275 : Ref sig .tc := ⟨.hbm, 772, rfl⟩
abbrev main_while3b_v276 : Ref sig .tc := ⟨.hbm, 773, rfl⟩
abbrev main_while3b_v277 : Ref sig .tc := ⟨.hbm, 774, rfl⟩
abbrev main_while3b_v278 : Ref sig .tc := ⟨.hbm, 775, rfl⟩
abbrev main_while3b_v279 : Ref sig .tc := ⟨.hbm, 776, rfl⟩
abbrev main_while3b_cst_40 : Ref sig .tc := ⟨.hbm, 777, rfl⟩
abbrev main_while3b_v280 : Ref sig .tc := ⟨.hbm, 778, rfl⟩
abbrev main_while3b_v281 : Ref sig .tc := ⟨.hbm, 779, rfl⟩
abbrev main_while3b_v282 : Ref sig .tc := ⟨.hbm, 780, rfl⟩
abbrev main_while3b_cst_41 : Ref sig .tc := ⟨.hbm, 781, rfl⟩
abbrev main_while3b_v283 : Ref sig .tc := ⟨.hbm, 782, rfl⟩
abbrev main_while3b_v284 : Ref sig .tc := ⟨.hbm, 783, rfl⟩
abbrev main_while3b_c_42 : Ref sig .tc := ⟨.hbm, 784, rfl⟩
abbrev main_while3b_call36_v0 : Ref sig .tc := ⟨.hbm, 785, rfl⟩
abbrev main_while3b_call36_v1 : Ref sig .tc := ⟨.hbm, 786, rfl⟩
abbrev main_while3b_call36_v2 : Ref sig .tc := ⟨.hbm, 787, rfl⟩
abbrev main_while3b_call36_v3 : Ref sig .tc := ⟨.hbm, 788, rfl⟩
abbrev main_while3b_call36_v4 : Ref sig .tc := ⟨.hbm, 789, rfl⟩
abbrev main_while3b_v285 : Ref sig .tc := ⟨.hbm, 790, rfl⟩
abbrev main_while3b_v286 : Ref sig .tc := ⟨.hbm, 791, rfl⟩
abbrev main_while3b_values : Ref sig .tc := ⟨.hbm, 792, rfl⟩
abbrev main_while3b_indices : Ref sig .tc := ⟨.hbm, 793, rfl⟩
abbrev main_while3b_v287 : Ref sig .tc := ⟨.hbm, 794, rfl⟩
abbrev main_while3b_c_43 : Ref sig .tc := ⟨.hbm, 795, rfl⟩
abbrev main_while3b_v288 : Ref sig .tc := ⟨.hbm, 796, rfl⟩
abbrev main_while3b_v289 : Ref sig .tc := ⟨.hbm, 797, rfl⟩
abbrev main_while3b_v290 : Ref sig .tc := ⟨.hbm, 798, rfl⟩
abbrev main_while3b_call37_v0 : Ref sig .tc := ⟨.hbm, 799, rfl⟩
abbrev main_while3b_v291 : Ref sig .tc := ⟨.hbm, 800, rfl⟩
abbrev main_while3b_c_44 : Ref sig .tc := ⟨.hbm, 801, rfl⟩
abbrev main_while3b_c_45 : Ref sig .tc := ⟨.hbm, 802, rfl⟩
abbrev main_while3b_call38_v0 : Ref sig .tc := ⟨.hbm, 803, rfl⟩
abbrev main_while3b_call38_v1 : Ref sig .tc := ⟨.hbm, 804, rfl⟩
abbrev main_while3b_call38_v2 : Ref sig .tc := ⟨.hbm, 805, rfl⟩
abbrev main_while3b_call38_v3 : Ref sig .tc := ⟨.hbm, 806, rfl⟩
abbrev main_while3b_call38_v4 : Ref sig .tc := ⟨.hbm, 807, rfl⟩
abbrev main_while3b_v292 : Ref sig .tc := ⟨.hbm, 808, rfl⟩
abbrev main_while3b_call39_v0 : Ref sig .tc := ⟨.hbm, 809, rfl⟩
abbrev main_while3b_call39_c : Ref sig .tc := ⟨.hbm, 810, rfl⟩
abbrev main_while3b_call39_c_0 : Ref sig .tc := ⟨.hbm, 811, rfl⟩
abbrev main_while3b_call39_c_1 : Ref sig .tc := ⟨.hbm, 812, rfl⟩
abbrev main_while3b_v293 : Ref sig .tc := ⟨.hbm, 813, rfl⟩
abbrev main_while3b_c_46 : Ref sig .tc := ⟨.hbm, 814, rfl⟩
abbrev main_while3b_v294 : Ref sig .tc := ⟨.hbm, 815, rfl⟩
abbrev main_v231 : Ref sig .tc := ⟨.hbm, 816, rfl⟩
abbrev main_v232 : Ref sig .tc := ⟨.hbm, 817, rfl⟩
abbrev main_v233 : Ref sig .tc := ⟨.hbm, 818, rfl⟩
abbrev main_call40_c : Ref sig .tc := ⟨.hbm, 819, rfl⟩
abbrev main_call40_v0 : Ref sig .tc := ⟨.hbm, 820, rfl⟩
abbrev main_call40_v1 : Ref sig .tc := ⟨.hbm, 821, rfl⟩
abbrev main_call40_c_0 : Ref sig .tc := ⟨.hbm, 822, rfl⟩
abbrev main_call40_v2 : Ref sig .tc := ⟨.hbm, 823, rfl⟩
abbrev main_call40_v3 : Ref sig .tc := ⟨.hbm, 824, rfl⟩
abbrev main_call40_v4 : Ref sig .tc := ⟨.hbm, 825, rfl⟩
abbrev main_call40_v5 : Ref sig .tc := ⟨.hbm, 826, rfl⟩
abbrev main_call40_c_1 : Ref sig .tc := ⟨.hbm, 827, rfl⟩
abbrev main_call40_c_2 : Ref sig .tc := ⟨.hbm, 828, rfl⟩
abbrev main_call40_v6 : Ref sig .tc := ⟨.hbm, 829, rfl⟩
abbrev main_call40_v7 : Ref sig .tc := ⟨.hbm, 830, rfl⟩
abbrev main_call40_v8 : Ref sig .tc := ⟨.hbm, 831, rfl⟩
abbrev main_call40_v9 : Ref sig .tc := ⟨.hbm, 832, rfl⟩
abbrev main_call40_v10 : Ref sig .tc := ⟨.hbm, 833, rfl⟩
abbrev main_call40_v11 : Ref sig .tc := ⟨.hbm, 834, rfl⟩
abbrev main_call40_c_3 : Ref sig .tc := ⟨.hbm, 835, rfl⟩
abbrev main_call40_v12 : Ref sig .tc := ⟨.hbm, 836, rfl⟩
abbrev main_call40_v13 : Ref sig .tc := ⟨.hbm, 837, rfl⟩
abbrev main_call40_v14 : Ref sig .tc := ⟨.hbm, 838, rfl⟩
abbrev main_call40_cst : Ref sig .tc := ⟨.hbm, 839, rfl⟩
abbrev main_call40_v15 : Ref sig .tc := ⟨.hbm, 840, rfl⟩
abbrev main_v234 : Ref sig .tc := ⟨.hbm, 841, rfl⟩
abbrev main_v235 : Ref sig .tc := ⟨.hbm, 842, rfl⟩
abbrev main_v236 : Ref sig .tc := ⟨.hbm, 843, rfl⟩
abbrev main_v237 : Ref sig .tc := ⟨.hbm, 844, rfl⟩
abbrev main_v238 : Ref sig .tc := ⟨.hbm, 845, rfl⟩
abbrev main_v239 : Ref sig .tc := ⟨.hbm, 846, rfl⟩
abbrev main_v240 : Ref sig .tc := ⟨.hbm, 847, rfl⟩
abbrev main_call41_c : Ref sig .tc := ⟨.hbm, 848, rfl⟩
abbrev main_call41_v0 : Ref sig .tc := ⟨.hbm, 849, rfl⟩
abbrev main_call41_v1 : Ref sig .tc := ⟨.hbm, 850, rfl⟩
abbrev main_call41_c_0 : Ref sig .tc := ⟨.hbm, 851, rfl⟩
abbrev main_call41_v2 : Ref sig .tc := ⟨.hbm, 852, rfl⟩
abbrev main_call41_v3 : Ref sig .tc := ⟨.hbm, 853, rfl⟩
abbrev main_call41_v4 : Ref sig .tc := ⟨.hbm, 854, rfl⟩
abbrev main_call41_v5 : Ref sig .tc := ⟨.hbm, 855, rfl⟩
abbrev main_call41_c_1 : Ref sig .tc := ⟨.hbm, 856, rfl⟩
abbrev main_call41_c_2 : Ref sig .tc := ⟨.hbm, 857, rfl⟩
abbrev main_call41_v6 : Ref sig .tc := ⟨.hbm, 858, rfl⟩
abbrev main_call41_v7 : Ref sig .tc := ⟨.hbm, 859, rfl⟩
abbrev main_call41_v8 : Ref sig .tc := ⟨.hbm, 860, rfl⟩
abbrev main_call41_v9 : Ref sig .tc := ⟨.hbm, 861, rfl⟩
abbrev main_call41_v10 : Ref sig .tc := ⟨.hbm, 862, rfl⟩
abbrev main_call41_v11 : Ref sig .tc := ⟨.hbm, 863, rfl⟩
abbrev main_call41_c_3 : Ref sig .tc := ⟨.hbm, 864, rfl⟩
abbrev main_call41_v12 : Ref sig .tc := ⟨.hbm, 865, rfl⟩
abbrev main_call41_v13 : Ref sig .tc := ⟨.hbm, 866, rfl⟩
abbrev main_call41_v14 : Ref sig .tc := ⟨.hbm, 867, rfl⟩
abbrev main_call41_cst : Ref sig .tc := ⟨.hbm, 868, rfl⟩
abbrev main_call41_v15 : Ref sig .tc := ⟨.hbm, 869, rfl⟩
abbrev main_v241 : Ref sig .tc := ⟨.hbm, 870, rfl⟩
abbrev main_v242 : Ref sig .tc := ⟨.hbm, 871, rfl⟩
abbrev main_v243 : Ref sig .tc := ⟨.hbm, 872, rfl⟩
abbrev main_v244 : Ref sig .tc := ⟨.hbm, 873, rfl⟩
abbrev main_v245 : Ref sig .tc := ⟨.hbm, 874, rfl⟩
abbrev main_cst_29 : Ref sig .tc := ⟨.hbm, 875, rfl⟩
abbrev main_v246 : Ref sig .tc := ⟨.hbm, 876, rfl⟩
abbrev main_cst_30 : Ref sig .tc := ⟨.hbm, 877, rfl⟩
abbrev main_v247 : Ref sig .tc := ⟨.hbm, 878, rfl⟩
abbrev main_v248 : Ref sig .tc := ⟨.hbm, 879, rfl⟩
abbrev main_c_31 : Ref sig .tc := ⟨.hbm, 880, rfl⟩
abbrev main_call42_cst : Ref sig .tc := ⟨.hbm, 881, rfl⟩
abbrev main_call42_v0 : Ref sig .tc := ⟨.hbm, 882, rfl⟩
abbrev main_call42_v1 : Ref sig .tc := ⟨.hbm, 883, rfl⟩
abbrev main_call42_cst_0 : Ref sig .tc := ⟨.hbm, 884, rfl⟩
abbrev main_call42_v2 : Ref sig .tc := ⟨.hbm, 885, rfl⟩
abbrev main_call42_v3 : Ref sig .tc := ⟨.hbm, 886, rfl⟩
abbrev main_call42_v4 : Ref sig .tc := ⟨.hbm, 887, rfl⟩
abbrev main_call42_v5 : Ref sig .tc := ⟨.hbm, 888, rfl⟩
abbrev main_call42_v6 : Ref sig .tc := ⟨.hbm, 889, rfl⟩
abbrev main_call42_v7 : Ref sig .tc := ⟨.hbm, 890, rfl⟩
abbrev main_call42_cst_1 : Ref sig .tc := ⟨.hbm, 891, rfl⟩
abbrev main_call42_v8 : Ref sig .tc := ⟨.hbm, 892, rfl⟩
abbrev main_call42_cst_2 : Ref sig .tc := ⟨.hbm, 893, rfl⟩
abbrev main_call42_v9 : Ref sig .tc := ⟨.hbm, 894, rfl⟩
abbrev main_call42_v10 : Ref sig .tc := ⟨.hbm, 895, rfl⟩
abbrev main_call42_v11 : Ref sig .tc := ⟨.hbm, 896, rfl⟩
abbrev main_call42_cst_3 : Ref sig .tc := ⟨.hbm, 897, rfl⟩
abbrev main_call42_v12 : Ref sig .tc := ⟨.hbm, 898, rfl⟩
abbrev main_call42_cst_4 : Ref sig .tc := ⟨.hbm, 899, rfl⟩
abbrev main_call42_call0_v0 : Ref sig .tc := ⟨.hbm, 900, rfl⟩
abbrev main_call42_call0_v1 : Ref sig .tc := ⟨.hbm, 901, rfl⟩
abbrev main_call42_call0_v2 : Ref sig .tc := ⟨.hbm, 902, rfl⟩
abbrev main_v249 : Ref sig .tc := ⟨.hbm, 903, rfl⟩
abbrev main_v250 : Ref sig .tc := ⟨.hbm, 904, rfl⟩
abbrev main_v251 : Ref sig .tc := ⟨.hbm, 905, rfl⟩
abbrev main_v252 : Ref sig .tc := ⟨.hbm, 906, rfl⟩
abbrev main_cst_32 : Ref sig .tc := ⟨.hbm, 907, rfl⟩
abbrev main_v253 : Ref sig .tc := ⟨.hbm, 908, rfl⟩
abbrev main_v254 : Ref sig .tc := ⟨.hbm, 909, rfl⟩
abbrev main_v255 : Ref sig .tc := ⟨.hbm, 910, rfl⟩
abbrev main_v256 : Ref sig .tc := ⟨.hbm, 911, rfl⟩
abbrev main_v257 : Ref sig .tc := ⟨.hbm, 912, rfl⟩
abbrev main_v258 : Ref sig .tc := ⟨.hbm, 913, rfl⟩
abbrev main_v259 : Ref sig .tc := ⟨.hbm, 914, rfl⟩
abbrev main_v260 : Ref sig .tc := ⟨.hbm, 915, rfl⟩
abbrev main_v261 : Ref sig .tc := ⟨.hbm, 916, rfl⟩
abbrev main_v262 : Ref sig .tc := ⟨.hbm, 917, rfl⟩
abbrev main_v263 : Ref sig .tc := ⟨.hbm, 918, rfl⟩
abbrev main_v264 : Ref sig .tc := ⟨.hbm, 919, rfl⟩
abbrev main_v265 : Ref sig .tc := ⟨.hbm, 920, rfl⟩
abbrev main_v266 : Ref sig .tc := ⟨.hbm, 921, rfl⟩
abbrev main_call43_cst : Ref sig .tc := ⟨.hbm, 922, rfl⟩
abbrev main_call43_v0 : Ref sig .tc := ⟨.hbm, 923, rfl⟩
abbrev main_v267 : Ref sig .tc := ⟨.hbm, 924, rfl⟩
abbrev main_cst_33 : Ref sig .tc := ⟨.hbm, 925, rfl⟩
abbrev main_v268 : Ref sig .tc := ⟨.hbm, 926, rfl⟩
abbrev main_v269 : Ref sig .tc := ⟨.hbm, 927, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_scratch0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_scratch0 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_scratch0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem1_0 : DmaSem sig := 9
abbrev cc2_sem2_0 : DmaSem sig := 10
abbrev cc2_sem3_0 : DmaSem sig := 11
abbrev cc3_sem0_0 : DmaSem sig := 12
abbrev cc3_sem1_0 : DmaSem sig := 13
abbrev cc3_sem2_0 : DmaSem sig := 14
abbrev cc3_sem3_0 : DmaSem sig := 15

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 64#32, 1#32⟩

abbrev main_while2_count : Scf.Loop 32 := ⟨0#32, 32#32, 1#32⟩

abbrev main_while3_count : Scf.Loop 32 := ⟨0#32, 16#32, 1#32⟩

abbrev grid0 : Pipeline.Grid := .none

@[reducible] def k0_t1_loop : Scf.Loop 32 :=
  let c1_i32 : BitVec 32 := 1#32
  let c65525_i32 : BitVec 32 := 65525#32
  let v17 : BitVec 32 := Scalar.addi c1_i32 c65525_i32
  let c1_i32_6 : BitVec 32 := 1#32
  ⟨c1_i32, v17, c1_i32_6⟩
def k0_off1 (k0_t1 : Fin k0_t1_loop.trips) : Fin 2 → Nat :=
  let c1_i32 : BitVec 32 := 1#32
  let c1_i32_6 : BitVec 32 := 1#32
  let arg5 : BitVec 32 := Scf.iv c1_i32 c1_i32_6 k0_t1
  let c0_i32_30 : BitVec 32 := 0#32
  let v85 : BitVec 1 := Scalar.cmpi .sgt arg5 c0_i32_30
  let v86 : BitVec 32 := Scalar.extui v85
  let c0_i32_31 : BitVec 32 := 0#32
  let v87 : BitVec 1 := Scalar.cmpi .slt arg5 c0_i32_31
  let v88 : BitVec 32 := Scalar.extui v87
  let v89 : BitVec 32 := Scalar.subi v86 v88
  let c128_i32_29 : BitVec 32 := 128#32
  let c0_i32_32 : BitVec 32 := 0#32
  let v90 : BitVec 1 := Scalar.cmpi .sgt c128_i32_29 c0_i32_32
  let v91 : BitVec 32 := Scalar.extui v90
  let c0_i32_33 : BitVec 32 := 0#32
  let v92 : BitVec 1 := Scalar.cmpi .slt c128_i32_29 c0_i32_33
  let v93 : BitVec 32 := Scalar.extui v92
  let v94 : BitVec 32 := Scalar.subi v91 v93
  let v95 : BitVec 1 := Scalar.cmpi .ne v89 v94
  let v96 : BitVec 32 := Scalar.remsi arg5 c128_i32_29
  let c0_i32_34 : BitVec 32 := 0#32
  let v97 : BitVec 1 := Scalar.cmpi .ne v96 c0_i32_34
  let v98 : BitVec 1 := Scalar.andi v95 v97
  let v84 : BitVec 32 := Scalar.divsi arg5 c128_i32_29
  let c1_i32_35 : BitVec 32 := 1#32
  let v99 : BitVec 32 := Scalar.subi v84 c1_i32_35
  let v100 : BitVec 32 := Scalar.select v98 v99 v84
  let v111 : Index := Scalar.indexCast v100
  let c0_42 : Index := 0#32
  ![v111.toNat, 0]
abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

@[reducible] def k1_t1_loop : Scf.Loop 32 :=
  let c1_i32 : BitVec 32 := 1#32
  let c32767_i32 : BitVec 32 := 32767#32
  let v17 : BitVec 32 := Scalar.addi c1_i32 c32767_i32
  let c1_i32_6 : BitVec 32 := 1#32
  ⟨c1_i32, v17, c1_i32_6⟩
def k1_off1 (k1_t1 : Fin k1_t1_loop.trips) : Fin 2 → Nat :=
  let c1_i32 : BitVec 32 := 1#32
  let c1_i32_6 : BitVec 32 := 1#32
  let arg5 : BitVec 32 := Scf.iv c1_i32 c1_i32_6 k1_t1
  let c0_i32_30 : BitVec 32 := 0#32
  let v85 : BitVec 1 := Scalar.cmpi .sgt arg5 c0_i32_30
  let v86 : BitVec 32 := Scalar.extui v85
  let c0_i32_31 : BitVec 32 := 0#32
  let v87 : BitVec 1 := Scalar.cmpi .slt arg5 c0_i32_31
  let v88 : BitVec 32 := Scalar.extui v87
  let v89 : BitVec 32 := Scalar.subi v86 v88
  let c128_i32_29 : BitVec 32 := 128#32
  let c0_i32_32 : BitVec 32 := 0#32
  let v90 : BitVec 1 := Scalar.cmpi .sgt c128_i32_29 c0_i32_32
  let v91 : BitVec 32 := Scalar.extui v90
  let c0_i32_33 : BitVec 32 := 0#32
  let v92 : BitVec 1 := Scalar.cmpi .slt c128_i32_29 c0_i32_33
  let v93 : BitVec 32 := Scalar.extui v92
  let v94 : BitVec 32 := Scalar.subi v91 v93
  let v95 : BitVec 1 := Scalar.cmpi .ne v89 v94
  let v96 : BitVec 32 := Scalar.remsi arg5 c128_i32_29
  let c0_i32_34 : BitVec 32 := 0#32
  let v97 : BitVec 1 := Scalar.cmpi .ne v96 c0_i32_34
  let v98 : BitVec 1 := Scalar.andi v95 v97
  let v84 : BitVec 32 := Scalar.divsi arg5 c128_i32_29
  let c1_i32_35 : BitVec 32 := 1#32
  let v99 : BitVec 32 := Scalar.subi v84 c1_i32_35
  let v100 : BitVec 32 := Scalar.select v98 v99 v84
  let v111 : Index := Scalar.indexCast v100
  let c0_42 : Index := 0#32
  ![v111.toNat, 0]
abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x128 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := .none

@[reducible] def k2_t1_loop : Scf.Loop 32 :=
  let c1_i32 : BitVec 32 := 1#32
  let c16383_i32 : BitVec 32 := 16383#32
  let v17 : BitVec 32 := Scalar.addi c1_i32 c16383_i32
  let c1_i32_6 : BitVec 32 := 1#32
  ⟨c1_i32, v17, c1_i32_6⟩
def k2_off1 (k2_t1 : Fin k2_t1_loop.trips) : Fin 2 → Nat :=
  let c1_i32 : BitVec 32 := 1#32
  let c1_i32_6 : BitVec 32 := 1#32
  let arg5 : BitVec 32 := Scf.iv c1_i32 c1_i32_6 k2_t1
  let c0_i32_30 : BitVec 32 := 0#32
  let v85 : BitVec 1 := Scalar.cmpi .sgt arg5 c0_i32_30
  let v86 : BitVec 32 := Scalar.extui v85
  let c0_i32_31 : BitVec 32 := 0#32
  let v87 : BitVec 1 := Scalar.cmpi .slt arg5 c0_i32_31
  let v88 : BitVec 32 := Scalar.extui v87
  let v89 : BitVec 32 := Scalar.subi v86 v88
  let c128_i32_29 : BitVec 32 := 128#32
  let c0_i32_32 : BitVec 32 := 0#32
  let v90 : BitVec 1 := Scalar.cmpi .sgt c128_i32_29 c0_i32_32
  let v91 : BitVec 32 := Scalar.extui v90
  let c0_i32_33 : BitVec 32 := 0#32
  let v92 : BitVec 1 := Scalar.cmpi .slt c128_i32_29 c0_i32_33
  let v93 : BitVec 32 := Scalar.extui v92
  let v94 : BitVec 32 := Scalar.subi v91 v93
  let v95 : BitVec 1 := Scalar.cmpi .ne v89 v94
  let v96 : BitVec 32 := Scalar.remsi arg5 c128_i32_29
  let c0_i32_34 : BitVec 32 := 0#32
  let v97 : BitVec 1 := Scalar.cmpi .ne v96 c0_i32_34
  let v98 : BitVec 1 := Scalar.andi v95 v97
  let v84 : BitVec 32 := Scalar.divsi arg5 c128_i32_29
  let c1_i32_35 : BitVec 32 := 1#32
  let v99 : BitVec 32 := Scalar.subi v84 c1_i32_35
  let v100 : BitVec 32 := Scalar.select v98 v99 v84
  let v111 : Index := Scalar.indexCast v100
  let c0_42 : Index := 0#32
  ![v111.toNat, 0]
abbrev stage2_0 : Fin 1 → Memref sig .tc .vmem S256x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S128x128 .i32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev grid3 : Pipeline.Grid := .none

@[reducible] def k3_t1_loop : Scf.Loop 32 :=
  let c1_i32 : BitVec 32 := 1#32
  let c8191_i32 : BitVec 32 := 8191#32
  let v17 : BitVec 32 := Scalar.addi c1_i32 c8191_i32
  let c1_i32_6 : BitVec 32 := 1#32
  ⟨c1_i32, v17, c1_i32_6⟩
def k3_off1 (k3_t1 : Fin k3_t1_loop.trips) : Fin 2 → Nat :=
  let c1_i32 : BitVec 32 := 1#32
  let c1_i32_6 : BitVec 32 := 1#32
  let arg5 : BitVec 32 := Scf.iv c1_i32 c1_i32_6 k3_t1
  let c0_i32_30 : BitVec 32 := 0#32
  let v85 : BitVec 1 := Scalar.cmpi .sgt arg5 c0_i32_30
  let v86 : BitVec 32 := Scalar.extui v85
  let c0_i32_31 : BitVec 32 := 0#32
  let v87 : BitVec 1 := Scalar.cmpi .slt arg5 c0_i32_31
  let v88 : BitVec 32 := Scalar.extui v87
  let v89 : BitVec 32 := Scalar.subi v86 v88
  let c128_i32_29 : BitVec 32 := 128#32
  let c0_i32_32 : BitVec 32 := 0#32
  let v90 : BitVec 1 := Scalar.cmpi .sgt c128_i32_29 c0_i32_32
  let v91 : BitVec 32 := Scalar.extui v90
  let c0_i32_33 : BitVec 32 := 0#32
  let v92 : BitVec 1 := Scalar.cmpi .slt c128_i32_29 c0_i32_33
  let v93 : BitVec 32 := Scalar.extui v92
  let v94 : BitVec 32 := Scalar.subi v91 v93
  let v95 : BitVec 1 := Scalar.cmpi .ne v89 v94
  let v96 : BitVec 32 := Scalar.remsi arg5 c128_i32_29
  let c0_i32_34 : BitVec 32 := 0#32
  let v97 : BitVec 1 := Scalar.cmpi .ne v96 c0_i32_34
  let v98 : BitVec 1 := Scalar.andi v95 v97
  let v84 : BitVec 32 := Scalar.divsi arg5 c128_i32_29
  let c1_i32_35 : BitVec 32 := 1#32
  let v99 : BitVec 32 := Scalar.subi v84 c1_i32_35
  let v100 : BitVec 32 := Scalar.select v98 v99 v84
  let v111 : Index := Scalar.indexCast v100
  let c0_42 : Index := 0#32
  ![v111.toNat, 0]
abbrev stage3_0 : Fin 1 → Memref sig .tc .vmem S128x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S64x128 .i32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
-- ==== ReferenceIdeal.lean ====
abbrev S1x65536x3 : Shape := ⟨3, ![1, 65536, 3]⟩
abbrev S1x3x65536 : Shape := ⟨3, ![1, 3, 65536]⟩
abbrev S64x6 : Shape := ⟨2, ![64, 6]⟩
abbrev S64 : Shape := ⟨1, ![64]⟩
abbrev S128x67 : Shape := ⟨2, ![128, 67]⟩
abbrev S128 : Shape := ⟨1, ![128]⟩
abbrev S256x131 : Shape := ⟨2, ![256, 131]⟩
abbrev S256 : Shape := ⟨1, ![256]⟩
abbrev S256x259 : Shape := ⟨2, ![256, 259]⟩
abbrev S65536x3 : Shape := ⟨2, ![65536, 3]⟩
abbrev S_ : Shape := ⟨0, ![]⟩
abbrev S65536 : Shape := ⟨1, ![65536]⟩
abbrev S65526 : Shape := ⟨1, ![65526]⟩
abbrev S1 : Shape := ⟨1, ![1]⟩
abbrev S1x3 : Shape := ⟨2, ![1, 3]⟩
abbrev S3 : Shape := ⟨1, ![3]⟩
abbrev S1x65526 : Shape := ⟨2, ![1, 65526]⟩
abbrev S1x65526x1 : Shape := ⟨3, ![1, 65526, 1]⟩
abbrev S1x1x1 : Shape := ⟨3, ![1, 1, 1]⟩
abbrev S1x65526x3 : Shape := ⟨3, ![1, 65526, 3]⟩
abbrev S1x1x3 : Shape := ⟨3, ![1, 1, 3]⟩
abbrev S1x10x3 : Shape := ⟨3, ![1, 10, 3]⟩
abbrev S1x128x512x3 : Shape := ⟨4, ![1, 128, 512, 3]⟩
abbrev S1x65536 : Shape := ⟨2, ![1, 65536]⟩
abbrev S128x1x512x3 : Shape := ⟨4, ![128, 1, 512, 3]⟩
abbrev S128x1x512x32 : Shape := ⟨4, ![128, 1, 512, 32]⟩
abbrev S1x1x512x3 : Shape := ⟨4, ![1, 1, 512, 3]⟩
abbrev S1x512x3 : Shape := ⟨3, ![1, 512, 3]⟩
abbrev S1x512 : Shape := ⟨2, ![1, 512]⟩
abbrev S1x512x1 : Shape := ⟨3, ![1, 512, 1]⟩
abbrev S1x1x65536 : Shape := ⟨3, ![1, 1, 65536]⟩
abbrev S1x512x65536 : Shape := ⟨3, ![1, 512, 65536]⟩
abbrev S512x65536 : Shape := ⟨2, ![512, 65536]⟩
abbrev S1x512x32 : Shape := ⟨3, ![1, 512, 32]⟩
abbrev S1x1x512x32 : Shape := ⟨4, ![1, 1, 512, 32]⟩
abbrev S1x128x512x32 : Shape := ⟨4, ![1, 128, 512, 32]⟩
abbrev S1x65536x32 : Shape := ⟨3, ![1, 65536, 32]⟩
abbrev S1x65526x32 : Shape := ⟨3, ![1, 65526, 32]⟩
abbrev S1x2096832 : Shape := ⟨2, ![1, 2096832]⟩
abbrev S1x2096832x1 : Shape := ⟨3, ![1, 2096832, 1]⟩
abbrev S1x2096832x3 : Shape := ⟨3, ![1, 2096832, 3]⟩
abbrev S1x65526x32x3 : Shape := ⟨4, ![1, 65526, 32, 3]⟩
abbrev S1x65526x1x3 : Shape := ⟨4, ![1, 65526, 1, 3]⟩
abbrev S1x65526x32x6 : Shape := ⟨4, ![1, 65526, 32, 6]⟩
abbrev S6x64 : Shape := ⟨2, ![6, 64]⟩
abbrev S1x65526x32x64 : Shape := ⟨4, ![1, 65526, 32, 64]⟩
abbrev S1x64 : Shape := ⟨2, ![1, 64]⟩
abbrev S1x1x1x64 : Shape := ⟨4, ![1, 1, 1, 64]⟩
abbrev S1x1x64 : Shape := ⟨3, ![1, 1, 64]⟩
abbrev S1x65526x64 : Shape := ⟨3, ![1, 65526, 64]⟩
abbrev S1x64x65526 : Shape := ⟨3, ![1, 64, 65526]⟩
abbrev S65526x3 : Shape := ⟨2, ![65526, 3]⟩
abbrev S32768 : Shape := ⟨1, ![32768]⟩
abbrev S1x32768 : Shape := ⟨2, ![1, 32768]⟩
abbrev S1x32768x1 : Shape := ⟨3, ![1, 32768, 1]⟩
abbrev S1x32768x3 : Shape := ⟨3, ![1, 32768, 3]⟩
abbrev S1x0x3 : Shape := ⟨3, ![1, 0, 3]⟩
abbrev S1x64x512x3 : Shape := ⟨4, ![1, 64, 512, 3]⟩
abbrev S64x1x512x3 : Shape := ⟨4, ![64, 1, 512, 3]⟩
abbrev S64x1x512x32 : Shape := ⟨4, ![64, 1, 512, 32]⟩
abbrev S1x1x65526 : Shape := ⟨3, ![1, 1, 65526]⟩
abbrev S1x512x65526 : Shape := ⟨3, ![1, 512, 65526]⟩
abbrev S1x3x65526 : Shape := ⟨3, ![1, 3, 65526]⟩
abbrev S512x65526 : Shape := ⟨2, ![512, 65526]⟩
abbrev S1x64x512x32 : Shape := ⟨4, ![1, 64, 512, 32]⟩
abbrev S1x32768x32 : Shape := ⟨3, ![1, 32768, 32]⟩
abbrev S1x1048576 : Shape := ⟨2, ![1, 1048576]⟩
abbrev S1x1048576x1 : Shape := ⟨3, ![1, 1048576, 1]⟩
abbrev S1x1048576x3 : Shape := ⟨3, ![1, 1048576, 3]⟩
abbrev S1x32768x32x3 : Shape := ⟨4, ![1, 32768, 32, 3]⟩
abbrev S1x32768x1x3 : Shape := ⟨4, ![1, 32768, 1, 3]⟩
abbrev S1x1048576x64 : Shape := ⟨3, ![1, 1048576, 64]⟩
abbrev S1x32768x32x64 : Shape := ⟨4, ![1, 32768, 32, 64]⟩
abbrev S1x32768x32x67 : Shape := ⟨4, ![1, 32768, 32, 67]⟩
abbrev S67x128 : Shape := ⟨2, ![67, 128]⟩
abbrev S1x32768x32x128 : Shape := ⟨4, ![1, 32768, 32, 128]⟩
abbrev S1x128 : Shape := ⟨2, ![1, 128]⟩
abbrev S1x1x1x128 : Shape := ⟨4, ![1, 1, 1, 128]⟩
abbrev S1x1x128 : Shape := ⟨3, ![1, 1, 128]⟩
abbrev S1x32768x128 : Shape := ⟨3, ![1, 32768, 128]⟩
abbrev S1x128x32768 : Shape := ⟨3, ![1, 128, 32768]⟩
abbrev S32768x3 : Shape := ⟨2, ![32768, 3]⟩
abbrev S16384 : Shape := ⟨1, ![16384]⟩
abbrev S1x16384 : Shape := ⟨2, ![1, 16384]⟩
abbrev S1x16384x1 : Shape := ⟨3, ![1, 16384, 1]⟩
abbrev S1x16384x3 : Shape := ⟨3, ![1, 16384, 3]⟩
abbrev S1x32x512x3 : Shape := ⟨4, ![1, 32, 512, 3]⟩
abbrev S32x1x512x3 : Shape := ⟨4, ![32, 1, 512, 3]⟩
abbrev S32x1x512x64 : Shape := ⟨4, ![32, 1, 512, 64]⟩
abbrev S1x1x32768 : Shape := ⟨3, ![1, 1, 32768]⟩
abbrev S1x512x32768 : Shape := ⟨3, ![1, 512, 32768]⟩
abbrev S1x3x32768 : Shape := ⟨3, ![1, 3, 32768]⟩
abbrev S512x32768 : Shape := ⟨2, ![512, 32768]⟩
abbrev S1x512x64 : Shape := ⟨3, ![1, 512, 64]⟩
abbrev S1x1x512x64 : Shape := ⟨4, ![1, 1, 512, 64]⟩
abbrev S1x32x512x64 : Shape := ⟨4, ![1, 32, 512, 64]⟩
abbrev S1x16384x64 : Shape := ⟨3, ![1, 16384, 64]⟩
abbrev S1x16384x64x3 : Shape := ⟨4, ![1, 16384, 64, 3]⟩
abbrev S1x16384x1x3 : Shape := ⟨4, ![1, 16384, 1, 3]⟩
abbrev S1x1048576x128 : Shape := ⟨3, ![1, 1048576, 128]⟩
abbrev S1x16384x64x128 : Shape := ⟨4, ![1, 16384, 64, 128]⟩
abbrev S1x16384x64x131 : Shape := ⟨4, ![1, 16384, 64, 131]⟩
abbrev S131x256 : Shape := ⟨2, ![131, 256]⟩
abbrev S1x16384x64x256 : Shape := ⟨4, ![1, 16384, 64, 256]⟩
abbrev S1x256 : Shape := ⟨2, ![1, 256]⟩
abbrev S1x1x1x256 : Shape := ⟨4, ![1, 1, 1, 256]⟩
abbrev S1x1x256 : Shape := ⟨3, ![1, 1, 256]⟩
abbrev S1x16384x256 : Shape := ⟨3, ![1, 16384, 256]⟩
abbrev S1x256x16384 : Shape := ⟨3, ![1, 256, 16384]⟩
abbrev S16384x3 : Shape := ⟨2, ![16384, 3]⟩
abbrev S8192 : Shape := ⟨1, ![8192]⟩
abbrev S1x8192 : Shape := ⟨2, ![1, 8192]⟩
abbrev S1x8192x1 : Shape := ⟨3, ![1, 8192, 1]⟩
abbrev S1x8192x3 : Shape := ⟨3, ![1, 8192, 3]⟩
abbrev S1x16x512x3 : Shape := ⟨4, ![1, 16, 512, 3]⟩
abbrev S16x1x512x3 : Shape := ⟨4, ![16, 1, 512, 3]⟩
abbrev S16x1x512x64 : Shape := ⟨4, ![16, 1, 512, 64]⟩
abbrev S1x1x16384 : Shape := ⟨3, ![1, 1, 16384]⟩
abbrev S1x512x16384 : Shape := ⟨3, ![1, 512, 16384]⟩
abbrev S1x3x16384 : Shape := ⟨3, ![1, 3, 16384]⟩
abbrev S512x16384 : Shape := ⟨2, ![512, 16384]⟩
abbrev S1x16x512x64 : Shape := ⟨4, ![1, 16, 512, 64]⟩
abbrev S1x8192x64 : Shape := ⟨3, ![1, 8192, 64]⟩
abbrev S1x524288 : Shape := ⟨2, ![1, 524288]⟩
abbrev S1x524288x1 : Shape := ⟨3, ![1, 524288, 1]⟩
abbrev S1x524288x3 : Shape := ⟨3, ![1, 524288, 3]⟩
abbrev S1x8192x64x3 : Shape := ⟨4, ![1, 8192, 64, 3]⟩
abbrev S1x8192x1x3 : Shape := ⟨4, ![1, 8192, 1, 3]⟩
abbrev S1x524288x256 : Shape := ⟨3, ![1, 524288, 256]⟩
abbrev S1x8192x64x256 : Shape := ⟨4, ![1, 8192, 64, 256]⟩
abbrev S1x8192x64x259 : Shape := ⟨4, ![1, 8192, 64, 259]⟩
abbrev S259x256 : Shape := ⟨2, ![259, 256]⟩
abbrev S1x8192x256 : Shape := ⟨3, ![1, 8192, 256]⟩
abbrev S1x256x8192 : Shape := ⟨3, ![1, 256, 8192]⟩

abbrev nBuf : Space → Nat
  | .hbm => 1107
  | .vmem => 0
  | .smem => 0
  | _ => 0

abbrev hbmTy0_0 (i : Nat) : BufTy := match i % 128 with
  | 0 => ⟨S1x65536x3, .f32⟩
  | 1 => ⟨S1x3x65536, .f32⟩
  | 2 => ⟨S64x6, .f32⟩
  | 3 => ⟨S64, .f32⟩
  | 4 => ⟨S64, .f32⟩
  | 5 => ⟨S128x67, .f32⟩
  | 6 => ⟨S128, .f32⟩
  | 7 => ⟨S128, .f32⟩
  | 8 => ⟨S256x131, .f32⟩
  | 9 => ⟨S256, .f32⟩
  | 10 => ⟨S256, .f32⟩
  | 11 => ⟨S256x259, .f32⟩
  | 12 => ⟨S256, .f32⟩
  | 13 => ⟨S256, .f32⟩
  | 14 => ⟨S65536x3, .f32⟩
  | 15 => ⟨S_, .f32⟩
  | 16 => ⟨S65536, .f32⟩
  | 17 => ⟨S_, .i32⟩
  | 18 => ⟨S65526, .i32⟩
  | 19 => ⟨S_, .i32⟩
  | 20 => ⟨S_, .i32⟩
  | 21 => ⟨S65536x3, .f32⟩
  | 22 => ⟨S_, .i32⟩
  | 23 => ⟨S_, .i32⟩
  | 24 => ⟨S65536, .f32⟩
  | 25 => ⟨S65526, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S1, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S1x3, .f32⟩
  | 54 => ⟨S3, .f32⟩
  | 55 => ⟨S1x3, .f32⟩
  | 56 => ⟨S65536x3, .f32⟩
  | 57 => ⟨S65536x3, .f32⟩
  | 58 => ⟨S65536x3, .f32⟩
  | 59 => ⟨S_, .f32⟩
  | 60 => ⟨S65536, .f32⟩
  | 61 => ⟨S65536, .f32⟩
  | 62 => ⟨S65536, .i32⟩
  | 63 => ⟨S_, .f32⟩
  | 64 => ⟨S_, .i32⟩
  | 65 => ⟨S_, .f32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S1, .i32⟩
  | 74 => ⟨S65526, .i32⟩
  | 75 => ⟨S_, .i32⟩
  | 76 => ⟨S_, .i32⟩
  | 77 => ⟨S1x65526, .i32⟩
  | 78 => ⟨S_, .i32⟩
  | 79 => ⟨S1x65526, .i32⟩
  | 80 => ⟨S1x65526, .i1⟩
  | 81 => ⟨S_, .i32⟩
  | 82 => ⟨S1x65526, .i32⟩
  | 83 => ⟨S1x65526, .i32⟩
  | 84 => ⟨S1x65526, .i32⟩
  | 85 => ⟨S1x65526x1, .i32⟩
  | 86 => ⟨S1, .i32⟩
  | 87 => ⟨S_, .i32⟩
  | 88 => ⟨S1x65526x1, .i32⟩
  | 89 => ⟨S1x65526x1, .i1⟩
  | 90 => ⟨S1x1x1, .i32⟩
  | 91 => ⟨S1x65526x1, .i32⟩
  | 92 => ⟨S1x65526x1, .i1⟩
  | 93 => ⟨S1x65526x1, .i1⟩
  | 94 => ⟨S_, .i1⟩
  | 95 => ⟨S1x65526, .i1⟩
  | 96 => ⟨S1x65526x3, .f32⟩
  | 97 => ⟨S1x65526x3, .i1⟩
  | 98 => ⟨S_, .f32⟩
  | 99 => ⟨S1x65526x3, .f32⟩
  | 100 => ⟨S1x65526x3, .f32⟩
  | 101 => ⟨S1x1x3, .f32⟩
  | 102 => ⟨S1x10x3, .f32⟩
  | 103 => ⟨S1x65536x3, .f32⟩
  | 104 => ⟨S1x128x512x3, .f32⟩
  | 105 => ⟨S1x65536x3, .f32⟩
  | 106 => ⟨S_, .f32⟩
  | 107 => ⟨S1x65536, .f32⟩
  | 108 => ⟨S65536, .i32⟩
  | 109 => ⟨S128x1x512x3, .f32⟩
  | 110 => ⟨S_, .i32⟩
  | 111 => ⟨S128x1x512x32, .i32⟩
  | 112 => ⟨S_, .i32⟩
  | 113 => ⟨S128x1x512x3, .f32⟩
  | 114 => ⟨S1x65536, .f32⟩
  | 115 => ⟨S1x65536x3, .f32⟩
  | 116 => ⟨S65536, .i32⟩
  | 117 => ⟨S_, .i32⟩
  | 118 => ⟨S128x1x512x32, .i32⟩
  | 119 => ⟨S_, .i32⟩
  | 120 => ⟨S_, .i1⟩
  | 121 => ⟨S_, .i32⟩
  | 122 => ⟨S_, .i32⟩
  | 123 => ⟨S_, .i32⟩
  | 124 => ⟨S1x1x512x3, .f32⟩
  | 125 => ⟨S1x512x3, .f32⟩
  | 126 => ⟨S1x512x3, .f32⟩
  | 127 => ⟨S_, .f32⟩
  | _ => ⟨S1x65536x3, .f32⟩

abbrev hbmTy0_1 (i : Nat) : BufTy := match i % 128 with
  | 0 => ⟨S1x512, .f32⟩
  | 1 => ⟨S1x512x1, .f32⟩
  | 2 => ⟨S1x1x65536, .f32⟩
  | 3 => ⟨S1x512x65536, .f32⟩
  | 4 => ⟨S1x512x65536, .f32⟩
  | 5 => ⟨S1x512x65536, .f32⟩
  | 6 => ⟨S1x3x65536, .f32⟩
  | 7 => ⟨S1x512x65536, .f32⟩
  | 8 => ⟨S_, .f32⟩
  | 9 => ⟨S1x512x65536, .f32⟩
  | 10 => ⟨S1x512x65536, .f32⟩
  | 11 => ⟨S1x512x65536, .f32⟩
  | 12 => ⟨S_, .f32⟩
  | 13 => ⟨S1x512x65536, .f32⟩
  | 14 => ⟨S1x512x65536, .i1⟩
  | 15 => ⟨S_, .i32⟩
  | 16 => ⟨S_, .i32⟩
  | 17 => ⟨S512x65536, .i32⟩
  | 18 => ⟨S512x65536, .i32⟩
  | 19 => ⟨S1x512x65536, .i32⟩
  | 20 => ⟨S1x512x65536, .i32⟩
  | 21 => ⟨S1x512x65536, .i32⟩
  | 22 => ⟨S1x512x65536, .i32⟩
  | 23 => ⟨S1x512x32, .i32⟩
  | 24 => ⟨S1x512x32, .i32⟩
  | 25 => ⟨S1x512x32, .i32⟩
  | 26 => ⟨S_, .i32⟩
  | 27 => ⟨S1x512x32, .i32⟩
  | 28 => ⟨S1x512x32, .i1⟩
  | 29 => ⟨S1x512x1, .i32⟩
  | 30 => ⟨S1x512x32, .i32⟩
  | 31 => ⟨S1x512x32, .i32⟩
  | 32 => ⟨S_, .i32⟩
  | 33 => ⟨S_, .i32⟩
  | 34 => ⟨S_, .i32⟩
  | 35 => ⟨S1x512x32, .i32⟩
  | 36 => ⟨S1x512x32, .i32⟩
  | 37 => ⟨S_, .i32⟩
  | 38 => ⟨S1x512x32, .i32⟩
  | 39 => ⟨S1x512x32, .i32⟩
  | 40 => ⟨S1x1x512x32, .i32⟩
  | 41 => ⟨S_, .i32⟩
  | 42 => ⟨S_, .i32⟩
  | 43 => ⟨S_, .i32⟩
  | 44 => ⟨S128x1x512x32, .i32⟩
  | 45 => ⟨S_, .i32⟩
  | 46 => ⟨S_, .i32⟩
  | 47 => ⟨S1x128x512x32, .i32⟩
  | 48 => ⟨S1x65536x32, .i32⟩
  | 49 => ⟨S1x65526x32, .i32⟩
  | 50 => ⟨S1x2096832, .i32⟩
  | 51 => ⟨S_, .i32⟩
  | 52 => ⟨S1x2096832, .i32⟩
  | 53 => ⟨S1x2096832, .i1⟩
  | 54 => ⟨S_, .i32⟩
  | 55 => ⟨S1x2096832, .i32⟩
  | 56 => ⟨S1x2096832, .i32⟩
  | 57 => ⟨S1x2096832, .i32⟩
  | 58 => ⟨S1x2096832x1, .i32⟩
  | 59 => ⟨S1, .i32⟩
  | 60 => ⟨S_, .i32⟩
  | 61 => ⟨S1x2096832x1, .i32⟩
  | 62 => ⟨S1x2096832x1, .i1⟩
  | 63 => ⟨S1x1x1, .i32⟩
  | 64 => ⟨S1x2096832x1, .i32⟩
  | 65 => ⟨S1x2096832x1, .i1⟩
  | 66 => ⟨S1x2096832x1, .i1⟩
  | 67 => ⟨S_, .i1⟩
  | 68 => ⟨S1x2096832, .i1⟩
  | 69 => ⟨S1x2096832x3, .f32⟩
  | 70 => ⟨S1x2096832x3, .i1⟩
  | 71 => ⟨S_, .f32⟩
  | 72 => ⟨S1x2096832x3, .f32⟩
  | 73 => ⟨S1x2096832x3, .f32⟩
  | 74 => ⟨S1x65526x32x3, .f32⟩
  | 75 => ⟨S1x65526x1x3, .f32⟩
  | 76 => ⟨S1x65526x32x3, .f32⟩
  | 77 => ⟨S1x65526x32x3, .f32⟩
  | 78 => ⟨S1x65536x3, .f32⟩
  | 79 => ⟨S1x2096832, .i32⟩
  | 80 => ⟨S_, .i32⟩
  | 81 => ⟨S1x2096832, .i32⟩
  | 82 => ⟨S1x2096832, .i1⟩
  | 83 => ⟨S_, .i32⟩
  | 84 => ⟨S1x2096832, .i32⟩
  | 85 => ⟨S1x2096832, .i32⟩
  | 86 => ⟨S1x2096832, .i32⟩
  | 87 => ⟨S1x2096832x1, .i32⟩
  | 88 => ⟨S1, .i32⟩
  | 89 => ⟨S_, .i32⟩
  | 90 => ⟨S1x2096832x1, .i32⟩
  | 91 => ⟨S1x2096832x1, .i1⟩
  | 92 => ⟨S1x1x1, .i32⟩
  | 93 => ⟨S1x2096832x1, .i32⟩
  | 94 => ⟨S1x2096832x1, .i1⟩
  | 95 => ⟨S1x2096832x1, .i1⟩
  | 96 => ⟨S_, .i1⟩
  | 97 => ⟨S1x2096832, .i1⟩
  | 98 => ⟨S1x2096832x3, .f32⟩
  | 99 => ⟨S1x2096832x3, .i1⟩
  | 100 => ⟨S_, .f32⟩
  | 101 => ⟨S1x2096832x3, .f32⟩
  | 102 => ⟨S1x2096832x3, .f32⟩
  | 103 => ⟨S1x65526x32x3, .f32⟩
  | 104 => ⟨S1x65526x32x6, .f32⟩
  | 105 => ⟨S6x64, .f32⟩
  | 106 => ⟨S1x65526x32x64, .f32⟩
  | 107 => ⟨S_, .f32⟩
  | 108 => ⟨S1x64, .f32⟩
  | 109 => ⟨S_, .f32⟩
  | 110 => ⟨S1x64, .f32⟩
  | 111 => ⟨S1x64, .f32⟩
  | 112 => ⟨S_, .i32⟩
  | 113 => ⟨S_, .f32⟩
  | 114 => ⟨S1x64, .f32⟩
  | 115 => ⟨S1x1x1x64, .f32⟩
  | 116 => ⟨S_, .f32⟩
  | 117 => ⟨S1x1x1x64, .f32⟩
  | 118 => ⟨S1x1x1x64, .f32⟩
  | 119 => ⟨S1x65526x32x64, .f32⟩
  | 120 => ⟨S1x65526x32x64, .f32⟩
  | 121 => ⟨S1x65526x32x64, .f32⟩
  | 122 => ⟨S_, .f32⟩
  | 123 => ⟨S_, .f32⟩
  | 124 => ⟨S_, .f32⟩
  | 125 => ⟨S_, .f32⟩
  | 126 => ⟨S1x64, .f32⟩
  | 127 => ⟨S1x64, .f32⟩
  | _ => ⟨S1x65536x3, .f32⟩

abbrev hbmTy0_2 (i : Nat) : BufTy := match i % 128 with
  | 0 => ⟨S1x64, .f32⟩
  | 1 => ⟨S_, .f32⟩
  | 2 => ⟨S_, .i1⟩
  | 3 => ⟨S_, .f32⟩
  | 4 => ⟨S_, .f32⟩
  | 5 => ⟨S64, .f32⟩
  | 6 => ⟨S1x64, .f32⟩
  | 7 => ⟨S1x64, .f32⟩
  | 8 => ⟨S1x1x1x64, .f32⟩
  | 9 => ⟨S1x65526x32x64, .f32⟩
  | 10 => ⟨S1x65526x32x64, .f32⟩
  | 11 => ⟨S_, .f32⟩
  | 12 => ⟨S1x64, .f32⟩
  | 13 => ⟨S1x64, .f32⟩
  | 14 => ⟨S1x64, .f32⟩
  | 15 => ⟨S1x1x1x64, .f32⟩
  | 16 => ⟨S1x65526x32x64, .f32⟩
  | 17 => ⟨S1x65526x32x64, .f32⟩
  | 18 => ⟨S1x1x64, .f32⟩
  | 19 => ⟨S1x1x1x64, .f32⟩
  | 20 => ⟨S1x65526x32x64, .f32⟩
  | 21 => ⟨S1x65526x32x64, .f32⟩
  | 22 => ⟨S1x1x64, .f32⟩
  | 23 => ⟨S1x1x1x64, .f32⟩
  | 24 => ⟨S1x65526x32x64, .f32⟩
  | 25 => ⟨S1x65526x32x64, .f32⟩
  | 26 => ⟨S_, .f32⟩
  | 27 => ⟨S1x65526x32x64, .f32⟩
  | 28 => ⟨S1x65526x32x64, .f32⟩
  | 29 => ⟨S_, .f32⟩
  | 30 => ⟨S1x65526x64, .f32⟩
  | 31 => ⟨S1x64x65526, .f32⟩
  | 32 => ⟨S65526x3, .f32⟩
  | 33 => ⟨S_, .f32⟩
  | 34 => ⟨S65526, .f32⟩
  | 35 => ⟨S_, .i32⟩
  | 36 => ⟨S32768, .i32⟩
  | 37 => ⟨S_, .i32⟩
  | 38 => ⟨S_, .i32⟩
  | 39 => ⟨S65526x3, .f32⟩
  | 40 => ⟨S_, .i32⟩
  | 41 => ⟨S_, .i32⟩
  | 42 => ⟨S65526, .f32⟩
  | 43 => ⟨S32768, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S1, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S1x3, .f32⟩
  | 72 => ⟨S3, .f32⟩
  | 73 => ⟨S1x3, .f32⟩
  | 74 => ⟨S65526x3, .f32⟩
  | 75 => ⟨S65526x3, .f32⟩
  | 76 => ⟨S65526x3, .f32⟩
  | 77 => ⟨S_, .f32⟩
  | 78 => ⟨S65526, .f32⟩
  | 79 => ⟨S65526, .f32⟩
  | 80 => ⟨S65526, .i32⟩
  | 81 => ⟨S_, .f32⟩
  | 82 => ⟨S_, .i32⟩
  | 83 => ⟨S_, .f32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S1, .i32⟩
  | 92 => ⟨S32768, .i32⟩
  | 93 => ⟨S_, .i32⟩
  | 94 => ⟨S_, .i32⟩
  | 95 => ⟨S1x32768, .i32⟩
  | 96 => ⟨S_, .i32⟩
  | 97 => ⟨S1x32768, .i32⟩
  | 98 => ⟨S1x32768, .i1⟩
  | 99 => ⟨S_, .i32⟩
  | 100 => ⟨S1x32768, .i32⟩
  | 101 => ⟨S1x32768, .i32⟩
  | 102 => ⟨S1x32768, .i32⟩
  | 103 => ⟨S1x32768x1, .i32⟩
  | 104 => ⟨S1, .i32⟩
  | 105 => ⟨S_, .i32⟩
  | 106 => ⟨S1x32768x1, .i32⟩
  | 107 => ⟨S1x32768x1, .i1⟩
  | 108 => ⟨S1x1x1, .i32⟩
  | 109 => ⟨S1x32768x1, .i32⟩
  | 110 => ⟨S1x32768x1, .i1⟩
  | 111 => ⟨S1x32768x1, .i1⟩
  | 112 => ⟨S_, .i1⟩
  | 113 => ⟨S1x32768, .i1⟩
  | 114 => ⟨S1x32768x3, .f32⟩
  | 115 => ⟨S1x32768x3, .i1⟩
  | 116 => ⟨S_, .f32⟩
  | 117 => ⟨S1x32768x3, .f32⟩
  | 118 => ⟨S1x32768x3, .f32⟩
  | 119 => ⟨S1x1x3, .f32⟩
  | 120 => ⟨S1x0x3, .f32⟩
  | 121 => ⟨S1x32768x3, .f32⟩
  | 122 => ⟨S1x64x512x3, .f32⟩
  | 123 => ⟨S1x65526x3, .f32⟩
  | 124 => ⟨S_, .f32⟩
  | 125 => ⟨S1x65526, .f32⟩
  | 126 => ⟨S65526, .i32⟩
  | 127 => ⟨S64x1x512x3, .f32⟩
  | _ => ⟨S1x65536x3, .f32⟩

abbrev hbmTy0_3 (i : Nat) : BufTy := match i % 128 with
  | 0 => ⟨S_, .i32⟩
  | 1 => ⟨S64x1x512x32, .i32⟩
  | 2 => ⟨S_, .i32⟩
  | 3 => ⟨S64x1x512x3, .f32⟩
  | 4 => ⟨S1x65526, .f32⟩
  | 5 => ⟨S1x65526x3, .f32⟩
  | 6 => ⟨S65526, .i32⟩
  | 7 => ⟨S_, .i32⟩
  | 8 => ⟨S64x1x512x32, .i32⟩
  | 9 => ⟨S_, .i32⟩
  | 10 => ⟨S_, .i1⟩
  | 11 => ⟨S_, .i32⟩
  | 12 => ⟨S_, .i32⟩
  | 13 => ⟨S_, .i32⟩
  | 14 => ⟨S1x1x512x3, .f32⟩
  | 15 => ⟨S1x512x3, .f32⟩
  | 16 => ⟨S1x512x3, .f32⟩
  | 17 => ⟨S_, .f32⟩
  | 18 => ⟨S1x512, .f32⟩
  | 19 => ⟨S1x512x1, .f32⟩
  | 20 => ⟨S1x1x65526, .f32⟩
  | 21 => ⟨S1x512x65526, .f32⟩
  | 22 => ⟨S1x512x65526, .f32⟩
  | 23 => ⟨S1x512x65526, .f32⟩
  | 24 => ⟨S1x3x65526, .f32⟩
  | 25 => ⟨S1x512x65526, .f32⟩
  | 26 => ⟨S_, .f32⟩
  | 27 => ⟨S1x512x65526, .f32⟩
  | 28 => ⟨S1x512x65526, .f32⟩
  | 29 => ⟨S1x512x65526, .f32⟩
  | 30 => ⟨S_, .f32⟩
  | 31 => ⟨S1x512x65526, .f32⟩
  | 32 => ⟨S1x512x65526, .i1⟩
  | 33 => ⟨S_, .i32⟩
  | 34 => ⟨S_, .i32⟩
  | 35 => ⟨S512x65526, .i32⟩
  | 36 => ⟨S512x65526, .i32⟩
  | 37 => ⟨S1x512x65526, .i32⟩
  | 38 => ⟨S1x512x65526, .i32⟩
  | 39 => ⟨S1x512x65526, .i32⟩
  | 40 => ⟨S1x512x65526, .i32⟩
  | 41 => ⟨S1x512x32, .i32⟩
  | 42 => ⟨S1x512x32, .i32⟩
  | 43 => ⟨S1x512x32, .i32⟩
  | 44 => ⟨S_, .i32⟩
  | 45 => ⟨S1x512x32, .i32⟩
  | 46 => ⟨S1x512x32, .i1⟩
  | 47 => ⟨S1x512x1, .i32⟩
  | 48 => ⟨S1x512x32, .i32⟩
  | 49 => ⟨S1x512x32, .i32⟩
  | 50 => ⟨S_, .i32⟩
  | 51 => ⟨S_, .i32⟩
  | 52 => ⟨S_, .i32⟩
  | 53 => ⟨S1x512x32, .i32⟩
  | 54 => ⟨S1x512x32, .i32⟩
  | 55 => ⟨S_, .i32⟩
  | 56 => ⟨S1x512x32, .i32⟩
  | 57 => ⟨S1x512x32, .i32⟩
  | 58 => ⟨S1x1x512x32, .i32⟩
  | 59 => ⟨S_, .i32⟩
  | 60 => ⟨S_, .i32⟩
  | 61 => ⟨S_, .i32⟩
  | 62 => ⟨S64x1x512x32, .i32⟩
  | 63 => ⟨S_, .i32⟩
  | 64 => ⟨S_, .i32⟩
  | 65 => ⟨S1x64x512x32, .i32⟩
  | 66 => ⟨S1x32768x32, .i32⟩
  | 67 => ⟨S1x1048576, .i32⟩
  | 68 => ⟨S_, .i32⟩
  | 69 => ⟨S1x1048576, .i32⟩
  | 70 => ⟨S1x1048576, .i1⟩
  | 71 => ⟨S_, .i32⟩
  | 72 => ⟨S1x1048576, .i32⟩
  | 73 => ⟨S1x1048576, .i32⟩
  | 74 => ⟨S1x1048576, .i32⟩
  | 75 => ⟨S1x1048576x1, .i32⟩
  | 76 => ⟨S1, .i32⟩
  | 77 => ⟨S_, .i32⟩
  | 78 => ⟨S1x1048576x1, .i32⟩
  | 79 => ⟨S1x1048576x1, .i1⟩
  | 80 => ⟨S1x1x1, .i32⟩
  | 81 => ⟨S1x1048576x1, .i32⟩
  | 82 => ⟨S1x1048576x1, .i1⟩
  | 83 => ⟨S1x1048576x1, .i1⟩
  | 84 => ⟨S_, .i1⟩
  | 85 => ⟨S1x1048576, .i1⟩
  | 86 => ⟨S1x1048576x3, .f32⟩
  | 87 => ⟨S1x1048576x3, .i1⟩
  | 88 => ⟨S_, .f32⟩
  | 89 => ⟨S1x1048576x3, .f32⟩
  | 90 => ⟨S1x1048576x3, .f32⟩
  | 91 => ⟨S1x32768x32x3, .f32⟩
  | 92 => ⟨S1x32768x1x3, .f32⟩
  | 93 => ⟨S1x32768x32x3, .f32⟩
  | 94 => ⟨S1x32768x32x3, .f32⟩
  | 95 => ⟨S1x65526x64, .f32⟩
  | 96 => ⟨S1x1048576, .i32⟩
  | 97 => ⟨S_, .i32⟩
  | 98 => ⟨S1x1048576, .i32⟩
  | 99 => ⟨S1x1048576, .i1⟩
  | 100 => ⟨S_, .i32⟩
  | 101 => ⟨S1x1048576, .i32⟩
  | 102 => ⟨S1x1048576, .i32⟩
  | 103 => ⟨S1x1048576, .i32⟩
  | 104 => ⟨S1x1048576x1, .i32⟩
  | 105 => ⟨S1, .i32⟩
  | 106 => ⟨S_, .i32⟩
  | 107 => ⟨S1x1048576x1, .i32⟩
  | 108 => ⟨S1x1048576x1, .i1⟩
  | 109 => ⟨S1x1x1, .i32⟩
  | 110 => ⟨S1x1048576x1, .i32⟩
  | 111 => ⟨S1x1048576x1, .i1⟩
  | 112 => ⟨S1x1048576x1, .i1⟩
  | 113 => ⟨S_, .i1⟩
  | 114 => ⟨S1x1048576, .i1⟩
  | 115 => ⟨S1x1048576x64, .f32⟩
  | 116 => ⟨S1x1048576x64, .i1⟩
  | 117 => ⟨S_, .f32⟩
  | 118 => ⟨S1x1048576x64, .f32⟩
  | 119 => ⟨S1x1048576x64, .f32⟩
  | 120 => ⟨S1x32768x32x64, .f32⟩
  | 121 => ⟨S1x32768x32x67, .f32⟩
  | 122 => ⟨S67x128, .f32⟩
  | 123 => ⟨S1x32768x32x128, .f32⟩
  | 124 => ⟨S_, .f32⟩
  | 125 => ⟨S1x128, .f32⟩
  | 126 => ⟨S_, .f32⟩
  | 127 => ⟨S1x128, .f32⟩
  | _ => ⟨S1x65536x3, .f32⟩

abbrev hbmTy0_4 (i : Nat) : BufTy := match i % 128 with
  | 0 => ⟨S1x128, .f32⟩
  | 1 => ⟨S_, .i32⟩
  | 2 => ⟨S_, .f32⟩
  | 3 => ⟨S1x128, .f32⟩
  | 4 => ⟨S1x1x1x128, .f32⟩
  | 5 => ⟨S_, .f32⟩
  | 6 => ⟨S1x1x1x128, .f32⟩
  | 7 => ⟨S1x1x1x128, .f32⟩
  | 8 => ⟨S1x32768x32x128, .f32⟩
  | 9 => ⟨S1x32768x32x128, .f32⟩
  | 10 => ⟨S1x32768x32x128, .f32⟩
  | 11 => ⟨S_, .f32⟩
  | 12 => ⟨S_, .f32⟩
  | 13 => ⟨S_, .f32⟩
  | 14 => ⟨S_, .f32⟩
  | 15 => ⟨S1x128, .f32⟩
  | 16 => ⟨S1x128, .f32⟩
  | 17 => ⟨S1x128, .f32⟩
  | 18 => ⟨S_, .f32⟩
  | 19 => ⟨S_, .i1⟩
  | 20 => ⟨S_, .f32⟩
  | 21 => ⟨S_, .f32⟩
  | 22 => ⟨S128, .f32⟩
  | 23 => ⟨S1x128, .f32⟩
  | 24 => ⟨S1x128, .f32⟩
  | 25 => ⟨S1x1x1x128, .f32⟩
  | 26 => ⟨S1x32768x32x128, .f32⟩
  | 27 => ⟨S1x32768x32x128, .f32⟩
  | 28 => ⟨S_, .f32⟩
  | 29 => ⟨S1x128, .f32⟩
  | 30 => ⟨S1x128, .f32⟩
  | 31 => ⟨S1x128, .f32⟩
  | 32 => ⟨S1x1x1x128, .f32⟩
  | 33 => ⟨S1x32768x32x128, .f32⟩
  | 34 => ⟨S1x32768x32x128, .f32⟩
  | 35 => ⟨S1x1x128, .f32⟩
  | 36 => ⟨S1x1x1x128, .f32⟩
  | 37 => ⟨S1x32768x32x128, .f32⟩
  | 38 => ⟨S1x32768x32x128, .f32⟩
  | 39 => ⟨S1x1x128, .f32⟩
  | 40 => ⟨S1x1x1x128, .f32⟩
  | 41 => ⟨S1x32768x32x128, .f32⟩
  | 42 => ⟨S1x32768x32x128, .f32⟩
  | 43 => ⟨S_, .f32⟩
  | 44 => ⟨S1x32768x32x128, .f32⟩
  | 45 => ⟨S1x32768x32x128, .f32⟩
  | 46 => ⟨S_, .f32⟩
  | 47 => ⟨S1x32768x128, .f32⟩
  | 48 => ⟨S1x128x32768, .f32⟩
  | 49 => ⟨S32768x3, .f32⟩
  | 50 => ⟨S_, .f32⟩
  | 51 => ⟨S32768, .f32⟩
  | 52 => ⟨S_, .i32⟩
  | 53 => ⟨S16384, .i32⟩
  | 54 => ⟨S_, .i32⟩
  | 55 => ⟨S_, .i32⟩
  | 56 => ⟨S32768x3, .f32⟩
  | 57 => ⟨S_, .i32⟩
  | 58 => ⟨S_, .i32⟩
  | 59 => ⟨S32768, .f32⟩
  | 60 => ⟨S16384, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S1, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S1x3, .f32⟩
  | 89 => ⟨S3, .f32⟩
  | 90 => ⟨S1x3, .f32⟩
  | 91 => ⟨S32768x3, .f32⟩
  | 92 => ⟨S32768x3, .f32⟩
  | 93 => ⟨S32768x3, .f32⟩
  | 94 => ⟨S_, .f32⟩
  | 95 => ⟨S32768, .f32⟩
  | 96 => ⟨S32768, .f32⟩
  | 97 => ⟨S32768, .i32⟩
  | 98 => ⟨S_, .f32⟩
  | 99 => ⟨S_, .i32⟩
  | 100 => ⟨S_, .f32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S1, .i32⟩
  | 109 => ⟨S16384, .i32⟩
  | 110 => ⟨S_, .i32⟩
  | 111 => ⟨S_, .i32⟩
  | 112 => ⟨S1x16384, .i32⟩
  | 113 => ⟨S_, .i32⟩
  | 114 => ⟨S1x16384, .i32⟩
  | 115 => ⟨S1x16384, .i1⟩
  | 116 => ⟨S_, .i32⟩
  | 117 => ⟨S1x16384, .i32⟩
  | 118 => ⟨S1x16384, .i32⟩
  | 119 => ⟨S1x16384, .i32⟩
  | 120 => ⟨S1x16384x1, .i32⟩
  | 121 => ⟨S1, .i32⟩
  | 122 => ⟨S_, .i32⟩
  | 123 => ⟨S1x16384x1, .i32⟩
  | 124 => ⟨S1x16384x1, .i1⟩
  | 125 => ⟨S1x1x1, .i32⟩
  | 126 => ⟨S1x16384x1, .i32⟩
  | 127 => ⟨S1x16384x1, .i1⟩
  | _ => ⟨S1x65536x3, .f32⟩

abbrev hbmTy0_5 (i : Nat) : BufTy := match i % 128 with
  | 0 => ⟨S1x16384x1, .i1⟩
  | 1 => ⟨S_, .i1⟩
  | 2 => ⟨S1x16384, .i1⟩
  | 3 => ⟨S1x16384x3, .f32⟩
  | 4 => ⟨S1x16384x3, .i1⟩
  | 5 => ⟨S_, .f32⟩
  | 6 => ⟨S1x16384x3, .f32⟩
  | 7 => ⟨S1x16384x3, .f32⟩
  | 8 => ⟨S1x1x3, .f32⟩
  | 9 => ⟨S1x0x3, .f32⟩
  | 10 => ⟨S1x16384x3, .f32⟩
  | 11 => ⟨S1x32x512x3, .f32⟩
  | 12 => ⟨S1x32768x3, .f32⟩
  | 13 => ⟨S_, .f32⟩
  | 14 => ⟨S1x32768, .f32⟩
  | 15 => ⟨S32768, .i32⟩
  | 16 => ⟨S32x1x512x3, .f32⟩
  | 17 => ⟨S_, .i32⟩
  | 18 => ⟨S32x1x512x64, .i32⟩
  | 19 => ⟨S_, .i32⟩
  | 20 => ⟨S32x1x512x3, .f32⟩
  | 21 => ⟨S1x32768, .f32⟩
  | 22 => ⟨S1x32768x3, .f32⟩
  | 23 => ⟨S32768, .i32⟩
  | 24 => ⟨S_, .i32⟩
  | 25 => ⟨S32x1x512x64, .i32⟩
  | 26 => ⟨S_, .i32⟩
  | 27 => ⟨S_, .i1⟩
  | 28 => ⟨S_, .i32⟩
  | 29 => ⟨S_, .i32⟩
  | 30 => ⟨S_, .i32⟩
  | 31 => ⟨S1x1x512x3, .f32⟩
  | 32 => ⟨S1x512x3, .f32⟩
  | 33 => ⟨S1x512x3, .f32⟩
  | 34 => ⟨S_, .f32⟩
  | 35 => ⟨S1x512, .f32⟩
  | 36 => ⟨S1x512x1, .f32⟩
  | 37 => ⟨S1x1x32768, .f32⟩
  | 38 => ⟨S1x512x32768, .f32⟩
  | 39 => ⟨S1x512x32768, .f32⟩
  | 40 => ⟨S1x512x32768, .f32⟩
  | 41 => ⟨S1x3x32768, .f32⟩
  | 42 => ⟨S1x512x32768, .f32⟩
  | 43 => ⟨S_, .f32⟩
  | 44 => ⟨S1x512x32768, .f32⟩
  | 45 => ⟨S1x512x32768, .f32⟩
  | 46 => ⟨S1x512x32768, .f32⟩
  | 47 => ⟨S_, .f32⟩
  | 48 => ⟨S1x512x32768, .f32⟩
  | 49 => ⟨S1x512x32768, .i1⟩
  | 50 => ⟨S_, .i32⟩
  | 51 => ⟨S_, .i32⟩
  | 52 => ⟨S512x32768, .i32⟩
  | 53 => ⟨S512x32768, .i32⟩
  | 54 => ⟨S1x512x32768, .i32⟩
  | 55 => ⟨S1x512x32768, .i32⟩
  | 56 => ⟨S1x512x32768, .i32⟩
  | 57 => ⟨S1x512x32768, .i32⟩
  | 58 => ⟨S1x512x64, .i32⟩
  | 59 => ⟨S1x512x64, .i32⟩
  | 60 => ⟨S1x512x64, .i32⟩
  | 61 => ⟨S_, .i32⟩
  | 62 => ⟨S1x512x64, .i32⟩
  | 63 => ⟨S1x512x64, .i1⟩
  | 64 => ⟨S1x512x1, .i32⟩
  | 65 => ⟨S1x512x64, .i32⟩
  | 66 => ⟨S1x512x64, .i32⟩
  | 67 => ⟨S_, .i32⟩
  | 68 => ⟨S_, .i32⟩
  | 69 => ⟨S_, .i32⟩
  | 70 => ⟨S1x512x64, .i32⟩
  | 71 => ⟨S1x512x64, .i32⟩
  | 72 => ⟨S_, .i32⟩
  | 73 => ⟨S1x512x64, .i32⟩
  | 74 => ⟨S1x512x64, .i32⟩
  | 75 => ⟨S1x1x512x64, .i32⟩
  | 76 => ⟨S_, .i32⟩
  | 77 => ⟨S_, .i32⟩
  | 78 => ⟨S_, .i32⟩
  | 79 => ⟨S32x1x512x64, .i32⟩
  | 80 => ⟨S_, .i32⟩
  | 81 => ⟨S_, .i32⟩
  | 82 => ⟨S1x32x512x64, .i32⟩
  | 83 => ⟨S1x16384x64, .i32⟩
  | 84 => ⟨S1x1048576, .i32⟩
  | 85 => ⟨S_, .i32⟩
  | 86 => ⟨S1x1048576, .i32⟩
  | 87 => ⟨S1x1048576, .i1⟩
  | 88 => ⟨S_, .i32⟩
  | 89 => ⟨S1x1048576, .i32⟩
  | 90 => ⟨S1x1048576, .i32⟩
  | 91 => ⟨S1x1048576, .i32⟩
  | 92 => ⟨S1x1048576x1, .i32⟩
  | 93 => ⟨S1, .i32⟩
  | 94 => ⟨S_, .i32⟩
  | 95 => ⟨S1x1048576x1, .i32⟩
  | 96 => ⟨S1x1048576x1, .i1⟩
  | 97 => ⟨S1x1x1, .i32⟩
  | 98 => ⟨S1x1048576x1, .i32⟩
  | 99 => ⟨S1x1048576x1, .i1⟩
  | 100 => ⟨S1x1048576x1, .i1⟩
  | 101 => ⟨S_, .i1⟩
  | 102 => ⟨S1x1048576, .i1⟩
  | 103 => ⟨S1x1048576x3, .f32⟩
  | 104 => ⟨S1x1048576x3, .i1⟩
  | 105 => ⟨S_, .f32⟩
  | 106 => ⟨S1x1048576x3, .f32⟩
  | 107 => ⟨S1x1048576x3, .f32⟩
  | 108 => ⟨S1x16384x64x3, .f32⟩
  | 109 => ⟨S1x16384x1x3, .f32⟩
  | 110 => ⟨S1x16384x64x3, .f32⟩
  | 111 => ⟨S1x16384x64x3, .f32⟩
  | 112 => ⟨S1x32768x128, .f32⟩
  | 113 => ⟨S1x1048576, .i32⟩
  | 114 => ⟨S_, .i32⟩
  | 115 => ⟨S1x1048576, .i32⟩
  | 116 => ⟨S1x1048576, .i1⟩
  | 117 => ⟨S_, .i32⟩
  | 118 => ⟨S1x1048576, .i32⟩
  | 119 => ⟨S1x1048576, .i32⟩
  | 120 => ⟨S1x1048576, .i32⟩
  | 121 => ⟨S1x1048576x1, .i32⟩
  | 122 => ⟨S1, .i32⟩
  | 123 => ⟨S_, .i32⟩
  | 124 => ⟨S1x1048576x1, .i32⟩
  | 125 => ⟨S1x1048576x1, .i1⟩
  | 126 => ⟨S1x1x1, .i32⟩
  | 127 => ⟨S1x1048576x1, .i32⟩
  | _ => ⟨S1x65536x3, .f32⟩

abbrev hbmTy0_6 (i : Nat) : BufTy := match i % 128 with
  | 0 => ⟨S1x1048576x1, .i1⟩
  | 1 => ⟨S1x1048576x1, .i1⟩
  | 2 => ⟨S_, .i1⟩
  | 3 => ⟨S1x1048576, .i1⟩
  | 4 => ⟨S1x1048576x128, .f32⟩
  | 5 => ⟨S1x1048576x128, .i1⟩
  | 6 => ⟨S_, .f32⟩
  | 7 => ⟨S1x1048576x128, .f32⟩
  | 8 => ⟨S1x1048576x128, .f32⟩
  | 9 => ⟨S1x16384x64x128, .f32⟩
  | 10 => ⟨S1x16384x64x131, .f32⟩
  | 11 => ⟨S131x256, .f32⟩
  | 12 => ⟨S1x16384x64x256, .f32⟩
  | 13 => ⟨S_, .f32⟩
  | 14 => ⟨S1x256, .f32⟩
  | 15 => ⟨S_, .f32⟩
  | 16 => ⟨S1x256, .f32⟩
  | 17 => ⟨S1x256, .f32⟩
  | 18 => ⟨S_, .i32⟩
  | 19 => ⟨S_, .f32⟩
  | 20 => ⟨S1x256, .f32⟩
  | 21 => ⟨S1x1x1x256, .f32⟩
  | 22 => ⟨S_, .f32⟩
  | 23 => ⟨S1x1x1x256, .f32⟩
  | 24 => ⟨S1x1x1x256, .f32⟩
  | 25 => ⟨S1x16384x64x256, .f32⟩
  | 26 => ⟨S1x16384x64x256, .f32⟩
  | 27 => ⟨S1x16384x64x256, .f32⟩
  | 28 => ⟨S_, .f32⟩
  | 29 => ⟨S_, .f32⟩
  | 30 => ⟨S_, .f32⟩
  | 31 => ⟨S_, .f32⟩
  | 32 => ⟨S1x256, .f32⟩
  | 33 => ⟨S1x256, .f32⟩
  | 34 => ⟨S1x256, .f32⟩
  | 35 => ⟨S_, .f32⟩
  | 36 => ⟨S_, .i1⟩
  | 37 => ⟨S_, .f32⟩
  | 38 => ⟨S_, .f32⟩
  | 39 => ⟨S256, .f32⟩
  | 40 => ⟨S1x256, .f32⟩
  | 41 => ⟨S1x256, .f32⟩
  | 42 => ⟨S1x1x1x256, .f32⟩
  | 43 => ⟨S1x16384x64x256, .f32⟩
  | 44 => ⟨S1x16384x64x256, .f32⟩
  | 45 => ⟨S_, .f32⟩
  | 46 => ⟨S1x256, .f32⟩
  | 47 => ⟨S1x256, .f32⟩
  | 48 => ⟨S1x256, .f32⟩
  | 49 => ⟨S1x1x1x256, .f32⟩
  | 50 => ⟨S1x16384x64x256, .f32⟩
  | 51 => ⟨S1x16384x64x256, .f32⟩
  | 52 => ⟨S1x1x256, .f32⟩
  | 53 => ⟨S1x1x1x256, .f32⟩
  | 54 => ⟨S1x16384x64x256, .f32⟩
  | 55 => ⟨S1x16384x64x256, .f32⟩
  | 56 => ⟨S1x1x256, .f32⟩
  | 57 => ⟨S1x1x1x256, .f32⟩
  | 58 => ⟨S1x16384x64x256, .f32⟩
  | 59 => ⟨S1x16384x64x256, .f32⟩
  | 60 => ⟨S_, .f32⟩
  | 61 => ⟨S1x16384x64x256, .f32⟩
  | 62 => ⟨S1x16384x64x256, .f32⟩
  | 63 => ⟨S_, .f32⟩
  | 64 => ⟨S1x16384x256, .f32⟩
  | 65 => ⟨S1x256x16384, .f32⟩
  | 66 => ⟨S16384x3, .f32⟩
  | 67 => ⟨S_, .f32⟩
  | 68 => ⟨S16384, .f32⟩
  | 69 => ⟨S_, .i32⟩
  | 70 => ⟨S8192, .i32⟩
  | 71 => ⟨S_, .i32⟩
  | 72 => ⟨S_, .i32⟩
  | 73 => ⟨S16384x3, .f32⟩
  | 74 => ⟨S_, .i32⟩
  | 75 => ⟨S_, .i32⟩
  | 76 => ⟨S16384, .f32⟩
  | 77 => ⟨S8192, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S1, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S1x3, .f32⟩
  | 106 => ⟨S3, .f32⟩
  | 107 => ⟨S1x3, .f32⟩
  | 108 => ⟨S16384x3, .f32⟩
  | 109 => ⟨S16384x3, .f32⟩
  | 110 => ⟨S16384x3, .f32⟩
  | 111 => ⟨S_, .f32⟩
  | 112 => ⟨S16384, .f32⟩
  | 113 => ⟨S16384, .f32⟩
  | 114 => ⟨S16384, .i32⟩
  | 115 => ⟨S_, .f32⟩
  | 116 => ⟨S_, .i32⟩
  | 117 => ⟨S_, .f32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S1, .i32⟩
  | 126 => ⟨S8192, .i32⟩
  | 127 => ⟨S_, .i32⟩
  | _ => ⟨S1x65536x3, .f32⟩

abbrev hbmTy0_7 (i : Nat) : BufTy := match i % 128 with
  | 0 => ⟨S_, .i32⟩
  | 1 => ⟨S1x8192, .i32⟩
  | 2 => ⟨S_, .i32⟩
  | 3 => ⟨S1x8192, .i32⟩
  | 4 => ⟨S1x8192, .i1⟩
  | 5 => ⟨S_, .i32⟩
  | 6 => ⟨S1x8192, .i32⟩
  | 7 => ⟨S1x8192, .i32⟩
  | 8 => ⟨S1x8192, .i32⟩
  | 9 => ⟨S1x8192x1, .i32⟩
  | 10 => ⟨S1, .i32⟩
  | 11 => ⟨S_, .i32⟩
  | 12 => ⟨S1x8192x1, .i32⟩
  | 13 => ⟨S1x8192x1, .i1⟩
  | 14 => ⟨S1x1x1, .i32⟩
  | 15 => ⟨S1x8192x1, .i32⟩
  | 16 => ⟨S1x8192x1, .i1⟩
  | 17 => ⟨S1x8192x1, .i1⟩
  | 18 => ⟨S_, .i1⟩
  | 19 => ⟨S1x8192, .i1⟩
  | 20 => ⟨S1x8192x3, .f32⟩
  | 21 => ⟨S1x8192x3, .i1⟩
  | 22 => ⟨S_, .f32⟩
  | 23 => ⟨S1x8192x3, .f32⟩
  | 24 => ⟨S1x8192x3, .f32⟩
  | 25 => ⟨S1x1x3, .f32⟩
  | 26 => ⟨S1x0x3, .f32⟩
  | 27 => ⟨S1x8192x3, .f32⟩
  | 28 => ⟨S1x16x512x3, .f32⟩
  | 29 => ⟨S1x16384x3, .f32⟩
  | 30 => ⟨S_, .f32⟩
  | 31 => ⟨S1x16384, .f32⟩
  | 32 => ⟨S16384, .i32⟩
  | 33 => ⟨S16x1x512x3, .f32⟩
  | 34 => ⟨S_, .i32⟩
  | 35 => ⟨S16x1x512x64, .i32⟩
  | 36 => ⟨S_, .i32⟩
  | 37 => ⟨S16x1x512x3, .f32⟩
  | 38 => ⟨S1x16384, .f32⟩
  | 39 => ⟨S1x16384x3, .f32⟩
  | 40 => ⟨S16384, .i32⟩
  | 41 => ⟨S_, .i32⟩
  | 42 => ⟨S16x1x512x64, .i32⟩
  | 43 => ⟨S_, .i32⟩
  | 44 => ⟨S_, .i1⟩
  | 45 => ⟨S_, .i32⟩
  | 46 => ⟨S_, .i32⟩
  | 47 => ⟨S_, .i32⟩
  | 48 => ⟨S1x1x512x3, .f32⟩
  | 49 => ⟨S1x512x3, .f32⟩
  | 50 => ⟨S1x512x3, .f32⟩
  | 51 => ⟨S_, .f32⟩
  | 52 => ⟨S1x512, .f32⟩
  | 53 => ⟨S1x512x1, .f32⟩
  | 54 => ⟨S1x1x16384, .f32⟩
  | 55 => ⟨S1x512x16384, .f32⟩
  | 56 => ⟨S1x512x16384, .f32⟩
  | 57 => ⟨S1x512x16384, .f32⟩
  | 58 => ⟨S1x3x16384, .f32⟩
  | 59 => ⟨S1x512x16384, .f32⟩
  | 60 => ⟨S_, .f32⟩
  | 61 => ⟨S1x512x16384, .f32⟩
  | 62 => ⟨S1x512x16384, .f32⟩
  | 63 => ⟨S1x512x16384, .f32⟩
  | 64 => ⟨S_, .f32⟩
  | 65 => ⟨S1x512x16384, .f32⟩
  | 66 => ⟨S1x512x16384, .i1⟩
  | 67 => ⟨S_, .i32⟩
  | 68 => ⟨S_, .i32⟩
  | 69 => ⟨S512x16384, .i32⟩
  | 70 => ⟨S512x16384, .i32⟩
  | 71 => ⟨S1x512x16384, .i32⟩
  | 72 => ⟨S1x512x16384, .i32⟩
  | 73 => ⟨S1x512x16384, .i32⟩
  | 74 => ⟨S1x512x16384, .i32⟩
  | 75 => ⟨S1x512x64, .i32⟩
  | 76 => ⟨S1x512x64, .i32⟩
  | 77 => ⟨S1x512x64, .i32⟩
  | 78 => ⟨S_, .i32⟩
  | 79 => ⟨S1x512x64, .i32⟩
  | 80 => ⟨S1x512x64, .i1⟩
  | 81 => ⟨S1x512x1, .i32⟩
  | 82 => ⟨S1x512x64, .i32⟩
  | 83 => ⟨S1x512x64, .i32⟩
  | 84 => ⟨S_, .i32⟩
  | 85 => ⟨S_, .i32⟩
  | 86 => ⟨S_, .i32⟩
  | 87 => ⟨S1x512x64, .i32⟩
  | 88 => ⟨S1x512x64, .i32⟩
  | 89 => ⟨S_, .i32⟩
  | 90 => ⟨S1x512x64, .i32⟩
  | 91 => ⟨S1x512x64, .i32⟩
  | 92 => ⟨S1x1x512x64, .i32⟩
  | 93 => ⟨S_, .i32⟩
  | 94 => ⟨S_, .i32⟩
  | 95 => ⟨S_, .i32⟩
  | 96 => ⟨S16x1x512x64, .i32⟩
  | 97 => ⟨S_, .i32⟩
  | 98 => ⟨S_, .i32⟩
  | 99 => ⟨S1x16x512x64, .i32⟩
  | 100 => ⟨S1x8192x64, .i32⟩
  | 101 => ⟨S1x524288, .i32⟩
  | 102 => ⟨S_, .i32⟩
  | 103 => ⟨S1x524288, .i32⟩
  | 104 => ⟨S1x524288, .i1⟩
  | 105 => ⟨S_, .i32⟩
  | 106 => ⟨S1x524288, .i32⟩
  | 107 => ⟨S1x524288, .i32⟩
  | 108 => ⟨S1x524288, .i32⟩
  | 109 => ⟨S1x524288x1, .i32⟩
  | 110 => ⟨S1, .i32⟩
  | 111 => ⟨S_, .i32⟩
  | 112 => ⟨S1x524288x1, .i32⟩
  | 113 => ⟨S1x524288x1, .i1⟩
  | 114 => ⟨S1x1x1, .i32⟩
  | 115 => ⟨S1x524288x1, .i32⟩
  | 116 => ⟨S1x524288x1, .i1⟩
  | 117 => ⟨S1x524288x1, .i1⟩
  | 118 => ⟨S_, .i1⟩
  | 119 => ⟨S1x524288, .i1⟩
  | 120 => ⟨S1x524288x3, .f32⟩
  | 121 => ⟨S1x524288x3, .i1⟩
  | 122 => ⟨S_, .f32⟩
  | 123 => ⟨S1x524288x3, .f32⟩
  | 124 => ⟨S1x524288x3, .f32⟩
  | 125 => ⟨S1x8192x64x3, .f32⟩
  | 126 => ⟨S1x8192x1x3, .f32⟩
  | 127 => ⟨S1x8192x64x3, .f32⟩
  | _ => ⟨S1x65536x3, .f32⟩

abbrev hbmTy0_8 (i : Nat) : BufTy := match i % 128 with
  | 0 => ⟨S1x8192x64x3, .f32⟩
  | 1 => ⟨S1x16384x256, .f32⟩
  | 2 => ⟨S1x524288, .i32⟩
  | 3 => ⟨S_, .i32⟩
  | 4 => ⟨S1x524288, .i32⟩
  | 5 => ⟨S1x524288, .i1⟩
  | 6 => ⟨S_, .i32⟩
  | 7 => ⟨S1x524288, .i32⟩
  | 8 => ⟨S1x524288, .i32⟩
  | 9 => ⟨S1x524288, .i32⟩
  | 10 => ⟨S1x524288x1, .i32⟩
  | 11 => ⟨S1, .i32⟩
  | 12 => ⟨S_, .i32⟩
  | 13 => ⟨S1x524288x1, .i32⟩
  | 14 => ⟨S1x524288x1, .i1⟩
  | 15 => ⟨S1x1x1, .i32⟩
  | 16 => ⟨S1x524288x1, .i32⟩
  | 17 => ⟨S1x524288x1, .i1⟩
  | 18 => ⟨S1x524288x1, .i1⟩
  | 19 => ⟨S_, .i1⟩
  | 20 => ⟨S1x524288, .i1⟩
  | 21 => ⟨S1x524288x256, .f32⟩
  | 22 => ⟨S1x524288x256, .i1⟩
  | 23 => ⟨S_, .f32⟩
  | 24 => ⟨S1x524288x256, .f32⟩
  | 25 => ⟨S1x524288x256, .f32⟩
  | 26 => ⟨S1x8192x64x256, .f32⟩
  | 27 => ⟨S1x8192x64x259, .f32⟩
  | 28 => ⟨S259x256, .f32⟩
  | 29 => ⟨S1x8192x64x256, .f32⟩
  | 30 => ⟨S_, .f32⟩
  | 31 => ⟨S1x256, .f32⟩
  | 32 => ⟨S_, .f32⟩
  | 33 => ⟨S1x256, .f32⟩
  | 34 => ⟨S1x256, .f32⟩
  | 35 => ⟨S_, .i32⟩
  | 36 => ⟨S_, .f32⟩
  | 37 => ⟨S1x256, .f32⟩
  | 38 => ⟨S1x1x1x256, .f32⟩
  | 39 => ⟨S_, .f32⟩
  | 40 => ⟨S1x1x1x256, .f32⟩
  | 41 => ⟨S1x1x1x256, .f32⟩
  | 42 => ⟨S1x8192x64x256, .f32⟩
  | 43 => ⟨S1x8192x64x256, .f32⟩
  | 44 => ⟨S1x8192x64x256, .f32⟩
  | 45 => ⟨S_, .f32⟩
  | 46 => ⟨S_, .f32⟩
  | 47 => ⟨S_, .f32⟩
  | 48 => ⟨S_, .f32⟩
  | 49 => ⟨S1x256, .f32⟩
  | 50 => ⟨S1x256, .f32⟩
  | 51 => ⟨S1x256, .f32⟩
  | 52 => ⟨S_, .f32⟩
  | 53 => ⟨S_, .i1⟩
  | 54 => ⟨S_, .f32⟩
  | 55 => ⟨S_, .f32⟩
  | 56 => ⟨S256, .f32⟩
  | 57 => ⟨S1x256, .f32⟩
  | 58 => ⟨S1x256, .f32⟩
  | 59 => ⟨S1x1x1x256, .f32⟩
  | 60 => ⟨S1x8192x64x256, .f32⟩
  | 61 => ⟨S1x8192x64x256, .f32⟩
  | 62 => ⟨S_, .f32⟩
  | 63 => ⟨S1x256, .f32⟩
  | 64 => ⟨S1x256, .f32⟩
  | 65 => ⟨S1x256, .f32⟩
  | 66 => ⟨S1x1x1x256, .f32⟩
  | 67 => ⟨S1x8192x64x256, .f32⟩
  | 68 => ⟨S1x8192x64x256, .f32⟩
  | 69 => ⟨S1x1x256, .f32⟩
  | 70 => ⟨S1x1x1x256, .f32⟩
  | 71 => ⟨S1x8192x64x256, .f32⟩
  | 72 => ⟨S1x8192x64x256, .f32⟩
  | 73 => ⟨S1x1x256, .f32⟩
  | 74 => ⟨S1x1x1x256, .f32⟩
  | 75 => ⟨S1x8192x64x256, .f32⟩
  | 76 => ⟨S1x8192x64x256, .f32⟩
  | 77 => ⟨S_, .f32⟩
  | 78 => ⟨S1x8192x64x256, .f32⟩
  | 79 => ⟨S1x8192x64x256, .f32⟩
  | 80 => ⟨S_, .f32⟩
  | 81 => ⟨S1x8192x256, .f32⟩
  | 82 => ⟨S1x256x8192, .f32⟩
  | _ => ⟨S1x65536x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1x65536x3, .f32⟩

abbrev bufTy : (tb : Table) → Fin (tcTables nBuf tb) → BufTy
  | .hbm, ⟨i, _⟩ => hbmTy i
  | _, _ => ⟨S1x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_c_0 : Ref sig .tc := ⟨.hbm, 19, rfl⟩
abbrev main_c_1 : Ref sig .tc := ⟨.hbm, 20, rfl⟩
abbrev main_v3_0 : Ref sig .tc := ⟨.hbm, 21, rfl⟩
abbrev main_v3_1 : Ref sig .tc := ⟨.hbm, 22, rfl⟩
abbrev main_v3_2 : Ref sig .tc := ⟨.hbm, 23, rfl⟩
abbrev main_v3_3 : Ref sig .tc := ⟨.hbm, 24, rfl⟩
abbrev main_v3_4 : Ref sig .tc := ⟨.hbm, 25, rfl⟩
abbrev main_while0c_c_50 : Ref sig .tc := ⟨.hbm, 26, rfl⟩
abbrev main_while0c_v221 : Ref sig .tc := ⟨.hbm, 27, rfl⟩
abbrev main_while0b_c_50 : Ref sig .tc := ⟨.hbm, 28, rfl⟩
abbrev main_while0b_v221 : Ref sig .tc := ⟨.hbm, 29, rfl⟩
abbrev main_while0b_c_51 : Ref sig .tc := ⟨.hbm, 30, rfl⟩
abbrev main_while0b_v222 : Ref sig .tc := ⟨.hbm, 31, rfl⟩
abbrev main_while0b_c_52 : Ref sig .tc := ⟨.hbm, 32, rfl⟩
abbrev main_while0b_v223 : Ref sig .tc := ⟨.hbm, 33, rfl⟩
abbrev main_while0b_v224 : Ref sig .tc := ⟨.hbm, 34, rfl⟩
abbrev main_while0b_c_53 : Ref sig .tc := ⟨.hbm, 35, rfl⟩
abbrev main_while0b_v225 : Ref sig .tc := ⟨.hbm, 36, rfl⟩
abbrev main_while0b_v226 : Ref sig .tc := ⟨.hbm, 37, rfl⟩
abbrev main_while0b_v227 : Ref sig .tc := ⟨.hbm, 38, rfl⟩
abbrev main_while0b_v228 : Ref sig .tc := ⟨.hbm, 39, rfl⟩
abbrev main_while0b_c_54 : Ref sig .tc := ⟨.hbm, 40, rfl⟩
abbrev main_while0b_v229 : Ref sig .tc := ⟨.hbm, 41, rfl⟩
abbrev main_while0b_c_55 : Ref sig .tc := ⟨.hbm, 42, rfl⟩
abbrev main_while0b_v230 : Ref sig .tc := ⟨.hbm, 43, rfl⟩
abbrev main_while0b_v231 : Ref sig .tc := ⟨.hbm, 44, rfl⟩
abbrev main_while0b_c_56 : Ref sig .tc := ⟨.hbm, 45, rfl⟩
abbrev main_while0b_c_57 : Ref sig .tc := ⟨.hbm, 46, rfl⟩
abbrev main_while0b_v232 : Ref sig .tc := ⟨.hbm, 47, rfl⟩
abbrev main_while0b_c_58 : Ref sig .tc := ⟨.hbm, 48, rfl⟩
abbrev main_while0b_c_59 : Ref sig .tc := ⟨.hbm, 49, rfl⟩
abbrev main_while0b_v233 : Ref sig .tc := ⟨.hbm, 50, rfl⟩
abbrev main_while0b_c_60 : Ref sig .tc := ⟨.hbm, 51, rfl⟩
abbrev main_while0b_v234 : Ref sig .tc := ⟨.hbm, 52, rfl⟩
abbrev main_while0b_v235 : Ref sig .tc := ⟨.hbm, 53, rfl⟩
abbrev main_while0b_v236 : Ref sig .tc := ⟨.hbm, 54, rfl⟩
abbrev main_while0b_v237 : Ref sig .tc := ⟨.hbm, 55, rfl⟩
abbrev main_while0b_v238 : Ref sig .tc := ⟨.hbm, 56, rfl⟩
abbrev main_while0b_v239 : Ref sig .tc := ⟨.hbm, 57, rfl⟩
abbrev main_while0b_v240 : Ref sig .tc := ⟨.hbm, 58, rfl⟩
abbrev main_while0b_cst_61 : Ref sig .tc := ⟨.hbm, 59, rfl⟩
abbrev main_while0b_v241 : Ref sig .tc := ⟨.hbm, 60, rfl⟩
abbrev main_while0b_v242 : Ref sig .tc := ⟨.hbm, 61, rfl⟩
abbrev main_while0b_call0_v0 : Ref sig .tc := ⟨.hbm, 62, rfl⟩
abbrev main_while0b_call0_cst : Ref sig .tc := ⟨.hbm, 63, rfl⟩
abbrev main_while0b_call0_c : Ref sig .tc := ⟨.hbm, 64, rfl⟩
abbrev main_while0b_call0_v1_0 : Ref sig .tc := ⟨.hbm, 65, rfl⟩
abbrev main_while0b_v243 : Ref sig .tc := ⟨.hbm, 66, rfl⟩
abbrev main_while0b_c_62 : Ref sig .tc := ⟨.hbm, 67, rfl⟩
abbrev main_while0b_v244 : Ref sig .tc := ⟨.hbm, 68, rfl⟩
abbrev main_while0b_c_63 : Ref sig .tc := ⟨.hbm, 69, rfl⟩
abbrev main_while0b_v245 : Ref sig .tc := ⟨.hbm, 70, rfl⟩
abbrev main_while0b_v246 : Ref sig .tc := ⟨.hbm, 71, rfl⟩
abbrev main_while0b_v247 : Ref sig .tc := ⟨.hbm, 72, rfl⟩
abbrev main_while0b_v248 : Ref sig .tc := ⟨.hbm, 73, rfl⟩
abbrev main_while0b_v249 : Ref sig .tc := ⟨.hbm, 74, rfl⟩
abbrev main_while0b_c_64 : Ref sig .tc := ⟨.hbm, 75, rfl⟩
abbrev main_while0b_v250 : Ref sig .tc := ⟨.hbm, 76, rfl⟩
abbrev main_v4 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v5 : Ref sig .tc := ⟨.hbm, 100, rfl⟩
abbrev main_v6 : Ref sig .tc := ⟨.hbm, 101, rfl⟩
abbrev main_v7 : Ref sig .tc := ⟨.hbm, 102, rfl⟩
abbrev main_v8 : Ref sig .tc := ⟨.hbm, 103, rfl⟩
abbrev main_v9 : Ref sig .tc := ⟨.hbm, 104, rfl⟩
abbrev main_v10 : Ref sig .tc := ⟨.hbm, 105, rfl⟩
abbrev main_cst_2 : Ref sig .tc := ⟨.hbm, 106, rfl⟩
abbrev main_v11 : Ref sig .tc := ⟨.hbm, 107, rfl⟩
abbrev main_v12 : Ref sig .tc := ⟨.hbm, 108, rfl⟩
abbrev main_v13 : Ref sig .tc := ⟨.hbm, 109, rfl⟩
abbrev main_c_3 : Ref sig .tc := ⟨.hbm, 110, rfl⟩
abbrev main_v14 : Ref sig .tc := ⟨.hbm, 111, rfl⟩
abbrev main_c_4 : Ref sig .tc := ⟨.hbm, 112, rfl⟩
abbrev main_v15_0 : Ref sig .tc := ⟨.hbm, 113, rfl⟩
abbrev main_v15_1 : Ref sig .tc := ⟨.hbm, 114, rfl⟩
abbrev main_v15_2 : Ref sig .tc := ⟨.hbm, 115, rfl⟩
abbrev main_v15_3 : Ref sig .tc := ⟨.hbm, 116, rfl⟩
abbrev main_v15_4 : Ref sig .tc := ⟨.hbm, 117, rfl⟩
abbrev main_v15_5 : Ref sig .tc := ⟨.hbm, 118, rfl⟩
abbrev main_while1c_c_51 : Ref sig .tc := ⟨.hbm, 119, rfl⟩
abbrev main_while1c_v221 : Ref sig .tc := ⟨.hbm, 120, rfl⟩
abbrev main_while1b_call2_c : Ref sig .tc := ⟨.hbm, 121, rfl⟩
abbrev main_while1b_call2_c_0 : Ref sig .tc := ⟨.hbm, 122, rfl⟩
abbrev main_while1b_call2_c_1 : Ref sig .tc := ⟨.hbm, 123, rfl⟩
abbrev main_while1b_call2_v0 : Ref sig .tc := ⟨.hbm, 124, rfl⟩
abbrev main_while1b_v221 : Ref sig .tc := ⟨.hbm, 125, rfl⟩
abbrev main_while1b_v222 : Ref sig .tc := ⟨.hbm, 126, rfl⟩
abbrev main_while1b_cst_51 : Ref sig .tc := ⟨.hbm, 127, rfl⟩
abbrev main_while1b_v223 : Ref sig .tc := ⟨.hbm, 128, rfl⟩
abbrev main_while1b_v224 : Ref sig .tc := ⟨.hbm, 129, rfl⟩
abbrev main_while1b_v225 : Ref sig .tc := ⟨.hbm, 130, rfl⟩
abbrev main_while1b_v226 : Ref sig .tc := ⟨.hbm, 131, rfl⟩
abbrev main_while1b_v227 : Ref sig .tc := ⟨.hbm, 132, rfl⟩
abbrev main_while1b_v228 : Ref sig .tc := ⟨.hbm, 133, rfl⟩
abbrev main_while1b_v229 : Ref sig .tc := ⟨.hbm, 134, rfl⟩
abbrev main_while1b_v230 : Ref sig .tc := ⟨.hbm, 135, rfl⟩
abbrev main_while1b_cst_52 : Ref sig .tc := ⟨.hbm, 136, rfl⟩
abbrev main_while1b_v231 : Ref sig .tc := ⟨.hbm, 137, rfl⟩
abbrev main_while1b_v232 : Ref sig .tc := ⟨.hbm, 138, rfl⟩
abbrev main_while1b_v233 : Ref sig .tc := ⟨.hbm, 139, rfl⟩
abbrev main_while1b_cst_53 : Ref sig .tc := ⟨.hbm, 140, rfl⟩
abbrev main_while1b_v234 : Ref sig .tc := ⟨.hbm, 141, rfl⟩
abbrev main_while1b_v235 : Ref sig .tc := ⟨.hbm, 142, rfl⟩
abbrev main_while1b_c_54 : Ref sig .tc := ⟨.hbm, 143, rfl⟩
abbrev main_while1b_call3_v0 : Ref sig .tc := ⟨.hbm, 144, rfl⟩
abbrev main_while1b_call3_v1 : Ref sig .tc := ⟨.hbm, 145, rfl⟩
abbrev main_while1b_call3_v2 : Ref sig .tc := ⟨.hbm, 146, rfl⟩
abbrev main_while1b_call3_v3 : Ref sig .tc := ⟨.hbm, 147, rfl⟩
abbrev main_while1b_call3_v4 : Ref sig .tc := ⟨.hbm, 148, rfl⟩
abbrev main_while1b_v236 : Ref sig .tc := ⟨.hbm, 149, rfl⟩
abbrev main_while1b_v237 : Ref sig .tc := ⟨.hbm, 150, rfl⟩
abbrev main_while1b_values : Ref sig .tc := ⟨.hbm, 151, rfl⟩
abbrev main_while1b_indices : Ref sig .tc := ⟨.hbm, 152, rfl⟩
abbrev main_while1b_v238 : Ref sig .tc := ⟨.hbm, 153, rfl⟩
abbrev main_while1b_c_55 : Ref sig .tc := ⟨.hbm, 154, rfl⟩
abbrev main_while1b_v239 : Ref sig .tc := ⟨.hbm, 155, rfl⟩
abbrev main_while1b_v240 : Ref sig .tc := ⟨.hbm, 156, rfl⟩
abbrev main_while1b_v241 : Ref sig .tc := ⟨.hbm, 157, rfl⟩
abbrev main_while1b_call4_v0 : Ref sig .tc := ⟨.hbm, 158, rfl⟩
abbrev main_while1b_v242 : Ref sig .tc := ⟨.hbm, 159, rfl⟩
abbrev main_while1b_c_56 : Ref sig .tc := ⟨.hbm, 160, rfl⟩
abbrev main_while1b_c_57 : Ref sig .tc := ⟨.hbm, 161, rfl⟩
abbrev main_while1b_call5_v0 : Ref sig .tc := ⟨.hbm, 162, rfl⟩
abbrev main_while1b_call5_v1 : Ref sig .tc := ⟨.hbm, 163, rfl⟩
abbrev main_while1b_call5_v2 : Ref sig .tc := ⟨.hbm, 164, rfl⟩
abbrev main_while1b_call5_v3 : Ref sig .tc := ⟨.hbm, 165, rfl⟩
abbrev main_while1b_call5_v4 : Ref sig .tc := ⟨.hbm, 166, rfl⟩
abbrev main_while1b_v243 : Ref sig .tc := ⟨.hbm, 167, rfl⟩
abbrev main_while1b_call6_v0 : Ref sig .tc := ⟨.hbm, 168, rfl⟩
abbrev main_while1b_call6_c : Ref sig .tc := ⟨.hbm, 169, rfl⟩
abbrev main_while1b_call6_c_0 : Ref sig .tc := ⟨.hbm, 170, rfl⟩
abbrev main_while1b_call6_c_1 : Ref sig .tc := ⟨.hbm, 171, rfl⟩
abbrev main_while1b_v244 : Ref sig .tc := ⟨.hbm, 172, rfl⟩
abbrev main_while1b_c_58 : Ref sig .tc := ⟨.hbm, 173, rfl⟩
abbrev main_while1b_v245 : Ref sig .tc := ⟨.hbm, 174, rfl⟩
abbrev main_v16 : Ref sig .tc := ⟨.hbm, 175, rfl⟩
abbrev main_v17 : Ref sig .tc := ⟨.hbm, 176, rfl⟩
abbrev main_v18 : Ref sig .tc := ⟨.hbm, 177, rfl⟩
abbrev main_v19 : Ref sig .tc := ⟨.hbm, 178, rfl⟩
abbrev main_call7_c : Ref sig .tc := ⟨.hbm, 179, rfl⟩
abbrev main_call7_v0 : Ref sig .tc := ⟨.hbm, 180, rfl⟩
abbrev main_call7_v1 : Ref sig .tc := ⟨.hbm, 181, rfl⟩
abbrev main_call7_c_0 : Ref sig .tc := ⟨.hbm, 182, rfl⟩
abbrev main_call7_v2 : Ref sig .tc := ⟨.hbm, 183, rfl⟩
abbrev main_call7_v3 : Ref sig .tc := ⟨.hbm, 184, rfl⟩
abbrev main_call7_v4 : Ref sig .tc := ⟨.hbm, 185, rfl⟩
abbrev main_call7_v5 : Ref sig .tc := ⟨.hbm, 186, rfl⟩
abbrev main_call7_c_1 : Ref sig .tc := ⟨.hbm, 187, rfl⟩
abbrev main_call7_c_2 : Ref sig .tc := ⟨.hbm, 188, rfl⟩
abbrev main_call7_v6 : Ref sig .tc := ⟨.hbm, 189, rfl⟩
abbrev main_call7_v7 : Ref sig .tc := ⟨.hbm, 190, rfl⟩
abbrev main_call7_v8 : Ref sig .tc := ⟨.hbm, 191, rfl⟩
abbrev main_call7_v9 : Ref sig .tc := ⟨.hbm, 192, rfl⟩
abbrev main_call7_v10 : Ref sig .tc := ⟨.hbm, 193, rfl⟩
abbrev main_call7_v11 : Ref sig .tc := ⟨.hbm, 194, rfl⟩
abbrev main_call7_c_3 : Ref sig .tc := ⟨.hbm, 195, rfl⟩
abbrev main_call7_v12 : Ref sig .tc := ⟨.hbm, 196, rfl⟩
abbrev main_call7_v13 : Ref sig .tc := ⟨.hbm, 197, rfl⟩
abbrev main_call7_v14 : Ref sig .tc := ⟨.hbm, 198, rfl⟩
abbrev main_call7_cst : Ref sig .tc := ⟨.hbm, 199, rfl⟩
abbrev main_call7_v15 : Ref sig .tc := ⟨.hbm, 200, rfl⟩
abbrev main_v20 : Ref sig .tc := ⟨.hbm, 201, rfl⟩
abbrev main_v21 : Ref sig .tc := ⟨.hbm, 202, rfl⟩
abbrev main_v22 : Ref sig .tc := ⟨.hbm, 203, rfl⟩
abbrev main_v23 : Ref sig .tc := ⟨.hbm, 204, rfl⟩
abbrev main_v24 : Ref sig .tc := ⟨.hbm, 205, rfl⟩
abbrev main_v25 : Ref sig .tc := ⟨.hbm, 206, rfl⟩
abbrev main_v26 : Ref sig .tc := ⟨.hbm, 207, rfl⟩
abbrev main_call8_c : Ref sig .tc := ⟨.hbm, 208, rfl⟩
abbrev main_call8_v0 : Ref sig .tc := ⟨.hbm, 209, rfl⟩
abbrev main_call8_v1 : Ref sig .tc := ⟨.hbm, 210, rfl⟩
abbrev main_call8_c_0 : Ref sig .tc := ⟨.hbm, 211, rfl⟩
abbrev main_call8_v2 : Ref sig .tc := ⟨.hbm, 212, rfl⟩
abbrev main_call8_v3 : Ref sig .tc := ⟨.hbm, 213, rfl⟩
abbrev main_call8_v4 : Ref sig .tc := ⟨.hbm, 214, rfl⟩
abbrev main_call8_v5 : Ref sig .tc := ⟨.hbm, 215, rfl⟩
abbrev main_call8_c_1 : Ref sig .tc := ⟨.hbm, 216, rfl⟩
abbrev main_call8_c_2 : Ref sig .tc := ⟨.hbm, 217, rfl⟩
abbrev main_call8_v6 : Ref sig .tc := ⟨.hbm, 218, rfl⟩
abbrev main_call8_v7 : Ref sig .tc := ⟨.hbm, 219, rfl⟩
abbrev main_call8_v8 : Ref sig .tc := ⟨.hbm, 220, rfl⟩
abbrev main_call8_v9 : Ref sig .tc := ⟨.hbm, 221, rfl⟩
abbrev main_call8_v10 : Ref sig .tc := ⟨.hbm, 222, rfl⟩
abbrev main_call8_v11 : Ref sig .tc := ⟨.hbm, 223, rfl⟩
abbrev main_call8_c_3 : Ref sig .tc := ⟨.hbm, 224, rfl⟩
abbrev main_call8_v12 : Ref sig .tc := ⟨.hbm, 225, rfl⟩
abbrev main_call8_v13 : Ref sig .tc := ⟨.hbm, 226, rfl⟩
abbrev main_call8_v14 : Ref sig .tc := ⟨.hbm, 227, rfl⟩
abbrev main_call8_cst : Ref sig .tc := ⟨.hbm, 228, rfl⟩
abbrev main_call8_v15 : Ref sig .tc := ⟨.hbm, 229, rfl⟩
abbrev main_v27 : Ref sig .tc := ⟨.hbm, 230, rfl⟩
abbrev main_v28 : Ref sig .tc := ⟨.hbm, 231, rfl⟩
abbrev main_v29 : Ref sig .tc := ⟨.hbm, 232, rfl⟩
abbrev main_v30 : Ref sig .tc := ⟨.hbm, 233, rfl⟩
abbrev main_v31 : Ref sig .tc := ⟨.hbm, 234, rfl⟩
abbrev main_cst_5 : Ref sig .tc := ⟨.hbm, 235, rfl⟩
abbrev main_v32 : Ref sig .tc := ⟨.hbm, 236, rfl⟩
abbrev main_cst_6 : Ref sig .tc := ⟨.hbm, 237, rfl⟩
abbrev main_v33 : Ref sig .tc := ⟨.hbm, 238, rfl⟩
abbrev main_v34 : Ref sig .tc := ⟨.hbm, 239, rfl⟩
abbrev main_c_7 : Ref sig .tc := ⟨.hbm, 240, rfl⟩
abbrev main_call9_cst : Ref sig .tc := ⟨.hbm, 241, rfl⟩
abbrev main_call9_v0 : Ref sig .tc := ⟨.hbm, 242, rfl⟩
abbrev main_call9_v1 : Ref sig .tc := ⟨.hbm, 243, rfl⟩
abbrev main_call9_cst_0 : Ref sig .tc := ⟨.hbm, 244, rfl⟩
abbrev main_call9_v2 : Ref sig .tc := ⟨.hbm, 245, rfl⟩
abbrev main_call9_v3 : Ref sig .tc := ⟨.hbm, 246, rfl⟩
abbrev main_call9_v4 : Ref sig .tc := ⟨.hbm, 247, rfl⟩
abbrev main_call9_v5 : Ref sig .tc := ⟨.hbm, 248, rfl⟩
abbrev main_call9_v6 : Ref sig .tc := ⟨.hbm, 249, rfl⟩
abbrev main_call9_v7 : Ref sig .tc := ⟨.hbm, 250, rfl⟩
abbrev main_call9_cst_1 : Ref sig .tc := ⟨.hbm, 251, rfl⟩
abbrev main_call9_v8 : Ref sig .tc := ⟨.hbm, 252, rfl⟩
abbrev main_call9_cst_2 : Ref sig .tc := ⟨.hbm, 253, rfl⟩
abbrev main_call9_v9 : Ref sig .tc := ⟨.hbm, 254, rfl⟩
abbrev main_call9_v10 : Ref sig .tc := ⟨.hbm, 255, rfl⟩
abbrev main_call9_v11 : Ref sig .tc := ⟨.hbm, 256, rfl⟩
abbrev main_call9_cst_3 : Ref sig .tc := ⟨.hbm, 257, rfl⟩
abbrev main_call9_v12 : Ref sig .tc := ⟨.hbm, 258, rfl⟩
abbrev main_call9_cst_4 : Ref sig .tc := ⟨.hbm, 259, rfl⟩
abbrev main_call9_call0_v0 : Ref sig .tc := ⟨.hbm, 260, rfl⟩
abbrev main_call9_call0_v1 : Ref sig .tc := ⟨.hbm, 261, rfl⟩
abbrev main_call9_call0_v2 : Ref sig .tc := ⟨.hbm, 262, rfl⟩
abbrev main_v35 : Ref sig .tc := ⟨.hbm, 263, rfl⟩
abbrev main_v36 : Ref sig .tc := ⟨.hbm, 264, rfl⟩
abbrev main_v37 : Ref sig .tc := ⟨.hbm, 265, rfl⟩
abbrev main_v38 : Ref sig .tc := ⟨.hbm, 266, rfl⟩
abbrev main_cst_8 : Ref sig .tc := ⟨.hbm, 267, rfl⟩
abbrev main_v39 : Ref sig .tc := ⟨.hbm, 268, rfl⟩
abbrev main_v40 : Ref sig .tc := ⟨.hbm, 269, rfl⟩
abbrev main_v41 : Ref sig .tc := ⟨.hbm, 270, rfl⟩
abbrev main_v42 : Ref sig .tc := ⟨.hbm, 271, rfl⟩
abbrev main_v43 : Ref sig .tc := ⟨.hbm, 272, rfl⟩
abbrev main_v44 : Ref sig .tc := ⟨.hbm, 273, rfl⟩
abbrev main_v45 : Ref sig .tc := ⟨.hbm, 274, rfl⟩
abbrev main_v46 : Ref sig .tc := ⟨.hbm, 275, rfl⟩
abbrev main_v47 : Ref sig .tc := ⟨.hbm, 276, rfl⟩
abbrev main_v48 : Ref sig .tc := ⟨.hbm, 277, rfl⟩
abbrev main_v49 : Ref sig .tc := ⟨.hbm, 278, rfl⟩
abbrev main_v50 : Ref sig .tc := ⟨.hbm, 279, rfl⟩
abbrev main_v51 : Ref sig .tc := ⟨.hbm, 280, rfl⟩
abbrev main_v52 : Ref sig .tc := ⟨.hbm, 281, rfl⟩
abbrev main_call10_cst : Ref sig .tc := ⟨.hbm, 282, rfl⟩
abbrev main_call10_v0 : Ref sig .tc := ⟨.hbm, 283, rfl⟩
abbrev main_v53 : Ref sig .tc := ⟨.hbm, 284, rfl⟩
abbrev main_cst_9 : Ref sig .tc := ⟨.hbm, 285, rfl⟩
abbrev main_v54 : Ref sig .tc := ⟨.hbm, 286, rfl⟩
abbrev main_v55 : Ref sig .tc := ⟨.hbm, 287, rfl⟩
abbrev main_v56 : Ref sig .tc := ⟨.hbm, 288, rfl⟩
abbrev main_cst_10 : Ref sig .tc := ⟨.hbm, 289, rfl⟩
abbrev main_v57 : Ref sig .tc := ⟨.hbm, 290, rfl⟩
abbrev main_c_11 : Ref sig .tc := ⟨.hbm, 291, rfl⟩
abbrev main_v58 : Ref sig .tc := ⟨.hbm, 292, rfl⟩
abbrev main_c_12 : Ref sig .tc := ⟨.hbm, 293, rfl⟩
abbrev main_c_13 : Ref sig .tc := ⟨.hbm, 294, rfl⟩
abbrev main_v59_0 : Ref sig .tc := ⟨.hbm, 295, rfl⟩
abbrev main_v59_1 : Ref sig .tc := ⟨.hbm, 296, rfl⟩
abbrev main_v59_2 : Ref sig .tc := ⟨.hbm, 297, rfl⟩
abbrev main_v59_3 : Ref sig .tc := ⟨.hbm, 298, rfl⟩
abbrev main_v59_4 : Ref sig .tc := ⟨.hbm, 299, rfl⟩
abbrev main_while2c_c_50 : Ref sig .tc := ⟨.hbm, 300, rfl⟩
abbrev main_while2c_v221 : Ref sig .tc := ⟨.hbm, 301, rfl⟩
abbrev main_while2b_c_50 : Ref sig .tc := ⟨.hbm, 302, rfl⟩
abbrev main_while2b_v221 : Ref sig .tc := ⟨.hbm, 303, rfl⟩
abbrev main_while2b_c_51 : Ref sig .tc := ⟨.hbm, 304, rfl⟩
abbrev main_while2b_v222 : Ref sig .tc := ⟨.hbm, 305, rfl⟩
abbrev main_while2b_c_52 : Ref sig .tc := ⟨.hbm, 306, rfl⟩
abbrev main_while2b_v223 : Ref sig .tc := ⟨.hbm, 307, rfl⟩
abbrev main_while2b_v224 : Ref sig .tc := ⟨.hbm, 308, rfl⟩
abbrev main_while2b_c_53 : Ref sig .tc := ⟨.hbm, 309, rfl⟩
abbrev main_while2b_v225 : Ref sig .tc := ⟨.hbm, 310, rfl⟩
abbrev main_while2b_v226 : Ref sig .tc := ⟨.hbm, 311, rfl⟩
abbrev main_while2b_v227 : Ref sig .tc := ⟨.hbm, 312, rfl⟩
abbrev main_while2b_v228 : Ref sig .tc := ⟨.hbm, 313, rfl⟩
abbrev main_while2b_c_54 : Ref sig .tc := ⟨.hbm, 314, rfl⟩
abbrev main_while2b_v229 : Ref sig .tc := ⟨.hbm, 315, rfl⟩
abbrev main_while2b_c_55 : Ref sig .tc := ⟨.hbm, 316, rfl⟩
abbrev main_while2b_v230 : Ref sig .tc := ⟨.hbm, 317, rfl⟩
abbrev main_while2b_v231 : Ref sig .tc := ⟨.hbm, 318, rfl⟩
abbrev main_while2b_c_56 : Ref sig .tc := ⟨.hbm, 319, rfl⟩
abbrev main_while2b_c_57 : Ref sig .tc := ⟨.hbm, 320, rfl⟩
abbrev main_while2b_v232 : Ref sig .tc := ⟨.hbm, 321, rfl⟩
abbrev main_while2b_c_58 : Ref sig .tc := ⟨.hbm, 322, rfl⟩
abbrev main_while2b_c_59 : Ref sig .tc := ⟨.hbm, 323, rfl⟩
abbrev main_while2b_v233 : Ref sig .tc := ⟨.hbm, 324, rfl⟩
abbrev main_while2b_c_60 : Ref sig .tc := ⟨.hbm, 325, rfl⟩
abbrev main_while2b_v234 : Ref sig .tc := ⟨.hbm, 326, rfl⟩
abbrev main_while2b_v235 : Ref sig .tc := ⟨.hbm, 327, rfl⟩
abbrev main_while2b_v236 : Ref sig .tc := ⟨.hbm, 328, rfl⟩
abbrev main_while2b_v237 : Ref sig .tc := ⟨.hbm, 329, rfl⟩
abbrev main_while2b_v238 : Ref sig .tc := ⟨.hbm, 330, rfl⟩
abbrev main_while2b_v239 : Ref sig .tc := ⟨.hbm, 331, rfl⟩
abbrev main_while2b_v240 : Ref sig .tc := ⟨.hbm, 332, rfl⟩
abbrev main_while2b_cst_61 : Ref sig .tc := ⟨.hbm, 333, rfl⟩
abbrev main_while2b_v241 : Ref sig .tc := ⟨.hbm, 334, rfl⟩
abbrev main_while2b_v242 : Ref sig .tc := ⟨.hbm, 335, rfl⟩
abbrev main_while2b_call11_v0 : Ref sig .tc := ⟨.hbm, 336, rfl⟩
abbrev main_while2b_call11_cst : Ref sig .tc := ⟨.hbm, 337, rfl⟩
abbrev main_while2b_call11_c : Ref sig .tc := ⟨.hbm, 338, rfl⟩
abbrev main_while2b_call11_v1_0 : Ref sig .tc := ⟨.hbm, 339, rfl⟩
abbrev main_while2b_v243 : Ref sig .tc := ⟨.hbm, 340, rfl⟩
abbrev main_while2b_c_62 : Ref sig .tc := ⟨.hbm, 341, rfl⟩
abbrev main_while2b_v244 : Ref sig .tc := ⟨.hbm, 342, rfl⟩
abbrev main_while2b_c_63 : Ref sig .tc := ⟨.hbm, 343, rfl⟩
abbrev main_while2b_v245 : Ref sig .tc := ⟨.hbm, 344, rfl⟩
abbrev main_while2b_v246 : Ref sig .tc := ⟨.hbm, 345, rfl⟩
abbrev main_while2b_v247 : Ref sig .tc := ⟨.hbm, 346, rfl⟩
abbrev main_while2b_v248 : Ref sig .tc := ⟨.hbm, 347, rfl⟩
abbrev main_while2b_v249 : Ref sig .tc := ⟨.hbm, 348, rfl⟩
abbrev main_while2b_c_64 : Ref sig .tc := ⟨.hbm, 349, rfl⟩
abbrev main_while2b_v250 : Ref sig .tc := ⟨.hbm, 350, rfl⟩
abbrev main_v60 : Ref sig .tc := ⟨.hbm, 351, rfl⟩
abbrev main_call12_c : Ref sig .tc := ⟨.hbm, 352, rfl⟩
abbrev main_call12_v0 : Ref sig .tc := ⟨.hbm, 353, rfl⟩
abbrev main_call12_v1 : Ref sig .tc := ⟨.hbm, 354, rfl⟩
abbrev main_call12_c_0 : Ref sig .tc := ⟨.hbm, 355, rfl⟩
abbrev main_call12_v2 : Ref sig .tc := ⟨.hbm, 356, rfl⟩
abbrev main_call12_v3 : Ref sig .tc := ⟨.hbm, 357, rfl⟩
abbrev main_call12_v4 : Ref sig .tc := ⟨.hbm, 358, rfl⟩
abbrev main_call12_v5 : Ref sig .tc := ⟨.hbm, 359, rfl⟩
abbrev main_call12_c_1 : Ref sig .tc := ⟨.hbm, 360, rfl⟩
abbrev main_call12_c_2 : Ref sig .tc := ⟨.hbm, 361, rfl⟩
abbrev main_call12_v6 : Ref sig .tc := ⟨.hbm, 362, rfl⟩
abbrev main_call12_v7 : Ref sig .tc := ⟨.hbm, 363, rfl⟩
abbrev main_call12_v8 : Ref sig .tc := ⟨.hbm, 364, rfl⟩
abbrev main_call12_v9 : Ref sig .tc := ⟨.hbm, 365, rfl⟩
abbrev main_call12_v10 : Ref sig .tc := ⟨.hbm, 366, rfl⟩
abbrev main_call12_v11 : Ref sig .tc := ⟨.hbm, 367, rfl⟩
abbrev main_call12_c_3 : Ref sig .tc := ⟨.hbm, 368, rfl⟩
abbrev main_call12_v12 : Ref sig .tc := ⟨.hbm, 369, rfl⟩
abbrev main_call12_v13 : Ref sig .tc := ⟨.hbm, 370, rfl⟩
abbrev main_call12_v14 : Ref sig .tc := ⟨.hbm, 371, rfl⟩
abbrev main_call12_cst : Ref sig .tc := ⟨.hbm, 372, rfl⟩
abbrev main_call12_v15 : Ref sig .tc := ⟨.hbm, 373, rfl⟩
abbrev main_v61 : Ref sig .tc := ⟨.hbm, 374, rfl⟩
abbrev main_v62 : Ref sig .tc := ⟨.hbm, 375, rfl⟩
abbrev main_v63 : Ref sig .tc := ⟨.hbm, 376, rfl⟩
abbrev main_v64 : Ref sig .tc := ⟨.hbm, 377, rfl⟩
abbrev main_v65 : Ref sig .tc := ⟨.hbm, 378, rfl⟩
abbrev main_v66 : Ref sig .tc := ⟨.hbm, 379, rfl⟩
abbrev main_cst_14 : Ref sig .tc := ⟨.hbm, 380, rfl⟩
abbrev main_v67 : Ref sig .tc := ⟨.hbm, 381, rfl⟩
abbrev main_v68 : Ref sig .tc := ⟨.hbm, 382, rfl⟩
abbrev main_v69 : Ref sig .tc := ⟨.hbm, 383, rfl⟩
abbrev main_c_15 : Ref sig .tc := ⟨.hbm, 384, rfl⟩
abbrev main_v70 : Ref sig .tc := ⟨.hbm, 385, rfl⟩
abbrev main_c_16 : Ref sig .tc := ⟨.hbm, 386, rfl⟩
abbrev main_v71_0 : Ref sig .tc := ⟨.hbm, 387, rfl⟩
abbrev main_v71_1 : Ref sig .tc := ⟨.hbm, 388, rfl⟩
abbrev main_v71_2 : Ref sig .tc := ⟨.hbm, 389, rfl⟩
abbrev main_v71_3 : Ref sig .tc := ⟨.hbm, 390, rfl⟩
abbrev main_v71_4 : Ref sig .tc := ⟨.hbm, 391, rfl⟩
abbrev main_v71_5 : Ref sig .tc := ⟨.hbm, 392, rfl⟩
abbrev main_while3c_c_51 : Ref sig .tc := ⟨.hbm, 393, rfl⟩
abbrev main_while3c_v221 : Ref sig .tc := ⟨.hbm, 394, rfl⟩
abbrev main_while3b_call13_c : Ref sig .tc := ⟨.hbm, 395, rfl⟩
abbrev main_while3b_call13_c_0 : Ref sig .tc := ⟨.hbm, 396, rfl⟩
abbrev main_while3b_call13_c_1 : Ref sig .tc := ⟨.hbm, 397, rfl⟩
abbrev main_while3b_call13_v0 : Ref sig .tc := ⟨.hbm, 398, rfl⟩
abbrev main_while3b_v221 : Ref sig .tc := ⟨.hbm, 399, rfl⟩
abbrev main_while3b_v222 : Ref sig .tc := ⟨.hbm, 400, rfl⟩
abbrev main_while3b_cst_51 : Ref sig .tc := ⟨.hbm, 401, rfl⟩
abbrev main_while3b_v223 : Ref sig .tc := ⟨.hbm, 402, rfl⟩
abbrev main_while3b_v224 : Ref sig .tc := ⟨.hbm, 403, rfl⟩
abbrev main_while3b_v225 : Ref sig .tc := ⟨.hbm, 404, rfl⟩
abbrev main_while3b_v226 : Ref sig .tc := ⟨.hbm, 405, rfl⟩
abbrev main_while3b_v227 : Ref sig .tc := ⟨.hbm, 406, rfl⟩
abbrev main_while3b_v228 : Ref sig .tc := ⟨.hbm, 407, rfl⟩
abbrev main_while3b_v229 : Ref sig .tc := ⟨.hbm, 408, rfl⟩
abbrev main_while3b_v230 : Ref sig .tc := ⟨.hbm, 409, rfl⟩
abbrev main_while3b_cst_52 : Ref sig .tc := ⟨.hbm, 410, rfl⟩
abbrev main_while3b_v231 : Ref sig .tc := ⟨.hbm, 411, rfl⟩
abbrev main_while3b_v232 : Ref sig .tc := ⟨.hbm, 412, rfl⟩
abbrev main_while3b_v233 : Ref sig .tc := ⟨.hbm, 413, rfl⟩
abbrev main_while3b_cst_53 : Ref sig .tc := ⟨.hbm, 414, rfl⟩
abbrev main_while3b_v234 : Ref sig .tc := ⟨.hbm, 415, rfl⟩
abbrev main_while3b_v235 : Ref sig .tc := ⟨.hbm, 416, rfl⟩
abbrev main_while3b_c_54 : Ref sig .tc := ⟨.hbm, 417, rfl⟩
abbrev main_while3b_call14_v0 : Ref sig .tc := ⟨.hbm, 418, rfl⟩
abbrev main_while3b_call14_v1 : Ref sig .tc := ⟨.hbm, 419, rfl⟩
abbrev main_while3b_call14_v2 : Ref sig .tc := ⟨.hbm, 420, rfl⟩
abbrev main_while3b_call14_v3 : Ref sig .tc := ⟨.hbm, 421, rfl⟩
abbrev main_while3b_call14_v4 : Ref sig .tc := ⟨.hbm, 422, rfl⟩
abbrev main_while3b_v236 : Ref sig .tc := ⟨.hbm, 423, rfl⟩
abbrev main_while3b_v237 : Ref sig .tc := ⟨.hbm, 424, rfl⟩
abbrev main_while3b_values : Ref sig .tc := ⟨.hbm, 425, rfl⟩
abbrev main_while3b_indices : Ref sig .tc := ⟨.hbm, 426, rfl⟩
abbrev main_while3b_v238 : Ref sig .tc := ⟨.hbm, 427, rfl⟩
abbrev main_while3b_c_55 : Ref sig .tc := ⟨.hbm, 428, rfl⟩
abbrev main_while3b_v239 : Ref sig .tc := ⟨.hbm, 429, rfl⟩
abbrev main_while3b_v240 : Ref sig .tc := ⟨.hbm, 430, rfl⟩
abbrev main_while3b_v241 : Ref sig .tc := ⟨.hbm, 431, rfl⟩
abbrev main_while3b_call15_v0 : Ref sig .tc := ⟨.hbm, 432, rfl⟩
abbrev main_while3b_v242 : Ref sig .tc := ⟨.hbm, 433, rfl⟩
abbrev main_while3b_c_56 : Ref sig .tc := ⟨.hbm, 434, rfl⟩
abbrev main_while3b_c_57 : Ref sig .tc := ⟨.hbm, 435, rfl⟩
abbrev main_while3b_call16_v0 : Ref sig .tc := ⟨.hbm, 436, rfl⟩
abbrev main_while3b_call16_v1 : Ref sig .tc := ⟨.hbm, 437, rfl⟩
abbrev main_while3b_call16_v2 : Ref sig .tc := ⟨.hbm, 438, rfl⟩
abbrev main_while3b_call16_v3 : Ref sig .tc := ⟨.hbm, 439, rfl⟩
abbrev main_while3b_call16_v4 : Ref sig .tc := ⟨.hbm, 440, rfl⟩
abbrev main_while3b_v243 : Ref sig .tc := ⟨.hbm, 441, rfl⟩
abbrev main_while3b_call17_v0 : Ref sig .tc := ⟨.hbm, 442, rfl⟩
abbrev main_while3b_call17_c : Ref sig .tc := ⟨.hbm, 443, rfl⟩
abbrev main_while3b_call17_c_0 : Ref sig .tc := ⟨.hbm, 444, rfl⟩
abbrev main_while3b_call17_c_1 : Ref sig .tc := ⟨.hbm, 445, rfl⟩
abbrev main_while3b_v244 : Ref sig .tc := ⟨.hbm, 446, rfl⟩
abbrev main_while3b_c_58 : Ref sig .tc := ⟨.hbm, 447, rfl⟩
abbrev main_while3b_v245 : Ref sig .tc := ⟨.hbm, 448, rfl⟩
abbrev main_v72 : Ref sig .tc := ⟨.hbm, 449, rfl⟩
abbrev main_v73 : Ref sig .tc := ⟨.hbm, 450, rfl⟩
abbrev main_v74 : Ref sig .tc := ⟨.hbm, 451, rfl⟩
abbrev main_call18_c : Ref sig .tc := ⟨.hbm, 452, rfl⟩
abbrev main_call18_v0 : Ref sig .tc := ⟨.hbm, 453, rfl⟩
abbrev main_call18_v1 : Ref sig .tc := ⟨.hbm, 454, rfl⟩
abbrev main_call18_c_0 : Ref sig .tc := ⟨.hbm, 455, rfl⟩
abbrev main_call18_v2 : Ref sig .tc := ⟨.hbm, 456, rfl⟩
abbrev main_call18_v3 : Ref sig .tc := ⟨.hbm, 457, rfl⟩
abbrev main_call18_v4 : Ref sig .tc := ⟨.hbm, 458, rfl⟩
abbrev main_call18_v5 : Ref sig .tc := ⟨.hbm, 459, rfl⟩
abbrev main_call18_c_1 : Ref sig .tc := ⟨.hbm, 460, rfl⟩
abbrev main_call18_c_2 : Ref sig .tc := ⟨.hbm, 461, rfl⟩
abbrev main_call18_v6 : Ref sig .tc := ⟨.hbm, 462, rfl⟩
abbrev main_call18_v7 : Ref sig .tc := ⟨.hbm, 463, rfl⟩
abbrev main_call18_v8 : Ref sig .tc := ⟨.hbm, 464, rfl⟩
abbrev main_call18_v9 : Ref sig .tc := ⟨.hbm, 465, rfl⟩
abbrev main_call18_v10 : Ref sig .tc := ⟨.hbm, 466, rfl⟩
abbrev main_call18_v11 : Ref sig .tc := ⟨.hbm, 467, rfl⟩
abbrev main_call18_c_3 : Ref sig .tc := ⟨.hbm, 468, rfl⟩
abbrev main_call18_v12 : Ref sig .tc := ⟨.hbm, 469, rfl⟩
abbrev main_call18_v13 : Ref sig .tc := ⟨.hbm, 470, rfl⟩
abbrev main_call18_v14 : Ref sig .tc := ⟨.hbm, 471, rfl⟩
abbrev main_call18_cst : Ref sig .tc := ⟨.hbm, 472, rfl⟩
abbrev main_call18_v15 : Ref sig .tc := ⟨.hbm, 473, rfl⟩
abbrev main_v75 : Ref sig .tc := ⟨.hbm, 474, rfl⟩
abbrev main_v76 : Ref sig .tc := ⟨.hbm, 475, rfl⟩
abbrev main_v77 : Ref sig .tc := ⟨.hbm, 476, rfl⟩
abbrev main_v78 : Ref sig .tc := ⟨.hbm, 477, rfl⟩
abbrev main_v79 : Ref sig .tc := ⟨.hbm, 478, rfl⟩
abbrev main_v80 : Ref sig .tc := ⟨.hbm, 479, rfl⟩
abbrev main_v81 : Ref sig .tc := ⟨.hbm, 480, rfl⟩
abbrev main_call19_c : Ref sig .tc := ⟨.hbm, 481, rfl⟩
abbrev main_call19_v0 : Ref sig .tc := ⟨.hbm, 482, rfl⟩
abbrev main_call19_v1 : Ref sig .tc := ⟨.hbm, 483, rfl⟩
abbrev main_call19_c_0 : Ref sig .tc := ⟨.hbm, 484, rfl⟩
abbrev main_call19_v2 : Ref sig .tc := ⟨.hbm, 485, rfl⟩
abbrev main_call19_v3 : Ref sig .tc := ⟨.hbm, 486, rfl⟩
abbrev main_call19_v4 : Ref sig .tc := ⟨.hbm, 487, rfl⟩
abbrev main_call19_v5 : Ref sig .tc := ⟨.hbm, 488, rfl⟩
abbrev main_call19_c_1 : Ref sig .tc := ⟨.hbm, 489, rfl⟩
abbrev main_call19_c_2 : Ref sig .tc := ⟨.hbm, 490, rfl⟩
abbrev main_call19_v6 : Ref sig .tc := ⟨.hbm, 491, rfl⟩
abbrev main_call19_v7 : Ref sig .tc := ⟨.hbm, 492, rfl⟩
abbrev main_call19_v8 : Ref sig .tc := ⟨.hbm, 493, rfl⟩
abbrev main_call19_v9 : Ref sig .tc := ⟨.hbm, 494, rfl⟩
abbrev main_call19_v10 : Ref sig .tc := ⟨.hbm, 495, rfl⟩
abbrev main_call19_v11 : Ref sig .tc := ⟨.hbm, 496, rfl⟩
abbrev main_call19_c_3 : Ref sig .tc := ⟨.hbm, 497, rfl⟩
abbrev main_call19_v12 : Ref sig .tc := ⟨.hbm, 498, rfl⟩
abbrev main_call19_v13 : Ref sig .tc := ⟨.hbm, 499, rfl⟩
abbrev main_call19_v14 : Ref sig .tc := ⟨.hbm, 500, rfl⟩
abbrev main_call19_cst : Ref sig .tc := ⟨.hbm, 501, rfl⟩
abbrev main_call19_v15 : Ref sig .tc := ⟨.hbm, 502, rfl⟩
abbrev main_v82 : Ref sig .tc := ⟨.hbm, 503, rfl⟩
abbrev main_v83 : Ref sig .tc := ⟨.hbm, 504, rfl⟩
abbrev main_v84 : Ref sig .tc := ⟨.hbm, 505, rfl⟩
abbrev main_v85 : Ref sig .tc := ⟨.hbm, 506, rfl⟩
abbrev main_v86 : Ref sig .tc := ⟨.hbm, 507, rfl⟩
abbrev main_cst_17 : Ref sig .tc := ⟨.hbm, 508, rfl⟩
abbrev main_v87 : Ref sig .tc := ⟨.hbm, 509, rfl⟩
abbrev main_cst_18 : Ref sig .tc := ⟨.hbm, 510, rfl⟩
abbrev main_v88 : Ref sig .tc := ⟨.hbm, 511, rfl⟩
abbrev main_v89 : Ref sig .tc := ⟨.hbm, 512, rfl⟩
abbrev main_c_19 : Ref sig .tc := ⟨.hbm, 513, rfl⟩
abbrev main_call20_cst : Ref sig .tc := ⟨.hbm, 514, rfl⟩
abbrev main_call20_v0 : Ref sig .tc := ⟨.hbm, 515, rfl⟩
abbrev main_call20_v1 : Ref sig .tc := ⟨.hbm, 516, rfl⟩
abbrev main_call20_cst_0 : Ref sig .tc := ⟨.hbm, 517, rfl⟩
abbrev main_call20_v2 : Ref sig .tc := ⟨.hbm, 518, rfl⟩
abbrev main_call20_v3 : Ref sig .tc := ⟨.hbm, 519, rfl⟩
abbrev main_call20_v4 : Ref sig .tc := ⟨.hbm, 520, rfl⟩
abbrev main_call20_v5 : Ref sig .tc := ⟨.hbm, 521, rfl⟩
abbrev main_call20_v6 : Ref sig .tc := ⟨.hbm, 522, rfl⟩
abbrev main_call20_v7 : Ref sig .tc := ⟨.hbm, 523, rfl⟩
abbrev main_call20_cst_1 : Ref sig .tc := ⟨.hbm, 524, rfl⟩
abbrev main_call20_v8 : Ref sig .tc := ⟨.hbm, 525, rfl⟩
abbrev main_call20_cst_2 : Ref sig .tc := ⟨.hbm, 526, rfl⟩
abbrev main_call20_v9 : Ref sig .tc := ⟨.hbm, 527, rfl⟩
abbrev main_call20_v10 : Ref sig .tc := ⟨.hbm, 528, rfl⟩
abbrev main_call20_v11 : Ref sig .tc := ⟨.hbm, 529, rfl⟩
abbrev main_call20_cst_3 : Ref sig .tc := ⟨.hbm, 530, rfl⟩
abbrev main_call20_v12 : Ref sig .tc := ⟨.hbm, 531, rfl⟩
abbrev main_call20_cst_4 : Ref sig .tc := ⟨.hbm, 532, rfl⟩
abbrev main_call20_call0_v0 : Ref sig .tc := ⟨.hbm, 533, rfl⟩
abbrev main_call20_call0_v1 : Ref sig .tc := ⟨.hbm, 534, rfl⟩
abbrev main_call20_call0_v2 : Ref sig .tc := ⟨.hbm, 535, rfl⟩
abbrev main_v90 : Ref sig .tc := ⟨.hbm, 536, rfl⟩
abbrev main_v91 : Ref sig .tc := ⟨.hbm, 537, rfl⟩
abbrev main_v92 : Ref sig .tc := ⟨.hbm, 538, rfl⟩
abbrev main_v93 : Ref sig .tc := ⟨.hbm, 539, rfl⟩
abbrev main_cst_20 : Ref sig .tc := ⟨.hbm, 540, rfl⟩
abbrev main_v94 : Ref sig .tc := ⟨.hbm, 541, rfl⟩
abbrev main_v95 : Ref sig .tc := ⟨.hbm, 542, rfl⟩
abbrev main_v96 : Ref sig .tc := ⟨.hbm, 543, rfl⟩
abbrev main_v97 : Ref sig .tc := ⟨.hbm, 544, rfl⟩
abbrev main_v98 : Ref sig .tc := ⟨.hbm, 545, rfl⟩
abbrev main_v99 : Ref sig .tc := ⟨.hbm, 546, rfl⟩
abbrev main_v100 : Ref sig .tc := ⟨.hbm, 547, rfl⟩
abbrev main_v101 : Ref sig .tc := ⟨.hbm, 548, rfl⟩
abbrev main_v102 : Ref sig .tc := ⟨.hbm, 549, rfl⟩
abbrev main_v103 : Ref sig .tc := ⟨.hbm, 550, rfl⟩
abbrev main_v104 : Ref sig .tc := ⟨.hbm, 551, rfl⟩
abbrev main_v105 : Ref sig .tc := ⟨.hbm, 552, rfl⟩
abbrev main_v106 : Ref sig .tc := ⟨.hbm, 553, rfl⟩
abbrev main_v107 : Ref sig .tc := ⟨.hbm, 554, rfl⟩
abbrev main_call21_cst : Ref sig .tc := ⟨.hbm, 555, rfl⟩
abbrev main_call21_v0 : Ref sig .tc := ⟨.hbm, 556, rfl⟩
abbrev main_v108 : Ref sig .tc := ⟨.hbm, 557, rfl⟩
abbrev main_cst_21 : Ref sig .tc := ⟨.hbm, 558, rfl⟩
abbrev main_v109 : Ref sig .tc := ⟨.hbm, 559, rfl⟩
abbrev main_v110 : Ref sig .tc := ⟨.hbm, 560, rfl⟩
abbrev main_v111 : Ref sig .tc := ⟨.hbm, 561, rfl⟩
abbrev main_cst_22 : Ref sig .tc := ⟨.hbm, 562, rfl⟩
abbrev main_v112 : Ref sig .tc := ⟨.hbm, 563, rfl⟩
abbrev main_c_23 : Ref sig .tc := ⟨.hbm, 564, rfl⟩
abbrev main_v113 : Ref sig .tc := ⟨.hbm, 565, rfl⟩
abbrev main_c_24 : Ref sig .tc := ⟨.hbm, 566, rfl⟩
abbrev main_c_25 : Ref sig .tc := ⟨.hbm, 567, rfl⟩
abbrev main_v114_0 : Ref sig .tc := ⟨.hbm, 568, rfl⟩
abbrev main_v114_1 : Ref sig .tc := ⟨.hbm, 569, rfl⟩
abbrev main_v114_2 : Ref sig .tc := ⟨.hbm, 570, rfl⟩
abbrev main_v114_3 : Ref sig .tc := ⟨.hbm, 571, rfl⟩
abbrev main_v114_4 : Ref sig .tc := ⟨.hbm, 572, rfl⟩
abbrev main_while4c_c_50 : Ref sig .tc := ⟨.hbm, 573, rfl⟩
abbrev main_while4c_v221 : Ref sig .tc := ⟨.hbm, 574, rfl⟩
abbrev main_while4b_c_50 : Ref sig .tc := ⟨.hbm, 575, rfl⟩
abbrev main_while4b_v221 : Ref sig .tc := ⟨.hbm, 576, rfl⟩
abbrev main_while4b_c_51 : Ref sig .tc := ⟨.hbm, 577, rfl⟩
abbrev main_while4b_v222 : Ref sig .tc := ⟨.hbm, 578, rfl⟩
abbrev main_while4b_c_52 : Ref sig .tc := ⟨.hbm, 579, rfl⟩
abbrev main_while4b_v223 : Ref sig .tc := ⟨.hbm, 580, rfl⟩
abbrev main_while4b_v224 : Ref sig .tc := ⟨.hbm, 581, rfl⟩
abbrev main_while4b_c_53 : Ref sig .tc := ⟨.hbm, 582, rfl⟩
abbrev main_while4b_v225 : Ref sig .tc := ⟨.hbm, 583, rfl⟩
abbrev main_while4b_v226 : Ref sig .tc := ⟨.hbm, 584, rfl⟩
abbrev main_while4b_v227 : Ref sig .tc := ⟨.hbm, 585, rfl⟩
abbrev main_while4b_v228 : Ref sig .tc := ⟨.hbm, 586, rfl⟩
abbrev main_while4b_c_54 : Ref sig .tc := ⟨.hbm, 587, rfl⟩
abbrev main_while4b_v229 : Ref sig .tc := ⟨.hbm, 588, rfl⟩
abbrev main_while4b_c_55 : Ref sig .tc := ⟨.hbm, 589, rfl⟩
abbrev main_while4b_v230 : Ref sig .tc := ⟨.hbm, 590, rfl⟩
abbrev main_while4b_v231 : Ref sig .tc := ⟨.hbm, 591, rfl⟩
abbrev main_while4b_c_56 : Ref sig .tc := ⟨.hbm, 592, rfl⟩
abbrev main_while4b_c_57 : Ref sig .tc := ⟨.hbm, 593, rfl⟩
abbrev main_while4b_v232 : Ref sig .tc := ⟨.hbm, 594, rfl⟩
abbrev main_while4b_c_58 : Ref sig .tc := ⟨.hbm, 595, rfl⟩
abbrev main_while4b_c_59 : Ref sig .tc := ⟨.hbm, 596, rfl⟩
abbrev main_while4b_v233 : Ref sig .tc := ⟨.hbm, 597, rfl⟩
abbrev main_while4b_c_60 : Ref sig .tc := ⟨.hbm, 598, rfl⟩
abbrev main_while4b_v234 : Ref sig .tc := ⟨.hbm, 599, rfl⟩
abbrev main_while4b_v235 : Ref sig .tc := ⟨.hbm, 600, rfl⟩
abbrev main_while4b_v236 : Ref sig .tc := ⟨.hbm, 601, rfl⟩
abbrev main_while4b_v237 : Ref sig .tc := ⟨.hbm, 602, rfl⟩
abbrev main_while4b_v238 : Ref sig .tc := ⟨.hbm, 603, rfl⟩
abbrev main_while4b_v239 : Ref sig .tc := ⟨.hbm, 604, rfl⟩
abbrev main_while4b_v240 : Ref sig .tc := ⟨.hbm, 605, rfl⟩
abbrev main_while4b_cst_61 : Ref sig .tc := ⟨.hbm, 606, rfl⟩
abbrev main_while4b_v241 : Ref sig .tc := ⟨.hbm, 607, rfl⟩
abbrev main_while4b_v242 : Ref sig .tc := ⟨.hbm, 608, rfl⟩
abbrev main_while4b_call22_v0 : Ref sig .tc := ⟨.hbm, 609, rfl⟩
abbrev main_while4b_call22_cst : Ref sig .tc := ⟨.hbm, 610, rfl⟩
abbrev main_while4b_call22_c : Ref sig .tc := ⟨.hbm, 611, rfl⟩
abbrev main_while4b_call22_v1_0 : Ref sig .tc := ⟨.hbm, 612, rfl⟩
abbrev main_while4b_v243 : Ref sig .tc := ⟨.hbm, 613, rfl⟩
abbrev main_while4b_c_62 : Ref sig .tc := ⟨.hbm, 614, rfl⟩
abbrev main_while4b_v244 : Ref sig .tc := ⟨.hbm, 615, rfl⟩
abbrev main_while4b_c_63 : Ref sig .tc := ⟨.hbm, 616, rfl⟩
abbrev main_while4b_v245 : Ref sig .tc := ⟨.hbm, 617, rfl⟩
abbrev main_while4b_v246 : Ref sig .tc := ⟨.hbm, 618, rfl⟩
abbrev main_while4b_v247 : Ref sig .tc := ⟨.hbm, 619, rfl⟩
abbrev main_while4b_v248 : Ref sig .tc := ⟨.hbm, 620, rfl⟩
abbrev main_while4b_v249 : Ref sig .tc := ⟨.hbm, 621, rfl⟩
abbrev main_while4b_c_64 : Ref sig .tc := ⟨.hbm, 622, rfl⟩
abbrev main_while4b_v250 : Ref sig .tc := ⟨.hbm, 623, rfl⟩
abbrev main_v115 : Ref sig .tc := ⟨.hbm, 624, rfl⟩
abbrev main_call23_c : Ref sig .tc := ⟨.hbm, 625, rfl⟩
abbrev main_call23_v0 : Ref sig .tc := ⟨.hbm, 626, rfl⟩
abbrev main_call23_v1 : Ref sig .tc := ⟨.hbm, 627, rfl⟩
abbrev main_call23_c_0 : Ref sig .tc := ⟨.hbm, 628, rfl⟩
abbrev main_call23_v2 : Ref sig .tc := ⟨.hbm, 629, rfl⟩
abbrev main_call23_v3 : Ref sig .tc := ⟨.hbm, 630, rfl⟩
abbrev main_call23_v4 : Ref sig .tc := ⟨.hbm, 631, rfl⟩
abbrev main_call23_v5 : Ref sig .tc := ⟨.hbm, 632, rfl⟩
abbrev main_call23_c_1 : Ref sig .tc := ⟨.hbm, 633, rfl⟩
abbrev main_call23_c_2 : Ref sig .tc := ⟨.hbm, 634, rfl⟩
abbrev main_call23_v6 : Ref sig .tc := ⟨.hbm, 635, rfl⟩
abbrev main_call23_v7 : Ref sig .tc := ⟨.hbm, 636, rfl⟩
abbrev main_call23_v8 : Ref sig .tc := ⟨.hbm, 637, rfl⟩
abbrev main_call23_v9 : Ref sig .tc := ⟨.hbm, 638, rfl⟩
abbrev main_call23_v10 : Ref sig .tc := ⟨.hbm, 639, rfl⟩
abbrev main_call23_v11 : Ref sig .tc := ⟨.hbm, 640, rfl⟩
abbrev main_call23_c_3 : Ref sig .tc := ⟨.hbm, 641, rfl⟩
abbrev main_call23_v12 : Ref sig .tc := ⟨.hbm, 642, rfl⟩
abbrev main_call23_v13 : Ref sig .tc := ⟨.hbm, 643, rfl⟩
abbrev main_call23_v14 : Ref sig .tc := ⟨.hbm, 644, rfl⟩
abbrev main_call23_cst : Ref sig .tc := ⟨.hbm, 645, rfl⟩
abbrev main_call23_v15 : Ref sig .tc := ⟨.hbm, 646, rfl⟩
abbrev main_v116 : Ref sig .tc := ⟨.hbm, 647, rfl⟩
abbrev main_v117 : Ref sig .tc := ⟨.hbm, 648, rfl⟩
abbrev main_v118 : Ref sig .tc := ⟨.hbm, 649, rfl⟩
abbrev main_v119 : Ref sig .tc := ⟨.hbm, 650, rfl⟩
abbrev main_v120 : Ref sig .tc := ⟨.hbm, 651, rfl⟩
abbrev main_v121 : Ref sig .tc := ⟨.hbm, 652, rfl⟩
abbrev main_cst_26 : Ref sig .tc := ⟨.hbm, 653, rfl⟩
abbrev main_v122 : Ref sig .tc := ⟨.hbm, 654, rfl⟩
abbrev main_v123 : Ref sig .tc := ⟨.hbm, 655, rfl⟩
abbrev main_v124 : Ref sig .tc := ⟨.hbm, 656, rfl⟩
abbrev main_c_27 : Ref sig .tc := ⟨.hbm, 657, rfl⟩
abbrev main_v125 : Ref sig .tc := ⟨.hbm, 658, rfl⟩
abbrev main_c_28 : Ref sig .tc := ⟨.hbm, 659, rfl⟩
abbrev main_v126_0 : Ref sig .tc := ⟨.hbm, 660, rfl⟩
abbrev main_v126_1 : Ref sig .tc := ⟨.hbm, 661, rfl⟩
abbrev main_v126_2 : Ref sig .tc := ⟨.hbm, 662, rfl⟩
abbrev main_v126_3 : Ref sig .tc := ⟨.hbm, 663, rfl⟩
abbrev main_v126_4 : Ref sig .tc := ⟨.hbm, 664, rfl⟩
abbrev main_v126_5 : Ref sig .tc := ⟨.hbm, 665, rfl⟩
abbrev main_while5c_c_51 : Ref sig .tc := ⟨.hbm, 666, rfl⟩
abbrev main_while5c_v221 : Ref sig .tc := ⟨.hbm, 667, rfl⟩
abbrev main_while5b_call24_c : Ref sig .tc := ⟨.hbm, 668, rfl⟩
abbrev main_while5b_call24_c_0 : Ref sig .tc := ⟨.hbm, 669, rfl⟩
abbrev main_while5b_call24_c_1 : Ref sig .tc := ⟨.hbm, 670, rfl⟩
abbrev main_while5b_call24_v0 : Ref sig .tc := ⟨.hbm, 671, rfl⟩
abbrev main_while5b_v221 : Ref sig .tc := ⟨.hbm, 672, rfl⟩
abbrev main_while5b_v222 : Ref sig .tc := ⟨.hbm, 673, rfl⟩
abbrev main_while5b_cst_51 : Ref sig .tc := ⟨.hbm, 674, rfl⟩
abbrev main_while5b_v223 : Ref sig .tc := ⟨.hbm, 675, rfl⟩
abbrev main_while5b_v224 : Ref sig .tc := ⟨.hbm, 676, rfl⟩
abbrev main_while5b_v225 : Ref sig .tc := ⟨.hbm, 677, rfl⟩
abbrev main_while5b_v226 : Ref sig .tc := ⟨.hbm, 678, rfl⟩
abbrev main_while5b_v227 : Ref sig .tc := ⟨.hbm, 679, rfl⟩
abbrev main_while5b_v228 : Ref sig .tc := ⟨.hbm, 680, rfl⟩
abbrev main_while5b_v229 : Ref sig .tc := ⟨.hbm, 681, rfl⟩
abbrev main_while5b_v230 : Ref sig .tc := ⟨.hbm, 682, rfl⟩
abbrev main_while5b_cst_52 : Ref sig .tc := ⟨.hbm, 683, rfl⟩
abbrev main_while5b_v231 : Ref sig .tc := ⟨.hbm, 684, rfl⟩
abbrev main_while5b_v232 : Ref sig .tc := ⟨.hbm, 685, rfl⟩
abbrev main_while5b_v233 : Ref sig .tc := ⟨.hbm, 686, rfl⟩
abbrev main_while5b_cst_53 : Ref sig .tc := ⟨.hbm, 687, rfl⟩
abbrev main_while5b_v234 : Ref sig .tc := ⟨.hbm, 688, rfl⟩
abbrev main_while5b_v235 : Ref sig .tc := ⟨.hbm, 689, rfl⟩
abbrev main_while5b_c_54 : Ref sig .tc := ⟨.hbm, 690, rfl⟩
abbrev main_while5b_call25_v0 : Ref sig .tc := ⟨.hbm, 691, rfl⟩
abbrev main_while5b_call25_v1 : Ref sig .tc := ⟨.hbm, 692, rfl⟩
abbrev main_while5b_call25_v2 : Ref sig .tc := ⟨.hbm, 693, rfl⟩
abbrev main_while5b_call25_v3 : Ref sig .tc := ⟨.hbm, 694, rfl⟩
abbrev main_while5b_call25_v4 : Ref sig .tc := ⟨.hbm, 695, rfl⟩
abbrev main_while5b_v236 : Ref sig .tc := ⟨.hbm, 696, rfl⟩
abbrev main_while5b_v237 : Ref sig .tc := ⟨.hbm, 697, rfl⟩
abbrev main_while5b_values : Ref sig .tc := ⟨.hbm, 698, rfl⟩
abbrev main_while5b_indices : Ref sig .tc := ⟨.hbm, 699, rfl⟩
abbrev main_while5b_v238 : Ref sig .tc := ⟨.hbm, 700, rfl⟩
abbrev main_while5b_c_55 : Ref sig .tc := ⟨.hbm, 701, rfl⟩
abbrev main_while5b_v239 : Ref sig .tc := ⟨.hbm, 702, rfl⟩
abbrev main_while5b_v240 : Ref sig .tc := ⟨.hbm, 703, rfl⟩
abbrev main_while5b_v241 : Ref sig .tc := ⟨.hbm, 704, rfl⟩
abbrev main_while5b_call26_v0 : Ref sig .tc := ⟨.hbm, 705, rfl⟩
abbrev main_while5b_v242 : Ref sig .tc := ⟨.hbm, 706, rfl⟩
abbrev main_while5b_c_56 : Ref sig .tc := ⟨.hbm, 707, rfl⟩
abbrev main_while5b_c_57 : Ref sig .tc := ⟨.hbm, 708, rfl⟩
abbrev main_while5b_call27_v0 : Ref sig .tc := ⟨.hbm, 709, rfl⟩
abbrev main_while5b_call27_v1 : Ref sig .tc := ⟨.hbm, 710, rfl⟩
abbrev main_while5b_call27_v2 : Ref sig .tc := ⟨.hbm, 711, rfl⟩
abbrev main_while5b_call27_v3 : Ref sig .tc := ⟨.hbm, 712, rfl⟩
abbrev main_while5b_call27_v4 : Ref sig .tc := ⟨.hbm, 713, rfl⟩
abbrev main_while5b_v243 : Ref sig .tc := ⟨.hbm, 714, rfl⟩
abbrev main_while5b_call28_v0 : Ref sig .tc := ⟨.hbm, 715, rfl⟩
abbrev main_while5b_call28_c : Ref sig .tc := ⟨.hbm, 716, rfl⟩
abbrev main_while5b_call28_c_0 : Ref sig .tc := ⟨.hbm, 717, rfl⟩
abbrev main_while5b_call28_c_1 : Ref sig .tc := ⟨.hbm, 718, rfl⟩
abbrev main_while5b_v244 : Ref sig .tc := ⟨.hbm, 719, rfl⟩
abbrev main_while5b_c_58 : Ref sig .tc := ⟨.hbm, 720, rfl⟩
abbrev main_while5b_v245 : Ref sig .tc := ⟨.hbm, 721, rfl⟩
abbrev main_v127 : Ref sig .tc := ⟨.hbm, 722, rfl⟩
abbrev main_v128 : Ref sig .tc := ⟨.hbm, 723, rfl⟩
abbrev main_v129 : Ref sig .tc := ⟨.hbm, 724, rfl⟩
abbrev main_call29_c : Ref sig .tc := ⟨.hbm, 725, rfl⟩
abbrev main_call29_v0 : Ref sig .tc := ⟨.hbm, 726, rfl⟩
abbrev main_call29_v1 : Ref sig .tc := ⟨.hbm, 727, rfl⟩
abbrev main_call29_c_0 : Ref sig .tc := ⟨.hbm, 728, rfl⟩
abbrev main_call29_v2 : Ref sig .tc := ⟨.hbm, 729, rfl⟩
abbrev main_call29_v3 : Ref sig .tc := ⟨.hbm, 730, rfl⟩
abbrev main_call29_v4 : Ref sig .tc := ⟨.hbm, 731, rfl⟩
abbrev main_call29_v5 : Ref sig .tc := ⟨.hbm, 732, rfl⟩
abbrev main_call29_c_1 : Ref sig .tc := ⟨.hbm, 733, rfl⟩
abbrev main_call29_c_2 : Ref sig .tc := ⟨.hbm, 734, rfl⟩
abbrev main_call29_v6 : Ref sig .tc := ⟨.hbm, 735, rfl⟩
abbrev main_call29_v7 : Ref sig .tc := ⟨.hbm, 736, rfl⟩
abbrev main_call29_v8 : Ref sig .tc := ⟨.hbm, 737, rfl⟩
abbrev main_call29_v9 : Ref sig .tc := ⟨.hbm, 738, rfl⟩
abbrev main_call29_v10 : Ref sig .tc := ⟨.hbm, 739, rfl⟩
abbrev main_call29_v11 : Ref sig .tc := ⟨.hbm, 740, rfl⟩
abbrev main_call29_c_3 : Ref sig .tc := ⟨.hbm, 741, rfl⟩
abbrev main_call29_v12 : Ref sig .tc := ⟨.hbm, 742, rfl⟩
abbrev main_call29_v13 : Ref sig .tc := ⟨.hbm, 743, rfl⟩
abbrev main_call29_v14 : Ref sig .tc := ⟨.hbm, 744, rfl⟩
abbrev main_call29_cst : Ref sig .tc := ⟨.hbm, 745, rfl⟩
abbrev main_call29_v15 : Ref sig .tc := ⟨.hbm, 746, rfl⟩
abbrev main_v130 : Ref sig .tc := ⟨.hbm, 747, rfl⟩
abbrev main_v131 : Ref sig .tc := ⟨.hbm, 748, rfl⟩
abbrev main_v132 : Ref sig .tc := ⟨.hbm, 749, rfl⟩
abbrev main_v133 : Ref sig .tc := ⟨.hbm, 750, rfl⟩
abbrev main_v134 : Ref sig .tc := ⟨.hbm, 751, rfl⟩
abbrev main_v135 : Ref sig .tc := ⟨.hbm, 752, rfl⟩
abbrev main_v136 : Ref sig .tc := ⟨.hbm, 753, rfl⟩
abbrev main_call30_c : Ref sig .tc := ⟨.hbm, 754, rfl⟩
abbrev main_call30_v0 : Ref sig .tc := ⟨.hbm, 755, rfl⟩
abbrev main_call30_v1 : Ref sig .tc := ⟨.hbm, 756, rfl⟩
abbrev main_call30_c_0 : Ref sig .tc := ⟨.hbm, 757, rfl⟩
abbrev main_call30_v2 : Ref sig .tc := ⟨.hbm, 758, rfl⟩
abbrev main_call30_v3 : Ref sig .tc := ⟨.hbm, 759, rfl⟩
abbrev main_call30_v4 : Ref sig .tc := ⟨.hbm, 760, rfl⟩
abbrev main_call30_v5 : Ref sig .tc := ⟨.hbm, 761, rfl⟩
abbrev main_call30_c_1 : Ref sig .tc := ⟨.hbm, 762, rfl⟩
abbrev main_call30_c_2 : Ref sig .tc := ⟨.hbm, 763, rfl⟩
abbrev main_call30_v6 : Ref sig .tc := ⟨.hbm, 764, rfl⟩
abbrev main_call30_v7 : Ref sig .tc := ⟨.hbm, 765, rfl⟩
abbrev main_call30_v8 : Ref sig .tc := ⟨.hbm, 766, rfl⟩
abbrev main_call30_v9 : Ref sig .tc := ⟨.hbm, 767, rfl⟩
abbrev main_call30_v10 : Ref sig .tc := ⟨.hbm, 768, rfl⟩
abbrev main_call30_v11 : Ref sig .tc := ⟨.hbm, 769, rfl⟩
abbrev main_call30_c_3 : Ref sig .tc := ⟨.hbm, 770, rfl⟩
abbrev main_call30_v12 : Ref sig .tc := ⟨.hbm, 771, rfl⟩
abbrev main_call30_v13 : Ref sig .tc := ⟨.hbm, 772, rfl⟩
abbrev main_call30_v14 : Ref sig .tc := ⟨.hbm, 773, rfl⟩
abbrev main_call30_cst : Ref sig .tc := ⟨.hbm, 774, rfl⟩
abbrev main_call30_v15 : Ref sig .tc := ⟨.hbm, 775, rfl⟩
abbrev main_v137 : Ref sig .tc := ⟨.hbm, 776, rfl⟩
abbrev main_v138 : Ref sig .tc := ⟨.hbm, 777, rfl⟩
abbrev main_v139 : Ref sig .tc := ⟨.hbm, 778, rfl⟩
abbrev main_v140 : Ref sig .tc := ⟨.hbm, 779, rfl⟩
abbrev main_v141 : Ref sig .tc := ⟨.hbm, 780, rfl⟩
abbrev main_cst_29 : Ref sig .tc := ⟨.hbm, 781, rfl⟩
abbrev main_v142 : Ref sig .tc := ⟨.hbm, 782, rfl⟩
abbrev main_cst_30 : Ref sig .tc := ⟨.hbm, 783, rfl⟩
abbrev main_v143 : Ref sig .tc := ⟨.hbm, 784, rfl⟩
abbrev main_v144 : Ref sig .tc := ⟨.hbm, 785, rfl⟩
abbrev main_c_31 : Ref sig .tc := ⟨.hbm, 786, rfl⟩
abbrev main_call31_cst : Ref sig .tc := ⟨.hbm, 787, rfl⟩
abbrev main_call31_v0 : Ref sig .tc := ⟨.hbm, 788, rfl⟩
abbrev main_call31_v1 : Ref sig .tc := ⟨.hbm, 789, rfl⟩
abbrev main_call31_cst_0 : Ref sig .tc := ⟨.hbm, 790, rfl⟩
abbrev main_call31_v2 : Ref sig .tc := ⟨.hbm, 791, rfl⟩
abbrev main_call31_v3 : Ref sig .tc := ⟨.hbm, 792, rfl⟩
abbrev main_call31_v4 : Ref sig .tc := ⟨.hbm, 793, rfl⟩
abbrev main_call31_v5 : Ref sig .tc := ⟨.hbm, 794, rfl⟩
abbrev main_call31_v6 : Ref sig .tc := ⟨.hbm, 795, rfl⟩
abbrev main_call31_v7 : Ref sig .tc := ⟨.hbm, 796, rfl⟩
abbrev main_call31_cst_1 : Ref sig .tc := ⟨.hbm, 797, rfl⟩
abbrev main_call31_v8 : Ref sig .tc := ⟨.hbm, 798, rfl⟩
abbrev main_call31_cst_2 : Ref sig .tc := ⟨.hbm, 799, rfl⟩
abbrev main_call31_v9 : Ref sig .tc := ⟨.hbm, 800, rfl⟩
abbrev main_call31_v10 : Ref sig .tc := ⟨.hbm, 801, rfl⟩
abbrev main_call31_v11 : Ref sig .tc := ⟨.hbm, 802, rfl⟩
abbrev main_call31_cst_3 : Ref sig .tc := ⟨.hbm, 803, rfl⟩
abbrev main_call31_v12 : Ref sig .tc := ⟨.hbm, 804, rfl⟩
abbrev main_call31_cst_4 : Ref sig .tc := ⟨.hbm, 805, rfl⟩
abbrev main_call31_call0_v0 : Ref sig .tc := ⟨.hbm, 806, rfl⟩
abbrev main_call31_call0_v1 : Ref sig .tc := ⟨.hbm, 807, rfl⟩
abbrev main_call31_call0_v2 : Ref sig .tc := ⟨.hbm, 808, rfl⟩
abbrev main_v145 : Ref sig .tc := ⟨.hbm, 809, rfl⟩
abbrev main_v146 : Ref sig .tc := ⟨.hbm, 810, rfl⟩
abbrev main_v147 : Ref sig .tc := ⟨.hbm, 811, rfl⟩
abbrev main_v148 : Ref sig .tc := ⟨.hbm, 812, rfl⟩
abbrev main_cst_32 : Ref sig .tc := ⟨.hbm, 813, rfl⟩
abbrev main_v149 : Ref sig .tc := ⟨.hbm, 814, rfl⟩
abbrev main_v150 : Ref sig .tc := ⟨.hbm, 815, rfl⟩
abbrev main_v151 : Ref sig .tc := ⟨.hbm, 816, rfl⟩
abbrev main_v152 : Ref sig .tc := ⟨.hbm, 817, rfl⟩
abbrev main_v153 : Ref sig .tc := ⟨.hbm, 818, rfl⟩
abbrev main_v154 : Ref sig .tc := ⟨.hbm, 819, rfl⟩
abbrev main_v155 : Ref sig .tc := ⟨.hbm, 820, rfl⟩
abbrev main_v156 : Ref sig .tc := ⟨.hbm, 821, rfl⟩
abbrev main_v157 : Ref sig .tc := ⟨.hbm, 822, rfl⟩
abbrev main_v158 : Ref sig .tc := ⟨.hbm, 823, rfl⟩
abbrev main_v159 : Ref sig .tc := ⟨.hbm, 824, rfl⟩
abbrev main_v160 : Ref sig .tc := ⟨.hbm, 825, rfl⟩
abbrev main_v161 : Ref sig .tc := ⟨.hbm, 826, rfl⟩
abbrev main_v162 : Ref sig .tc := ⟨.hbm, 827, rfl⟩
abbrev main_call32_cst : Ref sig .tc := ⟨.hbm, 828, rfl⟩
abbrev main_call32_v0 : Ref sig .tc := ⟨.hbm, 829, rfl⟩
abbrev main_v163 : Ref sig .tc := ⟨.hbm, 830, rfl⟩
abbrev main_cst_33 : Ref sig .tc := ⟨.hbm, 831, rfl⟩
abbrev main_v164 : Ref sig .tc := ⟨.hbm, 832, rfl⟩
abbrev main_v165 : Ref sig .tc := ⟨.hbm, 833, rfl⟩
abbrev main_v166 : Ref sig .tc := ⟨.hbm, 834, rfl⟩
abbrev main_cst_34 : Ref sig .tc := ⟨.hbm, 835, rfl⟩
abbrev main_v167 : Ref sig .tc := ⟨.hbm, 836, rfl⟩
abbrev main_c_35 : Ref sig .tc := ⟨.hbm, 837, rfl⟩
abbrev main_v168 : Ref sig .tc := ⟨.hbm, 838, rfl⟩
abbrev main_c_36 : Ref sig .tc := ⟨.hbm, 839, rfl⟩
abbrev main_c_37 : Ref sig .tc := ⟨.hbm, 840, rfl⟩
abbrev main_v169_0 : Ref sig .tc := ⟨.hbm, 841, rfl⟩
abbrev main_v169_1 : Ref sig .tc := ⟨.hbm, 842, rfl⟩
abbrev main_v169_2 : Ref sig .tc := ⟨.hbm, 843, rfl⟩
abbrev main_v169_3 : Ref sig .tc := ⟨.hbm, 844, rfl⟩
abbrev main_v169_4 : Ref sig .tc := ⟨.hbm, 845, rfl⟩
abbrev main_while6c_c_50 : Ref sig .tc := ⟨.hbm, 846, rfl⟩
abbrev main_while6c_v221 : Ref sig .tc := ⟨.hbm, 847, rfl⟩
abbrev main_while6b_c_50 : Ref sig .tc := ⟨.hbm, 848, rfl⟩
abbrev main_while6b_v221 : Ref sig .tc := ⟨.hbm, 849, rfl⟩
abbrev main_while6b_c_51 : Ref sig .tc := ⟨.hbm, 850, rfl⟩
abbrev main_while6b_v222 : Ref sig .tc := ⟨.hbm, 851, rfl⟩
abbrev main_while6b_c_52 : Ref sig .tc := ⟨.hbm, 852, rfl⟩
abbrev main_while6b_v223 : Ref sig .tc := ⟨.hbm, 853, rfl⟩
abbrev main_while6b_v224 : Ref sig .tc := ⟨.hbm, 854, rfl⟩
abbrev main_while6b_c_53 : Ref sig .tc := ⟨.hbm, 855, rfl⟩
abbrev main_while6b_v225 : Ref sig .tc := ⟨.hbm, 856, rfl⟩
abbrev main_while6b_v226 : Ref sig .tc := ⟨.hbm, 857, rfl⟩
abbrev main_while6b_v227 : Ref sig .tc := ⟨.hbm, 858, rfl⟩
abbrev main_while6b_v228 : Ref sig .tc := ⟨.hbm, 859, rfl⟩
abbrev main_while6b_c_54 : Ref sig .tc := ⟨.hbm, 860, rfl⟩
abbrev main_while6b_v229 : Ref sig .tc := ⟨.hbm, 861, rfl⟩
abbrev main_while6b_c_55 : Ref sig .tc := ⟨.hbm, 862, rfl⟩
abbrev main_while6b_v230 : Ref sig .tc := ⟨.hbm, 863, rfl⟩
abbrev main_while6b_v231 : Ref sig .tc := ⟨.hbm, 864, rfl⟩
abbrev main_while6b_c_56 : Ref sig .tc := ⟨.hbm, 865, rfl⟩
abbrev main_while6b_c_57 : Ref sig .tc := ⟨.hbm, 866, rfl⟩
abbrev main_while6b_v232 : Ref sig .tc := ⟨.hbm, 867, rfl⟩
abbrev main_while6b_c_58 : Ref sig .tc := ⟨.hbm, 868, rfl⟩
abbrev main_while6b_c_59 : Ref sig .tc := ⟨.hbm, 869, rfl⟩
abbrev main_while6b_v233 : Ref sig .tc := ⟨.hbm, 870, rfl⟩
abbrev main_while6b_c_60 : Ref sig .tc := ⟨.hbm, 871, rfl⟩
abbrev main_while6b_v234 : Ref sig .tc := ⟨.hbm, 872, rfl⟩
abbrev main_while6b_v235 : Ref sig .tc := ⟨.hbm, 873, rfl⟩
abbrev main_while6b_v236 : Ref sig .tc := ⟨.hbm, 874, rfl⟩
abbrev main_while6b_v237 : Ref sig .tc := ⟨.hbm, 875, rfl⟩
abbrev main_while6b_v238 : Ref sig .tc := ⟨.hbm, 876, rfl⟩
abbrev main_while6b_v239 : Ref sig .tc := ⟨.hbm, 877, rfl⟩
abbrev main_while6b_v240 : Ref sig .tc := ⟨.hbm, 878, rfl⟩
abbrev main_while6b_cst_61 : Ref sig .tc := ⟨.hbm, 879, rfl⟩
abbrev main_while6b_v241 : Ref sig .tc := ⟨.hbm, 880, rfl⟩
abbrev main_while6b_v242 : Ref sig .tc := ⟨.hbm, 881, rfl⟩
abbrev main_while6b_call33_v0 : Ref sig .tc := ⟨.hbm, 882, rfl⟩
abbrev main_while6b_call33_cst : Ref sig .tc := ⟨.hbm, 883, rfl⟩
abbrev main_while6b_call33_c : Ref sig .tc := ⟨.hbm, 884, rfl⟩
abbrev main_while6b_call33_v1_0 : Ref sig .tc := ⟨.hbm, 885, rfl⟩
abbrev main_while6b_v243 : Ref sig .tc := ⟨.hbm, 886, rfl⟩
abbrev main_while6b_c_62 : Ref sig .tc := ⟨.hbm, 887, rfl⟩
abbrev main_while6b_v244 : Ref sig .tc := ⟨.hbm, 888, rfl⟩
abbrev main_while6b_c_63 : Ref sig .tc := ⟨.hbm, 889, rfl⟩
abbrev main_while6b_v245 : Ref sig .tc := ⟨.hbm, 890, rfl⟩
abbrev main_while6b_v246 : Ref sig .tc := ⟨.hbm, 891, rfl⟩
abbrev main_while6b_v247 : Ref sig .tc := ⟨.hbm, 892, rfl⟩
abbrev main_while6b_v248 : Ref sig .tc := ⟨.hbm, 893, rfl⟩
abbrev main_while6b_v249 : Ref sig .tc := ⟨.hbm, 894, rfl⟩
abbrev main_while6b_c_64 : Ref sig .tc := ⟨.hbm, 895, rfl⟩
abbrev main_while6b_v250 : Ref sig .tc := ⟨.hbm, 896, rfl⟩
abbrev main_v170 : Ref sig .tc := ⟨.hbm, 897, rfl⟩
abbrev main_call34_c : Ref sig .tc := ⟨.hbm, 898, rfl⟩
abbrev main_call34_v0 : Ref sig .tc := ⟨.hbm, 899, rfl⟩
abbrev main_call34_v1 : Ref sig .tc := ⟨.hbm, 900, rfl⟩
abbrev main_call34_c_0 : Ref sig .tc := ⟨.hbm, 901, rfl⟩
abbrev main_call34_v2 : Ref sig .tc := ⟨.hbm, 902, rfl⟩
abbrev main_call34_v3 : Ref sig .tc := ⟨.hbm, 903, rfl⟩
abbrev main_call34_v4 : Ref sig .tc := ⟨.hbm, 904, rfl⟩
abbrev main_call34_v5 : Ref sig .tc := ⟨.hbm, 905, rfl⟩
abbrev main_call34_c_1 : Ref sig .tc := ⟨.hbm, 906, rfl⟩
abbrev main_call34_c_2 : Ref sig .tc := ⟨.hbm, 907, rfl⟩
abbrev main_call34_v6 : Ref sig .tc := ⟨.hbm, 908, rfl⟩
abbrev main_call34_v7 : Ref sig .tc := ⟨.hbm, 909, rfl⟩
abbrev main_call34_v8 : Ref sig .tc := ⟨.hbm, 910, rfl⟩
abbrev main_call34_v9 : Ref sig .tc := ⟨.hbm, 911, rfl⟩
abbrev main_call34_v10 : Ref sig .tc := ⟨.hbm, 912, rfl⟩
abbrev main_call34_v11 : Ref sig .tc := ⟨.hbm, 913, rfl⟩
abbrev main_call34_c_3 : Ref sig .tc := ⟨.hbm, 914, rfl⟩
abbrev main_call34_v12 : Ref sig .tc := ⟨.hbm, 915, rfl⟩
abbrev main_call34_v13 : Ref sig .tc := ⟨.hbm, 916, rfl⟩
abbrev main_call34_v14 : Ref sig .tc := ⟨.hbm, 917, rfl⟩
abbrev main_call34_cst : Ref sig .tc := ⟨.hbm, 918, rfl⟩
abbrev main_call34_v15 : Ref sig .tc := ⟨.hbm, 919, rfl⟩
abbrev main_v171 : Ref sig .tc := ⟨.hbm, 920, rfl⟩
abbrev main_v172 : Ref sig .tc := ⟨.hbm, 921, rfl⟩
abbrev main_v173 : Ref sig .tc := ⟨.hbm, 922, rfl⟩
abbrev main_v174 : Ref sig .tc := ⟨.hbm, 923, rfl⟩
abbrev main_v175 : Ref sig .tc := ⟨.hbm, 924, rfl⟩
abbrev main_v176 : Ref sig .tc := ⟨.hbm, 925, rfl⟩
abbrev main_cst_38 : Ref sig .tc := ⟨.hbm, 926, rfl⟩
abbrev main_v177 : Ref sig .tc := ⟨.hbm, 927, rfl⟩
abbrev main_v178 : Ref sig .tc := ⟨.hbm, 928, rfl⟩
abbrev main_v179 : Ref sig .tc := ⟨.hbm, 929, rfl⟩
abbrev main_c_39 : Ref sig .tc := ⟨.hbm, 930, rfl⟩
abbrev main_v180 : Ref sig .tc := ⟨.hbm, 931, rfl⟩
abbrev main_c_40 : Ref sig .tc := ⟨.hbm, 932, rfl⟩
abbrev main_v181_0 : Ref sig .tc := ⟨.hbm, 933, rfl⟩
abbrev main_v181_1 : Ref sig .tc := ⟨.hbm, 934, rfl⟩
abbrev main_v181_2 : Ref sig .tc := ⟨.hbm, 935, rfl⟩
abbrev main_v181_3 : Ref sig .tc := ⟨.hbm, 936, rfl⟩
abbrev main_v181_4 : Ref sig .tc := ⟨.hbm, 937, rfl⟩
abbrev main_v181_5 : Ref sig .tc := ⟨.hbm, 938, rfl⟩
abbrev main_while7c_c_51 : Ref sig .tc := ⟨.hbm, 939, rfl⟩
abbrev main_while7c_v221 : Ref sig .tc := ⟨.hbm, 940, rfl⟩
abbrev main_while7b_call35_c : Ref sig .tc := ⟨.hbm, 941, rfl⟩
abbrev main_while7b_call35_c_0 : Ref sig .tc := ⟨.hbm, 942, rfl⟩
abbrev main_while7b_call35_c_1 : Ref sig .tc := ⟨.hbm, 943, rfl⟩
abbrev main_while7b_call35_v0 : Ref sig .tc := ⟨.hbm, 944, rfl⟩
abbrev main_while7b_v221 : Ref sig .tc := ⟨.hbm, 945, rfl⟩
abbrev main_while7b_v222 : Ref sig .tc := ⟨.hbm, 946, rfl⟩
abbrev main_while7b_cst_51 : Ref sig .tc := ⟨.hbm, 947, rfl⟩
abbrev main_while7b_v223 : Ref sig .tc := ⟨.hbm, 948, rfl⟩
abbrev main_while7b_v224 : Ref sig .tc := ⟨.hbm, 949, rfl⟩
abbrev main_while7b_v225 : Ref sig .tc := ⟨.hbm, 950, rfl⟩
abbrev main_while7b_v226 : Ref sig .tc := ⟨.hbm, 951, rfl⟩
abbrev main_while7b_v227 : Ref sig .tc := ⟨.hbm, 952, rfl⟩
abbrev main_while7b_v228 : Ref sig .tc := ⟨.hbm, 953, rfl⟩
abbrev main_while7b_v229 : Ref sig .tc := ⟨.hbm, 954, rfl⟩
abbrev main_while7b_v230 : Ref sig .tc := ⟨.hbm, 955, rfl⟩
abbrev main_while7b_cst_52 : Ref sig .tc := ⟨.hbm, 956, rfl⟩
abbrev main_while7b_v231 : Ref sig .tc := ⟨.hbm, 957, rfl⟩
abbrev main_while7b_v232 : Ref sig .tc := ⟨.hbm, 958, rfl⟩
abbrev main_while7b_v233 : Ref sig .tc := ⟨.hbm, 959, rfl⟩
abbrev main_while7b_cst_53 : Ref sig .tc := ⟨.hbm, 960, rfl⟩
abbrev main_while7b_v234 : Ref sig .tc := ⟨.hbm, 961, rfl⟩
abbrev main_while7b_v235 : Ref sig .tc := ⟨.hbm, 962, rfl⟩
abbrev main_while7b_c_54 : Ref sig .tc := ⟨.hbm, 963, rfl⟩
abbrev main_while7b_call36_v0 : Ref sig .tc := ⟨.hbm, 964, rfl⟩
abbrev main_while7b_call36_v1 : Ref sig .tc := ⟨.hbm, 965, rfl⟩
abbrev main_while7b_call36_v2 : Ref sig .tc := ⟨.hbm, 966, rfl⟩
abbrev main_while7b_call36_v3 : Ref sig .tc := ⟨.hbm, 967, rfl⟩
abbrev main_while7b_call36_v4 : Ref sig .tc := ⟨.hbm, 968, rfl⟩
abbrev main_while7b_v236 : Ref sig .tc := ⟨.hbm, 969, rfl⟩
abbrev main_while7b_v237 : Ref sig .tc := ⟨.hbm, 970, rfl⟩
abbrev main_while7b_values : Ref sig .tc := ⟨.hbm, 971, rfl⟩
abbrev main_while7b_indices : Ref sig .tc := ⟨.hbm, 972, rfl⟩
abbrev main_while7b_v238 : Ref sig .tc := ⟨.hbm, 973, rfl⟩
abbrev main_while7b_c_55 : Ref sig .tc := ⟨.hbm, 974, rfl⟩
abbrev main_while7b_v239 : Ref sig .tc := ⟨.hbm, 975, rfl⟩
abbrev main_while7b_v240 : Ref sig .tc := ⟨.hbm, 976, rfl⟩
abbrev main_while7b_v241 : Ref sig .tc := ⟨.hbm, 977, rfl⟩
abbrev main_while7b_call37_v0 : Ref sig .tc := ⟨.hbm, 978, rfl⟩
abbrev main_while7b_v242 : Ref sig .tc := ⟨.hbm, 979, rfl⟩
abbrev main_while7b_c_56 : Ref sig .tc := ⟨.hbm, 980, rfl⟩
abbrev main_while7b_c_57 : Ref sig .tc := ⟨.hbm, 981, rfl⟩
abbrev main_while7b_call38_v0 : Ref sig .tc := ⟨.hbm, 982, rfl⟩
abbrev main_while7b_call38_v1 : Ref sig .tc := ⟨.hbm, 983, rfl⟩
abbrev main_while7b_call38_v2 : Ref sig .tc := ⟨.hbm, 984, rfl⟩
abbrev main_while7b_call38_v3 : Ref sig .tc := ⟨.hbm, 985, rfl⟩
abbrev main_while7b_call38_v4 : Ref sig .tc := ⟨.hbm, 986, rfl⟩
abbrev main_while7b_v243 : Ref sig .tc := ⟨.hbm, 987, rfl⟩
abbrev main_while7b_call39_v0 : Ref sig .tc := ⟨.hbm, 988, rfl⟩
abbrev main_while7b_call39_c : Ref sig .tc := ⟨.hbm, 989, rfl⟩
abbrev main_while7b_call39_c_0 : Ref sig .tc := ⟨.hbm, 990, rfl⟩
abbrev main_while7b_call39_c_1 : Ref sig .tc := ⟨.hbm, 991, rfl⟩
abbrev main_while7b_v244 : Ref sig .tc := ⟨.hbm, 992, rfl⟩
abbrev main_while7b_c_58 : Ref sig .tc := ⟨.hbm, 993, rfl⟩
abbrev main_while7b_v245 : Ref sig .tc := ⟨.hbm, 994, rfl⟩
abbrev main_v182 : Ref sig .tc := ⟨.hbm, 995, rfl⟩
abbrev main_v183 : Ref sig .tc := ⟨.hbm, 996, rfl⟩
abbrev main_v184 : Ref sig .tc := ⟨.hbm, 997, rfl⟩
abbrev main_call40_c : Ref sig .tc := ⟨.hbm, 998, rfl⟩
abbrev main_call40_v0 : Ref sig .tc := ⟨.hbm, 999, rfl⟩
abbrev main_call40_v1 : Ref sig .tc := ⟨.hbm, 1000, rfl⟩
abbrev main_call40_c_0 : Ref sig .tc := ⟨.hbm, 1001, rfl⟩
abbrev main_call40_v2 : Ref sig .tc := ⟨.hbm, 1002, rfl⟩
abbrev main_call40_v3 : Ref sig .tc := ⟨.hbm, 1003, rfl⟩
abbrev main_call40_v4 : Ref sig .tc := ⟨.hbm, 1004, rfl⟩
abbrev main_call40_v5 : Ref sig .tc := ⟨.hbm, 1005, rfl⟩
abbrev main_call40_c_1 : Ref sig .tc := ⟨.hbm, 1006, rfl⟩
abbrev main_call40_c_2 : Ref sig .tc := ⟨.hbm, 1007, rfl⟩
abbrev main_call40_v6 : Ref sig .tc := ⟨.hbm, 1008, rfl⟩
abbrev main_call40_v7 : Ref sig .tc := ⟨.hbm, 1009, rfl⟩
abbrev main_call40_v8 : Ref sig .tc := ⟨.hbm, 1010, rfl⟩
abbrev main_call40_v9 : Ref sig .tc := ⟨.hbm, 1011, rfl⟩
abbrev main_call40_v10 : Ref sig .tc := ⟨.hbm, 1012, rfl⟩
abbrev main_call40_v11 : Ref sig .tc := ⟨.hbm, 1013, rfl⟩
abbrev main_call40_c_3 : Ref sig .tc := ⟨.hbm, 1014, rfl⟩
abbrev main_call40_v12 : Ref sig .tc := ⟨.hbm, 1015, rfl⟩
abbrev main_call40_v13 : Ref sig .tc := ⟨.hbm, 1016, rfl⟩
abbrev main_call40_v14 : Ref sig .tc := ⟨.hbm, 1017, rfl⟩
abbrev main_call40_cst : Ref sig .tc := ⟨.hbm, 1018, rfl⟩
abbrev main_call40_v15 : Ref sig .tc := ⟨.hbm, 1019, rfl⟩
abbrev main_v185 : Ref sig .tc := ⟨.hbm, 1020, rfl⟩
abbrev main_v186 : Ref sig .tc := ⟨.hbm, 1021, rfl⟩
abbrev main_v187 : Ref sig .tc := ⟨.hbm, 1022, rfl⟩
abbrev main_v188 : Ref sig .tc := ⟨.hbm, 1023, rfl⟩
abbrev main_v189 : Ref sig .tc := ⟨.hbm, 1024, rfl⟩
abbrev main_v190 : Ref sig .tc := ⟨.hbm, 1025, rfl⟩
abbrev main_v191 : Ref sig .tc := ⟨.hbm, 1026, rfl⟩
abbrev main_call41_c : Ref sig .tc := ⟨.hbm, 1027, rfl⟩
abbrev main_call41_v0 : Ref sig .tc := ⟨.hbm, 1028, rfl⟩
abbrev main_call41_v1 : Ref sig .tc := ⟨.hbm, 1029, rfl⟩
abbrev main_call41_c_0 : Ref sig .tc := ⟨.hbm, 1030, rfl⟩
abbrev main_call41_v2 : Ref sig .tc := ⟨.hbm, 1031, rfl⟩
abbrev main_call41_v3 : Ref sig .tc := ⟨.hbm, 1032, rfl⟩
abbrev main_call41_v4 : Ref sig .tc := ⟨.hbm, 1033, rfl⟩
abbrev main_call41_v5 : Ref sig .tc := ⟨.hbm, 1034, rfl⟩
abbrev main_call41_c_1 : Ref sig .tc := ⟨.hbm, 1035, rfl⟩
abbrev main_call41_c_2 : Ref sig .tc := ⟨.hbm, 1036, rfl⟩
abbrev main_call41_v6 : Ref sig .tc := ⟨.hbm, 1037, rfl⟩
abbrev main_call41_v7 : Ref sig .tc := ⟨.hbm, 1038, rfl⟩
abbrev main_call41_v8 : Ref sig .tc := ⟨.hbm, 1039, rfl⟩
abbrev main_call41_v9 : Ref sig .tc := ⟨.hbm, 1040, rfl⟩
abbrev main_call41_v10 : Ref sig .tc := ⟨.hbm, 1041, rfl⟩
abbrev main_call41_v11 : Ref sig .tc := ⟨.hbm, 1042, rfl⟩
abbrev main_call41_c_3 : Ref sig .tc := ⟨.hbm, 1043, rfl⟩
abbrev main_call41_v12 : Ref sig .tc := ⟨.hbm, 1044, rfl⟩
abbrev main_call41_v13 : Ref sig .tc := ⟨.hbm, 1045, rfl⟩
abbrev main_call41_v14 : Ref sig .tc := ⟨.hbm, 1046, rfl⟩
abbrev main_call41_cst : Ref sig .tc := ⟨.hbm, 1047, rfl⟩
abbrev main_call41_v15 : Ref sig .tc := ⟨.hbm, 1048, rfl⟩
abbrev main_v192 : Ref sig .tc := ⟨.hbm, 1049, rfl⟩
abbrev main_v193 : Ref sig .tc := ⟨.hbm, 1050, rfl⟩
abbrev main_v194 : Ref sig .tc := ⟨.hbm, 1051, rfl⟩
abbrev main_v195 : Ref sig .tc := ⟨.hbm, 1052, rfl⟩
abbrev main_v196 : Ref sig .tc := ⟨.hbm, 1053, rfl⟩
abbrev main_cst_41 : Ref sig .tc := ⟨.hbm, 1054, rfl⟩
abbrev main_v197 : Ref sig .tc := ⟨.hbm, 1055, rfl⟩
abbrev main_cst_42 : Ref sig .tc := ⟨.hbm, 1056, rfl⟩
abbrev main_v198 : Ref sig .tc := ⟨.hbm, 1057, rfl⟩
abbrev main_v199 : Ref sig .tc := ⟨.hbm, 1058, rfl⟩
abbrev main_c_43 : Ref sig .tc := ⟨.hbm, 1059, rfl⟩
abbrev main_call42_cst : Ref sig .tc := ⟨.hbm, 1060, rfl⟩
abbrev main_call42_v0 : Ref sig .tc := ⟨.hbm, 1061, rfl⟩
abbrev main_call42_v1 : Ref sig .tc := ⟨.hbm, 1062, rfl⟩
abbrev main_call42_cst_0 : Ref sig .tc := ⟨.hbm, 1063, rfl⟩
abbrev main_call42_v2 : Ref sig .tc := ⟨.hbm, 1064, rfl⟩
abbrev main_call42_v3 : Ref sig .tc := ⟨.hbm, 1065, rfl⟩
abbrev main_call42_v4 : Ref sig .tc := ⟨.hbm, 1066, rfl⟩
abbrev main_call42_v5 : Ref sig .tc := ⟨.hbm, 1067, rfl⟩
abbrev main_call42_v6 : Ref sig .tc := ⟨.hbm, 1068, rfl⟩
abbrev main_call42_v7 : Ref sig .tc := ⟨.hbm, 1069, rfl⟩
abbrev main_call42_cst_1 : Ref sig .tc := ⟨.hbm, 1070, rfl⟩
abbrev main_call42_v8 : Ref sig .tc := ⟨.hbm, 1071, rfl⟩
abbrev main_call42_cst_2 : Ref sig .tc := ⟨.hbm, 1072, rfl⟩
abbrev main_call42_v9 : Ref sig .tc := ⟨.hbm, 1073, rfl⟩
abbrev main_call42_v10 : Ref sig .tc := ⟨.hbm, 1074, rfl⟩
abbrev main_call42_v11 : Ref sig .tc := ⟨.hbm, 1075, rfl⟩
abbrev main_call42_cst_3 : Ref sig .tc := ⟨.hbm, 1076, rfl⟩
abbrev main_call42_v12 : Ref sig .tc := ⟨.hbm, 1077, rfl⟩
abbrev main_call42_cst_4 : Ref sig .tc := ⟨.hbm, 1078, rfl⟩
abbrev main_call42_call0_v0 : Ref sig .tc := ⟨.hbm, 1079, rfl⟩
abbrev main_call42_call0_v1 : Ref sig .tc := ⟨.hbm, 1080, rfl⟩
abbrev main_call42_call0_v2 : Ref sig .tc := ⟨.hbm, 1081, rfl⟩
abbrev main_v200 : Ref sig .tc := ⟨.hbm, 1082, rfl⟩
abbrev main_v201 : Ref sig .tc := ⟨.hbm, 1083, rfl⟩
abbrev main_v202 : Ref sig .tc := ⟨.hbm, 1084, rfl⟩
abbrev main_v203 : Ref sig .tc := ⟨.hbm, 1085, rfl⟩
abbrev main_cst_44 : Ref sig .tc := ⟨.hbm, 1086, rfl⟩
abbrev main_v204 : Ref sig .tc := ⟨.hbm, 1087, rfl⟩
abbrev main_v205 : Ref sig .tc := ⟨.hbm, 1088, rfl⟩
abbrev main_v206 : Ref sig .tc := ⟨.hbm, 1089, rfl⟩
abbrev main_v207 : Ref sig .tc := ⟨.hbm, 1090, rfl⟩
abbrev main_v208 : Ref sig .tc := ⟨.hbm, 1091, rfl⟩
abbrev main_v209 : Ref sig .tc := ⟨.hbm, 1092, rfl⟩
abbrev main_v210 : Ref sig .tc := ⟨.hbm, 1093, rfl⟩
abbrev main_v211 : Ref sig .tc := ⟨.hbm, 1094, rfl⟩
abbrev main_v212 : Ref sig .tc := ⟨.hbm, 1095, rfl⟩
abbrev main_v213 : Ref sig .tc := ⟨.hbm, 1096, rfl⟩
abbrev main_v214 : Ref sig .tc := ⟨.hbm, 1097, rfl⟩
abbrev main_v215 : Ref sig .tc := ⟨.hbm, 1098, rfl⟩
abbrev main_v216 : Ref sig .tc := ⟨.hbm, 1099, rfl⟩
abbrev main_v217 : Ref sig .tc := ⟨.hbm, 1100, rfl⟩
abbrev main_call43_cst : Ref sig .tc := ⟨.hbm, 1101, rfl⟩
abbrev main_call43_v0 : Ref sig .tc := ⟨.hbm, 1102, rfl⟩
abbrev main_v218 : Ref sig .tc := ⟨.hbm, 1103, rfl⟩
abbrev main_cst_45 : Ref sig .tc := ⟨.hbm, 1104, rfl⟩
abbrev main_v219 : Ref sig .tc := ⟨.hbm, 1105, rfl⟩
abbrev main_v220 : Ref sig .tc := ⟨.hbm, 1106, rfl⟩

abbrev nD : Nat := 1
abbrev τ : Topo := Topo.v7x

variable {F : FTy → Type} [FloatOps F]

abbrev main_while0_count : Scf.Loop 32 := ⟨0#32, 65525#32, 1#32⟩

abbrev main_while1_count : Scf.Loop 32 := ⟨0#32, 128#32, 1#32⟩

abbrev main_while2_count : Scf.Loop 32 := ⟨0#32, 32767#32, 1#32⟩

abbrev main_while3_count : Scf.Loop 32 := ⟨0#32, 64#32, 1#32⟩

abbrev main_while4_count : Scf.Loop 32 := ⟨0#32, 16383#32, 1#32⟩

abbrev main_while5_count : Scf.Loop 32 := ⟨0#32, 32#32, 1#32⟩

abbrev main_while6_count : Scf.Loop 32 := ⟨0#32, 8191#32, 1#32⟩

abbrev main_while7_count : Scf.Loop 32 := ⟨0#32, 16#32, 1#32⟩
-- ==== Proof.Items.lean ====
/-
  A host program as a list of ITEMS: stretches of host operations, kernel launches and counted loops. Each item has the contents of the
  buffers after it as a function of those before it; a list of items runs to the composition of its items (`run_items`).
-/
module

public import Idealize.ShloMosaic.Lib.StableHlo.RunLoop
public import Idealize.ShloMosaic.Lib.StableHlo.RunRead
public import Idealize.ShloMosaic.Lib.StableHlo.RunLoopItems
public import Idealize.ShloMosaic.Lib.Pipeline.RegionsLoop
public import Idealize.ShloMosaic.Lib.Pipeline.RegionsForget
public import Idealize.ShloMosaic.Lib.Scf.ExitTest
public import Idealize.ShloMosaic.Lib.Scf.Counter
public import Idealize.ShloMosaic.Lib.Tactic

@[expose] public section

noncomputable section

namespace Cert.Host

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (CSeg Ticket PCfg ucRefs unscopedBufs_held sub_ucRefs)

variable {nD : Nat} {τ : Topo} {sig : RefSig} {F : FTy → Type} {Λ₀ : Idealize.SL.Sem.Labels}
variable {U : Type} [URA U]
variable {P : Type} [Fintype P]
variable (pcs : P → PCfg sig Λ₀ (Elt F)) (a : (p : P) → (pcs p).Adm) (defs₀ : Defs nD τ sig (Elt F) Λ₀)
variable {nL : Nat}
variable (loops : Fin nL → Prog (TpuEff nD τ sig (Elt F) (HostLoop.Sig (Pipeline.Sig Λ₀ P fun p => (pcs p).Adm) nL) .tc) PUnit)
variable {J : Type} [DecidableEq J]
variable (tk : J → Ticket (Ix := Unit) (Name := ℕ) (U := U) (Lvl := ℕ) (nD := nD) (τ := τ) pcs a)

local notation "𝕄" => MT nD τ sig Unit (Elt F) ℕ U ℕ

/-- A fragment of the host program. -/
abbrev HProg (α : Type) : Type 1 := Prog (TpuEff nD τ sig (Elt F) (HostLoop.Sig (Pipeline.Sig Λ₀ P fun p => (pcs p).Adm) nL) .tc) α

/-- Every core's buffers. -/
abbrev Mem (nD : Nat) (τ : Topo) (sig : RefSig) (F : FTy → Type) : Type := Dev nD → Valuation τ sig (Elt F)

/-- No core owes another anything. -/
abbrev L : GSem nD τ sig → Finset Unit := fun _ => ∅
abbrev lv : GSem nD τ sig → Unit → ℕ := fun _ _ => 0

/-- What rides beside the buffers. -/
abbrev Rw (c : Dev nD) : sProp (MT nD τ sig Unit (Elt F) ℕ U ℕ) := iprop(∃ W, owes (c : Thread nD τ) (0 : CellTallies nD τ sig Unit) W)

/-- One item: its fragment, the buffers after it, what it asks of the buffers before it, and its segment from any buffers that meet this. -/
structure Item where
  prog : HProg (nD := nD) (τ := τ) pcs (nL := nL) PUnit
  next : Mem nD τ sig F → Mem nD τ sig F
  ok : Mem nD τ sig F → Prop
  seg : ∀ V, ok V → CSeg pcs a defs₀ Variants.none (L (nD := nD)) lv loops tk
  hprog : ∀ V h, (seg V h).prog = prog
  hpre : ∀ V h (c : Dev nD), (iprop(held (c : Thread nD τ) (ucRefs τ sig) (V c) ∗ Rw (U := U) c) : sProp 𝕄) ⊢ (seg V h).pre c
  hpost : ∀ V h (c : Dev nD), (seg V h).post c ⊢ (iprop(held (c : Thread nD τ) (ucRefs τ sig) (next V c) ∗ Rw (U := U) c) : sProp 𝕄)
  T : Finset J
  hT : ∀ V h, (seg V h).T ⊆ T

variable {pcs a defs₀ loops tk}

local notation "ITEM" => Item (nD := nD) (τ := τ) (sig := sig) (F := F) (U := U) pcs a defs₀ loops tk

/-- The buffers after a list of items. -/
def nextL : List ITEM → Mem nD τ sig F → Mem nD τ sig F
  | [], V => V
  | i :: rest, V => nextL rest (i.next V)
/-- What a list of items asks of the buffers before it. -/
def okL : List ITEM → Mem nD τ sig F → Prop
  | [], _ => True
  | i :: rest, V => i.ok V ∧ okL rest (i.next V)
/-- The items' segments. -/
def segsL : (items : List ITEM) → (V : Mem nD τ sig F) → okL items V → List (CSeg pcs a defs₀ Variants.none (L (nD := nD)) lv loops tk)
  | [], _, _ => []
  | i :: rest, V, h => i.seg V h.1 :: segsL rest (i.next V) h.2

theorem segsL_chains : ∀ (items : List ITEM) (V : Mem nD τ sig F) (h : okL items V),
    CSeg.Chains (fun c => iprop(held (c : Thread nD τ) (ucRefs τ sig) (V c) ∗ Rw (U := U) c)) (segsL items V h)
      (fun c => iprop(held (c : Thread nD τ) (ucRefs τ sig) (nextL items V c) ∗ Rw (U := U) c))
  | [], _, _ => fun _ => .rfl
  | i :: rest, V, h => ⟨i.hpre V h.1, CSeg.Chains.mono_left (i.hpost V h.1) _ (segsL_chains rest (i.next V) h.2)⟩

theorem segsL_prog : ∀ (items : List ITEM) (V : Mem nD τ sig F) (h : okL items V), (segsL items V h).map CSeg.prog = items.map Item.prog
  | [], _, _ => rfl
  | i :: rest, V, h => by
    show (i.seg V h.1).prog :: _ = i.prog :: _
    rw [i.hprog V h.1, segsL_prog rest]

theorem segsL_T : ∀ (items : List ITEM) (V : Mem nD τ sig F) (h : okL items V) (s), s ∈ segsL items V h → ∃ i ∈ items, s.T ⊆ i.T
  | [], _, _, _, hs => nomatch hs
  | i :: rest, V, h, s, hs => by
    rcases List.mem_cons.mp hs with rfl | hs
    · exact ⟨i, List.mem_cons_self, i.hT V h.1⟩
    · obtain ⟨i', hi', ht⟩ := segsL_T rest _ _ s hs
      exact ⟨i', List.mem_cons_of_mem _ hi', ht⟩

theorem segsL_disjoint : ∀ (items : List ITEM) (V : Mem nD τ sig F) (h : okL items V),
    (items.Pairwise fun i i' => Disjoint i.T i'.T) → (segsL items V h).Pairwise fun s s' => Disjoint s.T s'.T
  | [], _, _, _ => List.Pairwise.nil
  | i :: rest, V, h, hd => by
    obtain ⟨h1, h2⟩ := List.pairwise_cons.mp hd
    refine List.pairwise_cons.mpr ⟨fun s' hs' => ?_, segsL_disjoint rest _ _ h2⟩
    obtain ⟨i', hi', ht⟩ := segsL_T rest _ _ s' hs'
    exact Finset.disjoint_of_subset_left (i.hT V h.1) (Finset.disjoint_of_subset_right ht (h1 i' hi'))

/-! ## The kinds of items -/

/-- A stretch of host operations. -/
def Item.ops (l : List (HloOp τ sig (Elt F))) (hs : ∀ op ∈ l, op.bufs ⊆ tcRefs τ sig) (hf : ∀ op ∈ l, op.fresh = ∅) : ITEM where
  prog := seq l
  next V c := after l (V c)
  ok _ := True
  seg V _ := CSeg.ofOps _ _ _ _ _ _ _ _ (ucRefs τ sig) l (fun op h => sub_ucRefs op (hs op h)) hf V (Rw (U := U))
  hprog _ _ := rfl
  hpre _ _ _ := .rfl
  hpost _ _ _ := .rfl
  T := ∅
  hT _ _ := Finset.Subset.refl _

/-- A list of stretches. -/
def opsItems : (ls : List (List (HloOp τ sig (Elt F)))) → Plain ls → List ITEM
  | [], _ => []
  | l :: ls, h => Item.ops l (h l List.mem_cons_self).1 (h l List.mem_cons_self).2 :: opsItems ls fun o ho => h o (List.mem_cons_of_mem _ ho)

theorem nextL_nil (V : Mem nD τ sig F) : nextL ([] : List ITEM) V = V := rfl
theorem nextL_cons (x : ITEM) (xs : List ITEM) (V : Mem nD τ sig F) : nextL (x :: xs) V = nextL xs (x.next V) := rfl
theorem okL_cons (x : ITEM) (xs : List ITEM) (V : Mem nD τ sig F) : okL (x :: xs) V ↔ x.ok V ∧ okL xs (x.next V) := Iff.rfl

theorem nextL_append : ∀ (xs ys : List ITEM) (V : Mem nD τ sig F), nextL (xs ++ ys) V = nextL ys (nextL xs V)
  | [], _, _ => rfl
  | x :: xs, ys, V => nextL_append xs ys (x.next V)

theorem nextL_opsItems : ∀ (ls : List (List (HloOp τ sig (Elt F)))) (h : Plain ls) (V : Mem nD τ sig F),
    nextL (opsItems ls h : List ITEM) V = fun c => afterL ls (V c)
  | [], _, _ => rfl
  | l :: ls, h, V => nextL_opsItems ls _ fun c => after l (V c)

theorem okL_append : ∀ (xs ys : List ITEM) (V : Mem nD τ sig F), okL (xs ++ ys) V ↔ okL xs V ∧ okL ys (nextL xs V)
  | [], _, _ => Iff.intro (fun h => ⟨trivial, h⟩) And.right
  | x :: xs, ys, V => by
    show (x.ok V ∧ okL (xs ++ ys) (x.next V)) ↔ (x.ok V ∧ okL xs (x.next V)) ∧ okL ys (nextL xs (x.next V))
    rw [okL_append xs ys, _root_.and_assoc]

theorem okL_opsItems : ∀ (ls : List (List (HloOp τ sig (Elt F)))) (h : Plain ls) (V : Mem nD τ sig F), okL (opsItems ls h : List ITEM) V
  | [], _, _ => trivial
  | l :: ls, h, V => ⟨trivial, okL_opsItems ls _ fun c => after l (V c)⟩

/-! ## Buffers that a program leaves alone -/

/-- The buffers that a list of stretches writes, in order. -/
inductive WritesL : List (List (HloOp τ sig (Elt F))) → List (Ref sig .tc) → Prop
  | nil : WritesL [] []
  | skip {ls : List (List (HloOp τ sig (Elt F)))} {W : List (Ref sig .tc)} : WritesL ls W → WritesL ([] :: ls) W
  | cons {op : HloOp τ sig (Elt F)} {l : List (HloOp τ sig (Elt F))} {ls : List (List (HloOp τ sig (Elt F)))} {r : Ref sig .tc} {W : List (Ref sig .tc)} :
      op.writes = {Proc.devRef (τ := τ) .tc r} → WritesL (l :: ls) W → WritesL ((op :: l) :: ls) (r :: W)

/-- Stretches leave every buffer alone that they do not write. -/
theorem afterL_keep {ls : List (List (HloOp τ sig (Elt F)))} {W : List (Ref sig .tc)} (h : WritesL ls W) {r : Ref sig .tc} (hr : r ∉ W) :
    ∀ V : Valuation τ sig (Elt F), afterL ls V (Proc.devRef .tc r) = V (Proc.devRef .tc r) := by
  induction h with
  | nil => intro V; rfl
  | skip _ ih => intro V; exact ih hr V
  | cons hw _ ih =>
    intro V
    refine (ih (fun h => hr (List.mem_cons_of_mem _ h)) _).trans (HloOp.result_of_not_mem _ _ fun hm => hr ?_)
    rw [hw, Finset.mem_singleton] at hm
    exact Proc.devRef_injective _ hm ▸ List.mem_cons_self

/-- A counted loop leaves every buffer alone that its condition and its body do not write. -/
theorem atTrip_keep {cl : List (HloOp τ sig (Elt F))} {bl : List (List (HloOp τ sig (Elt F)))} {W W' : List (Ref sig .tc)} (hc : WritesL [cl] W) (hb : WritesL bl W')
    {r : Ref sig .tc} (hr : r ∉ W) (hr' : r ∉ W') (V : Mem nD τ sig F) (c : Dev nD) :
    ∀ k, atTrip cl bl V k c (Proc.devRef .tc r) = V c (Proc.devRef .tc r)
  | 0 => rfl
  | k + 1 => (afterL_keep hb hr' _).trans ((afterL_keep hc hr _).trans (atTrip_keep hc hb hr hr' V c k))

/-- A counted loop over stretches of host operations: an invariant of the buffers before each run of the condition, kept by a trip, under which
    the condition of run `k` reads `1` exactly when `k < n`. -/
structure Loop (pcs : P → PCfg sig Λ₀ (Elt F)) (defs₀ : Defs nD τ sig (Elt F) Λ₀)
    (loops : Fin nL → Prog (TpuEff nD τ sig (Elt F) (HostLoop.Sig (Pipeline.Sig Λ₀ P fun p => (pcs p).Adm) nL) .tc) PUnit) (U : Type) [URA U] where
  l : Fin nL
  cond : HProg (nD := nD) (τ := τ) pcs (nL := nL) (Elt F .i1)
  body : HProg (nD := nD) (τ := τ) pcs (nL := nL) PUnit
  hloops : loops l = HostLoop.step l cond body
  condOps : List (HloOp τ sig (Elt F))
  bodyI : List (List (HloOp τ sig (Elt F)))
  hplain : Plain bodyI
  hbody : body = Pipeline.chain (bodyI.map fun ops => (seq ops : Prog _ PUnit))
  n : ℕ
  inv : ℕ → Valuation τ sig (Elt F) → Prop
  step : ∀ k < n, ∀ W, inv k W → inv (k + 1) (afterL bodyI (after condOps W))
  hcond : ∀ k ≤ n, ∀ W, inv k W → ∀ (Rc : Dev nD → sProp (MT nD τ sig Unit (Elt F) ℕ U ℕ)) (c : Dev nD) (bd : Option (Variants.lift Variants.none).V),
    iprop(boundary (c : Thread nD τ) ∗ held (c : Thread nD τ) (ucRefs τ sig) W ∗ Rc c)
      ⊢ (wp frame (wpE (HostLoop.defs loops (Pipeline.defs pcs defs₀)) (Variants.lift Variants.none) (c : Thread nD τ) bd) Set.univ cond
          (fun v => iprop(⌜v = 1#1 ↔ k < n⌝ ∗ boundary (c : Thread nD τ) ∗ held (c : Thread nD τ) (ucRefs τ sig) (after condOps W) ∗ Rc c)) : sProp (MT nD τ sig Unit (Elt F) ℕ U ℕ))

theorem Loop.inv_at (d : Loop (nD := nD) (τ := τ) pcs defs₀ loops U) (V : Mem nD τ sig F) (h : ∀ c, d.inv 0 (V c)) (c : Dev nD) :
    ∀ k ≤ d.n, d.inv k (atTrip d.condOps d.bodyI V k c)
  | 0, _ => h c
  | k + 1, hk => d.step k hk _ (Loop.inv_at d V h c k (Nat.le_of_succ_le hk))

/-- A counted loop. -/
def Item.loop (d : Loop (nD := nD) (τ := τ) pcs defs₀ loops U) : ITEM where
  prog := HostLoop.enter d.l
  next V c := after d.condOps (atTrip d.condOps d.bodyI V d.n c)
  ok V := ∀ c, d.inv 0 (V c)
  seg V h := loopSeg _ _ _ _ _ _ _ _ d.l d.cond d.body d.hloops d.condOps d.bodyI d.hplain d.hbody d.n V (Rw (U := U))
    (fun k hk c bd => d.hcond k hk _ (d.inv_at V h c k hk) (Rw (U := U)) c bd)
  hprog _ _ := rfl
  hpre _ _ _ := .rfl
  hpost _ _ _ := .rfl
  T := ∅
  hT V h := by rw [loopSeg_T]

/-- A kernel launch. -/
def Item.region [∀ e, Nonempty (Elt F e)] (phinj : Function.Injective (Pipeline.cellOf (nD := nD) (τ := τ) (Pipeline.pin pcs a))) (p : P) (j : J) (hp : (tk j).p = p)
    (pd : Mem nD τ sig F → (p : P) → (c : Dev nD) → Pipeline.Dat τ (Elt F) Unit ℕ U ℕ (Pipeline.pin pcs a p) c)
    (R : (V : Mem nD τ sig F) → Pipeline.RegionSeg pcs a (pd V) () defs₀ Variants.none (L (nD := nD)) lv p)
    (next : Mem nD τ sig F → Mem nD τ sig F)
    (hpre : ∀ (V : Mem nD τ sig F) (c : Dev nD), (iprop(held (c : Thread nD τ) (ucRefs τ sig) (V c) ∗ Rw (U := U) c) : sProp 𝕄) ⊢ (R V).pre c)
    (hpost : ∀ (V : Mem nD τ sig F) (c : Dev nD), (R V).post c ⊢ (iprop(held (c : Thread nD τ) (ucRefs τ sig) (next V c) ∗ Rw (U := U) c) : sProp 𝕄)) : ITEM where
  prog := Prog.lift (.customCall (HostLoop.inner (Pipeline.entry p)) ())
  next := next
  ok _ := True
  seg V _ := Pipeline.CSeg.regionAtP pcs a () phinj defs₀ Variants.none L lv loops tk j hp (pd V) (R V)
  hprog V _ := Pipeline.CSeg.regionAtP_prog ..
  hpre V _ c := by rw [Pipeline.CSeg.regionAtP_pre]; exact hpre V c
  hpost V _ c := by rw [Pipeline.CSeg.regionAtP_post]; exact hpost V c
  T := {j}
  hT V _ := Finset.Subset.refl _

-- `iapply` of a rule stated for any thread at the TensorCore thread unifies only when unification may unfold plain definitions in a metavariable's type
set_option backward.isDefEq.respectTransparency.types false in
/-- A loop's condition of two operations, the second's result read for its element. -/
theorem cond_wp (op1 op2 : HloOp τ sig (Elt F)) (h1 : op1.bufs ⊆ tcRefs τ sig) (h2 : op2.bufs ⊆ tcRefs τ sig) (f1 : op1.fresh = ∅) (f2 : op2.fresh = ∅)
    (r : ((b : op2.writes) → b.1.ty.Contents (Elt F)) → HProg (nD := nD) (τ := τ) pcs (nL := nL) (Elt F .i1))
    (W : Valuation τ sig (Elt F)) (v : Elt F .i1) (hr : r (op2.fn fun b => op1.result W b.1) = .ret v) (q : Prop) (hv : v = 1#1 ↔ q)
    (Rc : Dev nD → sProp 𝕄) (c : Dev nD) (bd : Option (Variants.lift Variants.none).V) :
    iprop(boundary (c : Thread nD τ) ∗ held (c : Thread nD τ) (ucRefs τ sig) W ∗ Rc c)
      ⊢ (wp frame (wpE (HostLoop.defs loops (Pipeline.defs pcs defs₀)) (Variants.lift Variants.none) (c : Thread nD τ) bd) Set.univ
          (do hlo rfl op1 (fun _ => .ret ⟨⟩); hlo rfl op2 r)
          (fun v => iprop(⌜v = 1#1 ↔ q⌝ ∗ boundary (c : Thread nD τ) ∗ held (c : Thread nD τ) (ucRefs τ sig) (after [op1, op2] W) ∗ Rc c)) : sProp 𝕄) := by
  rw [wp_bind]
  iintro ⟨Hb, Hh, HR⟩
  iapply (wp_hlo_within (Variants.lift Variants.none) (c : Thread nD τ) bd Set.univ (sub_ucRefs _ h1) f1) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ h2) f2) $$ [Hb Hh]
  · isplitl [Hb]; · iexact Hb
    iexact Hh
  iintro ⟨Hb, Hh⟩
  rw [hr, wp_ret]; imodintro
  isplitr
  · ipureintro; exact hv
  isplitl [Hb]; · iexact Hb
  isplitl [Hh]; · rw [after_cons, after_cons, after_nil]; iexact Hh
  iexact HR

/-- A counter that starts at 0 and steps by 1 is below `n` at run `k` exactly when `k` is. -/
theorem cmpi_counter {n k : ℕ} (hn : n < 2 ^ 31) (hk : k ≤ n) : IntOp.cmpi .slt (BitVec.ofNat 32 k) (BitVec.ofNat 32 n) = 1#1 ↔ k < n := by
  have e : ∀ x : ℕ, x ≤ n → (BitVec.ofNat 32 x).toInt = x := fun x hx => by
    rw [BitVec.toInt_eq_toNat_of_lt (by rw [BitVec.toNat_ofNat]; omega), BitVec.toNat_ofNat]; omega
  show BitVec.ofBool ((BitVec.ofNat 32 k).slt (BitVec.ofNat 32 n)) = 1#1 ↔ _
  have h : (BitVec.ofNat 32 k).slt (BitVec.ofNat 32 n) = decide (k < n) := by
    unfold BitVec.slt
    rw [e k hk, e n le_rfl]
    exact decide_eq_decide.mpr (by omega)
  rw [h]
  by_cases hkn : k < n <;> simp [hkn]

/-- A loop whose condition compares a counter with `n` and whose body adds 1 to the counter. -/
def Loop.counted (l : Fin nL) (cond : HProg (nD := nD) (τ := τ) pcs (nL := nL) (Elt F .i1)) (body : HProg (nD := nD) (τ := τ) pcs (nL := nL) PUnit)
    (hloops : loops l = HostLoop.step l cond body) (op1 op2 : HloOp τ sig (Elt F)) (bodyI : List (List (HloOp τ sig (Elt F))))
    (r : ((b : op2.writes) → b.1.ty.Contents (Elt F)) → HProg (nD := nD) (τ := τ) pcs (nL := nL) (Elt F .i1))
    (hc : cond = (do hlo rfl op1 (fun _ => .ret ⟨⟩); hlo rfl op2 r))
    (h1 : op1.bufs ⊆ tcRefs τ sig) (h2 : op2.bufs ⊆ tcRefs τ sig) (f1 : op1.fresh = ∅) (f2 : op2.fresh = ∅)
    (hplain : Plain bodyI) (hbody : body = Pipeline.chain (bodyI.map fun ops => (seq ops : Prog _ PUnit)))
    (n : ℕ) (hn : n < 2 ^ 31) (ctr : Valuation τ sig (Elt F) → BitVec 32)
    (hstep : ∀ W, ctr (afterL bodyI (after [op1, op2] W)) = ctr W + 1#32)
    (hr : ∀ W, r (op2.fn fun b => op1.result W b.1) = .ret (IntOp.cmpi .slt (ctr W) (BitVec.ofNat 32 n))) :
    Loop (nD := nD) (τ := τ) pcs defs₀ loops U where
  l := l
  cond := cond
  body := body
  hloops := hloops
  condOps := [op1, op2]
  bodyI := bodyI
  hplain := hplain
  hbody := hbody
  n := n
  inv k W := ctr W = BitVec.ofNat 32 k
  step k _ W h := by rw [hstep, h]; exact (BitVec.ofNat_add k 1).symm
  hcond k hk W h Rc c bd := by
    rw [hc]
    exact cond_wp op1 op2 h1 h2 f1 f2 r W _ (hr W) (k < n) (by rw [h]; exact cmpi_counter hn hk) Rc c bd

/-! ## The run -/

set_option backward.isDefEq.respectTransparency.types false in
/-- THE RUN of a host program that is a list of items: from any memory, with every counter at zero, every weakly fair execution terminates, and
    in every final state the buffers are the items' composition at the launch contents, and every counter is zero. -/
theorem run_items [Fintype J] [∀ e, Nonempty (Elt F e)] (phinj : Function.Injective (Pipeline.cellOf (nD := nD) (τ := τ) (Pipeline.pin pcs a)))
    (items : List ITEM) (main : Dev nD → HProg (nD := nD) (τ := τ) pcs (nL := nL) PUnit)
    (hmain : ∀ c, main c = Pipeline.chain (items.map Item.prog)) (m : (ℓ : Loc nD τ sig) → Buf (Elt F) ℓ) (ρ : Dev nD → PrngReg)
    (hok : okL items (launchContents m)) (hdis : items.Pairwise fun i i' => Disjoint i.T i'.T) (u₀ : U)
    (hu₀ : (ownU u₀ : sProp 𝕄)
      ⊢ |={Set.univ}=> (bigSep Finset.univ fun j => BI.own ((tk j).EP (initOf (Pipeline.cells (Pipeline.pin pcs a) phinj) (Pipeline.launchToks (Pipeline.pin pcs a) phinj)))))
    (hsem : ∀ sm : SemLoc sig, sm.isScoped .tc = true) :
    θ_run (HostLoop.defs loops (Pipeline.defs pcs defs₀)) (onTc (τ := τ) main) ⟨m, fun _ => 0, ρ⟩
      (fun r => (∀ (c : Dev nD) (b : Ref sig .tc), (Proc.devRef .tc b : DevRef τ sig).isScoped = false →
        r.2.mem ((c.tc : Thread nD τ).loc b) = nextL items (launchContents m) c (Proc.devRef .tc b)) ∧ r.2.sem = fun _ => 0) :=
  Pipeline.θ_run_regions_loop_kit_dev_sems pcs a phinj defs₀ Variants.none L lv loops tk m ρ main
    (fun _ => segsL items (launchContents m) hok)
    (fun c Q => by
      rw [hmain c]
      show wp _ _ _ (Pipeline.chain ((segsL items (launchContents m) hok).map CSeg.prog)) Q ⊢ _
      rw [segsL_prog])
    (fun _ => segsL_disjoint items _ hok hdis)
    (O₀ := 0) (hL := fun _ _ => rfl) (G := fun _ => iprop(emp)) (u₀ := u₀)
    (hu₀ := by
      iintro Hu
      imod hu₀ $$ Hu with H
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(held (c : Thread nD τ) (ucRefs τ sig) (launchContents m c) ∗ Rw (U := U) c))
    (Tₙ := fun c => iprop(held (c : Thread nD τ) (ucRefs τ sig) (nextL items (launchContents m) c)))
    (hch := fun c => CSeg.Chains.onCore (segsL_chains items _ hok) c)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = nextL items (launchContents m) c b)
    (hfin := fun c s' => by
      unfold held
      iintro ⟨Hh, HSI⟩
      ihave Hr := (pointsTo_read_all (ucRefs τ sig) (fun b => ((c : Dev nD), b)) (fun b => nextL items (launchContents m) c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (hsem g.2))⟩)

end Cert.Host

end
-- ==== Proof.Common.lean ====
module

public import proofs.«01_k».proof.Proof.Gen.KernelIdeal.Loops
public import proofs.«01_k».proof.Proof.Gen.KernelIdeal.Launch
public import Idealize.ShloMosaic.Lib.Pipeline.RegionsLoop
public import Idealize.ShloMosaic.Lib.Tactic

@[expose] public section

noncomputable section

namespace Cert.KernelIdeal.Fps

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

/-- The contents of the buffer behind a memref. -/
abbrev Ct (F : FTy → Type) {sp : Space} {S : Shape} {e : EltTy} (M : Memref sig .tc sp S e) : Type := BufTy.Contents (Elt F) M.view.ty

/-- A memref's buffer on core `c` held whole at `f`. -/
abbrev pt (U : Type) [URA U] (c : Dev nD) {sp : Space} {S : Shape} {e : EltTy} (M : Memref sig .tc sp S e) (f : Ct F M) : sProp (MT nD τ sig Unit (Elt F) ℕ U ℕ) :=
  M.view.loc (c : Thread nD τ) ↦{fullShare} f

/-- A counted loop's state before trip `k`: `f` applied to the trips before it, starting from `s₀`. -/
def stateAt {n : ℕ} {α : Type} (f : Fin n → α → α) (s₀ : α) : ℕ → α
  | 0 => s₀
  | k + 1 => if h : k < n then f ⟨k, h⟩ (stateAt f s₀ k) else stateAt f s₀ k

theorem stateAt_succ {n : ℕ} {α : Type} (f : Fin n → α → α) (s₀ : α) (k : Fin n) : stateAt f s₀ (k.val + 1) = f k (stateAt f s₀ k.val) := by
  rw [stateAt, dif_pos k.isLt]

section
variable (U)
variable (c : Dev nD) {S3 S4 : Shape} (a3 : Memref sig .tc .vmem S3 .i32) (a4 : Memref sig .tc .vmem S4 .f32) (P : sProp (MT nD τ sig Unit (Elt F) ℕ U ℕ))

/-- What one trip of a sampling loop does: beside resources `P` it keeps, it rewrites the index buffer `a3` and the distance buffer `a4` and
    returns the next carried index, each a function of what the trip found. -/
structure Trip (body : IVec S1x1 32 → Prog (TpuEff nD τ sig (Elt F) Λ₀ .tc) (IVec S1x1 32)) where
  R : IVec S1x1 32 → Ct F a3 → Ct F a4 → IVec S1x1 32
  W3 : IVec S1x1 32 → Ct F a3 → Ct F a4 → Ct F a3
  W4 : IVec S1x1 32 → Ct F a3 → Ct F a4 → Ct F a4
  run : ∀ (E : Set ℕ) (acc : IVec S1x1 32) (f3 : Ct F a3) (f4 : Ct F a4),
    (iprop(P ∗ pt U c a3 f3 ∗ pt U c a4 f4) : sProp 𝕄)
      ⊢ wp frame (wpE (defs₀ (F := F)) Variants.none (c : Thread nD τ) none) E (body acc)
        (fun y => iprop(⌜y = R acc f3 f4⌝ ∗ P ∗ pt U c a3 (W3 acc f3 f4) ∗ pt U c a4 (W4 acc f3 f4)))

variable {U c a3 a4 P} {n : ℕ} {body : Fin n → IVec S1x1 32 → Prog (TpuEff nD τ sig (Elt F) Λ₀ .tc) (IVec S1x1 32)}

/-- One trip as a function of the carried index and of the two buffers it rewrites. -/
def stepOf (T : ∀ k, Trip U c a3 a4 P (body k)) (k : Fin n) (s : IVec S1x1 32 × Ct F a3 × Ct F a4) : IVec S1x1 32 × Ct F a3 × Ct F a4 :=
  ((T k).R s.1 s.2.1 s.2.2, (T k).W3 s.1 s.2.1 s.2.2, (T k).W4 s.1 s.2.1 s.2.2)

/-- A sampling loop's invariant: `P` kept, the two written buffers and the carried index at the state the trips before left. -/
abbrev loopInv (T : ∀ k, Trip U c a3 a4 P (body k)) (s₀ : IVec S1x1 32 × Ct F a3 × Ct F a4) (k : ℕ) (acc : IVec S1x1 32) : sProp 𝕄 :=
  iprop(P ∗ (∃ f, pt U c a3 f ∗ ⌜f = (stateAt (stepOf T) s₀ k).2.1⌝) ∗ (∃ f, pt U c a4 f ∗ ⌜f = (stateAt (stepOf T) s₀ k).2.2⌝)
    ∗ ⌜acc = (stateAt (stepOf T) s₀ k).1⌝)

/-- One trip keeps the invariant. -/
theorem loopInv_step (T : ∀ k, Trip U c a3 a4 P (body k)) (s₀ : IVec S1x1 32 × Ct F a3 × Ct F a4) (E : Set ℕ) (k : Fin n) (acc : IVec S1x1 32) :
    loopInv T s₀ k acc ⊢ wp frame (wpE (defs₀ (F := F)) Variants.none (c : Thread nD τ) none) E (body k acc) (loopInv T s₀ (k + 1)) := by
  iintro ⟨HP, ⟨%f3, H3, %e3⟩, ⟨%f4, H4, %e4⟩, %e⟩
  subst e3 e4 e
  iapply (wp_wand_r Idealize.ShloMosaic.frame (wpE (defs₀ (F := F)) Variants.none (c : Thread nD τ) none) E)
  isplitl [HP H3 H4]
  · iapply ((T k).run E)
    isplitl [HP]; · iexact HP
    isplitl [H3]; · iexact H3
    iexact H4
  · iintro %y ⟨%e, HP, H3, H4⟩
    isplitl [HP]; · iexact HP
    rw [stateAt_succ]
    isplitl [H3]; · iexists _; isplitl [H3]; · iexact H3
                    ipureintro; rfl
    isplitl [H4]; · iexists _; isplitl [H4]; · iexact H4
                    ipureintro; rfl
    ipureintro; exact e

/-- The invariant holds before the first trip. -/
theorem loopInv_zero (T : ∀ k, Trip U c a3 a4 P (body k)) (init : IVec S1x1 32) (g3 : Ct F a3) (g4 : Ct F a4) :
    iprop(P ∗ pt U c a3 g3 ∗ pt U c a4 g4) ⊢ loopInv T (init, g3, g4) 0 init := by
  iintro ⟨HP, H3, H4⟩
  isplitl [HP]; · iexact HP
  isplitl [H3]; · iexists _; isplitl [H3]; · iexact H3
                  ipureintro; rfl
  isplitl [H4]; · iexists _; isplitl [H4]; · iexact H4
                  ipureintro; rfl
  ipureintro; rfl

end

end Cert.KernelIdeal.Fps
-- ==== Proof.Bodies.lean ====
module

public import proofs.«01_k».proof.Proof.Common

@[expose] public section

noncomputable section

namespace Cert.KernelIdeal.Fps

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U]

local notation "𝕄" => MT nD τ sig Unit (Elt F) ℕ U ℕ

section K0
variable (U)
variable (c : Dev nD) (a0 : Memref sig .tc .vmem S512x128 .f32) (h0 : a0.IsWhole) (a1 : Memref sig .tc .vmem S512x128 .f32) (h1 : a1.IsWhole)
  (a2 : Memref sig .tc .vmem S512x128 .f32) (h2 : a2.IsWhole) (a3 : Memref sig .tc .vmem S512x128 .i32) (h3 : a3.IsWhole)
  (a4 : Memref sig .tc .vmem S512x128 .f32) (h4 : a4.IsWhole) (x0 : Ct F a0) (x1 : Ct F a1) (x2 : Ct F a2)

/-- One trip of sampling loop 0. -/
@[irreducible] def trip0 (cst : F .f32) (k : Fin k0_t1_loop.trips) :
    Trip U c a3 a4 iprop(pt U c a0 x0 ∗ pt U c a1 x1 ∗ pt U c a2 x2) (k0_t1_body (F := F) a0 h0 a1 h1 a2 h2 a3 h3 a4 h4 cst k) := by
  have hk : k.val < 65525 := Nat.lt_of_lt_of_le k.isLt k0_t1_abs.2.1
  refine ⟨?_, ?_, ?_, fun E acc f3 f4 => ?run⟩
  case run =>
    unfold k0_t1_body
    iintro ⟨⟨H0, H1, H2⟩, H3, H4⟩
    sl_exec
    sl_step
    sl_close

/-- Sampling kernel 0's body: the coordinates' buffers are as they were, the index buffer's contents are the first component. -/
@[irreducible] def body0 :
    { W3 : Ct F a3 // ∀ (f3 : Ct F a3) (f4 : Ct F a4) (E : Set ℕ) (Q : PUnit → sProp 𝕄),
      iprop((pt U c a0 x0 ∗ pt U c a1 x1 ∗ pt U c a2 x2) ∗ pt U c a3 f3 ∗ pt U c a4 f4
        ∗ (iprop((pt U c a0 x0 ∗ pt U c a1 x1 ∗ pt U c a2 x2) ∗ pt U c a3 W3 ∗ ∃ W4, pt U c a4 W4) -∗ Q ⟨⟩))
        ⊢ wp frame (wpE (defs₀ (F := F)) Variants.none (c : Thread nD τ) none) E (cc0__fps_pallas_body (F := F) a0 h0 a1 h1 a2 h2 a3 h3 a4 h4) Q } := by
  refine ⟨?_, fun f3 f4 E Q => ?run⟩
  case run =>
    rw [cc0__fps_pallas_body_eq_skeleton]
    unfold cc0__fps_pallas_body_skel
    iintro ⟨⟨H0, H1, H2⟩, H3, H4, Hk⟩
    sl_exec
    sl_for (loopInv (trip0 (F := F) U c a0 h0 a1 h1 a2 h2 a3 h3 a4 h4 x0 x1 x2 body0.sl.cst_5) (k0_pay4, a3.view.writes (Elt F) a3.view.junk body0.sl.H3_1, a4.view.writes (Elt F) a4.view.junk body0.sl.H4_1)) $$ [H0 H1 H2 H3 H4]
    · exact loopInv_step (trip0 (F := F) U c a0 h0 a1 h1 a2 h2 a3 h3 a4 h4 x0 x1 x2 body0.sl.cst_5) (k0_pay4, a3.view.writes (Elt F) a3.view.junk body0.sl.H3_1, a4.view.writes (Elt F) a4.view.junk body0.sl.H4_1) E
    · iapply loopInv_zero
      isplitl [H0 H1 H2]
      · isplitl [H0]; · iexact H0
        isplitl [H1]; · iexact H1
        iexact H2
      isplitl [H3]; · iexact H3
      iexact H4
    · iintro %acc ⟨⟨H0, H1, H2⟩, ⟨%f3', H3, %e3⟩, ⟨%f4', H4, %e4⟩, %e⟩
      subst e3 e4 e
      sl_exec
      sl_step
      iapply Hk
      isplitl [H0 H1 H2]
      · isplitl [H0]; · iexact H0
        isplitl [H1]; · iexact H1
        iexact H2
      isplitl [H3]; · iexact H3
      iexists _; iexact H4
end K0

section K1
variable (U)
variable (c : Dev nD) (a0 : Memref sig .tc .vmem S512x128 .f32) (h0 : a0.IsWhole) (a1 : Memref sig .tc .vmem S512x128 .f32) (h1 : a1.IsWhole)
  (a2 : Memref sig .tc .vmem S512x128 .f32) (h2 : a2.IsWhole) (a3 : Memref sig .tc .vmem S256x128 .i32) (h3 : a3.IsWhole)
  (a4 : Memref sig .tc .vmem S512x128 .f32) (h4 : a4.IsWhole) (x0 : Ct F a0) (x1 : Ct F a1) (x2 : Ct F a2)

/-- One trip of sampling loop 1. -/
@[irreducible] def trip1 (cst : F .f32) (k : Fin k1_t1_loop.trips) :
    Trip U c a3 a4 iprop(pt U c a0 x0 ∗ pt U c a1 x1 ∗ pt U c a2 x2) (k1_t1_body (F := F) a0 h0 a1 h1 a2 h2 a3 h3 a4 h4 cst k) := by
  have hk : k.val < 32767 := Nat.lt_of_lt_of_le k.isLt k1_t1_abs.2.1
  refine ⟨?_, ?_, ?_, fun E acc f3 f4 => ?run⟩
  case run =>
    unfold k1_t1_body
    iintro ⟨⟨H0, H1, H2⟩, H3, H4⟩
    sl_exec
    sl_step
    sl_close

/-- Sampling kernel 1's body: the coordinates' buffers are as they were, the index buffer's contents are the first component. -/
@[irreducible] def body1 :
    { W3 : Ct F a3 // ∀ (f3 : Ct F a3) (f4 : Ct F a4) (E : Set ℕ) (Q : PUnit → sProp 𝕄),
      iprop((pt U c a0 x0 ∗ pt U c a1 x1 ∗ pt U c a2 x2) ∗ pt U c a3 f3 ∗ pt U c a4 f4
        ∗ (iprop((pt U c a0 x0 ∗ pt U c a1 x1 ∗ pt U c a2 x2) ∗ pt U c a3 W3 ∗ ∃ W4, pt U c a4 W4) -∗ Q ⟨⟩))
        ⊢ wp frame (wpE (defs₀ (F := F)) Variants.none (c : Thread nD τ) none) E (cc1__fps_pallas_body (F := F) a0 h0 a1 h1 a2 h2 a3 h3 a4 h4) Q } := by
  refine ⟨?_, fun f3 f4 E Q => ?run⟩
  case run =>
    rw [cc1__fps_pallas_body_eq_skeleton]
    unfold cc1__fps_pallas_body_skel
    iintro ⟨⟨H0, H1, H2⟩, H3, H4, Hk⟩
    sl_exec
    sl_for (loopInv (trip1 (F := F) U c a0 h0 a1 h1 a2 h2 a3 h3 a4 h4 x0 x1 x2 body1.sl.cst_5) (k1_pay4, a3.view.writes (Elt F) a3.view.junk body1.sl.H3_1, a4.view.writes (Elt F) a4.view.junk body1.sl.H4_1)) $$ [H0 H1 H2 H3 H4]
    · exact loopInv_step (trip1 (F := F) U c a0 h0 a1 h1 a2 h2 a3 h3 a4 h4 x0 x1 x2 body1.sl.cst_5) (k1_pay4, a3.view.writes (Elt F) a3.view.junk body1.sl.H3_1, a4.view.writes (Elt F) a4.view.junk body1.sl.H4_1) E
    · iapply loopInv_zero
      isplitl [H0 H1 H2]
      · isplitl [H0]; · iexact H0
        isplitl [H1]; · iexact H1
        iexact H2
      isplitl [H3]; · iexact H3
      iexact H4
    · iintro %acc ⟨⟨H0, H1, H2⟩, ⟨%f3', H3, %e3⟩, ⟨%f4', H4, %e4⟩, %e⟩
      subst e3 e4 e
      sl_exec
      sl_step
      iapply Hk
      isplitl [H0 H1 H2]
      · isplitl [H0]; · iexact H0
        isplitl [H1]; · iexact H1
        iexact H2
      isplitl [H3]; · iexact H3
      iexists _; iexact H4
end K1

section K2
variable (U)
variable (c : Dev nD) (a0 : Memref sig .tc .vmem S256x128 .f32) (h0 : a0.IsWhole) (a1 : Memref sig .tc .vmem S256x128 .f32) (h1 : a1.IsWhole)
  (a2 : Memref sig .tc .vmem S256x128 .f32) (h2 : a2.IsWhole) (a3 : Memref sig .tc .vmem S128x128 .i32) (h3 : a3.IsWhole)
  (a4 : Memref sig .tc .vmem S256x128 .f32) (h4 : a4.IsWhole) (x0 : Ct F a0) (x1 : Ct F a1) (x2 : Ct F a2)

/-- One trip of sampling loop 2. -/
@[irreducible] def trip2 (cst : F .f32) (k : Fin k2_t1_loop.trips) :
    Trip U c a3 a4 iprop(pt U c a0 x0 ∗ pt U c a1 x1 ∗ pt U c a2 x2) (k2_t1_body (F := F) a0 h0 a1 h1 a2 h2 a3 h3 a4 h4 cst k) := by
  have hk : k.val < 16383 := Nat.lt_of_lt_of_le k.isLt k2_t1_abs.2.1
  refine ⟨?_, ?_, ?_, fun E acc f3 f4 => ?run⟩
  case run =>
    unfold k2_t1_body
    iintro ⟨⟨H0, H1, H2⟩, H3, H4⟩
    sl_exec
    sl_step
    sl_close

/-- Sampling kernel 2's body: the coordinates' buffers are as they were, the index buffer's contents are the first component. -/
@[irreducible] def body2 :
    { W3 : Ct F a3 // ∀ (f3 : Ct F a3) (f4 : Ct F a4) (E : Set ℕ) (Q : PUnit → sProp 𝕄),
      iprop((pt U c a0 x0 ∗ pt U c a1 x1 ∗ pt U c a2 x2) ∗ pt U c a3 f3 ∗ pt U c a4 f4
        ∗ (iprop((pt U c a0 x0 ∗ pt U c a1 x1 ∗ pt U c a2 x2) ∗ pt U c a3 W3 ∗ ∃ W4, pt U c a4 W4) -∗ Q ⟨⟩))
        ⊢ wp frame (wpE (defs₀ (F := F)) Variants.none (c : Thread nD τ) none) E (cc2__fps_pallas_body (F := F) a0 h0 a1 h1 a2 h2 a3 h3 a4 h4) Q } := by
  refine ⟨?_, fun f3 f4 E Q => ?run⟩
  case run =>
    rw [cc2__fps_pallas_body_eq_skeleton]
    unfold cc2__fps_pallas_body_skel
    iintro ⟨⟨H0, H1, H2⟩, H3, H4, Hk⟩
    sl_exec
    sl_for (loopInv (trip2 (F := F) U c a0 h0 a1 h1 a2 h2 a3 h3 a4 h4 x0 x1 x2 body2.sl.cst_5) (k2_pay4, a3.view.writes (Elt F) a3.view.junk body2.sl.H3_1, a4.view.writes (Elt F) a4.view.junk body2.sl.H4_1)) $$ [H0 H1 H2 H3 H4]
    · exact loopInv_step (trip2 (F := F) U c a0 h0 a1 h1 a2 h2 a3 h3 a4 h4 x0 x1 x2 body2.sl.cst_5) (k2_pay4, a3.view.writes (Elt F) a3.view.junk body2.sl.H3_1, a4.view.writes (Elt F) a4.view.junk body2.sl.H4_1) E
    · iapply loopInv_zero
      isplitl [H0 H1 H2]
      · isplitl [H0]; · iexact H0
        isplitl [H1]; · iexact H1
        iexact H2
      isplitl [H3]; · iexact H3
      iexact H4
    · iintro %acc ⟨⟨H0, H1, H2⟩, ⟨%f3', H3, %e3⟩, ⟨%f4', H4, %e4⟩, %e⟩
      subst e3 e4 e
      sl_exec
      sl_step
      iapply Hk
      isplitl [H0 H1 H2]
      · isplitl [H0]; · iexact H0
        isplitl [H1]; · iexact H1
        iexact H2
      isplitl [H3]; · iexact H3
      iexists _; iexact H4
end K2

section K3
variable (U)
variable (c : Dev nD) (a0 : Memref sig .tc .vmem S128x128 .f32) (h0 : a0.IsWhole) (a1 : Memref sig .tc .vmem S128x128 .f32) (h1 : a1.IsWhole)
  (a2 : Memref sig .tc .vmem S128x128 .f32) (h2 : a2.IsWhole) (a3 : Memref sig .tc .vmem S64x128 .i32) (h3 : a3.IsWhole)
  (a4 : Memref sig .tc .vmem S128x128 .f32) (h4 : a4.IsWhole) (x0 : Ct F a0) (x1 : Ct F a1) (x2 : Ct F a2)

/-- One trip of sampling loop 3. -/
@[irreducible] def trip3 (cst : F .f32) (k : Fin k3_t1_loop.trips) :
    Trip U c a3 a4 iprop(pt U c a0 x0 ∗ pt U c a1 x1 ∗ pt U c a2 x2) (k3_t1_body (F := F) a0 h0 a1 h1 a2 h2 a3 h3 a4 h4 cst k) := by
  have hk : k.val < 8191 := Nat.lt_of_lt_of_le k.isLt k3_t1_abs.2.1
  refine ⟨?_, ?_, ?_, fun E acc f3 f4 => ?run⟩
  case run =>
    unfold k3_t1_body
    iintro ⟨⟨H0, H1, H2⟩, H3, H4⟩
    sl_exec
    sl_step
    sl_close

/-- Sampling kernel 3's body: the coordinates' buffers are as they were, the index buffer's contents are the first component. -/
@[irreducible] def body3 :
    { W3 : Ct F a3 // ∀ (f3 : Ct F a3) (f4 : Ct F a4) (E : Set ℕ) (Q : PUnit → sProp 𝕄),
      iprop((pt U c a0 x0 ∗ pt U c a1 x1 ∗ pt U c a2 x2) ∗ pt U c a3 f3 ∗ pt U c a4 f4
        ∗ (iprop((pt U c a0 x0 ∗ pt U c a1 x1 ∗ pt U c a2 x2) ∗ pt U c a3 W3 ∗ ∃ W4, pt U c a4 W4) -∗ Q ⟨⟩))
        ⊢ wp frame (wpE (defs₀ (F := F)) Variants.none (c : Thread nD τ) none) E (cc3__fps_pallas_body (F := F) a0 h0 a1 h1 a2 h2 a3 h3 a4 h4) Q } := by
  refine ⟨?_, fun f3 f4 E Q => ?run⟩
  case run =>
    rw [cc3__fps_pallas_body_eq_skeleton]
    unfold cc3__fps_pallas_body_skel
    iintro ⟨⟨H0, H1, H2⟩, H3, H4, Hk⟩
    sl_exec
    sl_for (loopInv (trip3 (F := F) U c a0 h0 a1 h1 a2 h2 a3 h3 a4 h4 x0 x1 x2 body3.sl.cst_5) (k3_pay4, a3.view.writes (Elt F) a3.view.junk body3.sl.H3_1, a4.view.writes (Elt F) a4.view.junk body3.sl.H4_1)) $$ [H0 H1 H2 H3 H4]
    · exact loopInv_step (trip3 (F := F) U c a0 h0 a1 h1 a2 h2 a3 h3 a4 h4 x0 x1 x2 body3.sl.cst_5) (k3_pay4, a3.view.writes (Elt F) a3.view.junk body3.sl.H3_1, a4.view.writes (Elt F) a4.view.junk body3.sl.H4_1) E
    · iapply loopInv_zero
      isplitl [H0 H1 H2]
      · isplitl [H0]; · iexact H0
        isplitl [H1]; · iexact H1
        iexact H2
      isplitl [H3]; · iexact H3
      iexact H4
    · iintro %acc ⟨⟨H0, H1, H2⟩, ⟨%f3', H3, %e3⟩, ⟨%f4', H4, %e4⟩, %e⟩
      subst e3 e4 e
      sl_exec
      sl_step
      iapply Hk
      isplitl [H0 H1 H2]
      · isplitl [H0]; · iexact H0
        isplitl [H1]; · iexact H1
        iexact H2
      isplitl [H3]; · iexact H3
      iexists _; iexact H4
end K3

end Cert.KernelIdeal.Fps
-- ==== Proof.Regs.lean ====
module

public import proofs.«01_k».proof.Proof.Bodies
public import proofs.«01_k».proof.Proof.Gen.KernelIdeal.Points

@[expose] public section

noncomputable section

namespace Cert.KernelIdeal.Fps

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

/-- The certificate's resource algebra: one copy of the pipeline library's algebra per kernel launch, beside the counters
    the transfers take their tokens from. -/
abbrev UU : Type := IProdConst (Fin 4) (UR sig nD τ) × Counters

local notation "𝕄" => MT nD τ sig Unit (Elt F) ℕ UU ℕ

/-- The host program's memory at a valuation, read at the TensorCore's references. -/
abbrev Vals (F : FTy → Type) : Type := (c : Dev nD) → (b : Ref sig .tc) → Buf (Elt F) ((c : Thread nD τ).loc b)

abbrev 𝒱₀ : Variants := Variants.none
abbrev L : GSem nD τ sig → Finset Unit := fun _ => ∅
abbrev lv : GSem nD τ sig → Unit → ℕ := fun _ _ => 0

/-- No launch has a prefetched table. -/
abbrev adm : (p : Fin 4) → (pcfgs (F := F) p).Adm := fun p => (cfgs p).toPCfg_adm

/-- A launch's scoped buffers but its staging ones: its scratch buffer, and the rest unopened. -/
theorem scopedRest_scratch {gr W : ℕ} (win : Fin W → Pipeline.WinSpec sig gr) (c : Dev nD) (b : Ref sig .tc)
    (h : b.isScoped = true ∧ ∀ (w : Fin W) (s : Fin (win w).nbuf), ((win w).stage s).view.ref ≠ b) :
    (Pipeline.scopedRest (Ix := Unit) (Name := ℕ) (U := UU) (Lvl := ℕ) (Val := Elt F) win c : sProp 𝕄)
      = iprop((∃ f : Buf (Elt F) ((c : Thread nD τ).loc b), ((c : Thread nD τ).loc b) ↦{fullShare} f)
          ∗ Pipeline.scopedRestBut (Ix := Unit) (Name := ℕ) (U := UU) (Lvl := ℕ) (Val := Elt F) win c [b]) :=
  Pipeline.scopedRest_split_of_list win c [b] h (List.nodup_singleton b)

variable (V : Vals F)

section R0
/-- Coordinate array `w` of launch 0, as the pipeline stages it. -/
abbrev stg0_0 (c : Dev nD) : (cfg0.win 0).block.Idx → Elt F (cfg0.win 0).elt := ((cfg0.win 0).blk t0_0).view.read (Elt F) (V c (Pipeline.arrRef spec0 0))
abbrev stg0_1 (c : Dev nD) : (cfg0.win 1).block.Idx → Elt F (cfg0.win 1).elt := ((cfg0.win 1).blk t0_0).view.read (Elt F) (V c (Pipeline.arrRef spec0 1))
abbrev stg0_2 (c : Dev nD) : (cfg0.win 2).block.Idx → Elt F (cfg0.win 2).elt := ((cfg0.win 2).blk t0_0).view.read (Elt F) (V c (Pipeline.arrRef spec0 2))

/-- Launch 0's body on the staged coordinates. -/
abbrev run0 (c : Dev nD) := body0 (F := F) UU c (stage0_0 0) (hstage0_0 0) (stage0_1 0) (hstage0_1 0) (stage0_2 0) (hstage0_2 0) (stage0_3 0) (hstage0_3 0)
  (Memref.whole cc0_scratch0) (Memref.isWhole_whole _) (stg0_0 V c) (stg0_1 V c) (stg0_2 V c)

/-- Launch 0's proof data from memory `V`: the coordinates stay as fetched, the index array is what the body leaves. -/
def dat0 (c : Dev nD) : Dat τ (Elt F) Unit ℕ UU ℕ cfg0 c where
  A w := V c (Pipeline.arrRef spec0 w)
  after w _ := match w with
    | ⟨0, _⟩ => stg0_0 V c
    | ⟨1, _⟩ => stg0_1 V c
    | ⟨2, _⟩ => stg0_2 V c
    | ⟨3, _⟩ => (run0 V c).1
  Φ _ := Pipeline.scopedRest (Ix := Unit) (Name := ℕ) (U := UU) (Lvl := ℕ) (Val := Elt F) spec0 c
  q _ := fullShare
  owed _ := 0

theorem before0 (c : Dev nD) :
    (∀ d, (dat0 V c).before 0 t0_0 d = stg0_0 V c) ∧ (∀ d, (dat0 V c).before 1 t0_0 d = stg0_1 V c) ∧ (∀ d, (dat0 V c).before 2 t0_0 d = stg0_2 V c) := by
  refine ⟨fun d => ?_, fun d => ?_, fun d => ?_⟩ <;> unfold Dat.before <;> rw [if_pos (by decide)] <;> rfl

/-- Launch 0's body meets what the pipeline asks of it. -/
theorem obligation0 (c : Dev nD) : BodyObligation (dat0 V c) (defs₀ (F := F)) 𝒱₀ () Set.univ := fun t => by
  obtain rfl := fin_N0 t
  rw [bigSep_W0, bigSep_W0]
  simp only [owns_whole_eq]
  rw [show (dat0 V c).Φ t0_0.castSucc = Pipeline.scopedRest (Ix := Unit) (Name := ℕ) (U := UU) (Lvl := ℕ) (Val := Elt F) spec0 c from rfl,
    show (dat0 V c).Φ t0_0.succ = Pipeline.scopedRest (Ix := Unit) (Name := ℕ) (U := UU) (Lvl := ℕ) (Val := Elt F) spec0 c from rfl,
    show (dat0 V c).owesAt () t0_0.succ = (dat0 V c).owesAt () t0_0.castSucc from rfl, scopedRest_scratch spec0 c cc0_scratch0 (by decide)]
  iintro ⟨⟨⟨%f4, H4⟩, HΦ⟩, Howes, ⟨%d0, %f0, %hf0, H0⟩, ⟨%d1, %f1, %hf1, H1⟩, ⟨%d2, %f2, %hf2, H2⟩, ⟨%d3, %f3, -, H3⟩⟩
  rw [(before0 V c).1] at hf0
  rw [(before0 V c).2.1] at hf1
  rw [(before0 V c).2.2] at hf2
  subst hf0 hf1 hf2
  iapply ((run0 V c).2 f3 f4 Set.univ _)
  isplitl [H0 H1 H2]
  · isplitl [H0]; · iexact H0
    isplitl [H1]; · iexact H1
    iexact H2
  isplitl [H3]; · iexact H3
  isplitl [H4]; · iexact H4
  iintro ⟨⟨H0, H1, H2⟩, H3, H4⟩
  isplitl [HΦ H4]
  · isplitl [H4]; · iexact H4
    iexact HΦ
  isplitl [Howes]; · iexact Howes
  isplitl [H0]; · iexists _; isplitr; swap; (· iexact H0); ipureintro; dsimp only [dat0]
  isplitl [H1]; · iexists _; isplitr; swap; (· iexact H1); ipureintro; dsimp only [dat0]
  isplitl [H2]; · iexists _; isplitr; swap; (· iexact H2); ipureintro; dsimp only [dat0]
  iexists _; isplitr; swap; (· iexact H3); ipureintro; dsimp only [dat0]
end R0

section R1
/-- Coordinate array `w` of launch 1, as the pipeline stages it. -/
abbrev stg1_0 (c : Dev nD) : (cfg1.win 0).block.Idx → Elt F (cfg1.win 0).elt := ((cfg1.win 0).blk t1_0).view.read (Elt F) (V c (Pipeline.arrRef spec1 0))
abbrev stg1_1 (c : Dev nD) : (cfg1.win 1).block.Idx → Elt F (cfg1.win 1).elt := ((cfg1.win 1).blk t1_0).view.read (Elt F) (V c (Pipeline.arrRef spec1 1))
abbrev stg1_2 (c : Dev nD) : (cfg1.win 2).block.Idx → Elt F (cfg1.win 2).elt := ((cfg1.win 2).blk t1_0).view.read (Elt F) (V c (Pipeline.arrRef spec1 2))

/-- Launch 1's body on the staged coordinates. -/
abbrev run1 (c : Dev nD) := body1 (F := F) UU c (stage1_0 0) (hstage1_0 0) (stage1_1 0) (hstage1_1 0) (stage1_2 0) (hstage1_2 0) (stage1_3 0) (hstage1_3 0)
  (Memref.whole cc1_scratch0) (Memref.isWhole_whole _) (stg1_0 V c) (stg1_1 V c) (stg1_2 V c)

/-- Launch 1's proof data from memory `V`: the coordinates stay as fetched, the index array is what the body leaves. -/
def dat1 (c : Dev nD) : Dat τ (Elt F) Unit ℕ UU ℕ cfg1 c where
  A w := V c (Pipeline.arrRef spec1 w)
  after w _ := match w with
    | ⟨0, _⟩ => stg1_0 V c
    | ⟨1, _⟩ => stg1_1 V c
    | ⟨2, _⟩ => stg1_2 V c
    | ⟨3, _⟩ => (run1 V c).1
  Φ _ := Pipeline.scopedRest (Ix := Unit) (Name := ℕ) (U := UU) (Lvl := ℕ) (Val := Elt F) spec1 c
  q _ := fullShare
  owed _ := 0

theorem before1 (c : Dev nD) :
    (∀ d, (dat1 V c).before 0 t1_0 d = stg1_0 V c) ∧ (∀ d, (dat1 V c).before 1 t1_0 d = stg1_1 V c) ∧ (∀ d, (dat1 V c).before 2 t1_0 d = stg1_2 V c) := by
  refine ⟨fun d => ?_, fun d => ?_, fun d => ?_⟩ <;> unfold Dat.before <;> rw [if_pos (by decide)] <;> rfl

/-- Launch 1's body meets what the pipeline asks of it. -/
theorem obligation1 (c : Dev nD) : BodyObligation (dat1 V c) (defs₀ (F := F)) 𝒱₀ () Set.univ := fun t => by
  obtain rfl := fin_N1 t
  rw [bigSep_W1, bigSep_W1]
  simp only [owns_whole_eq]
  rw [show (dat1 V c).Φ t1_0.castSucc = Pipeline.scopedRest (Ix := Unit) (Name := ℕ) (U := UU) (Lvl := ℕ) (Val := Elt F) spec1 c from rfl,
    show (dat1 V c).Φ t1_0.succ = Pipeline.scopedRest (Ix := Unit) (Name := ℕ) (U := UU) (Lvl := ℕ) (Val := Elt F) spec1 c from rfl,
    show (dat1 V c).owesAt () t1_0.succ = (dat1 V c).owesAt () t1_0.castSucc from rfl, scopedRest_scratch spec1 c cc1_scratch0 (by decide)]
  iintro ⟨⟨⟨%f4, H4⟩, HΦ⟩, Howes, ⟨%d0, %f0, %hf0, H0⟩, ⟨%d1, %f1, %hf1, H1⟩, ⟨%d2, %f2, %hf2, H2⟩, ⟨%d3, %f3, -, H3⟩⟩
  rw [(before1 V c).1] at hf0
  rw [(before1 V c).2.1] at hf1
  rw [(before1 V c).2.2] at hf2
  subst hf0 hf1 hf2
  iapply ((run1 V c).2 f3 f4 Set.univ _)
  isplitl [H0 H1 H2]
  · isplitl [H0]; · iexact H0
    isplitl [H1]; · iexact H1
    iexact H2
  isplitl [H3]; · iexact H3
  isplitl [H4]; · iexact H4
  iintro ⟨⟨H0, H1, H2⟩, H3, H4⟩
  isplitl [HΦ H4]
  · isplitl [H4]; · iexact H4
    iexact HΦ
  isplitl [Howes]; · iexact Howes
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  iexists _; isplitr; swap; (· iexact H3); ipureintro; dsimp only [dat1]
end R1

section R2
/-- Coordinate array `w` of launch 2, as the pipeline stages it. -/
abbrev stg2_0 (c : Dev nD) : (cfg2.win 0).block.Idx → Elt F (cfg2.win 0).elt := ((cfg2.win 0).blk t2_0).view.read (Elt F) (V c (Pipeline.arrRef spec2 0))
abbrev stg2_1 (c : Dev nD) : (cfg2.win 1).block.Idx → Elt F (cfg2.win 1).elt := ((cfg2.win 1).blk t2_0).view.read (Elt F) (V c (Pipeline.arrRef spec2 1))
abbrev stg2_2 (c : Dev nD) : (cfg2.win 2).block.Idx → Elt F (cfg2.win 2).elt := ((cfg2.win 2).blk t2_0).view.read (Elt F) (V c (Pipeline.arrRef spec2 2))

/-- Launch 2's body on the staged coordinates. -/
abbrev run2 (c : Dev nD) := body2 (F := F) UU c (stage2_0 0) (hstage2_0 0) (stage2_1 0) (hstage2_1 0) (stage2_2 0) (hstage2_2 0) (stage2_3 0) (hstage2_3 0)
  (Memref.whole cc2_scratch0) (Memref.isWhole_whole _) (stg2_0 V c) (stg2_1 V c) (stg2_2 V c)

/-- Launch 2's proof data from memory `V`: the coordinates stay as fetched, the index array is what the body leaves. -/
def dat2 (c : Dev nD) : Dat τ (Elt F) Unit ℕ UU ℕ cfg2 c where
  A w := V c (Pipeline.arrRef spec2 w)
  after w _ := match w with
    | ⟨0, _⟩ => stg2_0 V c
    | ⟨1, _⟩ => stg2_1 V c
    | ⟨2, _⟩ => stg2_2 V c
    | ⟨3, _⟩ => (run2 V c).1
  Φ _ := Pipeline.scopedRest (Ix := Unit) (Name := ℕ) (U := UU) (Lvl := ℕ) (Val := Elt F) spec2 c
  q _ := fullShare
  owed _ := 0

theorem before2 (c : Dev nD) :
    (∀ d, (dat2 V c).before 0 t2_0 d = stg2_0 V c) ∧ (∀ d, (dat2 V c).before 1 t2_0 d = stg2_1 V c) ∧ (∀ d, (dat2 V c).before 2 t2_0 d = stg2_2 V c) := by
  refine ⟨fun d => ?_, fun d => ?_, fun d => ?_⟩ <;> unfold Dat.before <;> rw [if_pos (by decide)] <;> rfl

/-- Launch 2's body meets what the pipeline asks of it. -/
theorem obligation2 (c : Dev nD) : BodyObligation (dat2 V c) (defs₀ (F := F)) 𝒱₀ () Set.univ := fun t => by
  obtain rfl := fin_N2 t
  rw [bigSep_W2, bigSep_W2]
  simp only [owns_whole_eq]
  rw [show (dat2 V c).Φ t2_0.castSucc = Pipeline.scopedRest (Ix := Unit) (Name := ℕ) (U := UU) (Lvl := ℕ) (Val := Elt F) spec2 c from rfl,
    show (dat2 V c).Φ t2_0.succ = Pipeline.scopedRest (Ix := Unit) (Name := ℕ) (U := UU) (Lvl := ℕ) (Val := Elt F) spec2 c from rfl,
    show (dat2 V c).owesAt () t2_0.succ = (dat2 V c).owesAt () t2_0.castSucc from rfl, scopedRest_scratch spec2 c cc2_scratch0 (by decide)]
  iintro ⟨⟨⟨%f4, H4⟩, HΦ⟩, Howes, ⟨%d0, %f0, %hf0, H0⟩, ⟨%d1, %f1, %hf1, H1⟩, ⟨%d2, %f2, %hf2, H2⟩, ⟨%d3, %f3, -, H3⟩⟩
  rw [(before2 V c).1] at hf0
  rw [(before2 V c).2.1] at hf1
  rw [(before2 V c).2.2] at hf2
  subst hf0 hf1 hf2
  iapply ((run2 V c).2 f3 f4 Set.univ _)
  isplitl [H0 H1 H2]
  · isplitl [H0]; · iexact H0
    isplitl [H1]; · iexact H1
    iexact H2
  isplitl [H3]; · iexact H3
  isplitl [H4]; · iexact H4
  iintro ⟨⟨H0, H1, H2⟩, H3, H4⟩
  isplitl [HΦ H4]
  · isplitl [H4]; · iexact H4
    iexact HΦ
  isplitl [Howes]; · iexact Howes
  isplitl [H0]; · iexists _; isplitr; swap; (· iexact H0); ipureintro; dsimp only [dat2]
  isplitl [H1]; · iexists _; isplitr; swap; (· iexact H1); ipureintro; dsimp only [dat2]
  isplitl [H2]; · iexists _; isplitr; swap; (· iexact H2); ipureintro; dsimp only [dat2]
  iexists _; isplitr; swap; (· iexact H3); ipureintro; dsimp only [dat2]
end R2

section R3
/-- Coordinate array `w` of launch 3, as the pipeline stages it. -/
abbrev stg3_0 (c : Dev nD) : (cfg3.win 0).block.Idx → Elt F (cfg3.win 0).elt := ((cfg3.win 0).blk t3_0).view.read (Elt F) (V c (Pipeline.arrRef spec3 0))
abbrev stg3_1 (c : Dev nD) : (cfg3.win 1).block.Idx → Elt F (cfg3.win 1).elt := ((cfg3.win 1).blk t3_0).view.read (Elt F) (V c (Pipeline.arrRef spec3 1))
abbrev stg3_2 (c : Dev nD) : (cfg3.win 2).block.Idx → Elt F (cfg3.win 2).elt := ((cfg3.win 2).blk t3_0).view.read (Elt F) (V c (Pipeline.arrRef spec3 2))

/-- Launch 3's body on the staged coordinates. -/
abbrev run3 (c : Dev nD) := body3 (F := F) UU c (stage3_0 0) (hstage3_0 0) (stage3_1 0) (hstage3_1 0) (stage3_2 0) (hstage3_2 0) (stage3_3 0) (hstage3_3 0)
  (Memref.whole cc3_scratch0) (Memref.isWhole_whole _) (stg3_0 V c) (stg3_1 V c) (stg3_2 V c)

/-- Launch 3's proof data from memory `V`: the coordinates stay as fetched, the index array is what the body leaves. -/
def dat3 (c : Dev nD) : Dat τ (Elt F) Unit ℕ UU ℕ cfg3 c where
  A w := V c (Pipeline.arrRef spec3 w)
  after w _ := match w with
    | ⟨0, _⟩ => stg3_0 V c
    | ⟨1, _⟩ => stg3_1 V c
    | ⟨2, _⟩ => stg3_2 V c
    | ⟨3, _⟩ => (run3 V c).1
  Φ _ := Pipeline.scopedRest (Ix := Unit) (Name := ℕ) (U := UU) (Lvl := ℕ) (Val := Elt F) spec3 c
  q _ := fullShare
  owed _ := 0

theorem before3 (c : Dev nD) :
    (∀ d, (dat3 V c).before 0 t3_0 d = stg3_0 V c) ∧ (∀ d, (dat3 V c).before 1 t3_0 d = stg3_1 V c) ∧ (∀ d, (dat3 V c).before 2 t3_0 d = stg3_2 V c) := by
  refine ⟨fun d => ?_, fun d => ?_, fun d => ?_⟩ <;> unfold Dat.before <;> rw [if_pos (by decide)] <;> rfl

/-- Launch 3's body meets what the pipeline asks of it. -/
theorem obligation3 (c : Dev nD) : BodyObligation (dat3 V c) (defs₀ (F := F)) 𝒱₀ () Set.univ := fun t => by
  obtain rfl := fin_N3 t
  rw [bigSep_W3, bigSep_W3]
  simp only [owns_whole_eq]
  rw [show (dat3 V c).Φ t3_0.castSucc = Pipeline.scopedRest (Ix := Unit) (Name := ℕ) (U := UU) (Lvl := ℕ) (Val := Elt F) spec3 c from rfl,
    show (dat3 V c).Φ t3_0.succ = Pipeline.scopedRest (Ix := Unit) (Name := ℕ) (U := UU) (Lvl := ℕ) (Val := Elt F) spec3 c from rfl,
    show (dat3 V c).owesAt () t3_0.succ = (dat3 V c).owesAt () t3_0.castSucc from rfl, scopedRest_scratch spec3 c cc3_scratch0 (by decide)]
  iintro ⟨⟨⟨%f4, H4⟩, HΦ⟩, Howes, ⟨%d0, %f0, %hf0, H0⟩, ⟨%d1, %f1, %hf1, H1⟩, ⟨%d2, %f2, %hf2, H2⟩, ⟨%d3, %f3, -, H3⟩⟩
  rw [(before3 V c).1] at hf0
  rw [(before3 V c).2.1] at hf1
  rw [(before3 V c).2.2] at hf2
  subst hf0 hf1 hf2
  iapply ((run3 V c).2 f3 f4 Set.univ _)
  isplitl [H0 H1 H2]
  · isplitl [H0]; · iexact H0
    isplitl [H1]; · iexact H1
    iexact H2
  isplitl [H3]; · iexact H3
  isplitl [H4]; · iexact H4
  iintro ⟨⟨H0, H1, H2⟩, H3, H4⟩
  isplitl [HΦ H4]
  · isplitl [H4]; · iexact H4
    iexact HΦ
  isplitl [Howes]; · iexact Howes
  isplitl [H0]; · iexists _; isplitr; swap; (· iexact H0); ipureintro; dsimp only [dat3]
  isplitl [H1]; · iexists _; isplitr; swap; (· iexact H1); ipureintro; dsimp only [dat3]
  isplitl [H2]; · iexists _; isplitr; swap; (· iexact H2); ipureintro; dsimp only [dat3]
  iexists _; isplitr; swap; (· iexact H3); ipureintro; dsimp only [dat3]
end R3

/-- The four launches' proof data from one memory. -/
def pdats : (p : Fin 4) → (c : Dev nD) → Dat τ (Elt F) Unit ℕ UU ℕ (Pipeline.pin (pcfgs (F := F)) adm p) c
  | ⟨0, _⟩ => fun c => dat0 V c
  | ⟨1, _⟩ => fun c => dat1 V c
  | ⟨2, _⟩ => fun c => dat2 V c
  | ⟨3, _⟩ => fun c => dat3 V c

variable (Vp : Vals F)

set_option backward.isDefEq.respectTransparency.types false in
/-- Launch `p` as a segment of the host program: entered with every unscoped buffer at `V`, left with them at `Vp`, which is `V` but for
    the launch's arrays, where it is what the pipeline leaves. -/
def reg (p : Fin 4) (lf : Pipeline.LaunchFacts (nD := nD) (τ := τ) cfgs p) (hb : ∀ c, BodyObligation (pdats V p c) (defs₀ (F := F)) 𝒱₀ () Set.univ)
    (hq : ∀ c w, (pdats V p c).q w = fullShare) (ho : ∀ c t, (pdats V p c).owed t = 0)
    (hΦ : ∀ c t, (pdats V p c).Φ t = Pipeline.scopedRest (Ix := Unit) (Name := ℕ) (U := UU) (Lvl := ℕ) (Val := Elt F) (cfgs p).spec c)
    (hA : ∀ c w, (pdats V p c).A w = V c (Pipeline.arrRef (cfgs p).spec w))
    (hr : ∀ c x, x ∈ (pdats V p c).recorded 0)
    (R : Dev nD → sProp 𝕄) (hin : ∀ c w, (pdats V p c).arrAt w (cfgs p).N = Vp c (Pipeline.arrRef (cfgs p).spec w))
    (hne : ∀ c (b : Ref sig .tc), (∀ w, b ≠ Pipeline.arrRef (cfgs p).spec w) → Vp c b = V c b) :
    Pipeline.RegionSeg (pcfgs (F := F)) adm (pdats V) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(unscopedBufs c (V c) ∗ R c ∗ ∃ W, owes (c : Thread nD τ) (0 : CellTallies nD τ sig Unit) W)
  post c := iprop(unscopedBufs c (Vp c) ∗ R c ∗ ∃ W, owes (c : Thread nD τ) (0 : CellTallies nD τ sig Unit) W)
  X _ := BI.emp
  Y _ := BI.emp
  Z c := iprop(Pipeline.unscopedRest (Ix := Unit) (Name := ℕ) (U := UU) (Lvl := ℕ) (cfgs p).spec c (V c) ∗ R c)
  hentry c := by
    rw [Pipeline.ownSems0_none]
    have hsplit := Pipeline.arrays_of_unscopedBufs (p := p) (pcfgs (F := F)) adm (pdats V) lf.win lf.arr_whole c
      ((pdats V p c).share_full (hq c)) (V c) (hA c)
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho]
      icases HO with ⟨%W, HO⟩; iexists W; isplitr; · ipureintro; exact fun x _ => Or.inl (hr c x)
      iexact HO
    isplitr; · iempintro
    isplitl [Hrest] <;> iassumption
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm (Ix := Unit) (Name := ℕ) (U := UU) (Lvl := ℕ) lf.win lf.arr_whole c
      (pdats V) ((pdats V p c).share_full (hq c)) (V c) (Vp c) ((pdats V p c).arrAt · (cfgs p).N)
      (hin c) (fun b hb => hne c b fun w h => hb (h ▸ Finset.mem_image.mpr ⟨w, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    rw [ho]
    icases HO with ⟨%W, -, HO⟩; iexists W; iexact HO

end Cert.KernelIdeal.Fps
-- ==== Proof.KRun.lean ====
/-
  The kernel's host program as items, and its run.
-/
module

public import proofs.«01_k».proof.Proof.Items
public import proofs.«01_k».proof.Proof.Regs

@[expose] public section

noncomputable section

namespace Cert.KernelIdeal.Fps

open Cert.KernelIdeal Cert.KernelIdeal.Gen Cert.Host

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (afterL after Plain held launchContents)
open Idealize.ShloMosaic.Pipeline (Ticket ucRefs)

variable {F : FTy → Type} [FloatOps F]

/-! ## The loops -/

/-- One chunk of the first layer's ball query. -/
abbrev kbody0 : List (List (HloOp τ sig (Elt F))) := [while0Ops0, while0Ops0_1, while0Ops0_2, while0Ops0_3, while0Ops0_4, while0Ops0_5, while0Ops0_6, while0Ops0_7, while0Ops0_8]
/-- The chunks of the first layer's ball query. -/
def kloop0 : Loop (nD := nD) (τ := τ) (pcfgs (F := F)) defs₀ loops UU :=
  Loop.counted 0 main_while0_cond main_while0_body rfl
    (StableHlo.nullary main_while0c_c_39 (constantI S_ 32 128#32)) (StableHlo.binary main_v28_4 main_while0c_c_39 main_while0c_v270 (cmpi .slt)) kbody0
    (HostLoop.elt main_while0c_v270) rfl (StableHlo.nullary_bufs_sub ..) (StableHlo.binary_bufs_sub ..) rfl rfl
    (.cons while0Ops0_sub <| .cons while0Ops0_1_sub <| .cons while0Ops0_2_sub <| .cons while0Ops0_3_sub <| .cons while0Ops0_4_sub <| .cons while0Ops0_5_sub <| .cons while0Ops0_6_sub <| .cons while0Ops0_7_sub <| .cons while0Ops0_8_sub .nil)
    while0_body_chain 128 (by decide) (fun W => W main_v28_4 HostLoop.idx0)
    (fun W => by simp only [StableHlo.afterL_cons, StableHlo.afterL_nil]; after_reads_simp; rfl)
    (fun W => by
      show Prog.ret (IntOp.cmpi .slt (HloOp.result _ W main_v28_4 HostLoop.idx0) (HloOp.result _ W main_while0c_c_39 HostLoop.idx0)) = _
      rw [StableHlo.nullary_result_ne _ _ _ _ (by decide), StableHlo.nullary_result]; rfl)

/-- One chunk of the second layer's ball query. -/
abbrev kbody1 : List (List (HloOp τ sig (Elt F))) := [while1Ops0, while1Ops0_1, while1Ops0_2, while1Ops0_3, while1Ops0_4, while1Ops0_5, while1Ops0_6, while1Ops0_7, while1Ops0_8]
/-- The chunks of the second layer's ball query. -/
def kloop1 : Loop (nD := nD) (τ := τ) (pcfgs (F := F)) defs₀ loops UU :=
  Loop.counted 1 main_while1_cond main_while1_body rfl
    (StableHlo.nullary main_while1c_c_39 (constantI S_ 32 64#32)) (StableHlo.binary main_v96_4 main_while1c_c_39 main_while1c_v270 (cmpi .slt)) kbody1
    (HostLoop.elt main_while1c_v270) rfl (StableHlo.nullary_bufs_sub ..) (StableHlo.binary_bufs_sub ..) rfl rfl
    (.cons while1Ops0_sub <| .cons while1Ops0_1_sub <| .cons while1Ops0_2_sub <| .cons while1Ops0_3_sub <| .cons while1Ops0_4_sub <| .cons while1Ops0_5_sub <| .cons while1Ops0_6_sub <| .cons while1Ops0_7_sub <| .cons while1Ops0_8_sub .nil)
    while1_body_chain 64 (by decide) (fun W => W main_v96_4 HostLoop.idx0)
    (fun W => by simp only [StableHlo.afterL_cons, StableHlo.afterL_nil]; after_reads_simp; rfl)
    (fun W => by
      show Prog.ret (IntOp.cmpi .slt (HloOp.result _ W main_v96_4 HostLoop.idx0) (HloOp.result _ W main_while1c_c_39 HostLoop.idx0)) = _
      rw [StableHlo.nullary_result_ne _ _ _ _ (by decide), StableHlo.nullary_result]; rfl)

/-- One chunk of the third layer's ball query. -/
abbrev kbody2 : List (List (HloOp τ sig (Elt F))) := [while2Ops0, while2Ops0_1, while2Ops0_2, while2Ops0_3, while2Ops0_4, while2Ops0_5, while2Ops0_6, while2Ops0_7, while2Ops0_8]
/-- The chunks of the third layer's ball query. -/
def kloop2 : Loop (nD := nD) (τ := τ) (pcfgs (F := F)) defs₀ loops UU :=
  Loop.counted 2 main_while2_cond main_while2_body rfl
    (StableHlo.nullary main_while2c_c_39 (constantI S_ 32 32#32)) (StableHlo.binary main_v163_4 main_while2c_c_39 main_while2c_v270 (cmpi .slt)) kbody2
    (HostLoop.elt main_while2c_v270) rfl (StableHlo.nullary_bufs_sub ..) (StableHlo.binary_bufs_sub ..) rfl rfl
    (.cons while2Ops0_sub <| .cons while2Ops0_1_sub <| .cons while2Ops0_2_sub <| .cons while2Ops0_3_sub <| .cons while2Ops0_4_sub <| .cons while2Ops0_5_sub <| .cons while2Ops0_6_sub <| .cons while2Ops0_7_sub <| .cons while2Ops0_8_sub .nil)
    while2_body_chain 32 (by decide) (fun W => W main_v163_4 HostLoop.idx0)
    (fun W => by simp only [StableHlo.afterL_cons, StableHlo.afterL_nil]; after_reads_simp; rfl)
    (fun W => by
      show Prog.ret (IntOp.cmpi .slt (HloOp.result _ W main_v163_4 HostLoop.idx0) (HloOp.result _ W main_while2c_c_39 HostLoop.idx0)) = _
      rw [StableHlo.nullary_result_ne _ _ _ _ (by decide), StableHlo.nullary_result]; rfl)

/-- One chunk of the fourth layer's ball query. -/
abbrev kbody3 : List (List (HloOp τ sig (Elt F))) := [while3Ops0, while3Ops0_1, while3Ops0_2, while3Ops0_3, while3Ops0_4, while3Ops0_5, while3Ops0_6, while3Ops0_7, while3Ops0_8]
/-- The chunks of the fourth layer's ball query. -/
def kloop3 : Loop (nD := nD) (τ := τ) (pcfgs (F := F)) defs₀ loops UU :=
  Loop.counted 3 main_while3_cond main_while3_body rfl
    (StableHlo.nullary main_while3c_c_39 (constantI S_ 32 16#32)) (StableHlo.binary main_v230_4 main_while3c_c_39 main_while3c_v270 (cmpi .slt)) kbody3
    (HostLoop.elt main_while3c_v270) rfl (StableHlo.nullary_bufs_sub ..) (StableHlo.binary_bufs_sub ..) rfl rfl
    (.cons while3Ops0_sub <| .cons while3Ops0_1_sub <| .cons while3Ops0_2_sub <| .cons while3Ops0_3_sub <| .cons while3Ops0_4_sub <| .cons while3Ops0_5_sub <| .cons while3Ops0_6_sub <| .cons while3Ops0_7_sub <| .cons while3Ops0_8_sub .nil)
    while3_body_chain 16 (by decide) (fun W => W main_v230_4 HostLoop.idx0)
    (fun W => by simp only [StableHlo.afterL_cons, StableHlo.afterL_nil]; after_reads_simp; rfl)
    (fun W => by
      show Prog.ret (IntOp.cmpi .slt (HloOp.result _ W main_v230_4 HostLoop.idx0) (HloOp.result _ W main_while3c_c_39 HostLoop.idx0)) = _
      rw [StableHlo.nullary_result_ne _ _ _ _ (by decide), StableHlo.nullary_result]; rfl)

/-! ## The launches -/

/-- A launch's tickets: its proof data from any memory will do. -/
abbrev tk : Fin 4 → Ticket (Ix := Unit) (Name := ℕ) (U := UU) (Lvl := ℕ) (nD := nD) (τ := τ) (pcfgs (F := F)) adm :=
  fun k => { p := k, pdats := pdats (fun _ _ _ => Classical.arbitrary _), EP := embAt k }

local notation "ITEM" => Item (nD := nD) (τ := τ) (sig := sig) (F := F) (U := UU) (pcfgs (F := F)) adm (defs₀ (F := F)) loops (tk (F := F))

/-- The TensorCore's buffers of a memory. -/
abbrev tcv (V : Mem nD τ sig F) : Vals F := fun c b => V c b

/-- The memory after a launch: the index array at what the pipeline leaves, every other buffer as before. -/
def put (V : Mem nD τ sig F) (out : Ref sig .tc) (A : (c : Dev nD) → Buf (Elt F) ((c : Thread nD τ).loc out)) : Mem nD τ sig F :=
  fun c => Function.update (V c) (Proc.devRef .tc out) (A c)

theorem put_self (V : Mem nD τ sig F) (out : Ref sig .tc) (A : (c : Dev nD) → Buf (Elt F) ((c : Thread nD τ).loc out)) (c : Dev nD) :
    put V out A c (Proc.devRef .tc out) = A c := Function.update_self ..
theorem put_ne (V : Mem nD τ sig F) (out : Ref sig .tc) (A : (c : Dev nD) → Buf (Elt F) ((c : Thread nD τ).loc out)) (c : Dev nD) (b : Ref sig .tc) (h : b ≠ out) :
    put V out A c (Proc.devRef .tc b) = V c (Proc.devRef .tc b) := Function.update_of_ne (StableHlo.devRef_ne_of_ne h) ..

theorem thread_eq (W : Valuation τ sig (Elt F)) (c : Dev nD) :
    (iprop(held (c : Thread nD τ) (ucRefs τ sig) W ∗ Rw (U := UU) c) : sProp (MT nD τ sig Unit (Elt F) ℕ UU ℕ))
      ⊢ iprop(unscopedBufs c (fun b => W b) ∗ emp ∗ ∃ W', owes (c : Thread nD τ) (0 : CellTallies nD τ sig Unit) W') := by
  rw [Pipeline.unscopedBufs_held]
  iintro ⟨H, HO⟩
  isplitl [H]; · iexact H
  isplitr; · iempintro
  iexact HO

theorem thread_eq' (W : Valuation τ sig (Elt F)) (c : Dev nD) :
    (iprop(unscopedBufs c (fun b => W b) ∗ emp ∗ ∃ W', owes (c : Thread nD τ) (0 : CellTallies nD τ sig Unit) W') : sProp (MT nD τ sig Unit (Elt F) ℕ UU ℕ))
      ⊢ iprop(held (c : Thread nD τ) (ucRefs τ sig) W ∗ Rw (U := UU) c) := by
  rw [Pipeline.unscopedBufs_held]
  iintro ⟨H, -, HO⟩
  isplitl [H]; · iexact H
  iexact HO

/-- The index array that launch 0 leaves. -/
def kout0 (V : Mem nD τ sig F) (c : Dev nD) : Buf (Elt F) ((c : Thread nD τ).loc main_v14) := (dat0 (tcv V) c).arrAt 3 cfg0.N

/-- Launch 0. -/
def kreg0 : ITEM :=
  Item.region cellOf_inj 0 0 rfl (fun V => pdats (tcv V))
    (fun V => reg (tcv V) (tcv (put V main_v14 (kout0 V))) 0 launch0 (obligation0 (tcv V)) (fun _ _ => rfl) (fun _ _ => rfl) (fun _ _ => rfl)
      (fun _ _ => rfl) (fun _ _ => trivial) (fun _ => iprop(emp))
      (fun c w => by
        revert w
        refine Fin.forall_fin_succ.mpr ⟨?_, Fin.forall_fin_succ.mpr ⟨?_, Fin.forall_fin_succ.mpr ⟨?_, Fin.forall_fin_succ.mpr ⟨?_, fun w => w.elim0⟩⟩⟩⟩
        · exact ((dat0 (tcv V) c).arrAt_in 0 rfl _).trans (put_ne V _ (kout0 V) c _ (by decide)).symm
        · exact ((dat0 (tcv V) c).arrAt_in 1 rfl _).trans (put_ne V _ (kout0 V) c _ (by decide)).symm
        · exact ((dat0 (tcv V) c).arrAt_in 2 rfl _).trans (put_ne V _ (kout0 V) c _ (by decide)).symm
        · exact (put_self V main_v14 (kout0 V) c).symm)
      (fun c b h => put_ne V _ (kout0 V) c b (h 3)))
    (fun V => put V main_v14 (kout0 V))
    (fun V c => thread_eq (V c) c) (fun V c => thread_eq' (put V main_v14 (kout0 V) c) c)

/-- The index array that launch 1 leaves. -/
def kout1 (V : Mem nD τ sig F) (c : Dev nD) : Buf (Elt F) ((c : Thread nD τ).loc main_v83) := (dat1 (tcv V) c).arrAt 3 cfg1.N

/-- Launch 1. -/
def kreg1 : ITEM :=
  Item.region cellOf_inj 1 1 rfl (fun V => pdats (tcv V))
    (fun V => reg (tcv V) (tcv (put V main_v83 (kout1 V))) 1 launch1 (obligation1 (tcv V)) (fun _ _ => rfl) (fun _ _ => rfl) (fun _ _ => rfl)
      (fun _ _ => rfl) (fun _ _ => trivial) (fun _ => iprop(emp))
      (fun c w => by
        revert w
        refine Fin.forall_fin_succ.mpr ⟨?_, Fin.forall_fin_succ.mpr ⟨?_, Fin.forall_fin_succ.mpr ⟨?_, Fin.forall_fin_succ.mpr ⟨?_, fun w => w.elim0⟩⟩⟩⟩
        · exact ((dat1 (tcv V) c).arrAt_in 0 rfl _).trans (put_ne V _ (kout1 V) c _ (by decide)).symm
        · exact ((dat1 (tcv V) c).arrAt_in 1 rfl _).trans (put_ne V _ (kout1 V) c _ (by decide)).symm
        · exact ((dat1 (tcv V) c).arrAt_in 2 rfl _).trans (put_ne V _ (kout1 V) c _ (by decide)).symm
        · exact (put_self V main_v83 (kout1 V) c).symm)
      (fun c b h => put_ne V _ (kout1 V) c b (h 3)))
    (fun V => put V main_v83 (kout1 V))
    (fun V c => thread_eq (V c) c) (fun V c => thread_eq' (put V main_v83 (kout1 V) c) c)

/-- The index array that launch 2 leaves. -/
def kout2 (V : Mem nD τ sig F) (c : Dev nD) : Buf (Elt F) ((c : Thread nD τ).loc main_v150) := (dat2 (tcv V) c).arrAt 3 cfg2.N

/-- Launch 2. -/
def kreg2 : ITEM :=
  Item.region cellOf_inj 2 2 rfl (fun V => pdats (tcv V))
    (fun V => reg (tcv V) (tcv (put V main_v150 (kout2 V))) 2 launch2 (obligation2 (tcv V)) (fun _ _ => rfl) (fun _ _ => rfl) (fun _ _ => rfl)
      (fun _ _ => rfl) (fun _ _ => trivial) (fun _ => iprop(emp))
      (fun c w => by
        revert w
        refine Fin.forall_fin_succ.mpr ⟨?_, Fin.forall_fin_succ.mpr ⟨?_, Fin.forall_fin_succ.mpr ⟨?_, Fin.forall_fin_succ.mpr ⟨?_, fun w => w.elim0⟩⟩⟩⟩
        · exact ((dat2 (tcv V) c).arrAt_in 0 rfl _).trans (put_ne V _ (kout2 V) c _ (by decide)).symm
        · exact ((dat2 (tcv V) c).arrAt_in 1 rfl _).trans (put_ne V _ (kout2 V) c _ (by decide)).symm
        · exact ((dat2 (tcv V) c).arrAt_in 2 rfl _).trans (put_ne V _ (kout2 V) c _ (by decide)).symm
        · exact (put_self V main_v150 (kout2 V) c).symm)
      (fun c b h => put_ne V _ (kout2 V) c b (h 3)))
    (fun V => put V main_v150 (kout2 V))
    (fun V c => thread_eq (V c) c) (fun V c => thread_eq' (put V main_v150 (kout2 V) c) c)

/-- The index array that launch 3 leaves. -/
def kout3 (V : Mem nD τ sig F) (c : Dev nD) : Buf (Elt F) ((c : Thread nD τ).loc main_v217) := (dat3 (tcv V) c).arrAt 3 cfg3.N

/-- Launch 3. -/
def kreg3 : ITEM :=
  Item.region cellOf_inj 3 3 rfl (fun V => pdats (tcv V))
    (fun V => reg (tcv V) (tcv (put V main_v217 (kout3 V))) 3 launch3 (obligation3 (tcv V)) (fun _ _ => rfl) (fun _ _ => rfl) (fun _ _ => rfl)
      (fun _ _ => rfl) (fun _ _ => trivial) (fun _ => iprop(emp))
      (fun c w => by
        revert w
        refine Fin.forall_fin_succ.mpr ⟨?_, Fin.forall_fin_succ.mpr ⟨?_, Fin.forall_fin_succ.mpr ⟨?_, Fin.forall_fin_succ.mpr ⟨?_, fun w => w.elim0⟩⟩⟩⟩
        · exact ((dat3 (tcv V) c).arrAt_in 0 rfl _).trans (put_ne V _ (kout3 V) c _ (by decide)).symm
        · exact ((dat3 (tcv V) c).arrAt_in 1 rfl _).trans (put_ne V _ (kout3 V) c _ (by decide)).symm
        · exact ((dat3 (tcv V) c).arrAt_in 2 rfl _).trans (put_ne V _ (kout3 V) c _ (by decide)).symm
        · exact (put_self V main_v217 (kout3 V) c).symm)
      (fun c b h => put_ne V _ (kout3 V) c b (h 3)))
    (fun V => put V main_v217 (kout3 V))
    (fun V c => thread_eq (V c) c) (fun V c => thread_eq' (put V main_v217 (kout3 V) c) c)

/-! ## The program -/

/-- Stretch 0 of the host program. -/
abbrev kops0 : List (List (HloOp τ sig (Elt F))) := [hostOps0, hostOps0_1, hostOps0_2]
theorem kops0_plain : Plain (kops0 (F := F)) :=
  .cons hostOps0_sub <| .cons hostOps0_1_sub <| .cons hostOps0_2_sub .nil

/-- Stretch 1 of the host program. -/
abbrev kops1 : List (List (HloOp τ sig (Elt F))) := [hostOps1, hostOps1_1, hostOps1_2]
theorem kops1_plain : Plain (kops1 (F := F)) :=
  .cons hostOps1_sub <| .cons hostOps1_1_sub <| .cons hostOps1_2_sub .nil

/-- Stretch 2 of the host program. -/
abbrev kops2 : List (List (HloOp τ sig (Elt F))) := [hostOps1_3, hostOps1_4, hostOps1_5, hostOps1_6, hostOps1_7, hostOps1_8, hostOps1_9, hostOps1_10, hostOps1_11, hostOps1_12, hostOps1_13]
theorem kops2_plain : Plain (kops2 (F := F)) :=
  .cons hostOps1_3_sub <| .cons hostOps1_4_sub <| .cons hostOps1_5_sub <| .cons hostOps1_6_sub <| .cons hostOps1_7_sub <| .cons hostOps1_8_sub <| .cons hostOps1_9_sub <| .cons hostOps1_10_sub <| .cons hostOps1_11_sub <| .cons hostOps1_12_sub <| .cons hostOps1_13_sub .nil

/-- Stretch 3 of the host program. -/
abbrev kops3 : List (List (HloOp τ sig (Elt F))) := [hostOps2, hostOps2_1, hostOps2_2]
theorem kops3_plain : Plain (kops3 (F := F)) :=
  .cons hostOps2_sub <| .cons hostOps2_1_sub <| .cons hostOps2_2_sub .nil

/-- Stretch 4 of the host program. -/
abbrev kops4 : List (List (HloOp τ sig (Elt F))) := [hostOps2_3, hostOps2_4, hostOps2_5, hostOps2_6, hostOps2_7, hostOps2_8, hostOps2_9, hostOps2_10, hostOps2_11, hostOps2_12, hostOps2_13]
theorem kops4_plain : Plain (kops4 (F := F)) :=
  .cons hostOps2_3_sub <| .cons hostOps2_4_sub <| .cons hostOps2_5_sub <| .cons hostOps2_6_sub <| .cons hostOps2_7_sub <| .cons hostOps2_8_sub <| .cons hostOps2_9_sub <| .cons hostOps2_10_sub <| .cons hostOps2_11_sub <| .cons hostOps2_12_sub <| .cons hostOps2_13_sub .nil

/-- Stretch 5 of the host program. -/
abbrev kops5 : List (List (HloOp τ sig (Elt F))) := [hostOps3, hostOps3_1, hostOps3_2]
theorem kops5_plain : Plain (kops5 (F := F)) :=
  .cons hostOps3_sub <| .cons hostOps3_1_sub <| .cons hostOps3_2_sub .nil

/-- Stretch 6 of the host program. -/
abbrev kops6 : List (List (HloOp τ sig (Elt F))) := [hostOps3_3, hostOps3_4, hostOps3_5, hostOps3_6, hostOps3_7, hostOps3_8, hostOps3_9, hostOps3_10, hostOps3_11, hostOps3_12, hostOps3_13]
theorem kops6_plain : Plain (kops6 (F := F)) :=
  .cons hostOps3_3_sub <| .cons hostOps3_4_sub <| .cons hostOps3_5_sub <| .cons hostOps3_6_sub <| .cons hostOps3_7_sub <| .cons hostOps3_8_sub <| .cons hostOps3_9_sub <| .cons hostOps3_10_sub <| .cons hostOps3_11_sub <| .cons hostOps3_12_sub <| .cons hostOps3_13_sub .nil

/-- Stretch 7 of the host program. -/
abbrev kops7 : List (List (HloOp τ sig (Elt F))) := [hostOps4, hostOps4_1, hostOps4_2]
theorem kops7_plain : Plain (kops7 (F := F)) :=
  .cons hostOps4_sub <| .cons hostOps4_1_sub <| .cons hostOps4_2_sub .nil

/-- Stretch 8 of the host program. -/
abbrev kops8 : List (List (HloOp τ sig (Elt F))) := [hostOps4_3, hostOps4_4, hostOps4_5, hostOps4_6, hostOps4_7, hostOps4_8, hostOps4_9, hostOps4_10, hostOps4_11]
theorem kops8_plain : Plain (kops8 (F := F)) :=
  .cons hostOps4_3_sub <| .cons hostOps4_4_sub <| .cons hostOps4_5_sub <| .cons hostOps4_6_sub <| .cons hostOps4_7_sub <| .cons hostOps4_8_sub <| .cons hostOps4_9_sub <| .cons hostOps4_10_sub <| .cons hostOps4_11_sub .nil

/-- The kernel's host program, item by item. -/
def kitems : List ITEM :=
  opsItems kops0 kops0_plain ++
  kreg0 :: opsItems kops1 kops1_plain ++
  Item.loop kloop0 :: opsItems kops2 kops2_plain ++
  kreg1 :: opsItems kops3 kops3_plain ++
  Item.loop kloop1 :: opsItems kops4 kops4_plain ++
  kreg2 :: opsItems kops5 kops5_plain ++
  Item.loop kloop2 :: opsItems kops6 kops6_plain ++
  kreg3 :: opsItems kops7 kops7_plain ++
  Item.loop kloop3 :: opsItems kops8 kops8_plain

/-- Each launch's tokens, in a copy of the pipeline library's algebra of its own. -/
def u₀ : UU := (fun _ => initOf (Pipeline.cells (Pipeline.pin (pcfgs (F := F)) adm) cellOf_inj) (Pipeline.launchToks (Pipeline.pin (pcfgs (F := F)) adm) cellOf_inj), 1)

theorem kitems_main (c : Dev nD) : (main c : HProg (nD := nD) (τ := τ) (pcfgs (F := F)) (nL := 4) PUnit) = Pipeline.chain ((kitems (F := F)).map Item.prog) :=
  main_chain c

theorem kitems_disjoint : (kitems (F := F)).Pairwise fun x y => Disjoint x.T y.T := by
  unfold kitems
  simp only [opsItems, List.cons_append, List.nil_append, List.pairwise_cons, List.forall_mem_cons, List.Pairwise.nil]
  simp [Item.ops, Item.loop, Item.region, kreg0, kreg1, kreg2, kreg3]

end Cert.KernelIdeal.Fps

end
-- ==== Proof.KEnd.lean ====
/-
  The run of the kernel's host program: the buffers at each point, and its arguments left alone.
-/
module

public import proofs.«01_k».proof.Proof.KRun

@[expose] public section

noncomputable section

namespace Cert.KernelIdeal.Fps

open Cert.KernelIdeal Cert.KernelIdeal.Gen Cert.Host

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (afterL after Plain held launchContents)
open Idealize.ShloMosaic.Pipeline (Ticket ucRefs)

variable {F : FTy → Type} [FloatOps F]

/-! ## The buffers at each point -/

/-- The chunk loop's condition. -/
abbrev kcond0 : List (HloOp τ sig (Elt F)) := [StableHlo.nullary main_while0c_c_39 (constantI S_ 32 128#32), StableHlo.binary main_v28_4 main_while0c_c_39 main_while0c_v270 (cmpi .slt)]
/-- The first layer: at the launch, after it, at the ball query's loop, after the loop. -/
def kpre0 (V : Mem nD τ sig F) : Mem nD τ sig F := fun c => afterL kops0 (V c)
def kfps0 (V : Mem nD τ sig F) : Mem nD τ sig F := put (kpre0 V) main_v14 (kout0 (kpre0 V))
def kquery0 (V : Mem nD τ sig F) : Mem nD τ sig F := fun c => afterL kops1 (kfps0 V c)
def klayer0 (V : Mem nD τ sig F) : Mem nD τ sig F := fun c => after kcond0 (StableHlo.atTrip kcond0 kbody0 (kquery0 V) 128 c)

abbrev kcond1 : List (HloOp τ sig (Elt F)) := [StableHlo.nullary main_while1c_c_39 (constantI S_ 32 64#32), StableHlo.binary main_v96_4 main_while1c_c_39 main_while1c_v270 (cmpi .slt)]
/-- The second layer: at the launch, after it, at the ball query's loop, after the loop. -/
def kpre1 (V : Mem nD τ sig F) : Mem nD τ sig F := fun c => afterL kops2 (V c)
def kfps1 (V : Mem nD τ sig F) : Mem nD τ sig F := put (kpre1 V) main_v83 (kout1 (kpre1 V))
def kquery1 (V : Mem nD τ sig F) : Mem nD τ sig F := fun c => afterL kops3 (kfps1 V c)
def klayer1 (V : Mem nD τ sig F) : Mem nD τ sig F := fun c => after kcond1 (StableHlo.atTrip kcond1 kbody1 (kquery1 V) 64 c)

abbrev kcond2 : List (HloOp τ sig (Elt F)) := [StableHlo.nullary main_while2c_c_39 (constantI S_ 32 32#32), StableHlo.binary main_v163_4 main_while2c_c_39 main_while2c_v270 (cmpi .slt)]
/-- The third layer: at the launch, after it, at the ball query's loop, after the loop. -/
def kpre2 (V : Mem nD τ sig F) : Mem nD τ sig F := fun c => afterL kops4 (V c)
def kfps2 (V : Mem nD τ sig F) : Mem nD τ sig F := put (kpre2 V) main_v150 (kout2 (kpre2 V))
def kquery2 (V : Mem nD τ sig F) : Mem nD τ sig F := fun c => afterL kops5 (kfps2 V c)
def klayer2 (V : Mem nD τ sig F) : Mem nD τ sig F := fun c => after kcond2 (StableHlo.atTrip kcond2 kbody2 (kquery2 V) 32 c)

abbrev kcond3 : List (HloOp τ sig (Elt F)) := [StableHlo.nullary main_while3c_c_39 (constantI S_ 32 16#32), StableHlo.binary main_v230_4 main_while3c_c_39 main_while3c_v270 (cmpi .slt)]
/-- The fourth layer: at the launch, after it, at the ball query's loop, after the loop. -/
def kpre3 (V : Mem nD τ sig F) : Mem nD τ sig F := fun c => afterL kops6 (V c)
def kfps3 (V : Mem nD τ sig F) : Mem nD τ sig F := put (kpre3 V) main_v217 (kout3 (kpre3 V))
def kquery3 (V : Mem nD τ sig F) : Mem nD τ sig F := fun c => afterL kops7 (kfps3 V c)
def klayer3 (V : Mem nD τ sig F) : Mem nD τ sig F := fun c => after kcond3 (StableHlo.atTrip kcond3 kbody3 (kquery3 V) 16 c)

/-- The buffers at the end. -/
def kend (V : Mem nD τ sig F) : Mem nD τ sig F := fun c => afterL kops8 (klayer3 (klayer2 (klayer1 (klayer0 V))) c)

theorem kitems_next (V : Mem nD τ sig F) : nextL (kitems (F := F)) V = kend V := by
  unfold kitems
  simp only [nextL_append, nextL_opsItems, nextL_cons]
  rfl

theorem kquery0_zero (V : Mem nD τ sig F) (c : Dev nD) : kquery0 V c main_v28_4 HostLoop.idx0 = 0#32 := by
  unfold kquery0
  generalize kfps0 V c = W
  simp only [StableHlo.afterL_cons, StableHlo.afterL_nil]; after_reads_simp; rfl

theorem kquery1_zero (V : Mem nD τ sig F) (c : Dev nD) : kquery1 V c main_v96_4 HostLoop.idx0 = 0#32 := by
  unfold kquery1
  generalize kfps1 V c = W
  simp only [StableHlo.afterL_cons, StableHlo.afterL_nil]; after_reads_simp; rfl

theorem kquery2_zero (V : Mem nD τ sig F) (c : Dev nD) : kquery2 V c main_v163_4 HostLoop.idx0 = 0#32 := by
  unfold kquery2
  generalize kfps2 V c = W
  simp only [StableHlo.afterL_cons, StableHlo.afterL_nil]; after_reads_simp; rfl

theorem kquery3_zero (V : Mem nD τ sig F) (c : Dev nD) : kquery3 V c main_v230_4 HostLoop.idx0 = 0#32 := by
  unfold kquery3
  generalize kfps3 V c = W
  simp only [StableHlo.afterL_cons, StableHlo.afterL_nil]; after_reads_simp; rfl

theorem kitems_ok (V : Mem nD τ sig F) : okL (kitems (F := F)) V := by
  unfold kitems
  simp only [okL_append, okL_cons, nextL_append, nextL_opsItems, nextL_cons]
  refine ⟨⟨⟨⟨⟨⟨⟨⟨okL_opsItems _ _ _, trivial, okL_opsItems _ _ _⟩, kquery0_zero V, okL_opsItems _ _ _⟩, trivial, okL_opsItems _ _ _⟩,
    kquery1_zero (klayer0 V), okL_opsItems _ _ _⟩, trivial, okL_opsItems _ _ _⟩, kquery2_zero (klayer1 (klayer0 V)), okL_opsItems _ _ _⟩, trivial,
    okL_opsItems _ _ _⟩, kquery3_zero (klayer2 (klayer1 (klayer0 V))), okL_opsItems _ _ _⟩

set_option backward.isDefEq.respectTransparency.types false in
/-- THE KERNEL'S RUN: from any memory, with every counter at zero, every weakly fair execution terminates, with every buffer at `kend` of the launch
    contents and every counter at zero. -/
theorem krun (m : (ℓ : Loc nD τ sig) → Buf (Elt F) ℓ) (ρ : Dev nD → PrngReg) :
    θ_run (defs (F := F)) (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = kend (launchContents m) c (Proc.devRef .tc b)) ∧ r.2.sem = fun _ => 0) := by
  rw [← kitems_next (launchContents m)]
  exact run_items cellOf_inj kitems main kitems_main m ρ (kitems_ok _) kitems_disjoint (u₀ (F := F))
    (by
      unfold u₀
      iintro Hu
      ihave H := (ownU_pair _ _) $$ Hu
      icases H with ⟨H, -⟩
      imodintro
      iapply (own_iprod (J := Fin 4) (B := Counters) _) $$ H)
    (by decide)

/-! ## The arguments are left alone -/

end Cert.KernelIdeal.Fps

end
-- ==== Proof.KFrame.lean ====
/-
  The kernel's run leaves its arguments alone.
-/
module

public import proofs.«01_k».proof.Proof.KEnd
public import Idealize.ShloMosaic.PureOps.BitExact
public import Idealize.ShloMosaic.Lib.Decide

@[expose] public section

noncomputable section

namespace Cert.KernelIdeal.Fps

open Cert.KernelIdeal Cert.KernelIdeal.Gen Cert.Host

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (afterL after Plain held launchContents)
open Idealize.ShloMosaic.Pipeline (Ticket ucRefs)

variable {F : FTy → Type} [FloatOps F]

/-- The buffers that stretch 0 writes. -/
def kops0_W : {W : List (Ref sig .tc) // WritesL (τ := τ) (kops0 : List (List (HloOp τ sig (Elt F)))) W} := by apply Subtype.mk; repeat first | exact WritesL.nil | apply WritesL.skip | apply WritesL.cons (Eq.refl _)

/-- The buffers that stretch 1 writes. -/
def kops1_W : {W : List (Ref sig .tc) // WritesL (τ := τ) (kops1 : List (List (HloOp τ sig (Elt F)))) W} := by apply Subtype.mk; repeat first | exact WritesL.nil | apply WritesL.skip | apply WritesL.cons (Eq.refl _)

/-- The buffers that stretch 2 writes. -/
def kops2_W : {W : List (Ref sig .tc) // WritesL (τ := τ) (kops2 : List (List (HloOp τ sig (Elt F)))) W} := by apply Subtype.mk; repeat first | exact WritesL.nil | apply WritesL.skip | apply WritesL.cons (Eq.refl _)

/-- The buffers that stretch 3 writes. -/
def kops3_W : {W : List (Ref sig .tc) // WritesL (τ := τ) (kops3 : List (List (HloOp τ sig (Elt F)))) W} := by apply Subtype.mk; repeat first | exact WritesL.nil | apply WritesL.skip | apply WritesL.cons (Eq.refl _)

/-- The buffers that stretch 4 writes. -/
def kops4_W : {W : List (Ref sig .tc) // WritesL (τ := τ) (kops4 : List (List (HloOp τ sig (Elt F)))) W} := by apply Subtype.mk; repeat first | exact WritesL.nil | apply WritesL.skip | apply WritesL.cons (Eq.refl _)

/-- The buffers that stretch 5 writes. -/
def kops5_W : {W : List (Ref sig .tc) // WritesL (τ := τ) (kops5 : List (List (HloOp τ sig (Elt F)))) W} := by apply Subtype.mk; repeat first | exact WritesL.nil | apply WritesL.skip | apply WritesL.cons (Eq.refl _)

/-- The buffers that stretch 6 writes. -/
def kops6_W : {W : List (Ref sig .tc) // WritesL (τ := τ) (kops6 : List (List (HloOp τ sig (Elt F)))) W} := by apply Subtype.mk; repeat first | exact WritesL.nil | apply WritesL.skip | apply WritesL.cons (Eq.refl _)

/-- The buffers that stretch 7 writes. -/
def kops7_W : {W : List (Ref sig .tc) // WritesL (τ := τ) (kops7 : List (List (HloOp τ sig (Elt F)))) W} := by apply Subtype.mk; repeat first | exact WritesL.nil | apply WritesL.skip | apply WritesL.cons (Eq.refl _)

/-- The buffers that stretch 8 writes. -/
def kops8_W : {W : List (Ref sig .tc) // WritesL (τ := τ) (kops8 : List (List (HloOp τ sig (Elt F)))) W} := by apply Subtype.mk; repeat first | exact WritesL.nil | apply WritesL.skip | apply WritesL.cons (Eq.refl _)

/-- The buffers that loop 0's condition writes. -/
def kcond0_W : {W : List (Ref sig .tc) // WritesL (τ := τ) ([kcond0] : List (List (HloOp τ sig (Elt F)))) W} := by apply Subtype.mk; repeat first | exact WritesL.nil | apply WritesL.skip | apply WritesL.cons (Eq.refl _)

/-- The buffers that loop 0's body writes. -/
def kbody0_W : {W : List (Ref sig .tc) // WritesL (τ := τ) (kbody0 : List (List (HloOp τ sig (Elt F)))) W} := by apply Subtype.mk; repeat first | exact WritesL.nil | apply WritesL.skip | apply WritesL.cons (Eq.refl _)

/-- The buffers that loop 1's condition writes. -/
def kcond1_W : {W : List (Ref sig .tc) // WritesL (τ := τ) ([kcond1] : List (List (HloOp τ sig (Elt F)))) W} := by apply Subtype.mk; repeat first | exact WritesL.nil | apply WritesL.skip | apply WritesL.cons (Eq.refl _)

/-- The buffers that loop 1's body writes. -/
def kbody1_W : {W : List (Ref sig .tc) // WritesL (τ := τ) (kbody1 : List (List (HloOp τ sig (Elt F)))) W} := by apply Subtype.mk; repeat first | exact WritesL.nil | apply WritesL.skip | apply WritesL.cons (Eq.refl _)

/-- The buffers that loop 2's condition writes. -/
def kcond2_W : {W : List (Ref sig .tc) // WritesL (τ := τ) ([kcond2] : List (List (HloOp τ sig (Elt F)))) W} := by apply Subtype.mk; repeat first | exact WritesL.nil | apply WritesL.skip | apply WritesL.cons (Eq.refl _)

/-- The buffers that loop 2's body writes. -/
def kbody2_W : {W : List (Ref sig .tc) // WritesL (τ := τ) (kbody2 : List (List (HloOp τ sig (Elt F)))) W} := by apply Subtype.mk; repeat first | exact WritesL.nil | apply WritesL.skip | apply WritesL.cons (Eq.refl _)

/-- The buffers that loop 3's condition writes. -/
def kcond3_W : {W : List (Ref sig .tc) // WritesL (τ := τ) ([kcond3] : List (List (HloOp τ sig (Elt F)))) W} := by apply Subtype.mk; repeat first | exact WritesL.nil | apply WritesL.skip | apply WritesL.cons (Eq.refl _)

/-- The buffers that loop 3's body writes. -/
def kbody3_W : {W : List (Ref sig .tc) // WritesL (τ := τ) (kbody3 : List (List (HloOp τ sig (Elt F)))) W} := by apply Subtype.mk; repeat first | exact WritesL.nil | apply WritesL.skip | apply WritesL.cons (Eq.refl _)

/-- Every buffer that the program writes. -/
def kwrites (F : FTy → Type) [FloatOps F] : List (Ref sig .tc) := (kops0_W (F := F)).1 ++ (kops1_W (F := F)).1 ++ (kops2_W (F := F)).1 ++ (kops3_W (F := F)).1 ++ (kops4_W (F := F)).1 ++ (kops5_W (F := F)).1 ++ (kops6_W (F := F)).1 ++ (kops7_W (F := F)).1 ++ (kops8_W (F := F)).1 ++ (kcond0_W (F := F)).1 ++ (kbody0_W (F := F)).1 ++ (kcond1_W (F := F)).1 ++ (kbody1_W (F := F)).1 ++ (kcond2_W (F := F)).1 ++ (kbody2_W (F := F)).1 ++ (kcond3_W (F := F)).1 ++ (kbody3_W (F := F)).1 ++ [main_v14, main_v83, main_v150, main_v217]

theorem not_mem_append {α : Type} {a : α} {xs ys : List α} (h : a ∉ xs ++ ys) : a ∉ xs ∧ a ∉ ys :=
  ⟨fun hx => h (List.mem_append_left _ hx), fun hy => h (List.mem_append_right _ hy)⟩

theorem klayer0_keep {r : Ref sig .tc} (h0 : r ∉ (kops0_W (F := F)).1) (h1 : r ∉ (kops1_W (F := F)).1) (hc : r ∉ (kcond0_W (F := F)).1)
    (hb : r ∉ (kbody0_W (F := F)).1) (ho : r ≠ main_v14) (V : Mem nD τ sig F) (c : Dev nD) : klayer0 V c r = V c r :=
  (afterL_keep kcond0_W.2 hc _).trans ((atTrip_keep kcond0_W.2 kbody0_W.2 hc hb _ c _).trans ((afterL_keep kops1_W.2 h1 _).trans
    ((put_ne _ _ _ c r ho).trans (afterL_keep kops0_W.2 h0 _))))

theorem klayer1_keep {r : Ref sig .tc} (h0 : r ∉ (kops2_W (F := F)).1) (h1 : r ∉ (kops3_W (F := F)).1) (hc : r ∉ (kcond1_W (F := F)).1)
    (hb : r ∉ (kbody1_W (F := F)).1) (ho : r ≠ main_v83) (V : Mem nD τ sig F) (c : Dev nD) : klayer1 V c r = V c r :=
  (afterL_keep kcond1_W.2 hc _).trans ((atTrip_keep kcond1_W.2 kbody1_W.2 hc hb _ c _).trans ((afterL_keep kops3_W.2 h1 _).trans
    ((put_ne _ _ _ c r ho).trans (afterL_keep kops2_W.2 h0 _))))

theorem klayer2_keep {r : Ref sig .tc} (h0 : r ∉ (kops4_W (F := F)).1) (h1 : r ∉ (kops5_W (F := F)).1) (hc : r ∉ (kcond2_W (F := F)).1)
    (hb : r ∉ (kbody2_W (F := F)).1) (ho : r ≠ main_v150) (V : Mem nD τ sig F) (c : Dev nD) : klayer2 V c r = V c r :=
  (afterL_keep kcond2_W.2 hc _).trans ((atTrip_keep kcond2_W.2 kbody2_W.2 hc hb _ c _).trans ((afterL_keep kops5_W.2 h1 _).trans
    ((put_ne _ _ _ c r ho).trans (afterL_keep kops4_W.2 h0 _))))

theorem klayer3_keep {r : Ref sig .tc} (h0 : r ∉ (kops6_W (F := F)).1) (h1 : r ∉ (kops7_W (F := F)).1) (hc : r ∉ (kcond3_W (F := F)).1)
    (hb : r ∉ (kbody3_W (F := F)).1) (ho : r ≠ main_v217) (V : Mem nD τ sig F) (c : Dev nD) : klayer3 V c r = V c r :=
  (afterL_keep kcond3_W.2 hc _).trans ((atTrip_keep kcond3_W.2 kbody3_W.2 hc hb _ c _).trans ((afterL_keep kops7_W.2 h1 _).trans
    ((put_ne _ _ _ c r ho).trans (afterL_keep kops6_W.2 h0 _))))

/-- A buffer that the program does not write keeps its contents. -/
theorem kend_keep {r : Ref sig .tc} (h : r ∉ kwrites F) (V : Mem nD τ sig F) (c : Dev nD) : kend V c r = V c r := by
  unfold kwrites at h
  obtain ⟨h, ho⟩ := not_mem_append h
  obtain ⟨h, b3⟩ := not_mem_append h
  obtain ⟨h, c3⟩ := not_mem_append h
  obtain ⟨h, b2⟩ := not_mem_append h
  obtain ⟨h, c2⟩ := not_mem_append h
  obtain ⟨h, b1⟩ := not_mem_append h
  obtain ⟨h, c1⟩ := not_mem_append h
  obtain ⟨h, b0⟩ := not_mem_append h
  obtain ⟨h, c0⟩ := not_mem_append h
  obtain ⟨h, a8⟩ := not_mem_append h
  obtain ⟨h, a7⟩ := not_mem_append h
  obtain ⟨h, a6⟩ := not_mem_append h
  obtain ⟨h, a5⟩ := not_mem_append h
  obtain ⟨h, a4⟩ := not_mem_append h
  obtain ⟨h, a3⟩ := not_mem_append h
  obtain ⟨h, a2⟩ := not_mem_append h
  obtain ⟨h, a1⟩ := not_mem_append h
  simp only [List.mem_cons, List.not_mem_nil, or_false, not_or] at ho
  obtain ⟨o0, o1, o2, o3⟩ := ho
  exact (afterL_keep kops8_W.2 a8 _).trans ((klayer3_keep a6 a7 c3 b3 o3 _ c).trans ((klayer2_keep a4 a5 c2 b2 o2 _ c).trans
    ((klayer1_keep a2 a3 c1 b1 o1 _ c).trans (klayer0_keep h a1 c0 b0 o0 _ c))))

/-- The arguments. -/
abbrev kargs : List (Ref sig .tc) := [main_arg0, main_arg1, main_arg2, main_arg3, main_arg4, main_arg5, main_arg6, main_arg7, main_arg8, main_arg9, main_arg10, main_arg11, main_arg12, main_arg13]

theorem kwrites_eq : kwrites F = kwrites Bits := rfl

theorem kargs_kept : ∀ a ∈ kargs, a ∉ kwrites F := by
  rw [kwrites_eq]
  exact Idealize.ShloMosaic.ListAll.forall_mem_of_all_decide (by decide +kernel)

set_option backward.isDefEq.respectTransparency.types false in
/-- The kernel runs, leaves its arguments alone, and ends with every counter at zero. -/
theorem kquiescent (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13)) ∧ r.2.sem = fun _ => 0) := by
  refine (θ_run _ _ _).mono (fun r h => ⟨fun c => ?_, h.2⟩) (krun m ρ)
  have k : ∀ a ∈ kargs, (Proc.devRef .tc a : DevRef τ sig).isScoped = false → r.2.mem ((c.tc : Thread nD τ).loc a) = m ((c.tc : Thread nD τ).loc a) :=
    fun a ha hs => (h.1 c a hs).trans (kend_keep (kargs_kept a ha) _ c)
  exact ⟨k main_arg0 (by decide) rfl, k main_arg1 (by decide) rfl, k main_arg2 (by decide) rfl, k main_arg3 (by decide) rfl, k main_arg4 (by decide) rfl, k main_arg5 (by decide) rfl, k main_arg6 (by decide) rfl, k main_arg7 (by decide) rfl, k main_arg8 (by decide) rfl, k main_arg9 (by decide) rfl, k main_arg10 (by decide) rfl, k main_arg11 (by decide) rfl, k main_arg12 (by decide) rfl, k main_arg13 (by decide) rfl⟩

end Cert.KernelIdeal.Fps

end
-- ==== Proof.Trace.lean ====
/-
  Reading a printed host program as stretches of operations between its loops: `Trav p rest is` says that the fragment `p`, followed by the
  stretches `rest`, is the stretches `is`. The rules follow the program's text, so the stretches are found by applying them.
-/
module

public import proofs.«01_k».proof.Proof.Items

@[expose] public section

noncomputable section

namespace Cert.Host

open Idealize.ShloMosaic Idealize.ShloMosaic.TcCoe
open Idealize.SL.Sem
open Idealize.ShloMosaic.StableHlo
open Idealize.ShloMosaic.Pipeline (PCfg)

variable {nD : Nat} {τ : Topo} {sig : RefSig} {F : FTy → Type} {Λ₀ : Idealize.SL.Sem.Labels} {P : Type}
variable {pcs : P → PCfg sig Λ₀ (Elt F)} {nL : Nat}

/-- Stretches: the first stretch, then each loop with the stretch behind it. -/
abbrev Stretches (τ : Topo) (sig : RefSig) (F : FTy → Type) (nL : Nat) : Type :=
  List (HloOp τ sig (Elt F)) × List (Fin nL × List (HloOp τ sig (Elt F)))

/-- The stretches' fragments in order. -/
def frags (s : Stretches τ sig F nL) : List (HProg (nD := nD) (τ := τ) pcs (nL := nL) PUnit) :=
  seq s.1 :: s.2.flatMap fun x => [HostLoop.enter x.1, seq x.2]

/-- The fragment `p`, followed by the stretches `rest`, is the stretches `is`. -/
def Trav (p : HProg (nD := nD) (τ := τ) pcs (nL := nL) PUnit) (rest is : Stretches τ sig F nL) : Prop :=
  (p >>= fun _ => Pipeline.chain (frags rest)) = Pipeline.chain (frags is)

theorem seq_cons_chain (op : HloOp τ sig (Elt F)) (c : List (HloOp τ sig (Elt F))) (k : HProg (nD := nD) (τ := τ) pcs (nL := nL) PUnit) :
    ((seq (op :: c) : HProg (nD := nD) (τ := τ) pcs (nL := nL) PUnit) >>= fun _ => k)
      = (((hlo rfl op fun _ => .ret ⟨⟩) : HProg (nD := nD) (τ := τ) pcs (nL := nL) PUnit) >>= fun _ => (seq c >>= fun _ => k)) := rfl

theorem Trav.op (op : HloOp τ sig (Elt F)) (c : List (HloOp τ sig (Elt F))) (more : List (Fin nL × List (HloOp τ sig (Elt F)))) :
    Trav (nD := nD) (pcs := pcs) (hlo rfl op fun _ => .ret ⟨⟩) (c, more) (op :: c, more) := by
  unfold Trav frags
  rw [Pipeline.chain_cons, Pipeline.chain_cons]; exact (seq_cons_chain op c _).symm

theorem Trav.enter (l : Fin nL) (c : List (HloOp τ sig (Elt F))) (more : List (Fin nL × List (HloOp τ sig (Elt F)))) :
    Trav (nD := nD) (pcs := pcs) (HostLoop.enter l) (c, more) ([], (l, c) :: more) := by
  unfold Trav frags
  rw [Pipeline.chain_cons, Pipeline.chain_cons]; rfl

theorem Trav.bind {p q : HProg (nD := nD) (τ := τ) pcs (nL := nL) PUnit} {rest mid is : Stretches τ sig F nL}
    (hp : Trav p mid is) (hq : Trav q rest mid) : Trav (p >>= fun _ => q) rest is := by
  unfold Trav at *
  rw [bind_assoc, hq, hp]

theorem Trav.nil (rest : Stretches τ sig F nL) : Trav (nD := nD) (pcs := pcs) (pure ⟨⟩) rest rest := by
  unfold Trav; rw [pure_bind]

theorem Trav.eq {p : HProg (nD := nD) (τ := τ) pcs (nL := nL) PUnit} {is : Stretches τ sig F nL} (h : Trav p ([], []) is) :
    p = Pipeline.chain (frags is) := by
  unfold Trav at h
  rw [← h]
  show p = p >>= fun _ => pure ⟨⟩
  exact (bind_pure p).symm

end Cert.Host

end
-- ==== Proof.RLists.lean ====
/-
  The reference's host program as lists of operations.
-/
module

public import proofs.«01_k».proof.Proof.Items
public import proofs.«01_k».proof.Proof.Trace
public import proofs.«01_k».proof.Proof.Gen.ReferenceIdeal

@[expose] public section

noncomputable section

namespace Cert.ReferenceIdeal.Run

open Cert.ReferenceIdeal Cert.ReferenceIdeal.Gen Cert.Host

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (afterL after Plain held launchContents)
open Idealize.ShloMosaic.Pipeline (Ticket ucRefs)

variable {F : FTy → Type} [FloatOps F]

/-- The operations of the body of loop 0. -/
def rbody0_T : {l : List (HloOp τ sig (Elt F)) // Trav (nD := nD) (pcs := pcfgs (F := F)) main_while0_body ([], []) (l, ([] : List (Fin 8 × List (HloOp τ sig (Elt F)))))} := by
  apply Subtype.mk; repeat' first | apply Trav.op | apply Trav.enter | apply Trav.nil | apply Trav.bind

/-- The operations of the body of loop 1. -/
def rbody1_T : {l : List (HloOp τ sig (Elt F)) // Trav (nD := nD) (pcs := pcfgs (F := F)) main_while1_body ([], []) (l, ([] : List (Fin 8 × List (HloOp τ sig (Elt F)))))} := by
  apply Subtype.mk; repeat' first | apply Trav.op | apply Trav.enter | apply Trav.nil | apply Trav.bind

/-- The operations of the body of loop 2. -/
def rbody2_T : {l : List (HloOp τ sig (Elt F)) // Trav (nD := nD) (pcs := pcfgs (F := F)) main_while2_body ([], []) (l, ([] : List (Fin 8 × List (HloOp τ sig (Elt F)))))} := by
  apply Subtype.mk; repeat' first | apply Trav.op | apply Trav.enter | apply Trav.nil | apply Trav.bind

/-- The operations of the body of loop 3. -/
def rbody3_T : {l : List (HloOp τ sig (Elt F)) // Trav (nD := nD) (pcs := pcfgs (F := F)) main_while3_body ([], []) (l, ([] : List (Fin 8 × List (HloOp τ sig (Elt F)))))} := by
  apply Subtype.mk; repeat' first | apply Trav.op | apply Trav.enter | apply Trav.nil | apply Trav.bind

/-- The operations of the body of loop 4. -/
def rbody4_T : {l : List (HloOp τ sig (Elt F)) // Trav (nD := nD) (pcs := pcfgs (F := F)) main_while4_body ([], []) (l, ([] : List (Fin 8 × List (HloOp τ sig (Elt F)))))} := by
  apply Subtype.mk; repeat' first | apply Trav.op | apply Trav.enter | apply Trav.nil | apply Trav.bind

/-- The operations of the body of loop 5. -/
def rbody5_T : {l : List (HloOp τ sig (Elt F)) // Trav (nD := nD) (pcs := pcfgs (F := F)) main_while5_body ([], []) (l, ([] : List (Fin 8 × List (HloOp τ sig (Elt F)))))} := by
  apply Subtype.mk; repeat' first | apply Trav.op | apply Trav.enter | apply Trav.nil | apply Trav.bind

/-- The operations of the body of loop 6. -/
def rbody6_T : {l : List (HloOp τ sig (Elt F)) // Trav (nD := nD) (pcs := pcfgs (F := F)) main_while6_body ([], []) (l, ([] : List (Fin 8 × List (HloOp τ sig (Elt F)))))} := by
  apply Subtype.mk; repeat' first | apply Trav.op | apply Trav.enter | apply Trav.nil | apply Trav.bind

/-- The operations of the body of loop 7. -/
def rbody7_T : {l : List (HloOp τ sig (Elt F)) // Trav (nD := nD) (pcs := pcfgs (F := F)) main_while7_body ([], []) (l, ([] : List (Fin 8 × List (HloOp τ sig (Elt F)))))} := by
  apply Subtype.mk; repeat' first | apply Trav.op | apply Trav.enter | apply Trav.nil | apply Trav.bind

/-- The operations of part 0 of the program, before the operations that follow. -/
def rpart0_T (c : List (HloOp τ sig (Elt F))) (more : List (Fin 8 × List (HloOp τ sig (Elt F)))) (d : Dev nD) : {s : Stretches τ sig F 8 // Trav (nD := nD) (pcs := pcfgs (F := F)) (main_part0 d) (c, more) s} := by
  apply Subtype.mk; repeat' first | apply Trav.op | apply Trav.enter | apply Trav.nil | apply Trav.bind

/-- The operations of part 1 of the program, before the operations that follow. -/
def rpart1_T (c : List (HloOp τ sig (Elt F))) (more : List (Fin 8 × List (HloOp τ sig (Elt F)))) (d : Dev nD) : {s : Stretches τ sig F 8 // Trav (nD := nD) (pcs := pcfgs (F := F)) (main_part1 d) (c, more) s} := by
  apply Subtype.mk; repeat' first | apply Trav.op | apply Trav.enter | apply Trav.nil | apply Trav.bind

/-- The operations of part 2 of the program, before the operations that follow. -/
def rpart2_T (c : List (HloOp τ sig (Elt F))) (more : List (Fin 8 × List (HloOp τ sig (Elt F)))) (d : Dev nD) : {s : Stretches τ sig F 8 // Trav (nD := nD) (pcs := pcfgs (F := F)) (main_part2 d) (c, more) s} := by
  apply Subtype.mk; repeat' first | apply Trav.op | apply Trav.enter | apply Trav.nil | apply Trav.bind

/-- The operations of part 3 of the program, before the operations that follow. -/
def rpart3_T (c : List (HloOp τ sig (Elt F))) (more : List (Fin 8 × List (HloOp τ sig (Elt F)))) (d : Dev nD) : {s : Stretches τ sig F 8 // Trav (nD := nD) (pcs := pcfgs (F := F)) (main_part3 d) (c, more) s} := by
  apply Subtype.mk; repeat' first | apply Trav.op | apply Trav.enter | apply Trav.nil | apply Trav.bind

/-- The operations of part 4 of the program, before the operations that follow. -/
def rpart4_T (c : List (HloOp τ sig (Elt F))) (more : List (Fin 8 × List (HloOp τ sig (Elt F)))) (d : Dev nD) : {s : Stretches τ sig F 8 // Trav (nD := nD) (pcs := pcfgs (F := F)) (main_part4 d) (c, more) s} := by
  apply Subtype.mk; repeat' first | apply Trav.op | apply Trav.enter | apply Trav.nil | apply Trav.bind

/-- The operations of part 5 of the program, before the operations that follow. -/
def rpart5_T (c : List (HloOp τ sig (Elt F))) (more : List (Fin 8 × List (HloOp τ sig (Elt F)))) (d : Dev nD) : {s : Stretches τ sig F 8 // Trav (nD := nD) (pcs := pcfgs (F := F)) (main_part5 d) (c, more) s} := by
  apply Subtype.mk; repeat' first | apply Trav.op | apply Trav.enter | apply Trav.nil | apply Trav.bind

end Cert.ReferenceIdeal.Run

end
-- ==== Proof.RRun.lean ====
/-
  The reference's host program as items, and its run.
-/
module

public import proofs.«01_k».proof.Proof.RLists

@[expose] public section

noncomputable section

namespace Cert.ReferenceIdeal.Run

open Cert.ReferenceIdeal Cert.ReferenceIdeal.Gen Cert.Host

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (afterL after Plain held launchContents tcRefs)
open Idealize.ShloMosaic.Pipeline (Ticket ucRefs)

variable {F : FTy → Type} [FloatOps F]

/-- A stretch touches TensorCore references only, and allocates nothing. -/
def PlainOps (l : List (HloOp τ sig (Elt F))) : Prop := (∀ op ∈ l, op.bufs ⊆ tcRefs τ sig) ∧ ∀ op ∈ l, op.fresh = ∅

theorem PlainOps.nil : PlainOps ([] : List (HloOp τ sig (Elt F))) := by simp [PlainOps]
theorem PlainOps.cons {op : HloOp τ sig (Elt F)} {l : List (HloOp τ sig (Elt F))} (h : op.bufs ⊆ tcRefs τ sig) (h' : op.fresh = ∅) (hl : PlainOps l) :
    PlainOps (op :: l) := by
  unfold PlainOps at *
  simp only [List.forall_mem_cons]
  exact ⟨⟨h, hl.1⟩, h', hl.2⟩

/-- Two stretches with the same head are equal when their tails are. -/
theorem cons_eq {op : HloOp τ sig (Elt F)} {l l' : List (HloOp τ sig (Elt F))} (h : l = l') : op :: l = op :: l' := congrArg _ h

/-- The whole program's operations, cut at the loops. -/
def rs5 : Stretches τ sig F 8 := (rpart5_T [] [] 0).1
def rs4 : Stretches τ sig F 8 := (rpart4_T (rs5 (F := F)).1 (rs5 (F := F)).2 0).1
def rs3 : Stretches τ sig F 8 := (rpart3_T (rs4 (F := F)).1 (rs4 (F := F)).2 0).1
def rs2 : Stretches τ sig F 8 := (rpart2_T (rs3 (F := F)).1 (rs3 (F := F)).2 0).1
def rs1 : Stretches τ sig F 8 := (rpart1_T (rs2 (F := F)).1 (rs2 (F := F)).2 0).1
def rs0 : Stretches τ sig F 8 := (rpart0_T (rs1 (F := F)).1 (rs1 (F := F)).2 0).1

theorem main_stretches (d : Dev nD) : main (F := F) d = Pipeline.chain (frags rs0) :=
  Trav.eq (Trav.bind (rpart0_T _ _ 0).2 (Trav.bind (rpart1_T _ _ 0).2 (Trav.bind (rpart2_T _ _ 0).2 (Trav.bind (rpart3_T _ _ 0).2 (Trav.bind (rpart4_T _ _ 0).2 (rpart5_T [] [] 0).2)))))

/-- Stretch 0 of the program, written out. -/
def rops0_L : {l : List (HloOp τ sig (Elt F)) // l = rs0.1} := by
  apply Subtype.mk
  repeat' first | exact (Eq.refl []) | apply cons_eq
/-- Stretch 0 of the program. -/
def rops0 : List (HloOp τ sig (Elt F)) := (rops0_L (F := F)).1

/-- Stretch 1 of the program, written out. -/
def rops1_L : {l : List (HloOp τ sig (Elt F)) // l = (rs0.2.getD 0 (0, [])).2} := by
  apply Subtype.mk
  repeat' first | exact (Eq.refl []) | apply cons_eq
/-- Stretch 1 of the program. -/
def rops1 : List (HloOp τ sig (Elt F)) := (rops1_L (F := F)).1

/-- Stretch 2 of the program, written out. -/
def rops2_L : {l : List (HloOp τ sig (Elt F)) // l = (rs0.2.getD 1 (0, [])).2} := by
  apply Subtype.mk
  repeat' first | exact (Eq.refl []) | apply cons_eq
/-- Stretch 2 of the program. -/
def rops2 : List (HloOp τ sig (Elt F)) := (rops2_L (F := F)).1

/-- Stretch 3 of the program, written out. -/
def rops3_L : {l : List (HloOp τ sig (Elt F)) // l = (rs0.2.getD 2 (0, [])).2} := by
  apply Subtype.mk
  repeat' first | exact (Eq.refl []) | apply cons_eq
/-- Stretch 3 of the program. -/
def rops3 : List (HloOp τ sig (Elt F)) := (rops3_L (F := F)).1

/-- Stretch 4 of the program, written out. -/
def rops4_L : {l : List (HloOp τ sig (Elt F)) // l = (rs0.2.getD 3 (0, [])).2} := by
  apply Subtype.mk
  repeat' first | exact (Eq.refl []) | apply cons_eq
/-- Stretch 4 of the program. -/
def rops4 : List (HloOp τ sig (Elt F)) := (rops4_L (F := F)).1

/-- Stretch 5 of the program, written out. -/
def rops5_L : {l : List (HloOp τ sig (Elt F)) // l = (rs0.2.getD 4 (0, [])).2} := by
  apply Subtype.mk
  repeat' first | exact (Eq.refl []) | apply cons_eq
/-- Stretch 5 of the program. -/
def rops5 : List (HloOp τ sig (Elt F)) := (rops5_L (F := F)).1

/-- Stretch 6 of the program, written out. -/
def rops6_L : {l : List (HloOp τ sig (Elt F)) // l = (rs0.2.getD 5 (0, [])).2} := by
  apply Subtype.mk
  repeat' first | exact (Eq.refl []) | apply cons_eq
/-- Stretch 6 of the program. -/
def rops6 : List (HloOp τ sig (Elt F)) := (rops6_L (F := F)).1

/-- Stretch 7 of the program, written out. -/
def rops7_L : {l : List (HloOp τ sig (Elt F)) // l = (rs0.2.getD 6 (0, [])).2} := by
  apply Subtype.mk
  repeat' first | exact (Eq.refl []) | apply cons_eq
/-- Stretch 7 of the program. -/
def rops7 : List (HloOp τ sig (Elt F)) := (rops7_L (F := F)).1

/-- Stretch 8 of the program, written out. -/
def rops8_L : {l : List (HloOp τ sig (Elt F)) // l = (rs0.2.getD 7 (0, [])).2} := by
  apply Subtype.mk
  repeat' first | exact (Eq.refl []) | apply cons_eq
/-- Stretch 8 of the program. -/
def rops8 : List (HloOp τ sig (Elt F)) := (rops8_L (F := F)).1

theorem rs0_eq : (rs0 : Stretches τ sig F 8) = (rops0, [(0, rops1), (1, rops2), (2, rops3), (3, rops4), (4, rops5), (5, rops6), (6, rops7), (7, rops8)]) := by
  unfold rops0 rops1 rops2 rops3 rops4 rops5 rops6 rops7 rops8
  rw [(rops0_L (F := F)).2, (rops1_L (F := F)).2, (rops2_L (F := F)).2, (rops3_L (F := F)).2, (rops4_L (F := F)).2, (rops5_L (F := F)).2, (rops6_L (F := F)).2, (rops7_L (F := F)).2, (rops8_L (F := F)).2]
  rfl

theorem rops0_plain : PlainOps (rops0 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
theorem rops1_plain : PlainOps (rops1 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
theorem rops2_plain : PlainOps (rops2 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
theorem rops3_plain : PlainOps (rops3 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
theorem rops4_plain : PlainOps (rops4 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
theorem rops5_plain : PlainOps (rops5 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
theorem rops6_plain : PlainOps (rops6 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
theorem rops7_plain : PlainOps (rops7 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
theorem rops8_plain : PlainOps (rops8 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
/-- The operations of the body of loop 0. -/
def rbody0 : List (HloOp τ sig (Elt F)) := (rbody0_T (F := F)).1
theorem rbody0_plain : PlainOps (rbody0 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
/-- The operations of the body of loop 1. -/
def rbody1 : List (HloOp τ sig (Elt F)) := (rbody1_T (F := F)).1
theorem rbody1_plain : PlainOps (rbody1 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
/-- The operations of the body of loop 2. -/
def rbody2 : List (HloOp τ sig (Elt F)) := (rbody2_T (F := F)).1
theorem rbody2_plain : PlainOps (rbody2 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
/-- The operations of the body of loop 3. -/
def rbody3 : List (HloOp τ sig (Elt F)) := (rbody3_T (F := F)).1
theorem rbody3_plain : PlainOps (rbody3 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
/-- The operations of the body of loop 4. -/
def rbody4 : List (HloOp τ sig (Elt F)) := (rbody4_T (F := F)).1
theorem rbody4_plain : PlainOps (rbody4 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
/-- The operations of the body of loop 5. -/
def rbody5 : List (HloOp τ sig (Elt F)) := (rbody5_T (F := F)).1
theorem rbody5_plain : PlainOps (rbody5 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
/-- The operations of the body of loop 6. -/
def rbody6 : List (HloOp τ sig (Elt F)) := (rbody6_T (F := F)).1
theorem rbody6_plain : PlainOps (rbody6 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl
/-- The operations of the body of loop 7. -/
def rbody7 : List (HloOp τ sig (Elt F)) := (rbody7_T (F := F)).1
theorem rbody7_plain : PlainOps (rbody7 (F := F)) := by
  repeat' first
    | exact PlainOps.nil
    | apply PlainOps.cons
    | with_reducible exact StableHlo.unary_bufs_sub ..
    | with_reducible exact StableHlo.nullary_bufs_sub ..
    | with_reducible exact StableHlo.binary_bufs_sub ..
    | with_reducible exact StableHlo.ternary_bufs_sub ..
    | with_reducible exact StableHlo.quaternary_bufs_sub ..
    | with_reducible exact StableHlo.reshape_bufs_sub ..
    | with_reducible exact StableHlo.unaryIndexed_bufs_sub ..
    | with_reducible exact StableHlo.binaryIndexed_bufs_sub ..
    | exact rfl

/-- One stretch is a plain list of stretches. -/
theorem PlainOps.plain {l : List (HloOp τ sig (Elt F))} (h : PlainOps l) : Plain [l] := fun o ho => by
  rw [List.mem_singleton] at ho; subst ho; exact h

abbrev adm : (p : Fin 0) → (pcfgs (F := F) p).Adm := fun p => p.elim0
/-- The reference has no launch. -/
abbrev tk : Fin 0 → Ticket (Ix := Unit) (Name := ℕ) (U := Option PUnit) (Lvl := ℕ) (nD := nD) (τ := τ) (pcfgs (F := F)) adm := fun k => k.elim0

local notation "ITEM" => Item (nD := nD) (τ := τ) (sig := sig) (F := F) (U := Option PUnit) (pcfgs (F := F)) adm (defs₀ (F := F)) loops (tk (F := F))

/-- Loop 0. -/
def rloop0 : Loop (nD := nD) (τ := τ) (pcfgs (F := F)) defs₀ loops (Option PUnit) :=
  Loop.counted 0 main_while0_cond main_while0_body rfl
    (StableHlo.nullary main_while0c_c_50 (constantI S_ 32 65525#32)) (StableHlo.binary main_v3_1 main_while0c_c_50 main_while0c_v221 (cmpi .slt)) [rbody0]
    (HostLoop.elt main_while0c_v221) rfl (StableHlo.nullary_bufs_sub ..) (StableHlo.binary_bufs_sub ..) rfl rfl
    rbody0_plain.plain
    (rbody0_T (F := F)).2.eq 65525 (by decide) (fun W => W main_v3_1 HostLoop.idx0)
    (fun W => by simp only [StableHlo.afterL_cons, StableHlo.afterL_nil, rbody0, rbody0_T]; after_reads_simp; rfl)
    (fun W => by
      show Prog.ret (IntOp.cmpi .slt (HloOp.result _ W main_v3_1 HostLoop.idx0) (HloOp.result _ W main_while0c_c_50 HostLoop.idx0)) = _
      rw [StableHlo.nullary_result_ne _ _ _ _ (by decide), StableHlo.nullary_result]; rfl)

/-- Loop 1. -/
def rloop1 : Loop (nD := nD) (τ := τ) (pcfgs (F := F)) defs₀ loops (Option PUnit) :=
  Loop.counted 1 main_while1_cond main_while1_body rfl
    (StableHlo.nullary main_while1c_c_51 (constantI S_ 32 128#32)) (StableHlo.binary main_v15_4 main_while1c_c_51 main_while1c_v221 (cmpi .slt)) [rbody1]
    (HostLoop.elt main_while1c_v221) rfl (StableHlo.nullary_bufs_sub ..) (StableHlo.binary_bufs_sub ..) rfl rfl
    rbody1_plain.plain
    (rbody1_T (F := F)).2.eq 128 (by decide) (fun W => W main_v15_4 HostLoop.idx0)
    (fun W => by simp only [StableHlo.afterL_cons, StableHlo.afterL_nil, rbody1, rbody1_T]; after_reads_simp; rfl)
    (fun W => by
      show Prog.ret (IntOp.cmpi .slt (HloOp.result _ W main_v15_4 HostLoop.idx0) (HloOp.result _ W main_while1c_c_51 HostLoop.idx0)) = _
      rw [StableHlo.nullary_result_ne _ _ _ _ (by decide), StableHlo.nullary_result]; rfl)

/-- Loop 2. -/
def rloop2 : Loop (nD := nD) (τ := τ) (pcfgs (F := F)) defs₀ loops (Option PUnit) :=
  Loop.counted 2 main_while2_cond main_while2_body rfl
    (StableHlo.nullary main_while2c_c_50 (constantI S_ 32 32767#32)) (StableHlo.binary main_v59_1 main_while2c_c_50 main_while2c_v221 (cmpi .slt)) [rbody2]
    (HostLoop.elt main_while2c_v221) rfl (StableHlo.nullary_bufs_sub ..) (StableHlo.binary_bufs_sub ..) rfl rfl
    rbody2_plain.plain
    (rbody2_T (F := F)).2.eq 32767 (by decide) (fun W => W main_v59_1 HostLoop.idx0)
    (fun W => by simp only [StableHlo.afterL_cons, StableHlo.afterL_nil, rbody2, rbody2_T]; after_reads_simp; rfl)
    (fun W => by
      show Prog.ret (IntOp.cmpi .slt (HloOp.result _ W main_v59_1 HostLoop.idx0) (HloOp.result _ W main_while2c_c_50 HostLoop.idx0)) = _
      rw [StableHlo.nullary_result_ne _ _ _ _ (by decide), StableHlo.nullary_result]; rfl)

/-- Loop 3. -/
def rloop3 : Loop (nD := nD) (τ := τ) (pcfgs (F := F)) defs₀ loops (Option PUnit) :=
  Loop.counted 3 main_while3_cond main_while3_body rfl
    (StableHlo.nullary main_while3c_c_51 (constantI S_ 32 64#32)) (StableHlo.binary main_v71_4 main_while3c_c_51 main_while3c_v221 (cmpi .slt)) [rbody3]
    (HostLoop.elt main_while3c_v221) rfl (StableHlo.nullary_bufs_sub ..) (StableHlo.binary_bufs_sub ..) rfl rfl
    rbody3_plain.plain
    (rbody3_T (F := F)).2.eq 64 (by decide) (fun W => W main_v71_4 HostLoop.idx0)
    (fun W => by simp only [StableHlo.afterL_cons, StableHlo.afterL_nil, rbody3, rbody3_T]; after_reads_simp; rfl)
    (fun W => by
      show Prog.ret (IntOp.cmpi .slt (HloOp.result _ W main_v71_4 HostLoop.idx0) (HloOp.result _ W main_while3c_c_51 HostLoop.idx0)) = _
      rw [StableHlo.nullary_result_ne _ _ _ _ (by decide), StableHlo.nullary_result]; rfl)

/-- Loop 4. -/
def rloop4 : Loop (nD := nD) (τ := τ) (pcfgs (F := F)) defs₀ loops (Option PUnit) :=
  Loop.counted 4 main_while4_cond main_while4_body rfl
    (StableHlo.nullary main_while4c_c_50 (constantI S_ 32 16383#32)) (StableHlo.binary main_v114_1 main_while4c_c_50 main_while4c_v221 (cmpi .slt)) [rbody4]
    (HostLoop.elt main_while4c_v221) rfl (StableHlo.nullary_bufs_sub ..) (StableHlo.binary_bufs_sub ..) rfl rfl
    rbody4_plain.plain
    (rbody4_T (F := F)).2.eq 16383 (by decide) (fun W => W main_v114_1 HostLoop.idx0)
    (fun W => by simp only [StableHlo.afterL_cons, StableHlo.afterL_nil, rbody4, rbody4_T]; after_reads_simp; rfl)
    (fun W => by
      show Prog.ret (IntOp.cmpi .slt (HloOp.result _ W main_v114_1 HostLoop.idx0) (HloOp.result _ W main_while4c_c_50 HostLoop.idx0)) = _
      rw [StableHlo.nullary_result_ne _ _ _ _ (by decide), StableHlo.nullary_result]; rfl)

/-- Loop 5. -/
def rloop5 : Loop (nD := nD) (τ := τ) (pcfgs (F := F)) defs₀ loops (Option PUnit) :=
  Loop.counted 5 main_while5_cond main_while5_body rfl
    (StableHlo.nullary main_while5c_c_51 (constantI S_ 32 32#32)) (StableHlo.binary main_v126_4 main_while5c_c_51 main_while5c_v221 (cmpi .slt)) [rbody5]
    (HostLoop.elt main_while5c_v221) rfl (StableHlo.nullary_bufs_sub ..) (StableHlo.binary_bufs_sub ..) rfl rfl
    rbody5_plain.plain
    (rbody5_T (F := F)).2.eq 32 (by decide) (fun W => W main_v126_4 HostLoop.idx0)
    (fun W => by simp only [StableHlo.afterL_cons, StableHlo.afterL_nil, rbody5, rbody5_T]; after_reads_simp; rfl)
    (fun W => by
      show Prog.ret (IntOp.cmpi .slt (HloOp.result _ W main_v126_4 HostLoop.idx0) (HloOp.result _ W main_while5c_c_51 HostLoop.idx0)) = _
      rw [StableHlo.nullary_result_ne _ _ _ _ (by decide), StableHlo.nullary_result]; rfl)

/-- Loop 6. -/
def rloop6 : Loop (nD := nD) (τ := τ) (pcfgs (F := F)) defs₀ loops (Option PUnit) :=
  Loop.counted 6 main_while6_cond main_while6_body rfl
    (StableHlo.nullary main_while6c_c_50 (constantI S_ 32 8191#32)) (StableHlo.binary main_v169_1 main_while6c_c_50 main_while6c_v221 (cmpi .slt)) [rbody6]
    (HostLoop.elt main_while6c_v221) rfl (StableHlo.nullary_bufs_sub ..) (StableHlo.binary_bufs_sub ..) rfl rfl
    rbody6_plain.plain
    (rbody6_T (F := F)).2.eq 8191 (by decide) (fun W => W main_v169_1 HostLoop.idx0)
    (fun W => by simp only [StableHlo.afterL_cons, StableHlo.afterL_nil, rbody6, rbody6_T]; after_reads_simp; rfl)
    (fun W => by
      show Prog.ret (IntOp.cmpi .slt (HloOp.result _ W main_v169_1 HostLoop.idx0) (HloOp.result _ W main_while6c_c_50 HostLoop.idx0)) = _
      rw [StableHlo.nullary_result_ne _ _ _ _ (by decide), StableHlo.nullary_result]; rfl)

/-- Loop 7. -/
def rloop7 : Loop (nD := nD) (τ := τ) (pcfgs (F := F)) defs₀ loops (Option PUnit) :=
  Loop.counted 7 main_while7_cond main_while7_body rfl
    (StableHlo.nullary main_while7c_c_51 (constantI S_ 32 16#32)) (StableHlo.binary main_v181_4 main_while7c_c_51 main_while7c_v221 (cmpi .slt)) [rbody7]
    (HostLoop.elt main_while7c_v221) rfl (StableHlo.nullary_bufs_sub ..) (StableHlo.binary_bufs_sub ..) rfl rfl
    rbody7_plain.plain
    (rbody7_T (F := F)).2.eq 16 (by decide) (fun W => W main_v181_4 HostLoop.idx0)
    (fun W => by simp only [StableHlo.afterL_cons, StableHlo.afterL_nil, rbody7, rbody7_T]; after_reads_simp; rfl)
    (fun W => by
      show Prog.ret (IntOp.cmpi .slt (HloOp.result _ W main_v181_4 HostLoop.idx0) (HloOp.result _ W main_while7c_c_51 HostLoop.idx0)) = _
      rw [StableHlo.nullary_result_ne _ _ _ _ (by decide), StableHlo.nullary_result]; rfl)

/-- The reference's host program, item by item. -/
def ritems : List ITEM :=
  [Item.ops rops0 rops0_plain.1 rops0_plain.2,
   Item.loop rloop0, Item.ops rops1 rops1_plain.1 rops1_plain.2,
   Item.loop rloop1, Item.ops rops2 rops2_plain.1 rops2_plain.2,
   Item.loop rloop2, Item.ops rops3 rops3_plain.1 rops3_plain.2,
   Item.loop rloop3, Item.ops rops4 rops4_plain.1 rops4_plain.2,
   Item.loop rloop4, Item.ops rops5 rops5_plain.1 rops5_plain.2,
   Item.loop rloop5, Item.ops rops6 rops6_plain.1 rops6_plain.2,
   Item.loop rloop6, Item.ops rops7 rops7_plain.1 rops7_plain.2,
   Item.loop rloop7, Item.ops rops8 rops8_plain.1 rops8_plain.2]

theorem ritems_main (d : Dev nD) : main (F := F) d = Pipeline.chain ((ritems (F := F)).map Item.prog) := by
  rw [main_stretches, rs0_eq]; rfl

abbrev rcond0 : List (HloOp τ sig (Elt F)) := [StableHlo.nullary main_while0c_c_50 (constantI S_ 32 65525#32), StableHlo.binary main_v3_1 main_while0c_c_50 main_while0c_v221 (cmpi .slt)]
/-- The buffers at loop 0, from those before the stretch ahead of it; and after the loop. -/
def rpre0 (V : Mem nD τ sig F) : Mem nD τ sig F := fun c => after rops0 (V c)
def rpost0 (V : Mem nD τ sig F) : Mem nD τ sig F := fun c => after rcond0 (StableHlo.atTrip rcond0 [rbody0] (rpre0 V) 65525 c)
theorem rpre0_zero (V : Mem nD τ sig F) (c : Dev nD) : rpre0 V c main_v3_1 HostLoop.idx0 = 0#32 := by
  unfold rpre0
  generalize V c = W
  simp only [StableHlo.afterL_cons, StableHlo.afterL_nil, rops0, rops0_L]; after_reads_simp; rfl

abbrev rcond1 : List (HloOp τ sig (Elt F)) := [StableHlo.nullary main_while1c_c_51 (constantI S_ 32 128#32), StableHlo.binary main_v15_4 main_while1c_c_51 main_while1c_v221 (cmpi .slt)]
/-- The buffers at loop 1, from those before the stretch ahead of it; and after the loop. -/
def rpre1 (V : Mem nD τ sig F) : Mem nD τ sig F := fun c => after rops1 (V c)
def rpost1 (V : Mem nD τ sig F) : Mem nD τ sig F := fun c => after rcond1 (StableHlo.atTrip rcond1 [rbody1] (rpre1 V) 128 c)
theorem rpre1_zero (V : Mem nD τ sig F) (c : Dev nD) : rpre1 V c main_v15_4 HostLoop.idx0 = 0#32 := by
  unfold rpre1
  generalize V c = W
  simp only [StableHlo.afterL_cons, StableHlo.afterL_nil, rops1, rops1_L]; after_reads_simp; rfl

abbrev rcond2 : List (HloOp τ sig (Elt F)) := [StableHlo.nullary main_while2c_c_50 (constantI S_ 32 32767#32), StableHlo.binary main_v59_1 main_while2c_c_50 main_while2c_v221 (cmpi .slt)]
/-- The buffers at loop 2, from those before the stretch ahead of it; and after the loop. -/
def rpre2 (V : Mem nD τ sig F) : Mem nD τ sig F := fun c => after rops2 (V c)
def rpost2 (V : Mem nD τ sig F) : Mem nD τ sig F := fun c => after rcond2 (StableHlo.atTrip rcond2 [rbody2] (rpre2 V) 32767 c)
theorem rpre2_zero (V : Mem nD τ sig F) (c : Dev nD) : rpre2 V c main_v59_1 HostLoop.idx0 = 0#32 := by
  unfold rpre2
  generalize V c = W
  simp only [StableHlo.afterL_cons, StableHlo.afterL_nil, rops2, rops2_L]; after_reads_simp; rfl

abbrev rcond3 : List (HloOp τ sig (Elt F)) := [StableHlo.nullary main_while3c_c_51 (constantI S_ 32 64#32), StableHlo.binary main_v71_4 main_while3c_c_51 main_while3c_v221 (cmpi .slt)]
/-- The buffers at loop 3, from those before the stretch ahead of it; and after the loop. -/
def rpre3 (V : Mem nD τ sig F) : Mem nD τ sig F := fun c => after rops3 (V c)
def rpost3 (V : Mem nD τ sig F) : Mem nD τ sig F := fun c => after rcond3 (StableHlo.atTrip rcond3 [rbody3] (rpre3 V) 64 c)
theorem rpre3_zero (V : Mem nD τ sig F) (c : Dev nD) : rpre3 V c main_v71_4 HostLoop.idx0 = 0#32 := by
  unfold rpre3
  generalize V c = W
  simp only [StableHlo.afterL_cons, StableHlo.afterL_nil, rops3, rops3_L]; after_reads_simp; rfl

abbrev rcond4 : List (HloOp τ sig (Elt F)) := [StableHlo.nullary main_while4c_c_50 (constantI S_ 32 16383#32), StableHlo.binary main_v114_1 main_while4c_c_50 main_while4c_v221 (cmpi .slt)]
/-- The buffers at loop 4, from those before the stretch ahead of it; and after the loop. -/
def rpre4 (V : Mem nD τ sig F) : Mem nD τ sig F := fun c => after rops4 (V c)
def rpost4 (V : Mem nD τ sig F) : Mem nD τ sig F := fun c => after rcond4 (StableHlo.atTrip rcond4 [rbody4] (rpre4 V) 16383 c)
theorem rpre4_zero (V : Mem nD τ sig F) (c : Dev nD) : rpre4 V c main_v114_1 HostLoop.idx0 = 0#32 := by
  unfold rpre4
  generalize V c = W
  simp only [StableHlo.afterL_cons, StableHlo.afterL_nil, rops4, rops4_L]; after_reads_simp; rfl

abbrev rcond5 : List (HloOp τ sig (Elt F)) := [StableHlo.nullary main_while5c_c_51 (constantI S_ 32 32#32), StableHlo.binary main_v126_4 main_while5c_c_51 main_while5c_v221 (cmpi .slt)]
/-- The buffers at loop 5, from those before the stretch ahead of it; and after the loop. -/
def rpre5 (V : Mem nD τ sig F) : Mem nD τ sig F := fun c => after rops5 (V c)
def rpost5 (V : Mem nD τ sig F) : Mem nD τ sig F := fun c => after rcond5 (StableHlo.atTrip rcond5 [rbody5] (rpre5 V) 32 c)
theorem rpre5_zero (V : Mem nD τ sig F) (c : Dev nD) : rpre5 V c main_v126_4 HostLoop.idx0 = 0#32 := by
  unfold rpre5
  generalize V c = W
  simp only [StableHlo.afterL_cons, StableHlo.afterL_nil, rops5, rops5_L]; after_reads_simp; rfl

abbrev rcond6 : List (HloOp τ sig (Elt F)) := [StableHlo.nullary main_while6c_c_50 (constantI S_ 32 8191#32), StableHlo.binary main_v169_1 main_while6c_c_50 main_while6c_v221 (cmpi .slt)]
/-- The buffers at loop 6, from those before the stretch ahead of it; and after the loop. -/
def rpre6 (V : Mem nD τ sig F) : Mem nD τ sig F := fun c => after rops6 (V c)
def rpost6 (V : Mem nD τ sig F) : Mem nD τ sig F := fun c => after rcond6 (StableHlo.atTrip rcond6 [rbody6] (rpre6 V) 8191 c)
theorem rpre6_zero (V : Mem nD τ sig F) (c : Dev nD) : rpre6 V c main_v169_1 HostLoop.idx0 = 0#32 := by
  unfold rpre6
  generalize V c = W
  simp only [StableHlo.afterL_cons, StableHlo.afterL_nil, rops6, rops6_L]; after_reads_simp; rfl

abbrev rcond7 : List (HloOp τ sig (Elt F)) := [StableHlo.nullary main_while7c_c_51 (constantI S_ 32 16#32), StableHlo.binary main_v181_4 main_while7c_c_51 main_while7c_v221 (cmpi .slt)]
/-- The buffers at loop 7, from those before the stretch ahead of it; and after the loop. -/
def rpre7 (V : Mem nD τ sig F) : Mem nD τ sig F := fun c => after rops7 (V c)
def rpost7 (V : Mem nD τ sig F) : Mem nD τ sig F := fun c => after rcond7 (StableHlo.atTrip rcond7 [rbody7] (rpre7 V) 16 c)
theorem rpre7_zero (V : Mem nD τ sig F) (c : Dev nD) : rpre7 V c main_v181_4 HostLoop.idx0 = 0#32 := by
  unfold rpre7
  generalize V c = W
  simp only [StableHlo.afterL_cons, StableHlo.afterL_nil, rops7, rops7_L]; after_reads_simp; rfl

/-- The buffers at the end. -/
def rend (V : Mem nD τ sig F) : Mem nD τ sig F := fun c => after rops8 ((rpost7 (rpost6 (rpost5 (rpost4 (rpost3 (rpost2 (rpost1 (rpost0 V)))))))) c)

theorem ritems_next (V : Mem nD τ sig F) : nextL (ritems (F := F)) V = rend V := rfl

theorem ritems_ok (V : Mem nD τ sig F) : okL (ritems (F := F)) V := by
  refine ⟨trivial, rpre0_zero V, trivial, rpre1_zero (rpost0 V), trivial, rpre2_zero (rpost1 (rpost0 V)), trivial, rpre3_zero (rpost2 (rpost1 (rpost0 V))), trivial, rpre4_zero (rpost3 (rpost2 (rpost1 (rpost0 V)))), trivial, rpre5_zero (rpost4 (rpost3 (rpost2 (rpost1 (rpost0 V))))), trivial, rpre6_zero (rpost5 (rpost4 (rpost3 (rpost2 (rpost1 (rpost0 V)))))), trivial, rpre7_zero (rpost6 (rpost5 (rpost4 (rpost3 (rpost2 (rpost1 (rpost0 V))))))), trivial, trivial⟩

set_option backward.isDefEq.respectTransparency.types false in
/-- THE REFERENCE'S RUN: from any memory, with every counter at zero, every weakly fair execution terminates, with every buffer at `rend` of the
    launch contents and every counter at zero. -/
theorem rrun (m : (ℓ : Loc nD τ sig) → Buf (Elt F) ℓ) (ρ : Dev nD → PrngReg) :
    θ_run (defs (F := F)) (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = rend (launchContents m) c (Proc.devRef .tc b)) ∧ r.2.sem = fun _ => 0) := by
  rw [← ritems_next (launchContents m)]
  exact run_items (pcs := pcfgs (F := F)) (a := adm) (fun p => Fin.elim0 (p.1 : Fin 0)) ritems main ritems_main m ρ (ritems_ok _) (by simp [ritems, Item.ops, Item.loop]) (1 : Option PUnit)
    (by
      iintro -
      imodintro
      rw [Finset.univ_eq_empty, BI.bigSep_empty]
      iempintro)
    (by decide)

/-- The buffers that stretch 0 writes. -/
def rops0_W : {W : List (Ref sig .tc) // WritesL (τ := τ) ([rops0] : List (List (HloOp τ sig (Elt F)))) W} := by
  apply Subtype.mk; repeat first | exact WritesL.nil | apply WritesL.skip | apply WritesL.cons (Eq.refl _)

/-- The buffers that stretch 1 writes. -/
def rops1_W : {W : List (Ref sig .tc) // WritesL (τ := τ) ([rops1] : List (List (HloOp τ sig (Elt F)))) W} := by
  apply Subtype.mk; repeat first | exact WritesL.nil | apply WritesL.skip | apply WritesL.cons (Eq.refl _)

/-- The buffers that stretch 2 writes. -/
def rops2_W : {W : List (Ref sig .tc) // WritesL (τ := τ) ([rops2] : List (List (HloOp τ sig (Elt F)))) W} := by
  apply Subtype.mk; repeat first | exact WritesL.nil | apply WritesL.skip | apply WritesL.cons (Eq.refl _)

/-- The buffers that stretch 3 writes. -/
def rops3_W : {W : List (Ref sig .tc) // WritesL (τ := τ) ([rops3] : List (List (HloOp τ sig (Elt F)))) W} := by
  apply Subtype.mk; repeat first | exact WritesL.nil | apply WritesL.skip | apply WritesL.cons (Eq.refl _)

/-- The buffers that stretch 4 writes. -/
def rops4_W : {W : List (Ref sig .tc) // WritesL (τ := τ) ([rops4] : List (List (HloOp τ sig (Elt F)))) W} := by
  apply Subtype.mk; repeat first | exact WritesL.nil | apply WritesL.skip | apply WritesL.cons (Eq.refl _)

/-- The buffers that stretch 5 writes. -/
def rops5_W : {W : List (Ref sig .tc) // WritesL (τ := τ) ([rops5] : List (List (HloOp τ sig (Elt F)))) W} := by
  apply Subtype.mk; repeat first | exact WritesL.nil | apply WritesL.skip | apply WritesL.cons (Eq.refl _)

/-- The buffers that stretch 6 writes. -/
def rops6_W : {W : List (Ref sig .tc) // WritesL (τ := τ) ([rops6] : List (List (HloOp τ sig (Elt F)))) W} := by
  apply Subtype.mk; repeat first | exact WritesL.nil | apply WritesL.skip | apply WritesL.cons (Eq.refl _)

/-- The buffers that stretch 7 writes. -/
def rops7_W : {W : List (Ref sig .tc) // WritesL (τ := τ) ([rops7] : List (List (HloOp τ sig (Elt F)))) W} := by
  apply Subtype.mk; repeat first | exact WritesL.nil | apply WritesL.skip | apply WritesL.cons (Eq.refl _)

/-- The buffers that stretch 8 writes. -/
def rops8_W : {W : List (Ref sig .tc) // WritesL (τ := τ) ([rops8] : List (List (HloOp τ sig (Elt F)))) W} := by
  apply Subtype.mk; repeat first | exact WritesL.nil | apply WritesL.skip | apply WritesL.cons (Eq.refl _)

/-- The buffers that loop 0's condition writes. -/
def rcond0_W : {W : List (Ref sig .tc) // WritesL (τ := τ) ([rcond0] : List (List (HloOp τ sig (Elt F)))) W} := by
  apply Subtype.mk; repeat first | exact WritesL.nil | apply WritesL.skip | apply WritesL.cons (Eq.refl _)

/-- The buffers that loop 0's body writes. -/
def rbody0_W : {W : List (Ref sig .tc) // WritesL (τ := τ) ([rbody0] : List (List (HloOp τ sig (Elt F)))) W} := by
  apply Subtype.mk; repeat first | exact WritesL.nil | apply WritesL.skip | apply WritesL.cons (Eq.refl _)

/-- The buffers that loop 1's condition writes. -/
def rcond1_W : {W : List (Ref sig .tc) // WritesL (τ := τ) ([rcond1] : List (List (HloOp τ sig (Elt F)))) W} := by
  apply Subtype.mk; repeat first | exact WritesL.nil | apply WritesL.skip | apply WritesL.cons (Eq.refl _)

/-- The buffers that loop 1's body writes. -/
def rbody1_W : {W : List (Ref sig .tc) // WritesL (τ := τ) ([rbody1] : List (List (HloOp τ sig (Elt F)))) W} := by
  apply Subtype.mk; repeat first | exact WritesL.nil | apply WritesL.skip | apply WritesL.cons (Eq.refl _)

/-- The buffers that loop 2's condition writes. -/
def rcond2_W : {W : List (Ref sig .tc) // WritesL (τ := τ) ([rcond2] : List (List (HloOp τ sig (Elt F)))) W} := by
  apply Subtype.mk; repeat first | exact WritesL.nil | apply WritesL.skip | apply WritesL.cons (Eq.refl _)

/-- The buffers that loop 2's body writes. -/
def rbody2_W : {W : List (Ref sig .tc) // WritesL (τ := τ) ([rbody2] : List (List (HloOp τ sig (Elt F)))) W} := by
  apply Subtype.mk; repeat first | exact WritesL.nil | apply WritesL.skip | apply WritesL.cons (Eq.refl _)

/-- The buffers that loop 3's condition writes. -/
def rcond3_W : {W : List (Ref sig .tc) // WritesL (τ := τ) ([rcond3] : List (List (HloOp τ sig (Elt F)))) W} := by
  apply Subtype.mk; repeat first | exact WritesL.nil | apply WritesL.skip | apply WritesL.cons (Eq.refl _)

/-- The buffers that loop 3's body writes. -/
def rbody3_W : {W : List (Ref sig .tc) // WritesL (τ := τ) ([rbody3] : List (List (HloOp τ sig (Elt F)))) W} := by
  apply Subtype.mk; repeat first | exact WritesL.nil | apply WritesL.skip | apply WritesL.cons (Eq.refl _)

/-- The buffers that loop 4's condition writes. -/
def rcond4_W : {W : List (Ref sig .tc) // WritesL (τ := τ) ([rcond4] : List (List (HloOp τ sig (Elt F)))) W} := by
  apply Subtype.mk; repeat first | exact WritesL.nil | apply WritesL.skip | apply WritesL.cons (Eq.refl _)

/-- The buffers that loop 4's body writes. -/
def rbody4_W : {W : List (Ref sig .tc) // WritesL (τ := τ) ([rbody4] : List (List (HloOp τ sig (Elt F)))) W} := by
  apply Subtype.mk; repeat first | exact WritesL.nil | apply WritesL.skip | apply WritesL.cons (Eq.refl _)

/-- The buffers that loop 5's condition writes. -/
def rcond5_W : {W : List (Ref sig .tc) // WritesL (τ := τ) ([rcond5] : List (List (HloOp τ sig (Elt F)))) W} := by
  apply Subtype.mk; repeat first | exact WritesL.nil | apply WritesL.skip | apply WritesL.cons (Eq.refl _)

/-- The buffers that loop 5's body writes. -/
def rbody5_W : {W : List (Ref sig .tc) // WritesL (τ := τ) ([rbody5] : List (List (HloOp τ sig (Elt F)))) W} := by
  apply Subtype.mk; repeat first | exact WritesL.nil | apply WritesL.skip | apply WritesL.cons (Eq.refl _)

/-- The buffers that loop 6's condition writes. -/
def rcond6_W : {W : List (Ref sig .tc) // WritesL (τ := τ) ([rcond6] : List (List (HloOp τ sig (Elt F)))) W} := by
  apply Subtype.mk; repeat first | exact WritesL.nil | apply WritesL.skip | apply WritesL.cons (Eq.refl _)

/-- The buffers that loop 6's body writes. -/
def rbody6_W : {W : List (Ref sig .tc) // WritesL (τ := τ) ([rbody6] : List (List (HloOp τ sig (Elt F)))) W} := by
  apply Subtype.mk; repeat first | exact WritesL.nil | apply WritesL.skip | apply WritesL.cons (Eq.refl _)

/-- The buffers that loop 7's condition writes. -/
def rcond7_W : {W : List (Ref sig .tc) // WritesL (τ := τ) ([rcond7] : List (List (HloOp τ sig (Elt F)))) W} := by
  apply Subtype.mk; repeat first | exact WritesL.nil | apply WritesL.skip | apply WritesL.cons (Eq.refl _)

/-- The buffers that loop 7's body writes. -/
def rbody7_W : {W : List (Ref sig .tc) // WritesL (τ := τ) ([rbody7] : List (List (HloOp τ sig (Elt F)))) W} := by
  apply Subtype.mk; repeat first | exact WritesL.nil | apply WritesL.skip | apply WritesL.cons (Eq.refl _)

end Cert.ReferenceIdeal.Run

end
-- ==== Proof.RFrame.lean ====
/-
  The reference's run leaves its arguments alone.
-/
module

public import proofs.«01_k».proof.Proof.RRun
public import Idealize.ShloMosaic.PureOps.BitExact
public import Idealize.ShloMosaic.Lib.Decide

@[expose] public section

noncomputable section

namespace Cert.ReferenceIdeal.Run

open Cert.ReferenceIdeal Cert.ReferenceIdeal.Gen Cert.Host

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (afterL after Plain held launchContents)
open Idealize.ShloMosaic.Pipeline (Ticket ucRefs)

variable {F : FTy → Type} [FloatOps F]

/-- Every buffer that the program writes. -/
def rwrites (F : FTy → Type) [FloatOps F] : List (Ref sig .tc) := (rops0_W (F := F)).1 ++ (rops1_W (F := F)).1 ++ (rops2_W (F := F)).1 ++ (rops3_W (F := F)).1 ++ (rops4_W (F := F)).1 ++ (rops5_W (F := F)).1 ++ (rops6_W (F := F)).1 ++ (rops7_W (F := F)).1 ++ (rops8_W (F := F)).1 ++ (rcond0_W (F := F)).1 ++ (rbody0_W (F := F)).1 ++ (rcond1_W (F := F)).1 ++ (rbody1_W (F := F)).1 ++ (rcond2_W (F := F)).1 ++ (rbody2_W (F := F)).1 ++ (rcond3_W (F := F)).1 ++ (rbody3_W (F := F)).1 ++ (rcond4_W (F := F)).1 ++ (rbody4_W (F := F)).1 ++ (rcond5_W (F := F)).1 ++ (rbody5_W (F := F)).1 ++ (rcond6_W (F := F)).1 ++ (rbody6_W (F := F)).1 ++ (rcond7_W (F := F)).1 ++ (rbody7_W (F := F)).1

theorem not_mem_append {α : Type} {a : α} {xs ys : List α} (h : a ∉ xs ++ ys) : a ∉ xs ∧ a ∉ ys :=
  ⟨fun hx => h (List.mem_append_left _ hx), fun hy => h (List.mem_append_right _ hy)⟩

theorem rpost0_keep {r : Ref sig .tc} (h0 : r ∉ (rops0_W (F := F)).1) (hc : r ∉ (rcond0_W (F := F)).1)
    (hb : r ∉ (rbody0_W (F := F)).1) (V : Mem nD τ sig F) (c : Dev nD) : rpost0 V c r = V c r :=
  (afterL_keep rcond0_W.2 hc _).trans ((atTrip_keep rcond0_W.2 rbody0_W.2 hc hb _ c _).trans (afterL_keep rops0_W.2 h0 _))

theorem rpost1_keep {r : Ref sig .tc} (h0 : r ∉ (rops1_W (F := F)).1) (hc : r ∉ (rcond1_W (F := F)).1)
    (hb : r ∉ (rbody1_W (F := F)).1) (V : Mem nD τ sig F) (c : Dev nD) : rpost1 V c r = V c r :=
  (afterL_keep rcond1_W.2 hc _).trans ((atTrip_keep rcond1_W.2 rbody1_W.2 hc hb _ c _).trans (afterL_keep rops1_W.2 h0 _))

theorem rpost2_keep {r : Ref sig .tc} (h0 : r ∉ (rops2_W (F := F)).1) (hc : r ∉ (rcond2_W (F := F)).1)
    (hb : r ∉ (rbody2_W (F := F)).1) (V : Mem nD τ sig F) (c : Dev nD) : rpost2 V c r = V c r :=
  (afterL_keep rcond2_W.2 hc _).trans ((atTrip_keep rcond2_W.2 rbody2_W.2 hc hb _ c _).trans (afterL_keep rops2_W.2 h0 _))

theorem rpost3_keep {r : Ref sig .tc} (h0 : r ∉ (rops3_W (F := F)).1) (hc : r ∉ (rcond3_W (F := F)).1)
    (hb : r ∉ (rbody3_W (F := F)).1) (V : Mem nD τ sig F) (c : Dev nD) : rpost3 V c r = V c r :=
  (afterL_keep rcond3_W.2 hc _).trans ((atTrip_keep rcond3_W.2 rbody3_W.2 hc hb _ c _).trans (afterL_keep rops3_W.2 h0 _))

theorem rpost4_keep {r : Ref sig .tc} (h0 : r ∉ (rops4_W (F := F)).1) (hc : r ∉ (rcond4_W (F := F)).1)
    (hb : r ∉ (rbody4_W (F := F)).1) (V : Mem nD τ sig F) (c : Dev nD) : rpost4 V c r = V c r :=
  (afterL_keep rcond4_W.2 hc _).trans ((atTrip_keep rcond4_W.2 rbody4_W.2 hc hb _ c _).trans (afterL_keep rops4_W.2 h0 _))

theorem rpost5_keep {r : Ref sig .tc} (h0 : r ∉ (rops5_W (F := F)).1) (hc : r ∉ (rcond5_W (F := F)).1)
    (hb : r ∉ (rbody5_W (F := F)).1) (V : Mem nD τ sig F) (c : Dev nD) : rpost5 V c r = V c r :=
  (afterL_keep rcond5_W.2 hc _).trans ((atTrip_keep rcond5_W.2 rbody5_W.2 hc hb _ c _).trans (afterL_keep rops5_W.2 h0 _))

theorem rpost6_keep {r : Ref sig .tc} (h0 : r ∉ (rops6_W (F := F)).1) (hc : r ∉ (rcond6_W (F := F)).1)
    (hb : r ∉ (rbody6_W (F := F)).1) (V : Mem nD τ sig F) (c : Dev nD) : rpost6 V c r = V c r :=
  (afterL_keep rcond6_W.2 hc _).trans ((atTrip_keep rcond6_W.2 rbody6_W.2 hc hb _ c _).trans (afterL_keep rops6_W.2 h0 _))

theorem rpost7_keep {r : Ref sig .tc} (h0 : r ∉ (rops7_W (F := F)).1) (hc : r ∉ (rcond7_W (F := F)).1)
    (hb : r ∉ (rbody7_W (F := F)).1) (V : Mem nD τ sig F) (c : Dev nD) : rpost7 V c r = V c r :=
  (afterL_keep rcond7_W.2 hc _).trans ((atTrip_keep rcond7_W.2 rbody7_W.2 hc hb _ c _).trans (afterL_keep rops7_W.2 h0 _))

/-- A buffer that the program does not write keeps its contents. -/
theorem rend_keep {r : Ref sig .tc} (h : r ∉ rwrites F) (V : Mem nD τ sig F) (c : Dev nD) : rend V c r = V c r := by
  unfold rwrites at h
  obtain ⟨h, b7⟩ := not_mem_append h
  obtain ⟨h, c7⟩ := not_mem_append h
  obtain ⟨h, b6⟩ := not_mem_append h
  obtain ⟨h, c6⟩ := not_mem_append h
  obtain ⟨h, b5⟩ := not_mem_append h
  obtain ⟨h, c5⟩ := not_mem_append h
  obtain ⟨h, b4⟩ := not_mem_append h
  obtain ⟨h, c4⟩ := not_mem_append h
  obtain ⟨h, b3⟩ := not_mem_append h
  obtain ⟨h, c3⟩ := not_mem_append h
  obtain ⟨h, b2⟩ := not_mem_append h
  obtain ⟨h, c2⟩ := not_mem_append h
  obtain ⟨h, b1⟩ := not_mem_append h
  obtain ⟨h, c1⟩ := not_mem_append h
  obtain ⟨h, b0⟩ := not_mem_append h
  obtain ⟨h, c0⟩ := not_mem_append h
  obtain ⟨h, a8⟩ := not_mem_append h
  obtain ⟨h, a7⟩ := not_mem_append h
  obtain ⟨h, a6⟩ := not_mem_append h
  obtain ⟨h, a5⟩ := not_mem_append h
  obtain ⟨h, a4⟩ := not_mem_append h
  obtain ⟨h, a3⟩ := not_mem_append h
  obtain ⟨h, a2⟩ := not_mem_append h
  obtain ⟨h, a1⟩ := not_mem_append h
  exact (afterL_keep rops8_W.2 a8 _).trans ((rpost7_keep a7 c7 b7 _ c).trans ((rpost6_keep a6 c6 b6 _ c).trans ((rpost5_keep a5 c5 b5 _ c).trans ((rpost4_keep a4 c4 b4 _ c).trans ((rpost3_keep a3 c3 b3 _ c).trans ((rpost2_keep a2 c2 b2 _ c).trans ((rpost1_keep a1 c1 b1 _ c).trans (rpost0_keep h c0 b0 _ c))))))))

/-- The arguments. -/
abbrev rargs : List (Ref sig .tc) := [main_arg0, main_arg1, main_arg2, main_arg3, main_arg4, main_arg5, main_arg6, main_arg7, main_arg8, main_arg9, main_arg10, main_arg11, main_arg12, main_arg13]

theorem rwrites_eq : rwrites F = rwrites Bits := rfl

theorem rargs_kept : ∀ a ∈ rargs, a ∉ rwrites F := by
  rw [rwrites_eq]
  exact Idealize.ShloMosaic.ListAll.forall_mem_of_all_decide (by decide +kernel)

set_option backward.isDefEq.respectTransparency.types false in
/-- The reference runs, leaves its arguments alone, and ends with every counter at zero. -/
theorem rquiescent (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13)) ∧ r.2.sem = fun _ => 0) := by
  refine (θ_run _ _ _).mono (fun r h => ⟨fun c => ?_, h.2⟩) (rrun m ρ)
  have k : ∀ a ∈ rargs, (Proc.devRef .tc a : DevRef τ sig).isScoped = false → r.2.mem ((c.tc : Thread nD τ).loc a) = m ((c.tc : Thread nD τ).loc a) :=
    fun a ha hs => (h.1 c a hs).trans (rend_keep (rargs_kept a ha) _ c)
  exact ⟨k main_arg0 (by decide) rfl, k main_arg1 (by decide) rfl, k main_arg2 (by decide) rfl, k main_arg3 (by decide) rfl, k main_arg4 (by decide) rfl, k main_arg5 (by decide) rfl, k main_arg6 (by decide) rfl, k main_arg7 (by decide) rfl, k main_arg8 (by decide) rfl, k main_arg9 (by decide) rfl, k main_arg10 (by decide) rfl, k main_arg11 (by decide) rfl, k main_arg12 (by decide) rfl, k main_arg13 (by decide) rfl⟩

end Cert.ReferenceIdeal.Run

end
-- ==== Proof.Sample.lean ====
/-
  Furthest point sampling on points numbered by natural numbers, over the extended reals: each step takes the point's distance to the last
  sample into the running nearest distances and picks the first of the points furthest from every sample so far. And the vector operations
  by which the sampling kernel computes a step, on an array of `R` rows of 128 lanes, point `128 r + l` at row `r` and lane `l`.
-/
module

public import Idealize.ShloMosaic.PureOps.Ideal.Laws
public import Idealize.ShloMosaic.Lib.Routing.OpsOne
public import Idealize.ShloMosaic.Lib.Routing.Words
public import Idealize.ShloMosaic.Lib.Pointwise
public import Idealize.ShloMosaic.Lib.ValueIdx
public import Idealize.ShloMosaic.Lib.VecWindow
public import Idealize.ShloMosaic.Lib.Writes

@[expose] public section

noncomputable section

namespace Cert.Sample

open Idealize.ShloMosaic Idealize.ShloMosaic.ValueIdx

/-! ## The mathematics -/

/-- The running nearest distances after point `s` is taken as a sample. -/
def near (x y z d : ℕ → EReal) (s j : ℕ) : EReal :=
  min (d j) ((x j - x s) * (x j - x s) + (y j - y s) * (y j - y s) + (z j - z s) * (z j - z s))

/-- Point `s` is the first, of those below `n`, at which `d` is largest. -/
structure First (n : ℕ) (d : ℕ → EReal) (s : ℕ) : Prop where
  lt : s < n
  le : ∀ j, j < n → d j ≤ d s
  first : ∀ j, j < s → d j < d s

theorem First.unique {n : ℕ} {d : ℕ → EReal} {s t : ℕ} (hs : First n d s) (ht : First n d t) : s = t := by
  rcases Nat.lt_trichotomy s t with h | h | h
  · exact absurd (hs.le t ht.lt) (not_le.2 (ht.first s h))
  · exact h
  · exact absurd (ht.le s hs.lt) (not_le.2 (hs.first t h))

/-- There is one among any points at all. -/
theorem exists_first (d : ℕ → EReal) : ∀ n : ℕ, 0 < n → ∃ s, First n d s
  | 1, _ => ⟨0, Nat.one_pos, fun j hj => by obtain rfl : j = 0 := by omega
                                            exact le_rfl, fun j hj => absurd hj (Nat.not_lt_zero _)⟩
  | n + 2, _ => by
    obtain ⟨s, hs⟩ := exists_first d (n + 1) (Nat.succ_pos _)
    by_cases h : d s < d (n + 1)
    · exact ⟨n + 1, by omega, fun j hj => by
        rcases Nat.lt_or_ge j (n + 1) with h' | h'
        · exact (hs.le j h').trans h.le
        · obtain rfl : j = n + 1 := by omega
          exact le_rfl, fun j hj => (hs.le j hj).trans_lt h⟩
    · exact ⟨s, by have := hs.lt; omega, fun j hj => by
        rcases Nat.lt_or_ge j (n + 1) with h' | h'
        · exact hs.le j h'
        · obtain rfl : j = n + 1 := by omega
          exact not_lt.1 h, hs.first⟩

open Classical in
/-- The first of the points below `n` at which `d` is largest. -/
def first (n : ℕ) (d : ℕ → EReal) : ℕ := if h : ∃ s, First n d s then h.choose else 0

theorem first_spec {n : ℕ} (d : ℕ → EReal) (hn : 0 < n) : First n d (first n d) := by
  have h := exists_first d n hn
  rw [first, dif_pos h]; exact h.choose_spec

/-- The nearest distances and the last sample after `t` steps. -/
def state (n : ℕ) (x y z : ℕ → EReal) (c : EReal) : ℕ → (ℕ → EReal) × ℕ
  | 0 => (fun _ => c, 0)
  | t + 1 => (near x y z (state n x y z c t).1 (state n x y z c t).2, first n (near x y z (state n x y z c t).1 (state n x y z c t).2))

theorem mul_self_nonneg' (a : EReal) : 0 ≤ a * a := by
  rcases le_total 0 a with h | h
  · exact mul_nonneg h h
  · have h' : 0 ≤ -a := EReal.neg_nonneg.2 h
    have e : a * a = -a * -a := (neg_mul_neg a a).symm
    rw [e]; exact mul_nonneg h' h'

theorem near_nonneg {x y z d : ℕ → EReal} (hd : ∀ j, 0 ≤ d j) (s j : ℕ) : 0 ≤ near x y z d s j :=
  le_min (hd j) (add_nonneg (add_nonneg (mul_self_nonneg' _) (mul_self_nonneg' _)) (mul_self_nonneg' _))

section
variable {n : ℕ} {x y z : ℕ → EReal} {c : EReal}

theorem state_nonneg (hc : 0 ≤ c) : ∀ t j, 0 ≤ (state n x y z c t).1 j
  | 0, _ => hc
  | t + 1, j => near_nonneg (state_nonneg hc t) _ j

theorem state_lt (hn : 0 < n) : ∀ t, (state n x y z c t).2 < n
  | 0 => hn
  | _ + 1 => (first_spec _ hn).lt
end

/-! ## Folds that pick one of their values -/

/-- A fold of an operation that returns the lesser of two values, in a preorder, is below every value and is one of them or the start. -/
theorem fold_pick {α β : Type} {ι : Type} (f : ι → α) (key : α → β) [Preorder β] (op : α → α → α) [Std.Commutative op] [Std.Associative op]
    (h : ∀ a b, (op a b = a ∧ key a ≤ key b) ∨ (op a b = b ∧ key b ≤ key a)) (b : α) (S : Finset ι) :
    (∀ i ∈ S, key (S.fold op b f) ≤ key (f i)) ∧ (S.fold op b f = b ∨ ∃ i ∈ S, S.fold op b f = f i) := by
  classical
  induction S using Finset.induction_on with
  | empty => exact ⟨fun i hi => absurd hi (Finset.notMem_empty i), .inl (Finset.fold_empty)⟩
  | insert a S ha ih =>
    rw [Finset.fold_insert ha]
    obtain ⟨ih1, ih2⟩ := ih
    rcases h (f a) (S.fold op b f) with ⟨e, hle⟩ | ⟨e, hle⟩
    · refine ⟨fun i hi => ?_, .inr ⟨a, Finset.mem_insert_self .., e⟩⟩
      rw [e]
      rcases Finset.mem_insert.1 hi with rfl | hi
      · exact le_rfl
      · exact hle.trans (ih1 i hi)
    · rw [e]
      refine ⟨fun i hi => ?_, ih2.imp id fun ⟨i, hi, e⟩ => ⟨i, Finset.mem_insert_of_mem hi, e⟩⟩
      rcases Finset.mem_insert.1 hi with rfl | hi
      · exact hle
      · exact ih1 i hi

/-! ## Arrays of 128 lanes -/

/-- `R` rows of 128 lanes. -/
abbrev Sq (R : ℕ) : Shape := ⟨2, ![R, 128]⟩

section
variable {R : ℕ}

/-- The number of the point at an index. -/
def num (i : (Sq R).Idx) : ℕ := (i 0).val * 128 + (i 1).val

theorem num_lt (i : (Sq R).Idx) : num i < R * 128 := by
  have h0 : (i 0).val < R := (i 0).isLt
  have h1 : (i 1).val < 128 := (i 1).isLt
  unfold num; omega

/-- Where a point lies. -/
def pos (s : ℕ) (h : s < R * 128) : (Sq R).Idx := ValueIdx.ix2 ⟨s / 128, by omega⟩ ⟨s % 128, by omega⟩

theorem num_pos (s : ℕ) (h : s < R * 128) : num (pos s h) = s := by
  show s / 128 * 128 + s % 128 = s
  omega

theorem num_inj {i j : (Sq R).Idx} (h : num i = num j) : i = j := by
  have h0 : (i 1).val < 128 := (i 1).isLt
  have h1 : (j 1).val < 128 := (j 1).isLt
  unfold num at h
  rw [ValueIdx.eq_ix2 i, ValueIdx.eq_ix2 j]
  have e0 : (i 0).val = (j 0).val := by omega
  have e1 : (i 1).val = (j 1).val := by omega
  rw [Fin.ext e0, Fin.ext e1]

/-- The array that holds each point's number. -/
theorem flat_eq (h0 : (Sq R).Iotas .tc 32 [0]) (h1 : (Sq R).Iotas .tc 32 [1]) (i : (Sq R).Idx) :
    addi (muli (iota .tc (Sq R) 32 [0] h0) (broadcast (Sq R) 128#32)) (iota .tc (Sq R) 32 [1] h1) i = BitVec.ofNat 32 (num i) := by
  show BitVec.ofNat 32 (0 * R + (i 0).val) * BitVec.ofNat 32 128 + BitVec.ofNat 32 (0 * 128 + (i 1).val) = _
  unfold num
  rw [← BitVec.ofNat_mul, ← BitVec.ofNat_add, Nat.zero_mul, Nat.zero_mul, Nat.zero_add, Nat.zero_add]

theorem bot_word : (FloatOps.ofBits (F := Ideal) .f32 0xFF800000#32 : EReal) = ⊥ := by
  show Ideal.ofBits .f32 0xFF800000#32 = ⊥
  simp [Ideal.ofBits, Ideal.ieee]

theorem far_nonneg : (0 : EReal) ≤ FloatOps.ofBits (F := Ideal) .f32 0x501502F9#32 := by
  show (0 : EReal) ≤ Ideal.ofBits .f32 0x501502F9#32
  simp [Ideal.ofBits, Ideal.ieee]
  exact_mod_cast (by norm_num : (0 : ℝ) ≤ 9765625 * 2 ^ 10)

instance : Subsingleton (⟨1, ![1]⟩ : Shape).Idx :=
  ⟨fun i j => funext fun a => match a with | ⟨0, _⟩ => Subsingleton.elim (α := Fin 1) _ _⟩

/-- The kernel's largest element of an array. -/
def largest (v : FVec Ideal (Sq R) .f32) (p : (Sq R).ShapeCasts ⟨3, ![1, R, 128]⟩) (q : (⟨3, ![1, R, 128]⟩ : Shape).Reduces [1, 2] ⟨1, ![1]⟩)
    (u : (⟨1, ![1]⟩ : Shape).ShapeCasts ⟨3, ![1, 1, 1]⟩) (r : ∀ a, (![0, 0, 0] : Fin 3 → ℕ) a < (⟨3, ![1, 1, 1]⟩ : Shape).size a) : EReal :=
  extractAt (s := ⟨3, ![1, 1, 1]⟩) ![0, 0, 0] (shapeCast ⟨3, ![1, 1, 1]⟩ (multiReduction (F := Ideal) (φ := .f32) .maximumf [1, 2] ⟨1, ![1]⟩
    (shapeCast (s := Sq R) ⟨3, ![1, R, 128]⟩ v p) 0xFF800000#32 q (.inl rfl) rfl) u) r

/-- It is at least every element, and one of them. -/
theorem largest_spec (hR : 0 < R) (v : FVec Ideal (Sq R) .f32) (p q u r) :
    (∀ i, v i ≤ largest v p q u r) ∧ ∃ i, largest v p q u r = v i := by
  have e : largest v p q u r = Finset.univ.fold (FloatOps.maximumf (F := Ideal) (φ := .f32)) (FloatOps.ofBits (F := Ideal) .f32 0xFF800000#32)
      (shapeCast (s := Sq R) ⟨3, ![1, R, 128]⟩ v p) := by
    unfold largest extractAt
    show multiReduction (F := Ideal) (φ := .f32) .maximumf [1, 2] ⟨1, ![1]⟩ _ _ q (.inl rfl) rfl _ = _
    rw [multiReduction_maximumf_eq_fold, Finset.filter_true_of_mem fun _ _ => Subsingleton.elim _ _]
    rfl
  obtain ⟨h1, h2⟩ := fold_pick (β := ERealᵒᵈ) (shapeCast (s := Sq R) ⟨3, ![1, R, 128]⟩ v p) (fun a => OrderDual.toDual (a : EReal)) (FloatOps.maximumf (F := Ideal) (φ := .f32))
    (fun a b => by
      show (max (a : EReal) b = a ∧ (b : EReal) ≤ a) ∨ (max (a : EReal) b = b ∧ (a : EReal) ≤ b)
      rcases le_total (a : EReal) b with h | h
      · exact .inr ⟨max_eq_right h, h⟩
      · exact .inl ⟨max_eq_left h, h⟩) (FloatOps.ofBits (F := Ideal) .f32 0xFF800000#32) Finset.univ
  rw [← e] at h1 h2
  have hle : ∀ i, v i ≤ largest v p q u r := fun i => by
    have := h1 ((Shape.reshapeEquiv p).symm i) (Finset.mem_univ _)
    have e' : shapeCast (s := Sq R) ⟨3, ![1, R, 128]⟩ v p ((Shape.reshapeEquiv p).symm i) = v i := congrArg v (Equiv.apply_symm_apply _ _)
    rw [e'] at this
    exact this
  refine ⟨hle, ?_⟩
  rcases h2 with h2 | ⟨i, _, h2⟩
  · refine ⟨pos 0 (by omega), le_antisymm ?_ (hle _)⟩
    rw [h2, bot_word]; exact bot_le
  · exact ⟨_, h2⟩

/-- The kernel's least word of an array. -/
def least (v : IVec (Sq R) 32) (p : (Sq R).ShapeCasts ⟨3, ![1, R, 128]⟩) (q : (⟨3, ![1, R, 128]⟩ : Shape).Reduces [1, 2] ⟨1, ![1]⟩)
    (u : (⟨1, ![1]⟩ : Shape).ShapeCasts ⟨3, ![1, 1, 1]⟩) (r : ∀ a, (![0, 0, 0] : Fin 3 → ℕ) a < (⟨3, ![1, 1, 1]⟩ : Shape).size a) : BitVec 32 :=
  extractAt (s := ⟨3, ![1, 1, 1]⟩) ![0, 0, 0] (shapeCast ⟨3, ![1, 1, 1]⟩ (multiReductionI .minsi [1, 2] ⟨1, ![1]⟩
    (shapeCast (s := Sq R) ⟨3, ![1, R, 128]⟩ v p) 2147483647#32 q rfl) u) r

/-- It is at most every element, and one of them or the greatest word. -/
theorem least_spec (v : IVec (Sq R) 32) (p q u r) :
    (∀ i, (least v p q u r).toInt ≤ (v i).toInt) ∧ (least v p q u r = 2147483647#32 ∨ ∃ i, least v p q u r = v i) := by
  have e : least v p q u r = Finset.univ.fold IntOp.minsi 2147483647#32 (shapeCast (s := Sq R) ⟨3, ![1, R, 128]⟩ v p) := by
    unfold least extractAt
    show multiReductionI .minsi [1, 2] ⟨1, ![1]⟩ _ _ q rfl _ = _
    rw [multiReductionI_eq_fold, Finset.filter_true_of_mem fun _ _ => Subsingleton.elim _ _]
    rfl
  obtain ⟨h1, h2⟩ := fold_pick (shapeCast (s := Sq R) ⟨3, ![1, R, 128]⟩ v p) BitVec.toInt IntOp.minsi
    (fun a b => by
      unfold IntOp.minsi
      by_cases h : a.slt b
      · rw [if_pos h]; exact .inl ⟨rfl, (BitVec.slt_iff_toInt_lt.1 h).le⟩
      · rw [if_neg h]; exact .inr ⟨rfl, not_lt.1 fun h' => h (BitVec.slt_iff_toInt_lt.2 h')⟩) 2147483647#32 Finset.univ
  rw [← e] at h1 h2
  refine ⟨fun i => ?_, h2.imp id fun ⟨i, _, h⟩ => ⟨_, h⟩⟩
  have := h1 ((Shape.reshapeEquiv p).symm i) (Finset.mem_univ _)
  have e' : shapeCast (s := Sq R) ⟨3, ![1, R, 128]⟩ v p ((Shape.reshapeEquiv p).symm i) = v i := congrArg v (Equiv.apply_symm_apply _ _)
  rw [e'] at this
  exact this

/-- The kernel's read of a coordinate at point `s`: the largest of the coordinates masked to that one point. -/
theorem pick_eq (hR : 0 < R) (hR' : R * 128 ≤ 2 ^ 30) (flat : IVec (Sq R) 32) (hf : ∀ i, flat i = BitVec.ofNat 32 (num i)) (s : ℕ) (hs : s < R * 128)
    (sel : IVec ⟨2, ![1, 1]⟩ 32) (hsel : ∀ i, sel i = BitVec.ofNat 32 s) (v : FVec Ideal (Sq R) .f32) (b) (p q u r) :
    largest (select (cmpi .eq flat (broadcastTo (Sq R) sel b)) v (broadcast (Sq R) (FloatOps.ofBits (F := Ideal) .f32 0xFF800000#32 : Ideal .f32))) p q u r
      = v (pos s hs) := by
  have hv : ∀ i, select (cmpi .eq flat (broadcastTo (Sq R) sel b)) v (broadcast (Sq R) (FloatOps.ofBits (F := Ideal) .f32 0xFF800000#32 : Ideal .f32)) i
      = if num i = s then v i else (⊥ : EReal) := fun i => by
    show Scalar.select (BitVec.ofBool (flat i == sel _)) (v i) (FloatOps.ofBits (F := Ideal) .f32 0xFF800000#32 : Ideal .f32) = _
    rw [hf, hsel, bot_word]
    have hi := num_lt i
    by_cases h : num i = s
    · rw [if_pos h, h, beq_self_eq_true]; rfl
    · have : (BitVec.ofNat 32 (num i) == BitVec.ofNat 32 s) = false := by
        rw [beq_eq_false_iff_ne]
        intro e
        have := congrArg BitVec.toNat e
        rw [BitVec.toNat_ofNat, BitVec.toNat_ofNat, Nat.mod_eq_of_lt (by omega), Nat.mod_eq_of_lt (by omega)] at this
        exact h this
      rw [if_neg h, this]; rfl
  obtain ⟨h1, i, h2⟩ := largest_spec hR (select (cmpi .eq flat (broadcastTo (Sq R) sel b)) v (broadcast (Sq R) (FloatOps.ofBits (F := Ideal) .f32 0xFF800000#32 : Ideal .f32))) p q u r
  have h3 := h1 (pos s hs)
  rw [hv, if_pos (num_pos s hs)] at h3
  rw [hv] at h2
  refine le_antisymm ?_ h3
  rw [h2]
  by_cases h : num i = s
  · rw [if_pos h, num_inj (h.trans (num_pos s hs).symm)]
  · rw [if_neg h]; exact bot_le

/-- The kernel's choice of the next sample: the least number of a point at which the array, −∞ off the first `n` points, is largest. -/
theorem next_eq (hR : 0 < R) (hR' : R * 128 ≤ 2 ^ 30) (flat : IVec (Sq R) 32) (hf : ∀ i, flat i = BitVec.ofNat 32 (num i)) (n : ℕ) (hn : 0 < n) (hn' : n ≤ R * 128)
    (d : ℕ → EReal) (hd : ∀ j, 0 ≤ d j) (v : FVec Ideal (Sq R) .f32) (hv : ∀ i, v i = if num i < n then d (num i) else (⊥ : EReal)) (b) (p q u r p' q' u' r') :
    least (select (cmpf .oeq v (broadcastTo (Sq R) (broadcast ⟨2, ![1, 1]⟩ (largest v p q u r : Ideal .f32)) b)) flat (broadcast (Sq R) 1073741824#32)) p' q' u' r'
      = BitVec.ofNat 32 (first n d) := by
  have hw : ∀ i, select (cmpf .oeq v (broadcastTo (Sq R) (broadcast ⟨2, ![1, 1]⟩ (largest v p q u r : Ideal .f32)) b)) flat (broadcast (Sq R) 1073741824#32) i
      = if v i = largest v p q u r then BitVec.ofNat 32 (num i) else 1073741824#32 := fun i => by
    show Scalar.select (BitVec.ofBool (decide ((v i : EReal) = largest v p q u r))) (flat i) 1073741824#32 = _
    rw [hf]
    by_cases h : (v i : EReal) = largest v p q u r
    · rw [if_pos h, decide_eq_true h]; rfl
    · rw [if_neg h, decide_eq_false h]; rfl
  obtain ⟨h1, i0, h2⟩ := largest_spec hR v p q u r
  obtain ⟨h3, h4⟩ := least_spec (select (cmpf .oeq v (broadcastTo (Sq R) (broadcast ⟨2, ![1, 1]⟩ (largest v p q u r : Ideal .f32)) b)) flat (broadcast (Sq R) 1073741824#32)) p' q' u' r'
  generalize least _ p' q' u' r' = w at h3 h4 ⊢
  have hF := first_spec d hn
  have hlt := hF.lt
  have hs : first n d < R * 128 := by omega
  have hint : ∀ k, k < 2 ^ 30 → (BitVec.ofNat 32 k).toInt = k := fun k hk => by
    rw [BitVec.toInt_eq_toNat_of_lt (by rw [BitVec.toNat_ofNat, Nat.mod_eq_of_lt (by omega)]; omega), BitVec.toNat_ofNat, Nat.mod_eq_of_lt (by omega)]
  have hbig : (1073741824#32 : BitVec 32).toInt = 1073741824 := by decide
  have hbig' : (2147483647#32 : BitVec 32).toInt = 2147483647 := by decide
  -- the largest value is the one at the first
  have hm : largest v p q u r = d (first n d) := by
    refine le_antisymm ?_ ?_
    · rw [h2, hv]
      by_cases h : num i0 < n
      · rw [if_pos h]; exact hF.le _ h
      · rw [if_neg h]; exact bot_le
    · have := h1 (pos _ hs)
      rw [hv, num_pos, if_pos hlt] at this
      exact this
  have hat : v (pos _ hs) = largest v p q u r := by rw [hv, num_pos, if_pos hlt, hm]
  have hle := h3 (pos _ hs)
  rw [hw, if_pos hat, num_pos, hint _ (by omega)] at hle
  rcases h4 with h4 | ⟨i, h4⟩
  · rw [h4, hbig'] at hle; omega
  · rw [hw] at h4
    by_cases h : v i = largest v p q u r
    · rw [if_pos h] at h4
      have hi := num_lt i
      rw [h4, hint _ (by omega)] at hle
      rw [h4]
      by_cases hi' : num i < first n d
      · have hlt' := hF.first _ hi'
        rw [hv, if_pos (by omega), hm] at h
        exact absurd h hlt'.ne
      · rw [show num i = first n d by omega]
    · rw [if_neg h] at h4
      rw [h4, hbig] at hle; omega

/-- One step of the kernel on the nearest distances: −∞ off the first `n` points, where the points hold what they hold. -/
theorem near_eq (n : ℕ) (x y z d : ℕ → EReal) (s : ℕ) (hs : s < n) (hn' : n ≤ R * 128) (X Y Z : FVec Ideal (Sq R) .f32)
    (hX : ∀ i, num i < n → X i = x (num i)) (hY : ∀ i, num i < n → Y i = y (num i)) (hZ : ∀ i, num i < n → Z i = z (num i))
    (D : FVec Ideal (Sq R) .f32) (hD : ∀ i, D i = if num i < n then d (num i) else (⊥ : EReal)) (i : (Sq R).Idx) :
    (min (D i : EReal) (((X i : EReal) - X (pos s (by omega))) * (X i - X (pos s (by omega))) + (Z i - Z (pos s (by omega))) * (Z i - Z (pos s (by omega)))
      + (Y i - Y (pos s (by omega))) * (Y i - Y (pos s (by omega))))) = if num i < n then near x y z d s (num i) else ⊥ := by
  have hp : num (pos s (by omega : s < R * 128)) < n := by rw [num_pos]; exact hs
  rw [hD, hX _ hp, hY _ hp, hZ _ hp, num_pos]
  by_cases h : num i < n
  · rw [if_pos h, if_pos h, hX _ h, hY _ h, hZ _ h, near, add_right_comm]
  · rw [if_neg h, if_neg h]; exact bot_inf_eq _
end

end Cert.Sample
-- ==== Proof.KSample.lean ====
/-
  What a sampling launch of the kernel leaves in its index array: the sampled points' numbers, in order.
-/
module

public import proofs.«01_k».proof.Proof.KRun
public import proofs.«01_k».proof.Proof.Sample
public import Idealize.ShloMosaic.Lib.WritesUnit
public import Idealize.ShloMosaic.Lib.Pipeline.Value

@[expose] public section

noncomputable section

namespace Cert.Sample

open Idealize.ShloMosaic Idealize.ShloMosaic.ValueIdx

/-! ## Words the loop computes -/

theorem iv_word (k : ℕ) : Scf.iv 1#32 1#32 k = BitVec.ofNat 32 (k + 1) := by
  unfold Scf.iv
  rw [BitVec.mul_one, show (1#32 : BitVec 32) = BitVec.ofNat 32 1 from rfl, ← BitVec.ofNat_add, Nat.add_comm]

theorem toInt_word {a : ℕ} (ha : a < 2 ^ 31) : (BitVec.ofNat 32 a).toInt = a := by
  rw [BitVec.toInt_eq_toNat_cond, BitVec.toNat_ofNat]
  omega

theorem slt_word {a b : ℕ} (ha : a < 2 ^ 31) (hb : b < 2 ^ 31) :
    Scalar.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, toInt_word ha, toInt_word hb]
  simp

/-- The lane of a point: its number's remainder by 128, the sign test being false. -/
theorem lane_word {a : ℕ} (ha : a < 2 ^ 31) :
    Scalar.select (Scalar.andi (Scalar.xori (Scalar.cmpi .slt (Scalar.remsi (BitVec.ofNat 32 a) 128#32) 0#32) (Scalar.cmpi .slt 128#32 0#32))
        (Scalar.cmpi .ne (Scalar.remsi (BitVec.ofNat 32 a) 128#32) 0#32))
      (Scalar.addi (Scalar.remsi (BitVec.ofNat 32 a) 128#32) 128#32) (Scalar.remsi (BitVec.ofNat 32 a) 128#32) = BitVec.ofNat 32 (a % 128) := by
  have h : Scalar.remsi (BitVec.ofNat 32 a) 128#32 = BitVec.ofNat 32 (a % 128) := Routing.remsi_word _ ha (by omega) (by omega)
  have h1 : Scalar.cmpi .slt (BitVec.ofNat 32 (a % 128)) 0#32 = 0#1 := by
    rw [show (0#32 : BitVec 32) = BitVec.ofNat 32 0 from rfl, slt_word (by omega) (by omega)]; rfl
  rw [h, h1, show Scalar.cmpi .slt 128#32 0#32 = 0#1 from by decide]
  show (if (0#1 ^^^ 0#1) &&& _ = 1#1 then _ else _) = _
  rw [BitVec.xor_self, BitVec.zero_and, if_neg (by decide)]

/-- The row of a point: its number's quotient by 128, both signs being positive. -/
theorem row_word {a : ℕ} (h0 : 0 < a) (ha : a < 2 ^ 31) :
    (Scalar.indexCast (Scalar.select (Scalar.andi
      (Scalar.cmpi .ne (Scalar.subi (Scalar.extui (Scalar.cmpi .sgt (BitVec.ofNat 32 a) 0#32) : BitVec 32) (Scalar.extui (Scalar.cmpi .slt (BitVec.ofNat 32 a) 0#32)))
        (Scalar.subi (Scalar.extui (Scalar.cmpi .sgt 128#32 0#32)) (Scalar.extui (Scalar.cmpi .slt 128#32 0#32))))
      (Scalar.cmpi .ne (Scalar.remsi (BitVec.ofNat 32 a) 128#32) 0#32))
      (Scalar.subi (Scalar.divsi (BitVec.ofNat 32 a) 128#32) 1#32) (Scalar.divsi (BitVec.ofNat 32 a) 128#32)) : Index).toNat = a / 128 := by
  have h : Scalar.divsi (BitVec.ofNat 32 a) 128#32 = BitVec.ofNat 32 (a / 128) := Routing.divsi_word _ ha (by omega) (by omega)
  have h1 : Scalar.cmpi .slt (BitVec.ofNat 32 a) 0#32 = 0#1 := by
    rw [show (0#32 : BitVec 32) = BitVec.ofNat 32 0 from rfl, slt_word (by omega) (by omega)]; rfl
  have h2 : Scalar.cmpi .sgt (BitVec.ofNat 32 a) 0#32 = 1#1 := by
    show Scalar.cmpi .slt (BitVec.ofNat 32 0) (BitVec.ofNat 32 a) = 1#1
    rw [slt_word (by omega) ha, decide_eq_true h0]; rfl
  rw [h, h1, h2]
  rw [show Scalar.cmpi .ne (Scalar.subi (Scalar.extui (1#1 : BitVec 1) : BitVec 32) (Scalar.extui (0#1 : BitVec 1)))
        (Scalar.subi (Scalar.extui (Scalar.cmpi .sgt 128#32 0#32)) (Scalar.extui (Scalar.cmpi .slt 128#32 0#32))) = 0#1 from by decide]
  show (if 0#1 &&& _ = 1#1 then _ else BitVec.ofNat 32 (a / 128)).toNat = _
  rw [BitVec.zero_and, if_neg (by decide), BitVec.toNat_ofNat]
  omega

/-! ## The two buffers -/

/-- The distances a launch begins with. -/
theorem start_eq {R : ℕ} (hR' : R * 128 ≤ 2 ^ 30) (flat : IVec (Sq R) 32) (hf : ∀ i, flat i = BitVec.ofNat 32 (num i)) (n : ℕ) (hn' : n ≤ R * 128) (i : (Sq R).Idx) :
    select (cmpi .slt flat (broadcast (Sq R) (BitVec.ofNat 32 n))) (broadcast (Sq R) (Scalar.ofBits (F := Ideal) .f32 0x501502F9#32))
      (broadcast (Sq R) (Scalar.ofBits (F := Ideal) .f32 0xFF800000#32)) i
      = if num i < n then (FloatOps.ofBits (F := Ideal) .f32 0x501502F9#32 : EReal) else ⊥ := by
  have hi := num_lt i
  show Scalar.select (Scalar.cmpi .slt (flat i) (BitVec.ofNat 32 n)) (FloatOps.ofBits (F := Ideal) .f32 0x501502F9#32) (FloatOps.ofBits (F := Ideal) .f32 0xFF800000#32) = _
  rw [hf, slt_word (by omega) (by omega), bot_word]
  by_cases h : num i < n
  · rw [decide_eq_true h, if_pos h]; rfl
  · rw [decide_eq_false h, if_neg h]; rfl

variable {sig : RefSig} {κ : Kind} {sp : Space} {R : ℕ}

/-- A row written back with one lane changed: the point at that row and lane is changed, every other is as it was. -/
theorem row_write (v : View sig κ sp (Sq R) .i32) (f : v.ty.Contents (Elt Ideal)) {off : Fin 2 → ℕ} (inb : ∀ a : Fin 2, off a + (⟨2, ![1, 128]⟩ : Shape).size a ≤ (Sq R).size a)
    (p : ℕ) (hoff : off = ![p / 128, 0]) (w : (⟨2, ![1, 128]⟩ : Shape).Idx → BitVec 32) (s : BitVec 32)
    (hw : ∀ x, w x = if (x 1).val = p % 128 then s else v.readAt (Elt Ideal) (Rect.unit (s := Sq R) off (⟨2, ![1, 128]⟩ : Shape).size inb).toLoadRect f x) (i : (Sq R).Idx) :
    v.read (Elt Ideal) (v.writes (Elt Ideal) f [⟨Rect.unit (s := Sq R) off (⟨2, ![1, 128]⟩ : Shape).size inb, w⟩]) i
      = if num i = p then s else v.read (Elt Ideal) f i := by
  have hi1 : (i 1).val < 128 := (i 1).isLt
  by_cases h : (i 0).val = p / 128
  · rw [View.read_writes_cons_rows_of_mem (o := p / 128) v f inb w [] i (ValueIdx.ix2 ⟨0, Nat.one_pos⟩ ⟨(i 1).val, hi1⟩) hoff (by rw [h]; rfl) rfl, hw]
    show (if (i 1).val = p % 128 then s else _) = _
    by_cases h' : (i 1).val = p % 128
    · rw [if_pos h', if_pos (by unfold num; omega)]
    · rw [if_neg h', if_neg (by unfold num; omega)]
      subst hoff
      show v.read (Elt Ideal) f _ = _
      congr 1
      funext a
      match a with
      | ⟨0, _⟩ => exact Fin.ext (by show p / 128 + 1 * 0 = (i 0).val; omega)
      | ⟨1, _⟩ => exact Fin.ext (by show 0 + 1 * (i 1).val = (i 1).val; omega)
  · rw [View.read_writes_cons_rows_of_not_mem (o := p / 128) (W := 1) v f inb w [] i hoff rfl (by omega), if_neg (by unfold num; omega)]
    rfl

/-- The row a trip writes back: the lane of its point takes the new sample, the other lanes are as loaded. -/
theorem lane_eq (sel : IVec ⟨2, ![1, 1]⟩ 32) (s : BitVec 32) (hs : ∀ i, sel i = s) {a : ℕ} (l : BitVec 32) (hl : l = BitVec.ofNat 32 (a % 128))
    (h1 : (⟨2, ![1, 128]⟩ : Shape).Iotas .tc 32 [1]) (b) (u : IVec ⟨2, ![1, 128]⟩ 32) (x : (⟨2, ![1, 128]⟩ : Shape).Idx) :
    select (cmpi .eq (iota .tc ⟨2, ![1, 128]⟩ 32 [1] h1) (broadcast ⟨2, ![1, 128]⟩ l)) (broadcastTo ⟨2, ![1, 128]⟩ sel b) u x
      = if (x 1).val = a % 128 then s else u x := by
  have hx : (x 1).val < 128 := (x 1).isLt
  show Scalar.select (BitVec.ofBool (BitVec.ofNat 32 (0 * 128 + (x 1).val) == l)) (sel _) (u x) = _
  rw [hl, hs, Nat.zero_mul, Nat.zero_add]
  by_cases h : (x 1).val = a % 128
  · rw [if_pos h, h, beq_self_eq_true]; rfl
  · have hne : BitVec.ofNat 32 (x 1).val ≠ BitVec.ofNat 32 (a % 128) := fun e => by
      have := congrArg BitVec.toNat e
      rw [BitVec.toNat_ofNat, BitVec.toNat_ofNat] at this; omega
    rw [if_neg h, beq_eq_false_iff_ne.2 hne]; rfl

/-- Where a launch stands after `t` trips: the carried index is the last sample, the index buffer holds the samples so far and zeros after
    them, the distance buffer the nearest distances and −∞ off the points. -/
structure Stands {C3 C4 : Type} {R R' : ℕ} (r3 : C3 → (Sq R').Idx → BitVec 32) (r4 : C4 → (Sq R).Idx → EReal) (n : ℕ) (x y z : ℕ → EReal) (c : EReal) (t : ℕ)
    (s : IVec ⟨2, ![1, 1]⟩ 32 × C3 × C4) : Prop where
  sel : ∀ i, s.1 i = BitVec.ofNat 32 (state n x y z c t).2
  out : ∀ i, r3 s.2.1 i = if num i ≤ t then BitVec.ofNat 32 (state n x y z c (num i)).2 else 0
  dist : ∀ i, r4 s.2.2 i = if num i < n then (state n x y z c t).1 (num i) else ⊥

/-- One trip: what it must compute for the next standing. -/
theorem Stands.next {C3 C4 : Type} {R R' : ℕ} {r3 : C3 → (Sq R').Idx → BitVec 32} {r4 : C4 → (Sq R).Idx → EReal} {n : ℕ} {x y z : ℕ → EReal} {c : EReal} {t : ℕ}
    {s s' : IVec ⟨2, ![1, 1]⟩ 32 × C3 × C4} (h : Stands r3 r4 n x y z c t s) (h1 : ∀ i, s'.1 i = BitVec.ofNat 32 (state n x y z c (t + 1)).2)
    (h2 : ∀ i, r3 s'.2.1 i = if num i = t + 1 then BitVec.ofNat 32 (state n x y z c (t + 1)).2 else r3 s.2.1 i)
    (h3 : ∀ i, r4 s'.2.2 i = if num i < n then (state n x y z c (t + 1)).1 (num i) else ⊥) : Stands r3 r4 n x y z c (t + 1) s' where
  sel := h1
  out i := by
    rw [h2, h.out]
    by_cases e : num i = t + 1
    · rw [if_pos e, if_pos e.le, e]
    · rw [if_neg e]
      by_cases e' : num i ≤ t
      · rw [if_pos e', if_pos (by omega)]
      · rw [if_neg e', if_neg (by omega)]
  dist := h3

/-! ## A step's arithmetic -/

section
variable {R : ℕ} (flat : IVec (Sq R) 32) (sel : IVec ⟨2, ![1, 1]⟩ 32) (b : (⟨2, ![1, 1]⟩ : Shape).Broadcasts (Sq R)) (p : (Sq R).ShapeCasts ⟨3, ![1, R, 128]⟩)
  (q : (⟨3, ![1, R, 128]⟩ : Shape).Reduces [1, 2] ⟨1, ![1]⟩) (u : (⟨1, ![1]⟩ : Shape).ShapeCasts ⟨3, ![1, 1, 1]⟩)
  (r : ∀ a, (![0, 0, 0] : Fin 3 → ℕ) a < (⟨3, ![1, 1, 1]⟩ : Shape).size a)

/-- A coordinate less the last sample's. -/
def less (v : FVec Ideal (Sq R) .f32) : FVec Ideal (Sq R) .f32 :=
  subf v (broadcastTo (Sq R) (broadcast ⟨2, ![1, 1]⟩ (largest (select (cmpi .eq flat (broadcastTo (Sq R) sel b)) v
    (broadcast (Sq R) (FloatOps.ofBits (F := Ideal) .f32 0xFF800000#32 : Ideal .f32))) p q u r : Ideal .f32)) b)

/-- The nearest distances after a step from `D`. -/
def step (X Y Z D : FVec Ideal (Sq R) .f32) : FVec Ideal (Sq R) .f32 :=
  minimumf D (addf (addf (mulf (less flat sel b p q u r X) (less flat sel b p q u r X)) (mulf (less flat sel b p q u r Z) (less flat sel b p q u r Z)))
    (mulf (less flat sel b p q u r Y) (less flat sel b p q u r Y)))

/-- The sample a step picks. -/
def pick (v : FVec Ideal (Sq R) .f32) : IVec ⟨2, ![1, 1]⟩ 32 :=
  broadcast ⟨2, ![1, 1]⟩ (least (select (cmpf .oeq v (broadcastTo (Sq R) (broadcast ⟨2, ![1, 1]⟩ (largest v p q u r : Ideal .f32)) b)) flat
    (broadcast (Sq R) 1073741824#32)) p q u r)

theorem step_eq (hR : 0 < R) (hR' : R * 128 ≤ 2 ^ 30) (hf : ∀ i, flat i = BitVec.ofNat 32 (num i)) (n : ℕ) (x y z d : ℕ → EReal) (s : ℕ) (hs : s < n)
    (hn' : n ≤ R * 128) (hsel : ∀ i, sel i = BitVec.ofNat 32 s) (X Y Z : FVec Ideal (Sq R) .f32)
    (hX : ∀ i, num i < n → X i = x (num i)) (hY : ∀ i, num i < n → Y i = y (num i)) (hZ : ∀ i, num i < n → Z i = z (num i))
    (D : FVec Ideal (Sq R) .f32) (hD : ∀ i, D i = if num i < n then d (num i) else (⊥ : EReal)) (i : (Sq R).Idx) :
    step flat sel b p q u r X Y Z D i = if num i < n then near x y z d s (num i) else (⊥ : EReal) := by
  have h : ∀ v i, less flat sel b p q u r v i = (v i - v (pos s (by omega)) : EReal) := fun v i => by
    show (v i - (largest _ p q u r : EReal) : EReal) = _
    rw [pick_eq hR hR' flat hf s (by omega) sel hsel]
  rw [← near_eq n x y z d s hs hn' X Y Z hX hY hZ D hD i, ← h, ← h, ← h]
  rfl

theorem pick_step (hR : 0 < R) (hR' : R * 128 ≤ 2 ^ 30) (hf : ∀ i, flat i = BitVec.ofNat 32 (num i)) (n : ℕ) (hn : 0 < n) (hn' : n ≤ R * 128) (d : ℕ → EReal)
    (hd : ∀ j, 0 ≤ d j) (v : FVec Ideal (Sq R) .f32) (hv : ∀ i, v i = if num i < n then d (num i) else (⊥ : EReal)) (i) :
    pick flat b p q u r v i = BitVec.ofNat 32 (first n d) :=
  next_eq hR hR' flat hf n hn hn' d hd v hv b p q u r p q u r
end

end Cert.Sample

namespace Cert.KernelIdeal.Fps

open Idealize.ShloMosaic Idealize.ShloMosaic.TcCoe Idealize.ShloMosaic.Tactic
open Idealize.SL Idealize.SL.RA
open Cert.KernelIdeal Cert.KernelIdeal.Gen Cert.Sample Cert.Host

theorem stateAt_inv {n : ℕ} {α : Type} (f : Fin n → α → α) (s₀ : α) (P : ℕ → α → Prop) (h0 : P 0 s₀) (h : ∀ (k : Fin n) s, P k.val s → P (k.val + 1) (f k s)) :
    ∀ k, k ≤ n → P k (stateAt f s₀ k)
  | 0, _ => h0
  | k + 1, hk => by
    have e := stateAt_succ f s₀ ⟨k, hk⟩
    exact e ▸ h ⟨k, hk⟩ _ (stateAt_inv f s₀ P h0 h k (Nat.le_of_succ_le hk))

section K0
variable {U : Type} [URA U] (c : Dev nD) (a0 : Memref sig .tc .vmem S512x128 .f32) (h0 : a0.IsWhole) (a1 : Memref sig .tc .vmem S512x128 .f32) (h1 : a1.IsWhole)
  (a2 : Memref sig .tc .vmem S512x128 .f32) (h2 : a2.IsWhole) (a3 : Memref sig .tc .vmem S512x128 .i32) (h3 : a3.IsWhole)
  (a4 : Memref sig .tc .vmem S512x128 .f32) (h4 : a4.IsWhole) (x0 : Ct Ideal a0) (x1 : Ct Ideal a1) (x2 : Ct Ideal a2)

/-- What launch 0's body leaves in the index array: sample `i` at place `i`, zeros past the last sample. -/
theorem sampled0 (x y z : ℕ → EReal) (hX : ∀ i, num i < 65536 → a0.view.read (Elt Ideal) x0 i = x (num i)) (hY : ∀ i, num i < 65536 → a1.view.read (Elt Ideal) x1 i = y (num i))
    (hZ : ∀ i, num i < 65536 → a2.view.read (Elt Ideal) x2 i = z (num i)) (i : (Sq 512).Idx) :
    a3.view.read (Elt Ideal) (body0 (F := Ideal) U c a0 h0 a1 h1 a2 h2 a3 h3 a4 h4 x0 x1 x2).1 i
      = if num i ≤ 65525 then BitVec.ofNat 32 (state 65536 x y z (FloatOps.ofBits (F := Ideal) .f32 0x501502F9#32) (num i)).2 else 0 := by
  have hflat : ∀ i, k0_pay1 i = BitVec.ofNat 32 (num i) := fun i => flat_eq _ _ i
  unfold body0
  dsimp only
  have ht : Scf.trips 1#32 (Scalar.addi 1#32 65525#32) 1#32 = 65525 := by decide
  have key := stateAt_inv (stepOf (trip0 (F := Ideal) U c a0 h0 a1 h1 a2 h2 a3 h3 a4 h4 x0 x1 x2 body0.sl.cst_5))
    (k0_pay4, a3.view.writes (Elt Ideal) a3.view.junk body0.sl.H3_1, a4.view.writes (Elt Ideal) a4.view.junk body0.sl.H4_1)
    (Stands (R := 512) (R' := 512) (fun f => a3.view.read (Elt Ideal) f) (fun f => a4.view.read (Elt Ideal) f) 65536 x y z (FloatOps.ofBits (F := Ideal) .f32 0x501502F9#32))
    ⟨fun _ => rfl, fun i => ?zout, fun i => ?zdist⟩ (fun k s h => ?next) 65525 ht.ge
  · rw [ht]; exact key.out i
  case zout =>
    dsimp only
    rw [body0.sl.H3_1, View.read_writes_full]
    by_cases e : num i ≤ 0
    · rw [if_pos e, Nat.le_zero.1 e]; rfl
    · rw [if_neg e]; rfl
  case zdist =>
    dsimp only
    rw [body0.sl.H4_1, View.read_writes_full]
    unfold k0_pay2
    simp only [shapeCast_self]
    exact start_eq (by decide) k0_pay1 hflat 65536 (by decide) i
  case next =>
    have hk : k.val < 65525 := Nat.lt_of_lt_of_le k.isLt k0_t1_abs.2.1
    have hD : ∀ i, step k0_pay1 s.1 _ _ _ _ _ (a0.view.read (Elt Ideal) x0) (a1.view.read (Elt Ideal) x1) (a2.view.read (Elt Ideal) x2) (a4.view.read (Elt Ideal) s.2.2) i
        = if num i < 65536 then (state 65536 x y z (FloatOps.ofBits (F := Ideal) .f32 0x501502F9#32) (k.val + 1)).1 (num i) else (⊥ : EReal) := fun i =>
      step_eq (R := 512) k0_pay1 s.1 broadcasts_S1x1_S512x128 shapeCasts_S512x128_S1x512x128 reduces_S1x512x128_S1 shapeCasts_S1_S1x1x1 inpos_S1x1x1_p0_0_0 (by decide) (by decide)
        hflat 65536 x y z _ _ (state_lt (by decide) k.val) (by decide) h.sel _ _ _ hX hY hZ _ h.dist i
    have hP := pick_step (R := 512) k0_pay1 broadcasts_S1x1_S512x128 shapeCasts_S512x128_S1x512x128 reduces_S1x512x128_S1 shapeCasts_S1_S1x1x1 inpos_S1x1x1_p0_0_0 (by decide) (by decide)
      hflat 65536 (by decide) (by decide) _ (state_nonneg far_nonneg (k.val + 1)) _ hD
    have e2 : trip0.sl.r_2 a0 a1 a2 a4 x0 x1 x2 body0.sl.cst_5 s.1 s.2.2
        = pick k0_pay1 broadcasts_S1x1_S512x128 shapeCasts_S512x128_S1x512x128 reduces_S1x512x128_S1 shapeCasts_S1_S1x1x1 inpos_S1x1x1_p0_0_0
            (step k0_pay1 s.1 broadcasts_S1x1_S512x128 shapeCasts_S512x128_S1x512x128 reduces_S1x512x128_S1 shapeCasts_S1_S1x1x1 inpos_S1x1x1_p0_0_0
              (a0.view.read (Elt Ideal) x0) (a1.view.read (Elt Ideal) x1) (a2.view.read (Elt Ideal) x2) (a4.view.read (Elt Ideal) s.2.2)) := by
      unfold trip0.sl.r_2 trip0.sl.r trip0.sl.r_1
      rw [View.readAt_full, View.readAt_full, View.readAt_full, View.readAt_full]
      unfold k0_pay11 k0_pay9 k0_pay7 k0_pay8
      simp only [shapeCast_self]
      rfl
    have hsel : ∀ i, trip0.sl.r_2 a0 a1 a2 a4 x0 x1 x2 body0.sl.cst_5 s.1 s.2.2 i
        = BitVec.ofNat 32 (state 65536 x y z (FloatOps.ofBits (F := Ideal) .f32 0x501502F9#32) (k.val + 1)).2 := fun i => by rw [e2]; exact hP i
    unfold trip0
    dsimp only [stepOf]
    refine h.next (fun i => ?_) (fun i => ?_) (fun i => ?_)
    · dsimp only
      exact hsel i
    · refine row_write a3.view s.2.1 _ (k.val + 1) ?_ _ _ (fun x => ?_) i
      · unfold k0_off1
        dsimp only
        rw [iv_word, row_word (by omega) (by omega)]
      · unfold k0_pay5
        simp only [shapeCast_self]
        refine lane_eq _ _ hsel _ ?_ _ _ _ x
        unfold trip0.sl.v96 trip0.sl.arg5
        rw [iv_word]
        exact lane_word (by omega)
    · dsimp only
      rw [View.read_writes_full]
      refine Eq.trans ?_ (hD i)
      unfold trip0.sl.r trip0.sl.r_1
      rw [View.readAt_full, View.readAt_full, View.readAt_full, View.readAt_full]
      unfold k0_pay10 k0_pay9 k0_pay7 k0_pay8
      simp only [shapeCast_self]
      rfl
/-- The array of launch 0's windows, read through its one block, is itself. -/
theorem blk0 (f : (Sq 512).Idx → BitVec 32) (i : (Sq 512).Idx) : ((cfg0.win 3).blk t0_0).view.read (Elt Ideal) f i = f i :=
  congrArg f (funext fun a => Fin.ext (by show 0 * _ + 1 * (i a).val = (i a).val; omega))
theorem coord0 (f : (Sq 512).Idx → Ideal .f32) (i : (Sq 512).Idx) : ((cfg0.win 0).blk t0_0).view.read (Elt Ideal) f i = f i :=
  congrArg f (funext fun a => Fin.ext (by show 0 * _ + 1 * (i a).val = (i a).val; omega))

theorem flushed0 (V : Mem nD τ sig Ideal) (c : Dev nD) (i : (Sq 512).Idx) :
    ((cfg0.win 3).blk t0_0).view.read (Elt Ideal) (kout0 V c) i = (stage0_3 0).view.read (Elt Ideal) (run0 (tcv V) c).1 i := by
  unfold kout0
  show View.read (Elt Ideal) ((cfg0.win 3).blk t0_0).view ((dat0 (tcv V) c).arrAt 3 (t0_0.val + 1)) i = _
  rw [Pipeline.Dat.arrAt_succ, if_pos (flush0_3 _), View.read_write_univ]
  rfl

/-- What launch 0 leaves, of the coordinates in memory. -/
theorem kout0_eq (V : Mem nD τ sig Ideal) (c : Dev nD) (x y z : ℕ → EReal) (hX : ∀ i, num i < 65536 → V c main_v11 i = x (num i))
    (hY : ∀ i, num i < 65536 → V c main_v12 i = y (num i)) (hZ : ∀ i, num i < 65536 → V c main_v13 i = z (num i)) (i : (Sq 512).Idx) :
    kout0 V c i = if num i ≤ 65525 then BitVec.ofNat 32 (state 65536 x y z (FloatOps.ofBits (F := Ideal) .f32 0x501502F9#32) (num i)).2 else 0 := by
  have key := sampled0 (U := UU) c (stage0_0 0) (hstage0_0 0) (stage0_1 0) (hstage0_1 0) (stage0_2 0) (hstage0_2 0) (stage0_3 0) (hstage0_3 0)
    (Memref.whole cc0_scratch0) (Memref.isWhole_whole _) (stg0_0 (tcv V) c) (stg0_1 (tcv V) c) (stg0_2 (tcv V) c) x y z
    (fun i h => (coord0 _ i).trans (hX i h)) (fun i h => (coord0 _ i).trans (hY i h)) (fun i h => (coord0 _ i).trans (hZ i h)) i
  exact ((blk0 (kout0 V c) i).symm.trans (flushed0 V c i)).trans key
end K0

section K1
variable {U : Type} [URA U] (c : Dev nD) (a0 : Memref sig .tc .vmem S512x128 .f32) (h0 : a0.IsWhole) (a1 : Memref sig .tc .vmem S512x128 .f32) (h1 : a1.IsWhole)
  (a2 : Memref sig .tc .vmem S512x128 .f32) (h2 : a2.IsWhole) (a3 : Memref sig .tc .vmem S256x128 .i32) (h3 : a3.IsWhole)
  (a4 : Memref sig .tc .vmem S512x128 .f32) (h4 : a4.IsWhole) (x0 : Ct Ideal a0) (x1 : Ct Ideal a1) (x2 : Ct Ideal a2)

/-- What launch 1's body leaves in the index array: sample `i` at place `i`, zeros past the last sample. -/
theorem sampled1 (x y z : ℕ → EReal) (hX : ∀ i, num i < 65526 → a0.view.read (Elt Ideal) x0 i = x (num i)) (hY : ∀ i, num i < 65526 → a1.view.read (Elt Ideal) x1 i = y (num i))
    (hZ : ∀ i, num i < 65526 → a2.view.read (Elt Ideal) x2 i = z (num i)) (i : (Sq 256).Idx) :
    a3.view.read (Elt Ideal) (body1 (F := Ideal) U c a0 h0 a1 h1 a2 h2 a3 h3 a4 h4 x0 x1 x2).1 i
      = if num i ≤ 32767 then BitVec.ofNat 32 (state 65526 x y z (FloatOps.ofBits (F := Ideal) .f32 0x501502F9#32) (num i)).2 else 0 := by
  have hflat : ∀ i, k1_pay1 i = BitVec.ofNat 32 (num i) := fun i => flat_eq _ _ i
  unfold body1
  dsimp only
  have ht : Scf.trips 1#32 (Scalar.addi 1#32 32767#32) 1#32 = 32767 := by decide
  have key := stateAt_inv (stepOf (trip1 (F := Ideal) U c a0 h0 a1 h1 a2 h2 a3 h3 a4 h4 x0 x1 x2 body1.sl.cst_5))
    (k1_pay4, a3.view.writes (Elt Ideal) a3.view.junk body1.sl.H3_1, a4.view.writes (Elt Ideal) a4.view.junk body1.sl.H4_1)
    (Stands (R := 512) (R' := 256) (fun f => a3.view.read (Elt Ideal) f) (fun f => a4.view.read (Elt Ideal) f) 65526 x y z (FloatOps.ofBits (F := Ideal) .f32 0x501502F9#32))
    ⟨fun _ => rfl, fun i => ?zout, fun i => ?zdist⟩ (fun k s h => ?next) 32767 ht.ge
  · rw [ht]; exact key.out i
  case zout =>
    dsimp only
    rw [body1.sl.H3_1, View.read_writes_full]
    by_cases e : num i ≤ 0
    · rw [if_pos e, Nat.le_zero.1 e]; rfl
    · rw [if_neg e]; rfl
  case zdist =>
    dsimp only
    rw [body1.sl.H4_1, View.read_writes_full]
    unfold k1_pay2
    simp only [shapeCast_self]
    exact start_eq (by decide) k1_pay1 hflat 65526 (by decide) i
  case next =>
    have hk : k.val < 32767 := Nat.lt_of_lt_of_le k.isLt k1_t1_abs.2.1
    have hD : ∀ i, step k1_pay1 s.1 _ _ _ _ _ (a0.view.read (Elt Ideal) x0) (a1.view.read (Elt Ideal) x1) (a2.view.read (Elt Ideal) x2) (a4.view.read (Elt Ideal) s.2.2) i
        = if num i < 65526 then (state 65526 x y z (FloatOps.ofBits (F := Ideal) .f32 0x501502F9#32) (k.val + 1)).1 (num i) else (⊥ : EReal) := fun i =>
      step_eq (R := 512) k1_pay1 s.1 broadcasts_S1x1_S512x128 shapeCasts_S512x128_S1x512x128 reduces_S1x512x128_S1 shapeCasts_S1_S1x1x1 inpos_S1x1x1_p0_0_0 (by decide) (by decide)
        hflat 65526 x y z _ _ (state_lt (by decide) k.val) (by decide) h.sel _ _ _ hX hY hZ _ h.dist i
    have hP := pick_step (R := 512) k1_pay1 broadcasts_S1x1_S512x128 shapeCasts_S512x128_S1x512x128 reduces_S1x512x128_S1 shapeCasts_S1_S1x1x1 inpos_S1x1x1_p0_0_0 (by decide) (by decide)
      hflat 65526 (by decide) (by decide) _ (state_nonneg far_nonneg (k.val + 1)) _ hD
    have e2 : trip1.sl.r_2 a0 a1 a2 a4 x0 x1 x2 body1.sl.cst_5 s.1 s.2.2
        = pick k1_pay1 broadcasts_S1x1_S512x128 shapeCasts_S512x128_S1x512x128 reduces_S1x512x128_S1 shapeCasts_S1_S1x1x1 inpos_S1x1x1_p0_0_0
            (step k1_pay1 s.1 broadcasts_S1x1_S512x128 shapeCasts_S512x128_S1x512x128 reduces_S1x512x128_S1 shapeCasts_S1_S1x1x1 inpos_S1x1x1_p0_0_0
              (a0.view.read (Elt Ideal) x0) (a1.view.read (Elt Ideal) x1) (a2.view.read (Elt Ideal) x2) (a4.view.read (Elt Ideal) s.2.2)) := by
      unfold trip1.sl.r_2 trip1.sl.r trip1.sl.r_1
      rw [View.readAt_full, View.readAt_full, View.readAt_full, View.readAt_full]
      unfold k1_pay11 k1_pay9 k1_pay7 k1_pay8
      simp only [shapeCast_self]
      rfl
    have hsel : ∀ i, trip1.sl.r_2 a0 a1 a2 a4 x0 x1 x2 body1.sl.cst_5 s.1 s.2.2 i
        = BitVec.ofNat 32 (state 65526 x y z (FloatOps.ofBits (F := Ideal) .f32 0x501502F9#32) (k.val + 1)).2 := fun i => by rw [e2]; exact hP i
    unfold trip1
    dsimp only [stepOf]
    refine h.next (fun i => ?_) (fun i => ?_) (fun i => ?_)
    · dsimp only
      exact hsel i
    · refine row_write a3.view s.2.1 _ (k.val + 1) ?_ _ _ (fun x => ?_) i
      · unfold k1_off1
        dsimp only
        rw [iv_word, row_word (by omega) (by omega)]
      · unfold k1_pay5
        simp only [shapeCast_self]
        refine lane_eq _ _ hsel _ ?_ _ _ _ x
        unfold trip1.sl.v96 trip1.sl.arg5
        rw [iv_word]
        exact lane_word (by omega)
    · dsimp only
      rw [View.read_writes_full]
      refine Eq.trans ?_ (hD i)
      unfold trip1.sl.r trip1.sl.r_1
      rw [View.readAt_full, View.readAt_full, View.readAt_full, View.readAt_full]
      unfold k1_pay10 k1_pay9 k1_pay7 k1_pay8
      simp only [shapeCast_self]
      rfl
/-- The array of launch 1's windows, read through its one block, is itself. -/
theorem blk1 (f : (Sq 256).Idx → BitVec 32) (i : (Sq 256).Idx) : ((cfg1.win 3).blk t1_0).view.read (Elt Ideal) f i = f i :=
  congrArg f (funext fun a => Fin.ext (by show 0 * _ + 1 * (i a).val = (i a).val; omega))
theorem coord1 (f : (Sq 512).Idx → Ideal .f32) (i : (Sq 512).Idx) : ((cfg1.win 0).blk t1_0).view.read (Elt Ideal) f i = f i :=
  congrArg f (funext fun a => Fin.ext (by show 0 * _ + 1 * (i a).val = (i a).val; omega))

theorem flushed1 (V : Mem nD τ sig Ideal) (c : Dev nD) (i : (Sq 256).Idx) :
    ((cfg1.win 3).blk t1_0).view.read (Elt Ideal) (kout1 V c) i = (stage1_3 0).view.read (Elt Ideal) (run1 (tcv V) c).1 i := by
  unfold kout1
  show View.read (Elt Ideal) ((cfg1.win 3).blk t1_0).view ((dat1 (tcv V) c).arrAt 3 (t1_0.val + 1)) i = _
  rw [Pipeline.Dat.arrAt_succ, if_pos (flush1_3 _), View.read_write_univ]
  rfl

/-- What launch 1 leaves, of the coordinates in memory. -/
theorem kout1_eq (V : Mem nD τ sig Ideal) (c : Dev nD) (x y z : ℕ → EReal) (hX : ∀ i, num i < 65526 → V c main_v80 i = x (num i))
    (hY : ∀ i, num i < 65526 → V c main_v81 i = y (num i)) (hZ : ∀ i, num i < 65526 → V c main_v82 i = z (num i)) (i : (Sq 256).Idx) :
    kout1 V c i = if num i ≤ 32767 then BitVec.ofNat 32 (state 65526 x y z (FloatOps.ofBits (F := Ideal) .f32 0x501502F9#32) (num i)).2 else 0 := by
  have key := sampled1 (U := UU) c (stage1_0 0) (hstage1_0 0) (stage1_1 0) (hstage1_1 0) (stage1_2 0) (hstage1_2 0) (stage1_3 0) (hstage1_3 0)
    (Memref.whole cc1_scratch0) (Memref.isWhole_whole _) (stg1_0 (tcv V) c) (stg1_1 (tcv V) c) (stg1_2 (tcv V) c) x y z
    (fun i h => (coord1 _ i).trans (hX i h)) (fun i h => (coord1 _ i).trans (hY i h)) (fun i h => (coord1 _ i).trans (hZ i h)) i
  exact ((blk1 (kout1 V c) i).symm.trans (flushed1 V c i)).trans key
end K1

section K2
variable {U : Type} [URA U] (c : Dev nD) (a0 : Memref sig .tc .vmem S256x128 .f32) (h0 : a0.IsWhole) (a1 : Memref sig .tc .vmem S256x128 .f32) (h1 : a1.IsWhole)
  (a2 : Memref sig .tc .vmem S256x128 .f32) (h2 : a2.IsWhole) (a3 : Memref sig .tc .vmem S128x128 .i32) (h3 : a3.IsWhole)
  (a4 : Memref sig .tc .vmem S256x128 .f32) (h4 : a4.IsWhole) (x0 : Ct Ideal a0) (x1 : Ct Ideal a1) (x2 : Ct Ideal a2)

/-- What launch 2's body leaves in the index array: sample `i` at place `i`, zeros past the last sample. -/
theorem sampled2 (x y z : ℕ → EReal) (hX : ∀ i, num i < 32768 → a0.view.read (Elt Ideal) x0 i = x (num i)) (hY : ∀ i, num i < 32768 → a1.view.read (Elt Ideal) x1 i = y (num i))
    (hZ : ∀ i, num i < 32768 → a2.view.read (Elt Ideal) x2 i = z (num i)) (i : (Sq 128).Idx) :
    a3.view.read (Elt Ideal) (body2 (F := Ideal) U c a0 h0 a1 h1 a2 h2 a3 h3 a4 h4 x0 x1 x2).1 i
      = if num i ≤ 16383 then BitVec.ofNat 32 (state 32768 x y z (FloatOps.ofBits (F := Ideal) .f32 0x501502F9#32) (num i)).2 else 0 := by
  have hflat : ∀ i, k2_pay1 i = BitVec.ofNat 32 (num i) := fun i => flat_eq _ _ i
  unfold body2
  dsimp only
  have ht : Scf.trips 1#32 (Scalar.addi 1#32 16383#32) 1#32 = 16383 := by decide
  have key := stateAt_inv (stepOf (trip2 (F := Ideal) U c a0 h0 a1 h1 a2 h2 a3 h3 a4 h4 x0 x1 x2 body2.sl.cst_5))
    (k2_pay4, a3.view.writes (Elt Ideal) a3.view.junk body2.sl.H3_1, a4.view.writes (Elt Ideal) a4.view.junk body2.sl.H4_1)
    (Stands (R := 256) (R' := 128) (fun f => a3.view.read (Elt Ideal) f) (fun f => a4.view.read (Elt Ideal) f) 32768 x y z (FloatOps.ofBits (F := Ideal) .f32 0x501502F9#32))
    ⟨fun _ => rfl, fun i => ?zout, fun i => ?zdist⟩ (fun k s h => ?next) 16383 ht.ge
  · rw [ht]; exact key.out i
  case zout =>
    dsimp only
    rw [body2.sl.H3_1, View.read_writes_full]
    by_cases e : num i ≤ 0
    · rw [if_pos e, Nat.le_zero.1 e]; rfl
    · rw [if_neg e]; rfl
  case zdist =>
    dsimp only
    rw [body2.sl.H4_1, View.read_writes_full]
    unfold k2_pay2
    simp only [shapeCast_self]
    exact start_eq (by decide) k2_pay1 hflat 32768 (by decide) i
  case next =>
    have hk : k.val < 16383 := Nat.lt_of_lt_of_le k.isLt k2_t1_abs.2.1
    have hD : ∀ i, step k2_pay1 s.1 _ _ _ _ _ (a0.view.read (Elt Ideal) x0) (a1.view.read (Elt Ideal) x1) (a2.view.read (Elt Ideal) x2) (a4.view.read (Elt Ideal) s.2.2) i
        = if num i < 32768 then (state 32768 x y z (FloatOps.ofBits (F := Ideal) .f32 0x501502F9#32) (k.val + 1)).1 (num i) else (⊥ : EReal) := fun i =>
      step_eq (R := 256) k2_pay1 s.1 broadcasts_S1x1_S256x128 shapeCasts_S256x128_S1x256x128 reduces_S1x256x128_S1 shapeCasts_S1_S1x1x1 inpos_S1x1x1_p0_0_0 (by decide) (by decide)
        hflat 32768 x y z _ _ (state_lt (by decide) k.val) (by decide) h.sel _ _ _ hX hY hZ _ h.dist i
    have hP := pick_step (R := 256) k2_pay1 broadcasts_S1x1_S256x128 shapeCasts_S256x128_S1x256x128 reduces_S1x256x128_S1 shapeCasts_S1_S1x1x1 inpos_S1x1x1_p0_0_0 (by decide) (by decide)
      hflat 32768 (by decide) (by decide) _ (state_nonneg far_nonneg (k.val + 1)) _ hD
    have e2 : trip2.sl.r_2 a0 a1 a2 a4 x0 x1 x2 body2.sl.cst_5 s.1 s.2.2
        = pick k2_pay1 broadcasts_S1x1_S256x128 shapeCasts_S256x128_S1x256x128 reduces_S1x256x128_S1 shapeCasts_S1_S1x1x1 inpos_S1x1x1_p0_0_0
            (step k2_pay1 s.1 broadcasts_S1x1_S256x128 shapeCasts_S256x128_S1x256x128 reduces_S1x256x128_S1 shapeCasts_S1_S1x1x1 inpos_S1x1x1_p0_0_0
              (a0.view.read (Elt Ideal) x0) (a1.view.read (Elt Ideal) x1) (a2.view.read (Elt Ideal) x2) (a4.view.read (Elt Ideal) s.2.2)) := by
      unfold trip2.sl.r_2 trip2.sl.r trip2.sl.r_1
      rw [View.readAt_full, View.readAt_full, View.readAt_full, View.readAt_full]
      unfold k2_pay11 k2_pay9 k2_pay7 k2_pay8
      simp only [shapeCast_self]
      rfl
    have hsel : ∀ i, trip2.sl.r_2 a0 a1 a2 a4 x0 x1 x2 body2.sl.cst_5 s.1 s.2.2 i
        = BitVec.ofNat 32 (state 32768 x y z (FloatOps.ofBits (F := Ideal) .f32 0x501502F9#32) (k.val + 1)).2 := fun i => by rw [e2]; exact hP i
    unfold trip2
    dsimp only [stepOf]
    refine h.next (fun i => ?_) (fun i => ?_) (fun i => ?_)
    · dsimp only
      exact hsel i
    · refine row_write a3.view s.2.1 _ (k.val + 1) ?_ _ _ (fun x => ?_) i
      · unfold k2_off1
        dsimp only
        rw [iv_word, row_word (by omega) (by omega)]
      · unfold k2_pay5
        simp only [shapeCast_self]
        refine lane_eq _ _ hsel _ ?_ _ _ _ x
        unfold trip2.sl.v96 trip2.sl.arg5
        rw [iv_word]
        exact lane_word (by omega)
    · dsimp only
      rw [View.read_writes_full]
      refine Eq.trans ?_ (hD i)
      unfold trip2.sl.r trip2.sl.r_1
      rw [View.readAt_full, View.readAt_full, View.readAt_full, View.readAt_full]
      unfold k2_pay10 k2_pay9 k2_pay7 k2_pay8
      simp only [shapeCast_self]
      rfl
/-- The array of launch 2's windows, read through its one block, is itself. -/
theorem blk2 (f : (Sq 128).Idx → BitVec 32) (i : (Sq 128).Idx) : ((cfg2.win 3).blk t2_0).view.read (Elt Ideal) f i = f i :=
  congrArg f (funext fun a => Fin.ext (by show 0 * _ + 1 * (i a).val = (i a).val; omega))
theorem coord2 (f : (Sq 256).Idx → Ideal .f32) (i : (Sq 256).Idx) : ((cfg2.win 0).blk t2_0).view.read (Elt Ideal) f i = f i :=
  congrArg f (funext fun a => Fin.ext (by show 0 * _ + 1 * (i a).val = (i a).val; omega))

theorem flushed2 (V : Mem nD τ sig Ideal) (c : Dev nD) (i : (Sq 128).Idx) :
    ((cfg2.win 3).blk t2_0).view.read (Elt Ideal) (kout2 V c) i = (stage2_3 0).view.read (Elt Ideal) (run2 (tcv V) c).1 i := by
  unfold kout2
  show View.read (Elt Ideal) ((cfg2.win 3).blk t2_0).view ((dat2 (tcv V) c).arrAt 3 (t2_0.val + 1)) i = _
  rw [Pipeline.Dat.arrAt_succ, if_pos (flush2_3 _), View.read_write_univ]
  rfl

/-- What launch 2 leaves, of the coordinates in memory. -/
theorem kout2_eq (V : Mem nD τ sig Ideal) (c : Dev nD) (x y z : ℕ → EReal) (hX : ∀ i, num i < 32768 → V c main_v147 i = x (num i))
    (hY : ∀ i, num i < 32768 → V c main_v148 i = y (num i)) (hZ : ∀ i, num i < 32768 → V c main_v149 i = z (num i)) (i : (Sq 128).Idx) :
    kout2 V c i = if num i ≤ 16383 then BitVec.ofNat 32 (state 32768 x y z (FloatOps.ofBits (F := Ideal) .f32 0x501502F9#32) (num i)).2 else 0 := by
  have key := sampled2 (U := UU) c (stage2_0 0) (hstage2_0 0) (stage2_1 0) (hstage2_1 0) (stage2_2 0) (hstage2_2 0) (stage2_3 0) (hstage2_3 0)
    (Memref.whole cc2_scratch0) (Memref.isWhole_whole _) (stg2_0 (tcv V) c) (stg2_1 (tcv V) c) (stg2_2 (tcv V) c) x y z
    (fun i h => (coord2 _ i).trans (hX i h)) (fun i h => (coord2 _ i).trans (hY i h)) (fun i h => (coord2 _ i).trans (hZ i h)) i
  exact ((blk2 (kout2 V c) i).symm.trans (flushed2 V c i)).trans key
end K2

section K3
variable {U : Type} [URA U] (c : Dev nD) (a0 : Memref sig .tc .vmem S128x128 .f32) (h0 : a0.IsWhole) (a1 : Memref sig .tc .vmem S128x128 .f32) (h1 : a1.IsWhole)
  (a2 : Memref sig .tc .vmem S128x128 .f32) (h2 : a2.IsWhole) (a3 : Memref sig .tc .vmem S64x128 .i32) (h3 : a3.IsWhole)
  (a4 : Memref sig .tc .vmem S128x128 .f32) (h4 : a4.IsWhole) (x0 : Ct Ideal a0) (x1 : Ct Ideal a1) (x2 : Ct Ideal a2)

/-- What launch 3's body leaves in the index array: sample `i` at place `i`, zeros past the last sample. -/
theorem sampled3 (x y z : ℕ → EReal) (hX : ∀ i, num i < 16384 → a0.view.read (Elt Ideal) x0 i = x (num i)) (hY : ∀ i, num i < 16384 → a1.view.read (Elt Ideal) x1 i = y (num i))
    (hZ : ∀ i, num i < 16384 → a2.view.read (Elt Ideal) x2 i = z (num i)) (i : (Sq 64).Idx) :
    a3.view.read (Elt Ideal) (body3 (F := Ideal) U c a0 h0 a1 h1 a2 h2 a3 h3 a4 h4 x0 x1 x2).1 i
      = if num i ≤ 8191 then BitVec.ofNat 32 (state 16384 x y z (FloatOps.ofBits (F := Ideal) .f32 0x501502F9#32) (num i)).2 else 0 := by
  have hflat : ∀ i, k3_pay1 i = BitVec.ofNat 32 (num i) := fun i => flat_eq _ _ i
  unfold body3
  dsimp only
  have ht : Scf.trips 1#32 (Scalar.addi 1#32 8191#32) 1#32 = 8191 := by decide
  have key := stateAt_inv (stepOf (trip3 (F := Ideal) U c a0 h0 a1 h1 a2 h2 a3 h3 a4 h4 x0 x1 x2 body3.sl.cst_5))
    (k3_pay4, a3.view.writes (Elt Ideal) a3.view.junk body3.sl.H3_1, a4.view.writes (Elt Ideal) a4.view.junk body3.sl.H4_1)
    (Stands (R := 128) (R' := 64) (fun f => a3.view.read (Elt Ideal) f) (fun f => a4.view.read (Elt Ideal) f) 16384 x y z (FloatOps.ofBits (F := Ideal) .f32 0x501502F9#32))
    ⟨fun _ => rfl, fun i => ?zout, fun i => ?zdist⟩ (fun k s h => ?next) 8191 ht.ge
  · rw [ht]; exact key.out i
  case zout =>
    dsimp only
    rw [body3.sl.H3_1, View.read_writes_full]
    by_cases e : num i ≤ 0
    · rw [if_pos e, Nat.le_zero.1 e]; rfl
    · rw [if_neg e]; rfl
  case zdist =>
    dsimp only
    rw [body3.sl.H4_1, View.read_writes_full]
    unfold k3_pay2
    simp only [shapeCast_self]
    exact start_eq (by decide) k3_pay1 hflat 16384 (by decide) i
  case next =>
    have hk : k.val < 8191 := Nat.lt_of_lt_of_le k.isLt k3_t1_abs.2.1
    have hD : ∀ i, step k3_pay1 s.1 _ _ _ _ _ (a0.view.read (Elt Ideal) x0) (a1.view.read (Elt Ideal) x1) (a2.view.read (Elt Ideal) x2) (a4.view.read (Elt Ideal) s.2.2) i
        = if num i < 16384 then (state 16384 x y z (FloatOps.ofBits (F := Ideal) .f32 0x501502F9#32) (k.val + 1)).1 (num i) else (⊥ : EReal) := fun i =>
      step_eq (R := 128) k3_pay1 s.1 broadcasts_S1x1_S128x128 shapeCasts_S128x128_S1x128x128 reduces_S1x128x128_S1 shapeCasts_S1_S1x1x1 inpos_S1x1x1_p0_0_0 (by decide) (by decide)
        hflat 16384 x y z _ _ (state_lt (by decide) k.val) (by decide) h.sel _ _ _ hX hY hZ _ h.dist i
    have hP := pick_step (R := 128) k3_pay1 broadcasts_S1x1_S128x128 shapeCasts_S128x128_S1x128x128 reduces_S1x128x128_S1 shapeCasts_S1_S1x1x1 inpos_S1x1x1_p0_0_0 (by decide) (by decide)
      hflat 16384 (by decide) (by decide) _ (state_nonneg far_nonneg (k.val + 1)) _ hD
    have e2 : trip3.sl.r_2 a0 a1 a2 a4 x0 x1 x2 body3.sl.cst_5 s.1 s.2.2
        = pick k3_pay1 broadcasts_S1x1_S128x128 shapeCasts_S128x128_S1x128x128 reduces_S1x128x128_S1 shapeCasts_S1_S1x1x1 inpos_S1x1x1_p0_0_0
            (step k3_pay1 s.1 broadcasts_S1x1_S128x128 shapeCasts_S128x128_S1x128x128 reduces_S1x128x128_S1 shapeCasts_S1_S1x1x1 inpos_S1x1x1_p0_0_0
              (a0.view.read (Elt Ideal) x0) (a1.view.read (Elt Ideal) x1) (a2.view.read (Elt Ideal) x2) (a4.view.read (Elt Ideal) s.2.2)) := by
      unfold trip3.sl.r_2 trip3.sl.r trip3.sl.r_1
      rw [View.readAt_full, View.readAt_full, View.readAt_full, View.readAt_full]
      unfold k3_pay11 k3_pay9 k3_pay7 k3_pay8
      simp only [shapeCast_self]
      rfl
    have hsel : ∀ i, trip3.sl.r_2 a0 a1 a2 a4 x0 x1 x2 body3.sl.cst_5 s.1 s.2.2 i
        = BitVec.ofNat 32 (state 16384 x y z (FloatOps.ofBits (F := Ideal) .f32 0x501502F9#32) (k.val + 1)).2 := fun i => by rw [e2]; exact hP i
    unfold trip3
    dsimp only [stepOf]
    refine h.next (fun i => ?_) (fun i => ?_) (fun i => ?_)
    · dsimp only
      exact hsel i
    · refine row_write a3.view s.2.1 _ (k.val + 1) ?_ _ _ (fun x => ?_) i
      · unfold k3_off1
        dsimp only
        rw [iv_word, row_word (by omega) (by omega)]
      · unfold k3_pay5
        simp only [shapeCast_self]
        refine lane_eq _ _ hsel _ ?_ _ _ _ x
        unfold trip3.sl.v96 trip3.sl.arg5
        rw [iv_word]
        exact lane_word (by omega)
    · dsimp only
      rw [View.read_writes_full]
      refine Eq.trans ?_ (hD i)
      unfold trip3.sl.r trip3.sl.r_1
      rw [View.readAt_full, View.readAt_full, View.readAt_full, View.readAt_full]
      unfold k3_pay10 k3_pay9 k3_pay7 k3_pay8
      simp only [shapeCast_self]
      rfl
/-- The array of launch 3's windows, read through its one block, is itself. -/
theorem blk3 (f : (Sq 64).Idx → BitVec 32) (i : (Sq 64).Idx) : ((cfg3.win 3).blk t3_0).view.read (Elt Ideal) f i = f i :=
  congrArg f (funext fun a => Fin.ext (by show 0 * _ + 1 * (i a).val = (i a).val; omega))
theorem coord3 (f : (Sq 128).Idx → Ideal .f32) (i : (Sq 128).Idx) : ((cfg3.win 0).blk t3_0).view.read (Elt Ideal) f i = f i :=
  congrArg f (funext fun a => Fin.ext (by show 0 * _ + 1 * (i a).val = (i a).val; omega))

theorem flushed3 (V : Mem nD τ sig Ideal) (c : Dev nD) (i : (Sq 64).Idx) :
    ((cfg3.win 3).blk t3_0).view.read (Elt Ideal) (kout3 V c) i = (stage3_3 0).view.read (Elt Ideal) (run3 (tcv V) c).1 i := by
  unfold kout3
  show View.read (Elt Ideal) ((cfg3.win 3).blk t3_0).view ((dat3 (tcv V) c).arrAt 3 (t3_0.val + 1)) i = _
  rw [Pipeline.Dat.arrAt_succ, if_pos (flush3_3 _), View.read_write_univ]
  rfl

/-- What launch 3 leaves, of the coordinates in memory. -/
theorem kout3_eq (V : Mem nD τ sig Ideal) (c : Dev nD) (x y z : ℕ → EReal) (hX : ∀ i, num i < 16384 → V c main_v214 i = x (num i))
    (hY : ∀ i, num i < 16384 → V c main_v215 i = y (num i)) (hZ : ∀ i, num i < 16384 → V c main_v216 i = z (num i)) (i : (Sq 64).Idx) :
    kout3 V c i = if num i ≤ 8191 then BitVec.ofNat 32 (state 16384 x y z (FloatOps.ofBits (F := Ideal) .f32 0x501502F9#32) (num i)).2 else 0 := by
  have key := sampled3 (U := UU) c (stage3_0 0) (hstage3_0 0) (stage3_1 0) (hstage3_1 0) (stage3_2 0) (hstage3_2 0) (stage3_3 0) (hstage3_3 0)
    (Memref.whole cc3_scratch0) (Memref.isWhole_whole _) (stg3_0 (tcv V) c) (stg3_1 (tcv V) c) (stg3_2 (tcv V) c) x y z
    (fun i h => (coord3 _ i).trans (hX i h)) (fun i h => (coord3 _ i).trans (hY i h)) (fun i h => (coord3 _ i).trans (hZ i h)) i
  exact ((blk3 (kout3 V c) i).symm.trans (flushed3 V c i)).trans key
end K3

end Cert.KernelIdeal.Fps
-- ==== Proof.RSample.lean ====
/-
  The reference's furthest point sampling: what its host operations compute in one step on `n` points and `m` samples, and that step against
  the sampling of `Sample`.
-/
module

public import proofs.«01_k».proof.Proof.KSample
public import proofs.«01_k».proof.Proof.RFrame
public import Idealize.ShloMosaic.Lib.Pointwise

@[expose] public section

noncomputable section

namespace Cert.Sample

open Idealize.ShloMosaic Idealize.ShloMosaic.ValueIdx

/-! ## The first largest -/

theorem reducer_eq (a b : EReal × BitVec 32) :
    Cert.ReferenceIdeal.reducer_argmax_f32_i32 (F := Ideal) a b = if b.1 < a.1 ∨ (a.1 = b.1 ∧ a.2.slt b.2 = true) then a else b := by
  obtain ⟨a1, a2⟩ := a
  obtain ⟨b1, b2⟩ := b
  show (Scalar.select (IntOp.ori (BitVec.ofBool (decide (b1 < a1))) (BitVec.ofBool (decide (a1 ≠ a1)))) a1 b1,
      Scalar.select (IntOp.ori (IntOp.ori (BitVec.ofBool (decide (b1 < a1))) (BitVec.ofBool (decide (a1 ≠ a1))))
        (IntOp.andi (BitVec.ofBool (decide (a1 = b1))) (BitVec.ofBool (a2.slt b2)))) a2 b2) = _
  have h0 : decide (a1 ≠ a1) = false := by simp
  rw [h0]
  rcases lt_trichotomy b1 a1 with h | h | h
  · rw [if_pos (.inl h), decide_eq_true h, decide_eq_false (ne_of_gt h)]
    cases a2.slt b2 <;> rfl
  · subst h
    rw [decide_eq_false (lt_irrefl b1), decide_eq_true rfl]
    cases hs : a2.slt b2
    · rw [if_neg (by simp)]; rfl
    · rw [if_pos (by simp)]; rfl
  · rw [if_neg (by rintro (h' | h'); exacts [absurd h (not_lt.2 h'.le), absurd h'.1 (ne_of_lt h)]), decide_eq_false (not_lt.2 h.le), decide_eq_false (ne_of_lt h)]
    cases a2.slt b2 <;> rfl

/-- Folding the choice over numbered values keeps a first largest of those met. -/
theorem fold_reducer (l : List (EReal × BitVec 32)) : ∀ s : EReal × BitVec 32,
    let r := l.foldl (Cert.ReferenceIdeal.reducer_argmax_f32_i32 (F := Ideal)) s
    (r = s ∨ r ∈ l) ∧ (s.1 ≤ r.1 ∧ (s.1 = r.1 → r.2.toInt ≤ s.2.toInt)) ∧ ∀ p ∈ l, p.1 ≤ r.1 ∧ (p.1 = r.1 → r.2.toInt ≤ p.2.toInt) := by
  induction l with
  | nil => exact fun s => ⟨.inl rfl, ⟨le_rfl, fun _ => le_rfl⟩, fun p hp => absurd hp List.not_mem_nil⟩
  | cons b l ih =>
    intro s
    obtain ⟨h1, h2, h3⟩ := ih (Cert.ReferenceIdeal.reducer_argmax_f32_i32 (F := Ideal) s b)
    simp only [List.foldl_cons]
    generalize hr : l.foldl (Cert.ReferenceIdeal.reducer_argmax_f32_i32 (F := Ideal)) (Cert.ReferenceIdeal.reducer_argmax_f32_i32 (F := Ideal) s b) = r at *
    rw [reducer_eq] at h1 h2
    by_cases h : b.1 < s.1 ∨ (s.1 = b.1 ∧ s.2.slt b.2 = true)
    · rw [if_pos h] at h1 h2
      refine ⟨h1.imp id (List.mem_cons_of_mem _), h2, fun p hp => ?_⟩
      rcases List.mem_cons.1 hp with rfl | hp
      · rcases h with h | ⟨h, h'⟩
        · exact ⟨h.le.trans h2.1, fun e => absurd (h.trans_le h2.1) (by rw [e]; exact lt_irrefl _)⟩
        · refine ⟨h ▸ h2.1, fun e => (h2.2 (h.trans e)).trans ?_⟩
          rw [BitVec.slt_eq_decide] at h'
          exact (of_decide_eq_true h').le
      · exact h3 p hp
    · rw [if_neg h] at h1 h2
      rw [not_or, not_and, not_lt] at h
      refine ⟨h1.elim (fun e => .inr (e ▸ List.mem_cons_self)) fun e => .inr (List.mem_cons_of_mem _ e), ⟨h.1.trans h2.1, fun e => ?_⟩, fun p hp => ?_⟩
      · have e' : s.1 = b.1 := le_antisymm h.1 (e ▸ h2.1)
        have h' := h.2 e'
        rw [BitVec.slt_eq_decide] at h'
        exact (h2.2 (e' ▸ e)).trans (not_lt.1 (fun hh => h' (decide_eq_true hh)))
      · rcases List.mem_cons.1 hp with rfl | hp
        · exact h2
        · exact h3 p hp

/-- The choice over an array of values, none below zero, is the number of the first largest. -/
theorem choice_eq {n : ℕ} (hn : 0 < n) (hn' : n ≤ 2 ^ 30) (d : ℕ → EReal) (hd : ∀ j, 0 ≤ d j) (v : FVec Ideal ⟨1, ![n]⟩ .f32) (hv : ∀ i, v i = d (i 0).val)
    (h : (⟨1, ![n]⟩ : Shape).ReducesTo [0] ⟨0, ![]⟩) (hf : 0 < (⟨0, ![]⟩ : Shape).numel) (j : (⟨0, ![]⟩ : Shape).Idx) :
    (Host.argReduce (Cert.ReferenceIdeal.reducer_argmax_f32_i32 (F := Ideal)) v (iotaInDim ⟨1, ![n]⟩ 32 0) (constant ⟨0, ![]⟩ .f32 0xFF800000#32) (constantI ⟨0, ![]⟩ 32 0#32)
      h hf j).2 = BitVec.ofNat 32 (first n d) := by
  rw [Ideal.argReduce_eq_reduce2, Host.reduce2_eq_foldl_fiber]
  have mem : ∀ p : EReal × BitVec 32, p ∈ Host.argReduceFiber v (iotaInDim ⟨1, ![n]⟩ 32 0) h j ↔ ∃ k, k < n ∧ p = (d k, BitVec.ofNat 32 k) := by
    intro p
    unfold Host.argReduceFiber
    rw [List.mem_map]
    constructor
    · rintro ⟨a, -, rfl⟩
      exact ⟨_, ((Shape.rowMajor ⟨1, ![n]⟩).symm a 0).isLt, Prod.ext (hv _) rfl⟩
    · rintro ⟨k, hk, rfl⟩
      refine ⟨(Shape.rowMajor ⟨1, ![n]⟩) (ValueIdx.ix1 ⟨k, hk⟩), List.mem_filter.2 ⟨List.mem_finRange _, decide_eq_true (Subsingleton.elim _ _)⟩, ?_⟩
      rw [Equiv.symm_apply_apply]
      exact Prod.ext (hv _) rfl
  have key := fold_reducer (Host.argReduceFiber v (iotaInDim ⟨1, ![n]⟩ 32 0) h j) (constant (F := Ideal) ⟨0, ![]⟩ .f32 0xFF800000#32 (Shape.Idx.first hf), constantI ⟨0, ![]⟩ 32 0#32 (Shape.Idx.first hf))
  generalize List.foldl _ _ _ = r at key ⊢
  obtain ⟨h1, -, h3⟩ := key
  have h1' : ∃ k, k < n ∧ r = (d k, BitVec.ofNat 32 k) := by
    rcases h1 with h1 | h1
    · exfalso
      have := (h3 _ ((mem _).2 ⟨0, hn, rfl⟩)).1
      rw [h1] at this
      have hb : (constant (F := Ideal) ⟨0, ![]⟩ .f32 0xFF800000#32 (Shape.Idx.first hf) : EReal) = ⊥ := bot_word
      rw [hb] at this
      exact absurd ((hd 0).trans this) (by simp)
    · exact (mem _).1 h1
  obtain ⟨s, hs, rfl⟩ := h1'
  refine congrArg (BitVec.ofNat 32) (First.unique ⟨hs, fun k hk => (h3 _ ((mem _).2 ⟨k, hk, rfl⟩)).1, fun k hk => ?_⟩ (first_spec d hn))
  have := h3 _ ((mem _).2 ⟨k, hk.trans hs, rfl⟩)
  refine lt_of_le_of_ne this.1 fun e => ?_
  have h' := this.2 e
  rw [toInt_word (by omega), toInt_word (by omega)] at h'
  omega

/-! ## One step -/

section
variable {n m : ℕ}

/-- The number of the last sample: the entry before `i`, negative numbers counted from the end. -/
def lookup (wm wn : BitVec 32) (idxs : IVec ⟨1, ![m]⟩ 32) (i : IVec ⟨0, ![]⟩ 32) (hs : (⟨1, ![m]⟩ : Shape).Slices (fun _ => 0) ⟨1, ![1]⟩)
    (hc : (⟨1, ![1]⟩ : Shape).ShapeCasts ⟨0, ![]⟩) (hf : 0 < (⟨0, ![]⟩ : Shape).numel) : IVec ⟨0, ![]⟩ 32 :=
  select (cmpi .slt (fun i' => shapeCast ⟨0, ![]⟩ (Host.dynamicSlice ⟨1, ![1]⟩ idxs (fun k => BitVec.toInt ((![select (cmpi .slt (subi i (constantI ⟨0, ![]⟩ 32 1#32)) (constantI ⟨0, ![]⟩ 32 0#32)) (addi (id (subi i (constantI ⟨0, ![]⟩ 32 1#32))) (constantI ⟨0, ![]⟩ 32 wm)) (subi i (constantI ⟨0, ![]⟩ 32 1#32))] : Fin 1 → IVec ⟨0, ![]⟩ 32) k (Shape.Idx.first hf))) hs) hc i') (constantI ⟨0, ![]⟩ 32 0#32))
    (addi (fun i' => shapeCast ⟨0, ![]⟩ (Host.dynamicSlice ⟨1, ![1]⟩ idxs (fun k => BitVec.toInt ((![select (cmpi .slt (subi i (constantI ⟨0, ![]⟩ 32 1#32)) (constantI ⟨0, ![]⟩ 32 0#32)) (addi (id (subi i (constantI ⟨0, ![]⟩ 32 1#32))) (constantI ⟨0, ![]⟩ 32 wm)) (subi i (constantI ⟨0, ![]⟩ 32 1#32))] : Fin 1 → IVec ⟨0, ![]⟩ 32) k (Shape.Idx.first hf))) hs) hc i') (constantI ⟨0, ![]⟩ 32 wn))
    (fun i' => shapeCast ⟨0, ![]⟩ (Host.dynamicSlice ⟨1, ![1]⟩ idxs (fun k => BitVec.toInt ((![select (cmpi .slt (subi i (constantI ⟨0, ![]⟩ 32 1#32)) (constantI ⟨0, ![]⟩ 32 0#32)) (addi (id (subi i (constantI ⟨0, ![]⟩ 32 1#32))) (constantI ⟨0, ![]⟩ 32 wm)) (subi i (constantI ⟨0, ![]⟩ 32 1#32))] : Fin 1 → IVec ⟨0, ![]⟩ 32) k (Shape.Idx.first hf))) hs) hc i')

/-- The nearest distances once the sample numbered `l` is taken in. -/
def nearer (X : FVec Ideal ⟨2, ![n, 3]⟩ .f32) (D : FVec Ideal ⟨1, ![n]⟩ .f32) (l : IVec ⟨0, ![]⟩ 32) (hs : (⟨2, ![n, 3]⟩ : Shape).Slices (fun _ => 0) ⟨2, ![1, 3]⟩)
    (hc : (⟨2, ![1, 3]⟩ : Shape).ShapeCasts ⟨1, ![3]⟩) (h1 : (⟨1, ![3]⟩ : Shape).BroadcastsInDim ⟨2, ![1, 3]⟩ (![1] : Fin 1 → Fin 2))
    (h2 : (⟨2, ![1, 3]⟩ : Shape).BroadcastsInDim ⟨2, ![n, 3]⟩ (![0, 1] : Fin 2 → Fin 2)) (hr : (⟨2, ![n, 3]⟩ : Shape).ReducesTo [1] ⟨1, ![n]⟩)
    (hf : 0 < (⟨0, ![]⟩ : Shape).numel) : FVec Ideal ⟨1, ![n]⟩ .f32 :=
  minimumf D (Host.reduceAdd
    (mulf
      (subf X (broadcastInDim ⟨2, ![n, 3]⟩ ![0, 1] h2 (broadcastInDim ⟨2, ![1, 3]⟩ ![1] h1 (fun i' => shapeCast ⟨1, ![3]⟩ (Host.dynamicSlice ⟨2, ![1, 3]⟩ X (fun k => BitVec.toInt ((![l, select (cmpi .slt (constantI ⟨0, ![]⟩ 32 0#32) (constantI ⟨0, ![]⟩ 32 0#32)) (addi (constantI ⟨0, ![]⟩ 32 0#32) (constantI ⟨0, ![]⟩ 32 3#32)) (constantI ⟨0, ![]⟩ 32 0#32)] : Fin 2 → IVec ⟨0, ![]⟩ 32) k (Shape.Idx.first hf))) hs) hc i'))))
      (subf X (broadcastInDim ⟨2, ![n, 3]⟩ ![0, 1] h2 (broadcastInDim ⟨2, ![1, 3]⟩ ![1] h1 (fun i' => shapeCast ⟨1, ![3]⟩ (Host.dynamicSlice ⟨2, ![1, 3]⟩ X (fun k => BitVec.toInt ((![l, select (cmpi .slt (constantI ⟨0, ![]⟩ 32 0#32) (constantI ⟨0, ![]⟩ 32 0#32)) (addi (constantI ⟨0, ![]⟩ 32 0#32) (constantI ⟨0, ![]⟩ 32 3#32)) (constantI ⟨0, ![]⟩ 32 0#32)] : Fin 2 → IVec ⟨0, ![]⟩ 32) k (Shape.Idx.first hf))) hs) hc i')))))
    (constant ⟨0, ![]⟩ .f32 0x00000000#32) hr hf)

/-- The samples once `p` is written at entry `i`. -/
def extend (wm : BitVec 32) (idxs : IVec ⟨1, ![m]⟩ 32) (i p : IVec ⟨0, ![]⟩ 32) (sc : ScatterDims ⟨1, ![m]⟩ ⟨1, ![1]⟩ ⟨0, ![]⟩)
    (hb : (⟨0, ![]⟩ : Shape).BroadcastsInDim ⟨1, ![1]⟩ (![] : Fin 0 → Fin 1)) : IVec ⟨1, ![m]⟩ 32 :=
  Host.scatter sc (fun _ b => b) idxs
    (broadcastInDim ⟨1, ![1]⟩ ![] hb (id (select (cmpi .slt i (constantI ⟨0, ![]⟩ 32 0#32)) (addi i (constantI ⟨0, ![]⟩ 32 wm)) i))) p

theorem slt_zero {a : ℕ} (ha : a < 2 ^ 31) (u w : BitVec 32) : Scalar.select (Scalar.cmpi .slt (BitVec.ofNat 32 a) 0#32) u w = w := by
  rw [show (0#32 : BitVec 32) = BitVec.ofNat 32 0 from rfl, slt_word ha (by omega), decide_eq_false (by omega)]; rfl

theorem sub_one (t : ℕ) : BitVec.ofNat 32 (t + 1) - 1#32 = BitVec.ofNat 32 t := by
  rw [show (1#32 : BitVec 32) = BitVec.ofNat 32 1 from rfl, BitVec.ofNat_add, BitVec.add_sub_cancel]

theorem lookup_eq (wm wn : BitVec 32) (idxs : IVec ⟨1, ![m]⟩ 32) (i : IVec ⟨0, ![]⟩ 32) (hs hc hf) {t s : ℕ} (ht : t < m) (hm : m ≤ 2 ^ 30) (hi : ∀ j, i j = BitVec.ofNat 32 (t + 1))
    (hx : idxs (ValueIdx.ix1 ⟨t, ht⟩) = BitVec.ofNat 32 s) (hs' : s < 2 ^ 31) (j) : lookup wm wn idxs i hs hc hf j = BitVec.ofNat 32 s := by
  have e0 : ∀ j, select (cmpi .slt (subi i (constantI ⟨0, ![]⟩ 32 1#32)) (constantI ⟨0, ![]⟩ 32 0#32)) (addi (id (subi i (constantI ⟨0, ![]⟩ 32 1#32))) (constantI ⟨0, ![]⟩ 32 wm)) (subi i (constantI ⟨0, ![]⟩ 32 1#32)) j
      = BitVec.ofNat 32 t := by
    intro j
    have e : subi i (constantI ⟨0, ![]⟩ 32 1#32) j = BitVec.ofNat 32 t := by
      show i j - 1#32 = _
      rw [hi, sub_one]
    show Scalar.select (Scalar.cmpi .slt (subi i (constantI ⟨0, ![]⟩ 32 1#32) j) 0#32) _ (subi i (constantI ⟨0, ![]⟩ 32 1#32) j) = _
    rw [e, slt_zero (by omega)]
  have e1 : ∀ j, shapeCast ⟨0, ![]⟩ (Host.dynamicSlice ⟨1, ![1]⟩ idxs (fun k => BitVec.toInt ((![select (cmpi .slt (subi i (constantI ⟨0, ![]⟩ 32 1#32)) (constantI ⟨0, ![]⟩ 32 0#32)) (addi (id (subi i (constantI ⟨0, ![]⟩ 32 1#32))) (constantI ⟨0, ![]⟩ 32 wm)) (subi i (constantI ⟨0, ![]⟩ 32 1#32))] : Fin 1 → IVec ⟨0, ![]⟩ 32) k (Shape.Idx.first hf))) hs) hc j
      = BitVec.ofNat 32 s := by
    intro j
    refine Eq.trans ?_ hx
    show Host.dynamicSlice _ _ _ _ _ = _
    rw [Host.dynamicSlice_apply]
    refine congrArg idxs ((ValueIdx.eq_ix1 _).trans (congrArg ValueIdx.ix1 (Fin.ext ?_)))
    show Host.clampedStart _ _ _ _ 0 + _ = t
    rw [Host.clampedStart_of_le _ _ _ t (by show BitVec.toInt _ = _; exact (congrArg BitVec.toInt (e0 _)).trans (toInt_word (by omega))) (by show t + 1 ≤ m; omega)]
    have h1 : ∀ r : ℕ, r < 1 → t + r = t := fun r hr => by omega
    exact h1 _ (Shape.reshapeEquiv hc j 0).isLt
  show Scalar.select (Scalar.cmpi .slt (shapeCast _ _ hc j) 0#32) _ (shapeCast _ _ hc j) = _
  rw [e1, slt_zero hs']

theorem nearer_eq (w : Fin 3 → ℕ → EReal) (d : ℕ → EReal) (X : FVec Ideal ⟨2, ![n, 3]⟩ .f32) (hX : ∀ i, X i = w (i 1) (i 0).val) (D : FVec Ideal ⟨1, ![n]⟩ .f32)
    (hD : ∀ i, D i = d (i 0).val) (l : IVec ⟨0, ![]⟩ 32) (hs hc h1 h2 hr hf) {s : ℕ} (hs' : s < n) (hn : n ≤ 2 ^ 30) (hl : ∀ j, l j = BitVec.ofNat 32 s) (j) :
    nearer X D l hs hc h1 h2 hr hf j = near (w 0) (w 1) (w 2) d s (j 0).val := by
  have row : ∀ k : Fin 3, shapeCast ⟨1, ![3]⟩ (Host.dynamicSlice ⟨2, ![1, 3]⟩ X (fun k => BitVec.toInt ((![l, select (cmpi .slt (constantI ⟨0, ![]⟩ 32 0#32) (constantI ⟨0, ![]⟩ 32 0#32)) (addi (constantI ⟨0, ![]⟩ 32 0#32) (constantI ⟨0, ![]⟩ 32 3#32)) (constantI ⟨0, ![]⟩ 32 0#32)] : Fin 2 → IVec ⟨0, ![]⟩ 32) k (Shape.Idx.first hf))) hs) hc
      (ValueIdx.ix1 k) = w k s := by
    intro k
    rw [shapeCast_apply _ hc _ (ValueIdx.ix2 0 k) (by rw [Shape.rowMajor_val_two, Shape.rowMajor_val_one]; show 0 * 3 + k.val = k.val; omega)]
    rw [Host.dynamicSlice_apply, hX]
    have c0 : Host.clampedStart ⟨2, ![n, 3]⟩ ⟨2, ![1, 3]⟩ hs.1 (fun k => BitVec.toInt ((![l, select (cmpi .slt (constantI ⟨0, ![]⟩ 32 0#32) (constantI ⟨0, ![]⟩ 32 0#32)) (addi (constantI ⟨0, ![]⟩ 32 0#32) (constantI ⟨0, ![]⟩ 32 3#32)) (constantI ⟨0, ![]⟩ 32 0#32)] : Fin 2 → IVec ⟨0, ![]⟩ 32) k (Shape.Idx.first hf))) 0 = s :=
      Host.clampedStart_of_le _ _ _ s ((congrArg BitVec.toInt (hl _)).trans (toInt_word (by omega))) (by show s + 1 ≤ n; omega)
    have c1 : Host.clampedStart ⟨2, ![n, 3]⟩ ⟨2, ![1, 3]⟩ hs.1 (fun k => BitVec.toInt ((![l, select (cmpi .slt (constantI ⟨0, ![]⟩ 32 0#32) (constantI ⟨0, ![]⟩ 32 0#32)) (addi (constantI ⟨0, ![]⟩ 32 0#32) (constantI ⟨0, ![]⟩ 32 3#32)) (constantI ⟨0, ![]⟩ 32 0#32)] : Fin 2 → IVec ⟨0, ![]⟩ 32) k (Shape.Idx.first hf))) 1 = 0 :=
      Host.clampedStart_of_le _ _ _ 0 rfl (by show 0 + 3 ≤ 3; omega)
    have i1 : (Shape.Idx.norm fun a => (⟨Host.clampedStart ⟨2, ![n, 3]⟩ ⟨2, ![1, 3]⟩ hs.1 (fun k => BitVec.toInt ((![l, select (cmpi .slt (constantI ⟨0, ![]⟩ 32 0#32) (constantI ⟨0, ![]⟩ 32 0#32)) (addi (constantI ⟨0, ![]⟩ 32 0#32) (constantI ⟨0, ![]⟩ 32 3#32)) (constantI ⟨0, ![]⟩ 32 0#32)] : Fin 2 → IVec ⟨0, ![]⟩ 32) k (Shape.Idx.first hf))) a
        + ((ValueIdx.ix2 0 k : (⟨2, ![1, 3]⟩ : Shape).Idx) (a.cast hs.1.symm)).val, by
          have h1 := Host.clampedStart_le hs.1 (fun k => BitVec.toInt ((![l, select (cmpi .slt (constantI ⟨0, ![]⟩ 32 0#32) (constantI ⟨0, ![]⟩ 32 0#32)) (addi (constantI ⟨0, ![]⟩ 32 0#32) (constantI ⟨0, ![]⟩ 32 3#32)) (constantI ⟨0, ![]⟩ 32 0#32)] : Fin 2 → IVec ⟨0, ![]⟩ 32) k (Shape.Idx.first hf))) a (by have := hs.2 a; omega)
          have := ((ValueIdx.ix2 0 k : (⟨2, ![1, 3]⟩ : Shape).Idx) (a.cast hs.1.symm)).isLt
          omega⟩ : Fin ((⟨2, ![n, 3]⟩ : Shape).size a))) = ValueIdx.ix2 ⟨s, hs'⟩ k := by
      funext a
      match a with
      | ⟨0, _⟩ => exact Fin.ext (by show Host.clampedStart _ _ _ _ 0 + 0 = s; rw [c0]; rfl)
      | ⟨1, _⟩ => exact Fin.ext (by show Host.clampedStart _ _ _ _ 1 + k.val = k.val; rw [c1, Nat.zero_add])
    rw [i1]; rfl
  have sq : ∀ k : Fin 3, (subf X (broadcastInDim ⟨2, ![n, 3]⟩ ![0, 1] h2 (broadcastInDim ⟨2, ![1, 3]⟩ ![1] h1 (fun i' => shapeCast ⟨1, ![3]⟩ (Host.dynamicSlice ⟨2, ![1, 3]⟩ X (fun k => BitVec.toInt ((![l, select (cmpi .slt (constantI ⟨0, ![]⟩ 32 0#32) (constantI ⟨0, ![]⟩ 32 0#32)) (addi (constantI ⟨0, ![]⟩ 32 0#32) (constantI ⟨0, ![]⟩ 32 3#32)) (constantI ⟨0, ![]⟩ 32 0#32)] : Fin 2 → IVec ⟨0, ![]⟩ 32) k (Shape.Idx.first hf))) hs) hc i')))
      (ValueIdx.ix2 (j 0) k) : EReal) = w k (j 0).val - w k s := by
    intro k
    show (X _ : EReal) - _ = _
    refine congrArg₂ (fun a b : EReal => a - b) (hX _) ?_
    rw [broadcastInDim_apply _ h2 _ _ (ValueIdx.ix2 0 k) (fun a => by
        match a with
        | ⟨0, _⟩ => rfl
        | ⟨1, _⟩ => rfl),
      broadcastInDim_apply _ h1 _ _ (ValueIdx.ix1 k) (fun a => by
        obtain rfl : a = 0 := Subsingleton.elim _ _
        rfl)]
    exact row k
  unfold nearer near
  show min (D j : EReal) (Ideal.hostReduceAdd hr _ _ j) = _
  rw [hD, Ideal.hostReduceAdd_r2_a1, Fin.sum_univ_three]
  refine congrArg₂ min rfl ?_
  have z0 : (constant (F := Ideal) ⟨0, ![]⟩ .f32 0x00000000#32 (Shape.Idx.first hf) : EReal) = 0 := Ideal.ofBits_zero .f32
  show (constant (F := Ideal) ⟨0, ![]⟩ .f32 0x00000000#32 (Shape.Idx.first hf) : EReal) + _ = _
  rw [z0, zero_add]
  refine congrArg₂ (fun a b : EReal => a + b) (congrArg₂ (fun a b : EReal => a + b) ?_ ?_) ?_
  · exact congrArg₂ (fun a b : EReal => a * b) (sq 0) (sq 0)
  · exact congrArg₂ (fun a b : EReal => a * b) (sq 1) (sq 1)
  · exact congrArg₂ (fun a b : EReal => a * b) (sq 2) (sq 2)

theorem extend_eq (wm : BitVec 32) (idxs : IVec ⟨1, ![m]⟩ 32) (i p : IVec ⟨0, ![]⟩ 32) (sc) (hb) (h0 : sc.insertedWindowDims = [0]) (h1 : sc.scatterDimsToOperandDims = [0])
    {t : ℕ} (ht : t < m) (hm : m ≤ 2 ^ 30) (hi : ∀ j, i j = BitVec.ofNat 32 t) {q : BitVec 32} (hp : ∀ j, p j = q) (j) :
    extend wm idxs i p sc hb j = if (j 0).val = t then q else idxs j := by
  obtain ⟨a, rfl⟩ : ∃ a, j = ValueIdx.ix1 a := ⟨j 0, ValueIdx.eq_ix1 j⟩
  have e : ∀ j, select (cmpi .slt i (constantI ⟨0, ![]⟩ 32 0#32)) (addi i (constantI ⟨0, ![]⟩ 32 wm)) i j = BitVec.ofNat 32 t := by
    intro j
    show Scalar.select (Scalar.cmpi .slt (i j) 0#32) _ (i j) = _
    rw [hi, slt_zero (by omega)]
  have := Routing.scatter_one_signed sc h0 h1 idxs
    (broadcastInDim ⟨1, ![1]⟩ ![] hb (id (select (cmpi .slt i (constantI ⟨0, ![]⟩ 32 0#32)) (addi i (constantI ⟨0, ![]⟩ 32 wm)) i))) p ⟨t, ht⟩
    ((congrArg BitVec.toInt (e _)).trans (toInt_word (by omega))) a
  unfold extend
  rw [this, hp]
  by_cases h : a.val = t
  · rw [if_pos (Fin.ext h)]; exact (if_pos h).symm
  · rw [if_neg fun h' => h (congrArg Fin.val h')]; exact (if_neg h).symm

/-- Where the loop stands after `t` steps. -/
structure Gone (w : Fin 3 → ℕ → EReal) (c : EReal) (t : ℕ) (X : FVec Ideal ⟨2, ![n, 3]⟩ .f32) (i : IVec ⟨0, ![]⟩ 32) (D : FVec Ideal ⟨1, ![n]⟩ .f32) (idxs : IVec ⟨1, ![m]⟩ 32) : Prop where
  pts : ∀ i, X i = w (i 1) (i 0).val
  next : ∀ j, i j = BitVec.ofNat 32 (t + 1)
  dist : ∀ i, D i = (state n (w 0) (w 1) (w 2) c t).1 (i 0).val
  out : ∀ i, idxs i = if (i 0).val ≤ t then BitVec.ofNat 32 (state n (w 0) (w 1) (w 2) c (i 0).val).2 else 0

/-- A step keeps it. -/
theorem Gone.step {w : Fin 3 → ℕ → EReal} {c : EReal} (hc0 : 0 ≤ c) {t : ℕ} {X : FVec Ideal ⟨2, ![n, 3]⟩ .f32} {i : IVec ⟨0, ![]⟩ 32} {D : FVec Ideal ⟨1, ![n]⟩ .f32} {idxs : IVec ⟨1, ![m]⟩ 32}
    (h : Gone w c t X i D idxs) (hn : 0 < n) (hn' : n ≤ 2 ^ 30) (hm : m ≤ 2 ^ 30) (ht : t + 1 < m) (wm wn hs1 hc1 hf hs2 hc2 h1 h2 hr) (ha : (⟨1, ![n]⟩ : Shape).ReducesTo [0] ⟨0, ![]⟩) (sc hb)
    (s0 : sc.insertedWindowDims = [0]) (s1 : sc.scatterDimsToOperandDims = [0]) :
    Gone w c (t + 1) X (addi i (constantI ⟨0, ![]⟩ 32 1#32)) (nearer X D (lookup wm wn idxs i hs1 hc1 hf) hs2 hc2 h1 h2 hr hf)
      (extend wm idxs i (fun j => (Host.argReduce (Cert.ReferenceIdeal.reducer_argmax_f32_i32 (F := Ideal)) (nearer X D (lookup wm wn idxs i hs1 hc1 hf) hs2 hc2 h1 h2 hr hf)
        (iotaInDim ⟨1, ![n]⟩ 32 0) (constant ⟨0, ![]⟩ .f32 0xFF800000#32) (constantI ⟨0, ![]⟩ 32 0#32) ha hf j).2) sc hb) := by
  have hl : ∀ j, lookup wm wn idxs i hs1 hc1 hf j = BitVec.ofNat 32 (state n (w 0) (w 1) (w 2) c t).2 :=
    lookup_eq wm wn idxs i hs1 hc1 hf (by omega : t < m) hm h.next ((h.out _).trans (if_pos le_rfl)) ((state_lt hn t).trans_le (by omega))
  have hd : ∀ j, nearer X D (lookup wm wn idxs i hs1 hc1 hf) hs2 hc2 h1 h2 hr hf j = (state n (w 0) (w 1) (w 2) c (t + 1)).1 (j 0).val :=
    nearer_eq w _ X h.pts D h.dist _ hs2 hc2 h1 h2 hr hf (state_lt hn t) hn' hl
  refine ⟨h.pts, fun j => ?_, hd, fun j => ?_⟩
  · show i j + 1#32 = _
    rw [h.next, show (1#32 : BitVec 32) = BitVec.ofNat 32 1 from rfl, ← BitVec.ofNat_add]
  · rw [extend_eq wm idxs i _ sc hb s0 s1 ht hm h.next (fun j => choice_eq hn hn' _ (state_nonneg hc0 (t + 1)) _ hd ha hf j), h.out]
    by_cases e : (j 0).val = t + 1
    · rw [if_pos e, if_pos e.le, e]; rfl
    · rw [if_neg e]
      by_cases e' : (j 0).val ≤ t
      · rw [if_pos e', if_pos (by omega)]
      · rw [if_neg e', if_neg (by omega)]
end

end Cert.Sample
-- ==== Proof.RFps.lean ====
/-
  The reference's four furthest point sampling loops: the indices each leaves are the samples of `Sample`.
-/
module

public import proofs.«01_k».proof.Proof.RSample

@[expose] public section

set_option maxRecDepth 100000

noncomputable section

namespace Cert.ReferenceIdeal.Run

open Cert.ReferenceIdeal Cert.ReferenceIdeal.Gen Cert.Host Cert.Sample
open Idealize.ShloMosaic Idealize.ShloMosaic.TcCoe Idealize.ShloMosaic.Tactic
open Idealize.ShloMosaic.StableHlo (afterL after)

/-- An indexed operation's result, its one index read at its own buffer. -/
theorem indexed1 {τ : Topo} {sig : RefSig} {Val : EltTy → Type} {a y r : Ref sig .tc} (T : BufTy) (f : a.ty.Contents Val → (Fin 1 → T.Contents Val) → y.ty.Contents Val) (hT ha hix hy)
    (W : Valuation τ sig Val) :
    (StableHlo.unaryIndexed (τ := τ) a ![r] T y f hT ha hix hy).result W (no_index (Proc.devRef .tc y))
      = f (W (Proc.devRef .tc a)) ![cast (congrArg (fun U : BufTy => U.Contents Val) (hT 0)) (W (Proc.devRef .tc r))] := by
  rw [StableHlo.unaryIndexed_result]
  refine congrArg _ (funext fun k => ?_)
  match k with
  | ⟨0, _⟩ => rfl

/-- The same with two indices. -/
theorem indexed2 {τ : Topo} {sig : RefSig} {Val : EltTy → Type} {a y r s : Ref sig .tc} (T : BufTy) (f : a.ty.Contents Val → (Fin 2 → T.Contents Val) → y.ty.Contents Val) (hT ha hix hy)
    (W : Valuation τ sig Val) :
    (StableHlo.unaryIndexed (τ := τ) a ![r, s] T y f hT ha hix hy).result W (no_index (Proc.devRef .tc y))
      = f (W (Proc.devRef .tc a)) ![cast (congrArg (fun U : BufTy => U.Contents Val) (hT 0)) (W (Proc.devRef .tc r)),
          cast (congrArg (fun U : BufTy => U.Contents Val) (hT 1)) (W (Proc.devRef .tc s))] := by
  rw [StableHlo.unaryIndexed_result]
  refine congrArg _ (funext fun k => ?_)
  match k with
  | ⟨0, _⟩ => rfl
  | ⟨1, _⟩ => rfl

/-! ## Loop 0 -/

section
variable (V : Valuation τ sig (Elt Ideal))

theorem points0 : afterL [rbody0] V main_v3_0 = V main_v3_0 := afterL_keep (F := Ideal) rbody0_W.2 (by decide +kernel) V

theorem next0 : afterL [rbody0] V main_v3_2 = addi (V main_v3_2) (constantI ⟨0, ![]⟩ 32 1#32) := by
  simp only [StableHlo.afterL_cons, StableHlo.afterL_nil, rbody0, rbody0_T]; after_reads_simp; rfl

theorem dist0 : afterL [rbody0] V main_v3_3
    = nearer (n := 65536) (V main_v3_0) (V main_v3_3) (lookup (m := 65526) 65526#32 65536#32 (V main_v3_4) (V main_v3_2) sliceFits_S65526_S1 shapeCasts_S1_S_ h_S_)
        sliceFits_S65536x3_S1x3 shapeCasts_S1x3_S3 bcast_S3_S1x3_1 bcast_S1x3_S65536x3_0_1 reducesTo_S65536x3_S65536_d1 h_S_ := by
  simp only [StableHlo.afterL_cons, StableHlo.afterL_nil, rbody0, rbody0_T]; after_reads_simp [indexed1, indexed2]; rfl

theorem out0 : afterL [rbody0] V main_v3_4
    = extend (m := 65526) 65526#32 (V main_v3_4) (V main_v3_2) (fun j => (Host.argReduce (reducer_argmax_f32_i32 (F := Ideal))
        (nearer (n := 65536) (V main_v3_0) (V main_v3_3) (lookup (m := 65526) 65526#32 65536#32 (V main_v3_4) (V main_v3_2) sliceFits_S65526_S1 shapeCasts_S1_S_ h_S_)
          sliceFits_S65536x3_S1x3 shapeCasts_S1x3_S3 bcast_S3_S1x3_1 bcast_S1x3_S65536x3_0_1 reducesTo_S65536x3_S65536_d1 h_S_)
        (iotaInDim ⟨1, ![65536]⟩ 32 0) (constant ⟨0, ![]⟩ .f32 0xFF800000#32) (constantI ⟨0, ![]⟩ 32 0#32) reducesTo_S65536_S_d0 h_S_ j).2)
        scatter_S65526_S1_S__n_0_0_0 bcast_S_S1 := by
  simp only [StableHlo.afterL_cons, StableHlo.afterL_nil, rbody0, rbody0_T]; after_reads_simp [indexed1, indexed2]; rfl
end

/-- The loop leaves the samples. -/
theorem samples0 (w : Fin 3 → ℕ → EReal) {d : EReal} (hd : 0 ≤ d) (W : Mem nD τ sig Ideal) (c : Dev nD)
    (h : Gone (n := 65536) (m := 65526) w d 0 (W c main_v3_0) (W c main_v3_2) (W c main_v3_3) (W c main_v3_4)) (i : (⟨1, ![65526]⟩ : Shape).Idx) :
    (after rcond0 (StableHlo.atTrip rcond0 [rbody0] W 65525 c) main_v3_4 : IVec ⟨1, ![65526]⟩ 32) i = BitVec.ofNat 32 (state 65536 (w 0) (w 1) (w 2) d (i 0).val).2 := by
  have k : ∀ (V : Valuation τ sig (Elt Ideal)), after rcond0 V main_v3_0 = V main_v3_0 ∧ after rcond0 V main_v3_2 = V main_v3_2 ∧ after rcond0 V main_v3_3 = V main_v3_3 ∧ after rcond0 V main_v3_4 = V main_v3_4 :=
    fun V => ⟨afterL_keep (F := Ideal) rcond0_W.2 (by decide +kernel) V, afterL_keep (F := Ideal) rcond0_W.2 (by decide +kernel) V, afterL_keep (F := Ideal) rcond0_W.2 (by decide +kernel) V, afterL_keep (F := Ideal) rcond0_W.2 (by decide +kernel) V⟩
  have inv : ∀ t, t ≤ 65525 → Gone (n := 65536) (m := 65526) w d t (StableHlo.atTrip rcond0 [rbody0] W t c main_v3_0) (StableHlo.atTrip rcond0 [rbody0] W t c main_v3_2)
      (StableHlo.atTrip rcond0 [rbody0] W t c main_v3_3) (StableHlo.atTrip rcond0 [rbody0] W t c main_v3_4) := by
    intro t
    induction t with
    | zero => exact fun _ => h
    | succ t ih =>
      intro ht
      rw [StableHlo.atTrip_succ, points0, next0, dist0, out0, (k _).1, (k _).2.1, (k _).2.2.1, (k _).2.2.2]
      exact (ih (by omega)).step hd (by omega) (by omega) (by omega) (by omega) _ _ _ _ _ _ _ _ _ _ _ _ _ rfl rfl
  rw [(k _).2.2.2, (inv 65525 le_rfl).out, if_pos (by have := (i 0).isLt; have e : (⟨1, ![65526]⟩ : Shape).size 0 = 65526 := rfl; omega)]

/-! ## Loop 2 -/

section
variable (V : Valuation τ sig (Elt Ideal))

theorem points2 : afterL [rbody2] V main_v59_0 = V main_v59_0 := afterL_keep (F := Ideal) rbody2_W.2 (by decide +kernel) V

theorem next2 : afterL [rbody2] V main_v59_2 = addi (V main_v59_2) (constantI ⟨0, ![]⟩ 32 1#32) := by
  simp only [StableHlo.afterL_cons, StableHlo.afterL_nil, rbody2, rbody2_T]; after_reads_simp; rfl

theorem dist2 : afterL [rbody2] V main_v59_3
    = nearer (n := 65526) (V main_v59_0) (V main_v59_3) (lookup (m := 32768) 32768#32 65526#32 (V main_v59_4) (V main_v59_2) sliceFits_S32768_S1 shapeCasts_S1_S_ h_S_)
        sliceFits_S65526x3_S1x3 shapeCasts_S1x3_S3 bcast_S3_S1x3_1 bcast_S1x3_S65526x3_0_1 reducesTo_S65526x3_S65526_d1 h_S_ := by
  simp only [StableHlo.afterL_cons, StableHlo.afterL_nil, rbody2, rbody2_T]; after_reads_simp [indexed1, indexed2]; rfl

theorem out2 : afterL [rbody2] V main_v59_4
    = extend (m := 32768) 32768#32 (V main_v59_4) (V main_v59_2) (fun j => (Host.argReduce (reducer_argmax_f32_i32 (F := Ideal))
        (nearer (n := 65526) (V main_v59_0) (V main_v59_3) (lookup (m := 32768) 32768#32 65526#32 (V main_v59_4) (V main_v59_2) sliceFits_S32768_S1 shapeCasts_S1_S_ h_S_)
          sliceFits_S65526x3_S1x3 shapeCasts_S1x3_S3 bcast_S3_S1x3_1 bcast_S1x3_S65526x3_0_1 reducesTo_S65526x3_S65526_d1 h_S_)
        (iotaInDim ⟨1, ![65526]⟩ 32 0) (constant ⟨0, ![]⟩ .f32 0xFF800000#32) (constantI ⟨0, ![]⟩ 32 0#32) reducesTo_S65526_S_d0 h_S_ j).2)
        scatter_S32768_S1_S__n_0_0_0 bcast_S_S1 := by
  simp only [StableHlo.afterL_cons, StableHlo.afterL_nil, rbody2, rbody2_T]; after_reads_simp [indexed1, indexed2]; rfl
end

/-- The loop leaves the samples. -/
theorem samples2 (w : Fin 3 → ℕ → EReal) {d : EReal} (hd : 0 ≤ d) (W : Mem nD τ sig Ideal) (c : Dev nD)
    (h : Gone (n := 65526) (m := 32768) w d 0 (W c main_v59_0) (W c main_v59_2) (W c main_v59_3) (W c main_v59_4)) (i : (⟨1, ![32768]⟩ : Shape).Idx) :
    (after rcond2 (StableHlo.atTrip rcond2 [rbody2] W 32767 c) main_v59_4 : IVec ⟨1, ![32768]⟩ 32) i = BitVec.ofNat 32 (state 65526 (w 0) (w 1) (w 2) d (i 0).val).2 := by
  have k : ∀ (V : Valuation τ sig (Elt Ideal)), after rcond2 V main_v59_0 = V main_v59_0 ∧ after rcond2 V main_v59_2 = V main_v59_2 ∧ after rcond2 V main_v59_3 = V main_v59_3 ∧ after rcond2 V main_v59_4 = V main_v59_4 :=
    fun V => ⟨afterL_keep (F := Ideal) rcond2_W.2 (by decide +kernel) V, afterL_keep (F := Ideal) rcond2_W.2 (by decide +kernel) V, afterL_keep (F := Ideal) rcond2_W.2 (by decide +kernel) V, afterL_keep (F := Ideal) rcond2_W.2 (by decide +kernel) V⟩
  have inv : ∀ t, t ≤ 32767 → Gone (n := 65526) (m := 32768) w d t (StableHlo.atTrip rcond2 [rbody2] W t c main_v59_0) (StableHlo.atTrip rcond2 [rbody2] W t c main_v59_2)
      (StableHlo.atTrip rcond2 [rbody2] W t c main_v59_3) (StableHlo.atTrip rcond2 [rbody2] W t c main_v59_4) := by
    intro t
    induction t with
    | zero => exact fun _ => h
    | succ t ih =>
      intro ht
      rw [StableHlo.atTrip_succ, points2, next2, dist2, out2, (k _).1, (k _).2.1, (k _).2.2.1, (k _).2.2.2]
      exact (ih (by omega)).step hd (by omega) (by omega) (by omega) (by omega) _ _ _ _ _ _ _ _ _ _ _ _ _ rfl rfl
  rw [(k _).2.2.2, (inv 32767 le_rfl).out, if_pos (by have := (i 0).isLt; have e : (⟨1, ![32768]⟩ : Shape).size 0 = 32768 := rfl; omega)]

/-! ## Loop 4 -/

section
variable (V : Valuation τ sig (Elt Ideal))

theorem points4 : afterL [rbody4] V main_v114_0 = V main_v114_0 := afterL_keep (F := Ideal) rbody4_W.2 (by decide +kernel) V

theorem next4 : afterL [rbody4] V main_v114_2 = addi (V main_v114_2) (constantI ⟨0, ![]⟩ 32 1#32) := by
  simp only [StableHlo.afterL_cons, StableHlo.afterL_nil, rbody4, rbody4_T]; after_reads_simp; rfl

theorem dist4 : afterL [rbody4] V main_v114_3
    = nearer (n := 32768) (V main_v114_0) (V main_v114_3) (lookup (m := 16384) 16384#32 32768#32 (V main_v114_4) (V main_v114_2) sliceFits_S16384_S1 shapeCasts_S1_S_ h_S_)
        sliceFits_S32768x3_S1x3 shapeCasts_S1x3_S3 bcast_S3_S1x3_1 bcast_S1x3_S32768x3_0_1 reducesTo_S32768x3_S32768_d1 h_S_ := by
  simp only [StableHlo.afterL_cons, StableHlo.afterL_nil, rbody4, rbody4_T]; after_reads_simp [indexed1, indexed2]; rfl

theorem out4 : afterL [rbody4] V main_v114_4
    = extend (m := 16384) 16384#32 (V main_v114_4) (V main_v114_2) (fun j => (Host.argReduce (reducer_argmax_f32_i32 (F := Ideal))
        (nearer (n := 32768) (V main_v114_0) (V main_v114_3) (lookup (m := 16384) 16384#32 32768#32 (V main_v114_4) (V main_v114_2) sliceFits_S16384_S1 shapeCasts_S1_S_ h_S_)
          sliceFits_S32768x3_S1x3 shapeCasts_S1x3_S3 bcast_S3_S1x3_1 bcast_S1x3_S32768x3_0_1 reducesTo_S32768x3_S32768_d1 h_S_)
        (iotaInDim ⟨1, ![32768]⟩ 32 0) (constant ⟨0, ![]⟩ .f32 0xFF800000#32) (constantI ⟨0, ![]⟩ 32 0#32) reducesTo_S32768_S_d0 h_S_ j).2)
        scatter_S16384_S1_S__n_0_0_0 bcast_S_S1 := by
  simp only [StableHlo.afterL_cons, StableHlo.afterL_nil, rbody4, rbody4_T]; after_reads_simp [indexed1, indexed2]; rfl
end

/-- The loop leaves the samples. -/
theorem samples4 (w : Fin 3 → ℕ → EReal) {d : EReal} (hd : 0 ≤ d) (W : Mem nD τ sig Ideal) (c : Dev nD)
    (h : Gone (n := 32768) (m := 16384) w d 0 (W c main_v114_0) (W c main_v114_2) (W c main_v114_3) (W c main_v114_4)) (i : (⟨1, ![16384]⟩ : Shape).Idx) :
    (after rcond4 (StableHlo.atTrip rcond4 [rbody4] W 16383 c) main_v114_4 : IVec ⟨1, ![16384]⟩ 32) i = BitVec.ofNat 32 (state 32768 (w 0) (w 1) (w 2) d (i 0).val).2 := by
  have k : ∀ (V : Valuation τ sig (Elt Ideal)), after rcond4 V main_v114_0 = V main_v114_0 ∧ after rcond4 V main_v114_2 = V main_v114_2 ∧ after rcond4 V main_v114_3 = V main_v114_3 ∧ after rcond4 V main_v114_4 = V main_v114_4 :=
    fun V => ⟨afterL_keep (F := Ideal) rcond4_W.2 (by decide +kernel) V, afterL_keep (F := Ideal) rcond4_W.2 (by decide +kernel) V, afterL_keep (F := Ideal) rcond4_W.2 (by decide +kernel) V, afterL_keep (F := Ideal) rcond4_W.2 (by decide +kernel) V⟩
  have inv : ∀ t, t ≤ 16383 → Gone (n := 32768) (m := 16384) w d t (StableHlo.atTrip rcond4 [rbody4] W t c main_v114_0) (StableHlo.atTrip rcond4 [rbody4] W t c main_v114_2)
      (StableHlo.atTrip rcond4 [rbody4] W t c main_v114_3) (StableHlo.atTrip rcond4 [rbody4] W t c main_v114_4) := by
    intro t
    induction t with
    | zero => exact fun _ => h
    | succ t ih =>
      intro ht
      rw [StableHlo.atTrip_succ, points4, next4, dist4, out4, (k _).1, (k _).2.1, (k _).2.2.1, (k _).2.2.2]
      exact (ih (by omega)).step hd (by omega) (by omega) (by omega) (by omega) _ _ _ _ _ _ _ _ _ _ _ _ _ rfl rfl
  rw [(k _).2.2.2, (inv 16383 le_rfl).out, if_pos (by have := (i 0).isLt; have e : (⟨1, ![16384]⟩ : Shape).size 0 = 16384 := rfl; omega)]

/-! ## Loop 6 -/

section
variable (V : Valuation τ sig (Elt Ideal))

theorem points6 : afterL [rbody6] V main_v169_0 = V main_v169_0 := afterL_keep (F := Ideal) rbody6_W.2 (by decide +kernel) V

theorem next6 : afterL [rbody6] V main_v169_2 = addi (V main_v169_2) (constantI ⟨0, ![]⟩ 32 1#32) := by
  simp only [StableHlo.afterL_cons, StableHlo.afterL_nil, rbody6, rbody6_T]; after_reads_simp; rfl

theorem dist6 : afterL [rbody6] V main_v169_3
    = nearer (n := 16384) (V main_v169_0) (V main_v169_3) (lookup (m := 8192) 8192#32 16384#32 (V main_v169_4) (V main_v169_2) sliceFits_S8192_S1 shapeCasts_S1_S_ h_S_)
        sliceFits_S16384x3_S1x3 shapeCasts_S1x3_S3 bcast_S3_S1x3_1 bcast_S1x3_S16384x3_0_1 reducesTo_S16384x3_S16384_d1 h_S_ := by
  simp only [StableHlo.afterL_cons, StableHlo.afterL_nil, rbody6, rbody6_T]; after_reads_simp [indexed1, indexed2]; rfl

theorem out6 : afterL [rbody6] V main_v169_4
    = extend (m := 8192) 8192#32 (V main_v169_4) (V main_v169_2) (fun j => (Host.argReduce (reducer_argmax_f32_i32 (F := Ideal))
        (nearer (n := 16384) (V main_v169_0) (V main_v169_3) (lookup (m := 8192) 8192#32 16384#32 (V main_v169_4) (V main_v169_2) sliceFits_S8192_S1 shapeCasts_S1_S_ h_S_)
          sliceFits_S16384x3_S1x3 shapeCasts_S1x3_S3 bcast_S3_S1x3_1 bcast_S1x3_S16384x3_0_1 reducesTo_S16384x3_S16384_d1 h_S_)
        (iotaInDim ⟨1, ![16384]⟩ 32 0) (constant ⟨0, ![]⟩ .f32 0xFF800000#32) (constantI ⟨0, ![]⟩ 32 0#32) reducesTo_S16384_S_d0 h_S_ j).2)
        scatter_S8192_S1_S__n_0_0_0 bcast_S_S1 := by
  simp only [StableHlo.afterL_cons, StableHlo.afterL_nil, rbody6, rbody6_T]; after_reads_simp [indexed1, indexed2]; rfl
end

/-- The loop leaves the samples. -/
theorem samples6 (w : Fin 3 → ℕ → EReal) {d : EReal} (hd : 0 ≤ d) (W : Mem nD τ sig Ideal) (c : Dev nD)
    (h : Gone (n := 16384) (m := 8192) w d 0 (W c main_v169_0) (W c main_v169_2) (W c main_v169_3) (W c main_v169_4)) (i : (⟨1, ![8192]⟩ : Shape).Idx) :
    (after rcond6 (StableHlo.atTrip rcond6 [rbody6] W 8191 c) main_v169_4 : IVec ⟨1, ![8192]⟩ 32) i = BitVec.ofNat 32 (state 16384 (w 0) (w 1) (w 2) d (i 0).val).2 := by
  have k : ∀ (V : Valuation τ sig (Elt Ideal)), after rcond6 V main_v169_0 = V main_v169_0 ∧ after rcond6 V main_v169_2 = V main_v169_2 ∧ after rcond6 V main_v169_3 = V main_v169_3 ∧ after rcond6 V main_v169_4 = V main_v169_4 :=
    fun V => ⟨afterL_keep (F := Ideal) rcond6_W.2 (by decide +kernel) V, afterL_keep (F := Ideal) rcond6_W.2 (by decide +kernel) V, afterL_keep (F := Ideal) rcond6_W.2 (by decide +kernel) V, afterL_keep (F := Ideal) rcond6_W.2 (by decide +kernel) V⟩
  have inv : ∀ t, t ≤ 8191 → Gone (n := 16384) (m := 8192) w d t (StableHlo.atTrip rcond6 [rbody6] W t c main_v169_0) (StableHlo.atTrip rcond6 [rbody6] W t c main_v169_2)
      (StableHlo.atTrip rcond6 [rbody6] W t c main_v169_3) (StableHlo.atTrip rcond6 [rbody6] W t c main_v169_4) := by
    intro t
    induction t with
    | zero => exact fun _ => h
    | succ t ih =>
      intro ht
      rw [StableHlo.atTrip_succ, points6, next6, dist6, out6, (k _).1, (k _).2.1, (k _).2.2.1, (k _).2.2.2]
      exact (ih (by omega)).step hd (by omega) (by omega) (by omega) (by omega) _ _ _ _ _ _ _ _ _ _ _ _ _ rfl rfl
  rw [(k _).2.2.2, (inv 8191 le_rfl).out, if_pos (by have := (i 0).isLt; have e : (⟨1, ![8192]⟩ : Shape).size 0 = 8192 := rfl; omega)]

end Cert.ReferenceIdeal.Run
-- ==== Proof.Sim.lean ====
/-
  Two host programs that do the same operations on buffers of their own: if the operands hold the same contents, so do the results.
-/
module

public import proofs.«01_k».proof.Proof.Items

@[expose] public section

noncomputable section

namespace Cert.Host

open Idealize.ShloMosaic Idealize.ShloMosaic.TcCoe
open Idealize.ShloMosaic.StableHlo (afterL after)

variable {τ τ' : Topo} {sig sig' : RefSig} {F : FTy → Type}

/-- Two buffers, one of each program. -/
abbrev Twin (sig sig' : RefSig) : Type := Ref sig .tc × Ref sig' .tc

/-- The two buffers hold the same contents. -/
def Agree (V : Valuation τ sig (Elt F)) (W : Valuation τ' sig' (Elt F)) (p : Twin sig sig') : Prop := HEq (V p.1) (W p.2)

/-- Two operations that write `y` from `xs`, and agree on `y` where the operands agree. -/
structure Same (o : HloOp τ sig (Elt F)) (o' : HloOp τ' sig' (Elt F)) (xs : List (Twin sig sig')) (y : Twin sig sig') : Prop where
  writes : o.writes = {Proc.devRef (τ := τ) .tc y.1}
  writes' : o'.writes = {Proc.devRef (τ := τ') .tc y.2}
  value : ∀ V W, (∀ p ∈ xs, Agree V W p) → Agree (o.result V) (o'.result W) y

section Rules

theorem heq_app {A A' B B' : Type} (hA : A = A') (hB : B = B') {f : A → B} {f' : A' → B'} (hf : HEq f f') {a : A} {a' : A'} (ha : HEq a a') :
    HEq (f a) (f' a') := by
  subst hA hB; cases hf; cases ha; rfl

theorem heq_contents {T T' : BufTy} (h : T = T') : T.Contents (Elt F) = T'.Contents (Elt F) := by rw [h]

theorem heq_fn {T T' : BufTy} (h : T = T') {B B' : Type} (hB : B = B') : (T.Contents (Elt F) → B) = (T'.Contents (Elt F) → B') := by
  rw [h, hB]

variable {Ta Tb Tc Td Ty : BufTy}

theorem Same.nullary {y : Ref sig .tc} {y' : Ref sig' .tc} {v : y.ty.Contents (Elt F)} {v' : y'.ty.Contents (Elt F)} {hy hy'}
    (w : Ty.Contents (Elt F)) (ty : y.ty = Ty) (hv : HEq v w) (ty' : y'.ty = Ty) (hv' : HEq v' w) :
    Same (StableHlo.nullary (τ := τ) y v hy) (StableHlo.nullary (τ := τ') y' v' hy') [] (y, y') where
  writes := rfl
  writes' := rfl
  value V W _ := by
    unfold Agree; dsimp only
    rw [StableHlo.nullary_result, StableHlo.nullary_result]
    exact hv.trans hv'.symm

theorem Same.unary {x y : Ref sig .tc} {x' y' : Ref sig' .tc} {f : x.ty.Contents (Elt F) → y.ty.Contents (Elt F)}
    {f' : x'.ty.Contents (Elt F) → y'.ty.Contents (Elt F)} {hx hy hx' hy'} (g : Ta.Contents (Elt F) → Ty.Contents (Elt F))
    (tx : x.ty = Ta) (ty : y.ty = Ty) (hf : HEq f g) (tx' : x'.ty = Ta) (ty' : y'.ty = Ty) (hf' : HEq f' g) :
    Same (StableHlo.unary (τ := τ) x y f hx hy) (StableHlo.unary (τ := τ') x' y' f' hx' hy') [(x, x')] (y, y') where
  writes := rfl
  writes' := rfl
  value V W h := by
    unfold Agree; dsimp only
    rw [StableHlo.unary_result, StableHlo.unary_result]
    exact heq_app (heq_contents (tx.trans tx'.symm)) (heq_contents (ty.trans ty'.symm)) (hf.trans hf'.symm) (h (x, x') (by simp))

theorem Same.binary {a b y : Ref sig .tc} {a' b' y' : Ref sig' .tc} {f : a.ty.Contents (Elt F) → b.ty.Contents (Elt F) → y.ty.Contents (Elt F)}
    {f' : a'.ty.Contents (Elt F) → b'.ty.Contents (Elt F) → y'.ty.Contents (Elt F)} {ha hb hy ha' hb' hy'}
    (g : Ta.Contents (Elt F) → Tb.Contents (Elt F) → Ty.Contents (Elt F))
    (ta : a.ty = Ta) (tb : b.ty = Tb) (ty : y.ty = Ty) (hf : HEq f g) (ta' : a'.ty = Ta) (tb' : b'.ty = Tb) (ty' : y'.ty = Ty) (hf' : HEq f' g) :
    Same (StableHlo.binary (τ := τ) a b y f ha hb hy) (StableHlo.binary (τ := τ') a' b' y' f' ha' hb' hy') [(a, a'), (b, b')] (y, y') where
  writes := rfl
  writes' := rfl
  value V W h := by
    unfold Agree; dsimp only
    rw [StableHlo.binary_result, StableHlo.binary_result]
    exact heq_app (heq_contents (tb.trans tb'.symm)) (heq_contents (ty.trans ty'.symm))
      (heq_app (heq_contents (ta.trans ta'.symm)) (heq_fn (tb.trans tb'.symm) (heq_contents (ty.trans ty'.symm))) (hf.trans hf'.symm)
        (h (a, a') (by simp))) (h (b, b') (by simp))

theorem Same.ternary {a b c y : Ref sig .tc} {a' b' c' y' : Ref sig' .tc}
    {f : a.ty.Contents (Elt F) → b.ty.Contents (Elt F) → c.ty.Contents (Elt F) → y.ty.Contents (Elt F)}
    {f' : a'.ty.Contents (Elt F) → b'.ty.Contents (Elt F) → c'.ty.Contents (Elt F) → y'.ty.Contents (Elt F)} {ha hb hc hy ha' hb' hc' hy'}
    (g : Ta.Contents (Elt F) → Tb.Contents (Elt F) → Tc.Contents (Elt F) → Ty.Contents (Elt F))
    (ta : a.ty = Ta) (tb : b.ty = Tb) (tc : c.ty = Tc) (ty : y.ty = Ty) (hf : HEq f g)
    (ta' : a'.ty = Ta) (tb' : b'.ty = Tb) (tc' : c'.ty = Tc) (ty' : y'.ty = Ty) (hf' : HEq f' g) :
    Same (StableHlo.ternary (τ := τ) a b c y f ha hb hc hy) (StableHlo.ternary (τ := τ') a' b' c' y' f' ha' hb' hc' hy')
      [(a, a'), (b, b'), (c, c')] (y, y') where
  writes := rfl
  writes' := rfl
  value V W h := by
    unfold Agree; dsimp only
    rw [StableHlo.ternary_result, StableHlo.ternary_result]
    have hc := heq_fn (F := F) (tc.trans tc'.symm) (heq_contents (F := F) (ty.trans ty'.symm))
    exact heq_app (heq_contents (tc.trans tc'.symm)) (heq_contents (ty.trans ty'.symm))
      (heq_app (heq_contents (tb.trans tb'.symm)) hc
        (heq_app (heq_contents (ta.trans ta'.symm)) (heq_fn (tb.trans tb'.symm) hc) (hf.trans hf'.symm)
          (h (a, a') (by simp))) (h (b, b') (by simp))) (h (c, c') (by simp))

theorem reshape_heq {Tx Tx' Ty Ty' : BufTy} (hx : Tx = Tx') (hy : Ty = Ty') {he : Tx.elt = Ty.elt} {hn : Tx.shape.ShapeCasts Ty.shape}
    {he' : Tx'.elt = Ty'.elt} {hn' : Tx'.shape.ShapeCasts Ty'.shape} {v : Tx.Contents (Elt F)} {v' : Tx'.Contents (Elt F)} (hv : HEq v v') :
    HEq (fun i => he ▸ shapeCast Ty.shape v hn i : Ty.Contents (Elt F)) (fun i => he' ▸ shapeCast Ty'.shape v' hn' i : Ty'.Contents (Elt F)) := by
  subst hx hy; cases hv; rfl

theorem Same.reshape {x y : Ref sig .tc} {x' y' : Ref sig' .tc} {he hn hx hy he' hn' hx' hy'}
    (tx : x.ty = Ta) (ty : y.ty = Ty) (tx' : x'.ty = Ta) (ty' : y'.ty = Ty) :
    Same (F := F) (StableHlo.reshape (τ := τ) x y he hn hx hy) (StableHlo.reshape (τ := τ') x' y' he' hn' hx' hy') [(x, x')] (y, y') where
  writes := rfl
  writes' := rfl
  value V W h := by
    unfold Agree; dsimp only
    rw [StableHlo.reshape_result, StableHlo.reshape_result]
    exact reshape_heq (tx.trans tx'.symm) (ty.trans ty'.symm) (h (x, x') (by simp))

/-! The same of the operations of a called function, whose buffers come with their types. -/

theorem heq_toBuf {x : StableHlo.TRef sig Ta} {x' : StableHlo.TRef sig' Ta} {v v' : Ta.Contents (Elt F)} (h : v = v') :
    HEq (x.toBuf v) (x'.toBuf v') := by
  subst h; exact (cast_heq _ _).trans (cast_heq _ _).symm

theorem ofBuf_eq {x : StableHlo.TRef sig Ta} {x' : StableHlo.TRef sig' Ta} {V : Valuation τ sig (Elt F)} {W : Valuation τ' sig' (Elt F)}
    (h : Agree V W (x.ref, x'.ref)) : x.ofBuf (V x.ref) = x'.ofBuf (W x'.ref) :=
  eq_of_heq ((cast_heq _ _).trans (HEq.trans h (cast_heq _ _).symm))

theorem Same.tnullary {y : StableHlo.TRef sig Ty} {y' : StableHlo.TRef sig' Ty} {v : Ty.Contents (Elt F)} :
    Same (StableHlo.TRef.nullary (τ := τ) y v) (StableHlo.TRef.nullary (τ := τ') y' v) [] (y.ref, y'.ref) where
  writes := rfl
  writes' := rfl
  value V W _ := by
    unfold Agree; dsimp only
    rw [StableHlo.nullary_result, StableHlo.nullary_result]
    exact heq_toBuf rfl

theorem Same.tunary {x : StableHlo.TRef sig Ta} {y : StableHlo.TRef sig Ty} {x' : StableHlo.TRef sig' Ta} {y' : StableHlo.TRef sig' Ty}
    {f : Ta.Contents (Elt F) → Ty.Contents (Elt F)} :
    Same (StableHlo.TRef.unary (τ := τ) x y f) (StableHlo.TRef.unary (τ := τ') x' y' f) [(x.ref, x'.ref)] (y.ref, y'.ref) where
  writes := rfl
  writes' := rfl
  value V W h := by
    unfold Agree; dsimp only
    rw [StableHlo.unary_result, StableHlo.unary_result]
    exact heq_toBuf (by rw [ofBuf_eq (h (x.ref, x'.ref) (by simp))])

theorem Same.tbinary {a : StableHlo.TRef sig Ta} {b : StableHlo.TRef sig Tb} {y : StableHlo.TRef sig Ty}
    {a' : StableHlo.TRef sig' Ta} {b' : StableHlo.TRef sig' Tb} {y' : StableHlo.TRef sig' Ty}
    {f : Ta.Contents (Elt F) → Tb.Contents (Elt F) → Ty.Contents (Elt F)} :
    Same (StableHlo.TRef.binary (τ := τ) a b y f) (StableHlo.TRef.binary (τ := τ') a' b' y' f)
      [(a.ref, a'.ref), (b.ref, b'.ref)] (y.ref, y'.ref) where
  writes := rfl
  writes' := rfl
  value V W h := by
    unfold Agree; dsimp only
    rw [StableHlo.binary_result, StableHlo.binary_result]
    exact heq_toBuf (by rw [ofBuf_eq (h (a.ref, a'.ref) (by simp)), ofBuf_eq (h (b.ref, b'.ref) (by simp))])

theorem Same.tternary {a : StableHlo.TRef sig Ta} {b : StableHlo.TRef sig Tb} {c : StableHlo.TRef sig Tc} {y : StableHlo.TRef sig Ty}
    {a' : StableHlo.TRef sig' Ta} {b' : StableHlo.TRef sig' Tb} {c' : StableHlo.TRef sig' Tc} {y' : StableHlo.TRef sig' Ty}
    {f : Ta.Contents (Elt F) → Tb.Contents (Elt F) → Tc.Contents (Elt F) → Ty.Contents (Elt F)} :
    Same (StableHlo.TRef.ternary (τ := τ) a b c y f) (StableHlo.TRef.ternary (τ := τ') a' b' c' y' f)
      [(a.ref, a'.ref), (b.ref, b'.ref), (c.ref, c'.ref)] (y.ref, y'.ref) where
  writes := rfl
  writes' := rfl
  value V W h := by
    unfold Agree; dsimp only
    rw [StableHlo.ternary_result, StableHlo.ternary_result]
    exact heq_toBuf (by rw [ofBuf_eq (h (a.ref, a'.ref) (by simp)), ofBuf_eq (h (b.ref, b'.ref) (by simp)), ofBuf_eq (h (c.ref, c'.ref) (by simp))])

theorem Same.treshape {x : StableHlo.TRef sig Ta} {y : StableHlo.TRef sig Ty} {x' : StableHlo.TRef sig' Ta} {y' : StableHlo.TRef sig' Ty}
    {he he' : Ta.elt = Ty.elt} {hn hn' : Ta.shape.ShapeCasts Ty.shape} :
    Same (F := F) (StableHlo.TRef.reshape (τ := τ) x y he hn) (StableHlo.TRef.reshape (τ := τ') x' y' he' hn') [(x.ref, x'.ref)] (y.ref, y'.ref) where
  writes := rfl
  writes' := rfl
  value V W h := by
    unfold Agree; dsimp only
    rw [StableHlo.reshape_result, StableHlo.reshape_result]
    exact reshape_heq (x.ty_eq.trans x'.ty_eq.symm) (y.ty_eq.trans y'.ty_eq.symm) (h (x.ref, x'.ref) (by simp))

theorem Same.tunaryIndexed {n : Nat} {a : StableHlo.TRef sig Ta} {ix : Fin n → StableHlo.TRef sig Tb} {y : StableHlo.TRef sig Ty}
    {a' : StableHlo.TRef sig' Ta} {ix' : Fin n → StableHlo.TRef sig' Tb} {y' : StableHlo.TRef sig' Ty}
    {f : Ta.Contents (Elt F) → (Fin n → Tb.Contents (Elt F)) → Ty.Contents (Elt F)} :
    Same (StableHlo.TRef.unaryIndexed (τ := τ) a ix y f) (StableHlo.TRef.unaryIndexed (τ := τ') a' ix' y' f)
      ((a.ref, a'.ref) :: (List.finRange n).map fun k => ((ix k).ref, (ix' k).ref)) (y.ref, y'.ref) where
  writes := rfl
  writes' := rfl
  value V W h := by
    unfold Agree; dsimp only
    rw [StableHlo.unaryIndexed_result, StableHlo.unaryIndexed_result]
    refine heq_toBuf ?_
    rw [ofBuf_eq (h (a.ref, a'.ref) (by simp))]
    exact congrArg _ (funext fun k => ofBuf_eq (h ((ix k).ref, (ix' k).ref) (List.mem_cons_of_mem _ (List.mem_map.mpr ⟨k, List.mem_finRange k, rfl⟩))))

theorem Same.tbinaryIndexed {n : Nat} {a : StableHlo.TRef sig Ta} {b : StableHlo.TRef sig Tc} {ix : Fin n → StableHlo.TRef sig Tb} {y : StableHlo.TRef sig Ty}
    {a' : StableHlo.TRef sig' Ta} {b' : StableHlo.TRef sig' Tc} {ix' : Fin n → StableHlo.TRef sig' Tb} {y' : StableHlo.TRef sig' Ty}
    {f : Ta.Contents (Elt F) → Tc.Contents (Elt F) → (Fin n → Tb.Contents (Elt F)) → Ty.Contents (Elt F)} :
    Same (StableHlo.TRef.binaryIndexed (τ := τ) a b ix y f) (StableHlo.TRef.binaryIndexed (τ := τ') a' b' ix' y' f)
      ((a.ref, a'.ref) :: (b.ref, b'.ref) :: (List.finRange n).map fun k => ((ix k).ref, (ix' k).ref)) (y.ref, y'.ref) where
  writes := rfl
  writes' := rfl
  value V W h := by
    unfold Agree; dsimp only
    rw [StableHlo.binaryIndexed_result, StableHlo.binaryIndexed_result]
    refine heq_toBuf ?_
    rw [ofBuf_eq (h (a.ref, a'.ref) (by simp)), ofBuf_eq (h (b.ref, b'.ref) (by simp))]
    exact congrArg _ (funext fun k => ofBuf_eq (h ((ix k).ref, (ix' k).ref)
      (List.mem_cons_of_mem _ (List.mem_cons_of_mem _ (List.mem_map.mpr ⟨k, List.mem_finRange k, rfl⟩)))))

end Rules

/-- Two lists of operations, the first in stretches, that begin with the same operations; and what is left of each. -/
inductive SameL : List (List (HloOp τ sig (Elt F))) → List (HloOp τ' sig' (Elt F)) → List (List (Twin sig sig') × Twin sig sig') →
    List (List (HloOp τ sig (Elt F))) → List (HloOp τ' sig' (Elt F)) → Prop
  | cons {o os ks o' l xs y d ks' l'} (h : Same o o' xs y) (t : SameL (os :: ks) l d ks' l') : SameL ((o :: os) :: ks) (o' :: l) ((xs, y) :: d) ks' l'
  | skip {ks l d ks' l'} (t : SameL ks l d ks' l') : SameL ([] :: ks) l d ks' l'
  | stop {ks l} : SameL ks l [] ks l

/-- Two lists of operations with what they have in common. -/
structure Sim (ks : List (List (HloOp τ sig (Elt F)))) (l : List (HloOp τ' sig' (Elt F))) where
  d : List (List (Twin sig sig') × Twin sig sig')
  ks' : List (List (HloOp τ sig (Elt F)))
  l' : List (HloOp τ' sig' (Elt F))
  same : SameL ks l d ks' l'

/-- The agreeing buffers after the operations that `d` lists, from those before; `none` where an operand is not among them. -/
def follow [DecidableEq (Twin sig sig')] : List (List (Twin sig sig') × Twin sig sig') → List (Twin sig sig') → Option (List (Twin sig sig'))
  | [], A => some A
  | (xs, y) :: d, A => if xs.all (· ∈ A) then follow d (y :: A.filter fun p => decide (p.1 ≠ y.1 ∧ p.2 ≠ y.2)) else none

/-- Buffers that agree before the operations agree after them. -/
theorem SameL.agree {ks : List (List (HloOp τ sig (Elt F)))} {l : List (HloOp τ' sig' (Elt F))} {d ks' l'} (h : SameL ks l d ks' l') :
    ∀ {A A' : List (Twin sig sig')} {V : Valuation τ sig (Elt F)} {W : Valuation τ' sig' (Elt F)}, (∀ p ∈ A, Agree V W p) → follow d A = some A' →
    ∃ V' W', afterL ks V = afterL ks' V' ∧ after l W = after l' W' ∧ ∀ p ∈ A', Agree V' W' p := by
  induction h with
  | @cons o os ks o' l xs y d ks' l' ho _ ih =>
    intro A A' V W hA hf
    rw [follow] at hf
    split at hf
    · rename_i hx
      refine ih (V := o.result V) (W := o'.result W) ?_ hf
      intro p hp
      rcases List.mem_cons.mp hp with rfl | hp
      · exact ho.value V W fun q hq => hA q (by simpa using List.all_eq_true.mp hx q hq)
      · obtain ⟨hm, hn⟩ := List.mem_filter.mp hp
        have hn := of_decide_eq_true hn
        unfold Agree
        rw [StableHlo.result_of_writes_ne o V y.1 p.1 ho.writes hn.1, StableHlo.result_of_writes_ne o' W y.2 p.2 ho.writes' hn.2]
        exact hA p hm
    · exact absurd hf (by simp)
  | skip _ ih => intro A A' V W hA hf; exact ih hA hf
  | stop =>
    intro A A' V W hA hf
    obtain rfl : A = A' := by simpa [follow] using hf
    exact ⟨V, W, rfl, rfl, hA⟩

end Cert.Host

end
-- ==== Proof.Samples.lean ====
/-
  The sampled indices of the kernel and of the reference agree, layer by layer, where the points do.
-/
module

public import proofs.«01_k».proof.Proof.RFps
public import proofs.«01_k».proof.Proof.KFrame
public import proofs.«01_k».proof.Proof.Sim
public import Idealize.ShloMosaic.Lib.KernelVsHost
public import Idealize.ShloMosaic.Lib.ValueLayout

@[expose] public section

set_option maxRecDepth 100000

noncomputable section

namespace Cert.Sample

open Idealize.ShloMosaic Idealize.ShloMosaic.ValueIdx

/-- The coordinates of `n` points, by number. -/
def pts {n : ℕ} (P : FVec Ideal ⟨3, ![1, n, 3]⟩ .f32) (k : Fin 3) (j : ℕ) : EReal := if h : j < n then P (ValueIdx.ix3 0 ⟨j, h⟩ k) else 0

/-- What a start distance is. -/
abbrev far : EReal := FloatOps.ofBits (F := Ideal) .f32 0x501502F9#32

/-- The kernel's rows of one coordinate hold it, each point at its number. -/
theorem coord_eq {n N R : ℕ} (hN : N = R * 128) (hn : n ≤ N) (P : FVec Ideal ⟨3, ![1, n, 3]⟩ .f32) (v : FVec Ideal ⟨0, ![]⟩ .f32) (hi : Fin 3 → ℕ)
    (hp : (⟨3, ![1, n, 3]⟩ : Shape).Pads ![0, 0, 0] hi ![0, 0, 0] ⟨3, ![1, N, 3]⟩) (hu : 0 < (⟨0, ![]⟩ : Shape).numel)
    (ht : (⟨3, ![1, N, 3]⟩ : Shape).Transposes [0, 2, 1] ⟨3, ![1, 3, N]⟩) (k : ℕ) (hk : k < 3) (hs : (⟨3, ![1, 3, N]⟩ : Shape).Slices ![0, k, 0] ⟨3, ![1, 1, N]⟩)
    (c1 : (⟨3, ![1, 1, N]⟩ : Shape).ShapeCasts ⟨2, ![1, N]⟩) (c2 : (⟨2, ![1, N]⟩ : Shape).ShapeCasts ⟨3, ![1, R, 128]⟩) (c3 : (⟨3, ![1, R, 128]⟩ : Shape).ShapeCasts (Sq R))
    (i : (Sq R).Idx) (h : num i < n) :
    shapeCast (Sq R) (fun i => shapeCast ⟨3, ![1, R, 128]⟩ (fun i => shapeCast ⟨2, ![1, N]⟩ (extractStridedSlice ⟨3, ![1, 1, N]⟩ ![0, k, 0]
      (transpose ⟨3, ![1, 3, N]⟩ [0, 2, 1] (pad ⟨3, ![1, N, 3]⟩ ![0, 0, 0] hi ![0, 0, 0] P v hp hu) ht) hs) c1 i) c2 i) c3 i = pts P ⟨k, hk⟩ (num i) := by
  have hN' : num i < N := by omega
  rw [shapeCast_apply _ c3 i (ValueIdx.ix3 0 (i 0) (i 1)) (by
      rw [Shape.rowMajor_val_two, Shape.rowMajor_val_three]
      show (0 * R + (i 0).val) * 128 + (i 1).val = (i 0).val * 128 + (i 1).val
      omega),
    shapeCast_apply _ c2 _ (ValueIdx.ix2 0 ⟨num i, hN'⟩) (by
      rw [Shape.rowMajor_val_two, Shape.rowMajor_val_three]
      show 0 * N + ((i 0).val * 128 + (i 1).val) = (0 * R + (i 0).val) * 128 + (i 1).val
      omega),
    shapeCast_apply _ c1 _ (ValueIdx.ix3 0 0 ⟨num i, hN'⟩) (by
      rw [Shape.rowMajor_val_two, Shape.rowMajor_val_three]
      show (0 * 1 + 0) * N + num i = 0 * N + num i
      omega),
    extractStridedSlice_apply _ _ hs _ (ValueIdx.ix3 0 ⟨k, hk⟩ ⟨num i, hN'⟩) (fun a => match a with
      | ⟨0, _⟩ => rfl
      | ⟨1, _⟩ => rfl
      | ⟨2, _⟩ => (Nat.zero_add _).symm),
    transpose_ix3_021_apply,
    pad_apply_of_inside _ _ _ P v hp hu _ (ValueIdx.ix3 0 ⟨num i, h⟩ ⟨k, hk⟩) (fun a => match a with
      | ⟨0, _⟩ => rfl
      | ⟨1, _⟩ => by show num i = 0 + num i * 1; omega
      | ⟨2, _⟩ => by show k = 0 + k * 1; omega),
    pts, dif_pos h]

/-- The kernel's row of samples holds them in order. -/
theorem spread_eq {N R : ℕ} (hN : N = R * 128) (f : IVec (Sq R) 32) (hb : (Sq R).BroadcastsInDim ⟨3, ![1, R, 128]⟩ (![1, 2] : Fin 2 → Fin 3)) (hR : R ≠ 1)
    (hc : (⟨3, ![1, R, 128]⟩ : Shape).ShapeCasts ⟨2, ![1, N]⟩) (j : (⟨2, ![1, N]⟩ : Shape).Idx) (g : ℕ → BitVec 32) (T : ℕ) (hf : ∀ i, f i = if num i ≤ T then g (num i) else 0)
    (hj : (j 1).val ≤ T) : shapeCast ⟨2, ![1, N]⟩ (broadcastInDim ⟨3, ![1, R, 128]⟩ ![1, 2] hb f) hc j = g (j 1).val := by
  have hlt : (j 1).val < R * 128 := hN ▸ (j 1).isLt
  have h0 : (j 0).val < 1 := (j 0).isLt
  rw [shapeCast_apply _ hc j (ValueIdx.ix3 0 (pos (j 1).val hlt 0) (pos (j 1).val hlt 1)) (by
      rw [Shape.rowMajor_val_two, Shape.rowMajor_val_three]
      show (0 * R + (j 1).val / 128) * 128 + (j 1).val % 128 = (j 0).val * N + (j 1).val
      have : (j 0).val = 0 := by omega
      rw [this]; omega),
    broadcastInDim_apply _ hb _ _ (pos (j 1).val hlt) (fun a => match a with
      | ⟨0, _⟩ => (if_neg hR).symm
      | ⟨1, _⟩ => rfl),
    hf, num_pos, if_pos hj]

/-- The reference's loop at its start. -/
theorem gone_start {n m : ℕ} (P : FVec Ideal ⟨3, ![1, n, 3]⟩ .f32) (hc : (⟨3, ![1, n, 3]⟩ : Shape).ShapeCasts ⟨2, ![n, 3]⟩)
    (h1 : (⟨0, ![]⟩ : Shape).BroadcastsInDim ⟨1, ![n]⟩ (![] : Fin 0 → Fin 1)) (h2 : (⟨0, ![]⟩ : Shape).BroadcastsInDim ⟨1, ![m]⟩ (![] : Fin 0 → Fin 1)) :
    Gone (n := n) (m := m) (pts P) far 0 (fun i => shapeCast ⟨2, ![n, 3]⟩ P hc i) (constantI ⟨0, ![]⟩ 32 1#32)
      (broadcastInDim ⟨1, ![n]⟩ ![] h1 (constant ⟨0, ![]⟩ .f32 0x501502F9#32)) (broadcastInDim ⟨1, ![m]⟩ ![] h2 (constantI ⟨0, ![]⟩ 32 0#32)) where
  pts i := by
    rw [shapeCast_apply _ hc i (ValueIdx.ix3 0 (i 0) (i 1)) (by
      rw [Shape.rowMajor_val_two, Shape.rowMajor_val_three]
      show (0 * n + (i 0).val) * 3 + (i 1).val = (i 0).val * 3 + (i 1).val
      omega)]
    exact (dif_pos (i 0).isLt : pts P (i 1) (i 0).val = _).symm
  next _ := rfl
  dist _ := rfl
  out i := by
    by_cases h : (i 0).val ≤ 0
    · rw [if_pos h, Nat.le_zero.1 h]; rfl
    · rw [if_neg h]; rfl

end Cert.Sample

namespace Cert.Layer

open Cert.Host Cert.Sample Cert.KernelIdeal.Fps Cert.ReferenceIdeal.Run
open Idealize.ShloMosaic Idealize.ShloMosaic.TcCoe Idealize.ShloMosaic.Tactic
open Idealize.ShloMosaic.StableHlo (afterL after)

local notation "KV" => Valuation Cert.KernelIdeal.τ Cert.KernelIdeal.sig (Elt Ideal)
local notation "RV" => Valuation Cert.ReferenceIdeal.τ Cert.ReferenceIdeal.sig (Elt Ideal)

/-! ## Layer 0 -/

/-- The last operations ahead of launch 0, and those ahead of the reference's loop. -/
def klast0 : List (List (HloOp Cert.KernelIdeal.τ Cert.KernelIdeal.sig (Elt Ideal))) := kops0
def rlast0 : List (HloOp Cert.ReferenceIdeal.τ Cert.ReferenceIdeal.sig (Elt Ideal)) := rops0
/-- The operations that make the samples the layer's indices. -/
def khead0 : List (List (HloOp Cert.KernelIdeal.τ Cert.KernelIdeal.sig (Elt Ideal))) := [Cert.KernelIdeal.Gen.hostOps1]
def rhead0 : List (HloOp Cert.ReferenceIdeal.τ Cert.ReferenceIdeal.sig (Elt Ideal)) :=
  [StableHlo.unary Cert.ReferenceIdeal.main_v3_4 Cert.ReferenceIdeal.main_v4 (broadcastInDim Cert.ReferenceIdeal.S1x65526 ![1] Cert.ReferenceIdeal.Facts₀.bcast_S65526_S1x65526_1)]

section
open Cert.KernelIdeal Cert.KernelIdeal.Gen
variable (V : KV)

/-- Launch 0: operand 0 holds coordinate 0 of the points, each at its number. -/
theorem coord0_0 (i : (Sq 512).Idx) (h : num i < 65536) : (afterL klast0 V main_v11 : FVec Ideal (Sq 512) .f32) i = pts (n := 65536) (V Cert.KernelIdeal.main_arg0) 0 (num i) := by
  simp only [klast0, StableHlo.afterL_cons, StableHlo.afterL_nil]
  after_reads_simp
  exact coord_eq (n := 65536) (N := 65536) (R := 512) rfl (by omega) (V Cert.KernelIdeal.main_arg0) _ _ pads_S1x65536x3_S1x65536x3_000_000_000 h_S_ _ 0 (by omega) slices_S1x3x65536_S1x1x65536_0_0_0 _ _ _ i h

/-- Launch 0: operand 1 holds coordinate 1 of the points, each at its number. -/
theorem coord0_1 (i : (Sq 512).Idx) (h : num i < 65536) : (afterL klast0 V main_v12 : FVec Ideal (Sq 512) .f32) i = pts (n := 65536) (V Cert.KernelIdeal.main_arg0) 1 (num i) := by
  simp only [klast0, StableHlo.afterL_cons, StableHlo.afterL_nil]
  after_reads_simp
  exact coord_eq (n := 65536) (N := 65536) (R := 512) rfl (by omega) (V Cert.KernelIdeal.main_arg0) _ _ pads_S1x65536x3_S1x65536x3_000_000_000 h_S_ _ 1 (by omega) slices_S1x3x65536_S1x1x65536_0_1_0 _ _ _ i h

/-- Launch 0: operand 2 holds coordinate 2 of the points, each at its number. -/
theorem coord0_2 (i : (Sq 512).Idx) (h : num i < 65536) : (afterL klast0 V main_v13 : FVec Ideal (Sq 512) .f32) i = pts (n := 65536) (V Cert.KernelIdeal.main_arg0) 2 (num i) := by
  simp only [klast0, StableHlo.afterL_cons, StableHlo.afterL_nil]
  after_reads_simp
  exact coord_eq (n := 65536) (N := 65536) (R := 512) rfl (by omega) (V Cert.KernelIdeal.main_arg0) _ _ pads_S1x65536x3_S1x65536x3_000_000_000 h_S_ _ 2 (by omega) slices_S1x3x65536_S1x1x65536_0_2_0 _ _ _ i h

end

/-- The kernel's samples. -/
theorem kindex0 (V : KV) (M : Mem Cert.KernelIdeal.nD Cert.KernelIdeal.τ Cert.KernelIdeal.sig Ideal) (c : Dev Cert.KernelIdeal.nD) (hM : M c = afterL klast0 V)
    (j : (⟨2, ![1, 65526]⟩ : Shape).Idx) : (afterL khead0 (put M Cert.KernelIdeal.main_v14 (kout0 M) c) Cert.KernelIdeal.main_v17 : IVec ⟨2, ![1, 65526]⟩ 32) j
      = BitVec.ofNat 32 (state 65536 (pts (n := 65536) (V Cert.KernelIdeal.main_arg0) 0) (pts (n := 65536) (V Cert.KernelIdeal.main_arg0) 1) (pts (n := 65536) (V Cert.KernelIdeal.main_arg0) 2) far (j 1).val).2 := by
  have hj : (j 1).val < 65526 := (j 1).isLt
  have hout := kout0_eq M c (pts (n := 65536) (V Cert.KernelIdeal.main_arg0) 0) (pts (n := 65536) (V Cert.KernelIdeal.main_arg0) 1) (pts (n := 65536) (V Cert.KernelIdeal.main_arg0) 2)
    (fun i h => by rw [hM]; exact coord0_0 V i h) (fun i h => by rw [hM]; exact coord0_1 V i h) (fun i h => by rw [hM]; exact coord0_2 V i h)
  have hput : put M Cert.KernelIdeal.main_v14 (kout0 M) c Cert.KernelIdeal.main_v14 = kout0 M c := put_self ..
  generalize put M Cert.KernelIdeal.main_v14 (kout0 M) c = U at hput ⊢
  rw [← hput] at hout
  simp only [khead0, StableHlo.afterL_cons, StableHlo.afterL_nil]
  after_reads_simp
  exact (extractStridedSlice_apply _ _ _ j (ValueIdx.ix2 (j 0) ⟨(j 1).val, (by omega : (j 1).val < 65536)⟩) (fun a => match a with
    | ⟨0, _⟩ => (Nat.zero_add _).symm
    | ⟨1, _⟩ => (Nat.zero_add _).symm)).trans
    (spread_eq (N := 65536) (R := 512) rfl _ _ (by omega) _ _ (fun t => BitVec.ofNat 32 (state 65536 (pts (n := 65536) (V Cert.KernelIdeal.main_arg0) 0) (pts (n := 65536) (V Cert.KernelIdeal.main_arg0) 1) (pts (n := 65536) (V Cert.KernelIdeal.main_arg0) 2) far t).2) 65525 hout (by show (j 1).val ≤ 65525; omega))

/-- The reference's. -/
theorem rindex0 (W : RV) (N : Mem Cert.ReferenceIdeal.nD Cert.ReferenceIdeal.τ Cert.ReferenceIdeal.sig Ideal) (c : Dev Cert.ReferenceIdeal.nD) (hN : N c = after rlast0 W)
    (j : (⟨2, ![1, 65526]⟩ : Shape).Idx) : (after rhead0 (after rcond0 (StableHlo.atTrip rcond0 [rbody0] N 65525 c)) Cert.ReferenceIdeal.main_v4 : IVec ⟨2, ![1, 65526]⟩ 32) j
      = BitVec.ofNat 32 (state 65536 (pts (n := 65536) (W Cert.ReferenceIdeal.main_arg0) 0) (pts (n := 65536) (W Cert.ReferenceIdeal.main_arg0) 1) (pts (n := 65536) (W Cert.ReferenceIdeal.main_arg0) 2) far (j 1).val).2 := by
  have start : Gone (n := 65536) (m := 65526) (pts (n := 65536) (W Cert.ReferenceIdeal.main_arg0)) far 0 (N c Cert.ReferenceIdeal.main_v3_0) (N c Cert.ReferenceIdeal.main_v3_2) (N c Cert.ReferenceIdeal.main_v3_3) (N c Cert.ReferenceIdeal.main_v3_4) := by
    rw [hN]
    simp only [rlast0, rops0, rops0_L, rs0, StableHlo.afterL_cons, StableHlo.afterL_nil]
    after_reads_simp
    exact gone_start (n := 65536) (m := 65526) (W Cert.ReferenceIdeal.main_arg0) Cert.ReferenceIdeal.Facts₀.shapeCasts_S1x65536x3_S65536x3 Cert.ReferenceIdeal.Facts₀.bcast_S_S65536 Cert.ReferenceIdeal.Facts₀.bcast_S_S65526
  have loop := samples0 (pts (n := 65536) (W Cert.ReferenceIdeal.main_arg0)) far_nonneg N c start
  generalize after rcond0 (StableHlo.atTrip rcond0 [rbody0] N 65525 c) = U at loop ⊢
  simp only [rhead0]
  after_reads_simp
  exact (broadcastInDim_apply _ _ _ j (ValueIdx.ix1 (j 1)) (fun a => match a with | ⟨0, _⟩ => rfl)).trans (loop _)

/-- The layer's indices agree where the points do. -/
theorem index0 (V : KV) (W : RV) (h : Agree V W (Cert.KernelIdeal.main_arg0, Cert.ReferenceIdeal.main_arg0)) (M : Mem Cert.KernelIdeal.nD Cert.KernelIdeal.τ Cert.KernelIdeal.sig Ideal) (c : Dev Cert.KernelIdeal.nD) (hM : M c = afterL klast0 V)
    (N : Mem Cert.ReferenceIdeal.nD Cert.ReferenceIdeal.τ Cert.ReferenceIdeal.sig Ideal) (c' : Dev Cert.ReferenceIdeal.nD) (hN : N c' = after rlast0 W) :
    Agree (afterL khead0 (put M Cert.KernelIdeal.main_v14 (kout0 M) c)) (after rhead0 (after rcond0 (StableHlo.atTrip rcond0 [rbody0] N 65525 c'))) (Cert.KernelIdeal.main_v17, Cert.ReferenceIdeal.main_v4) := by
  have e : @Eq (FVec Ideal ⟨3, ![1, 65536, 3]⟩ .f32) (V Cert.KernelIdeal.main_arg0) (W Cert.ReferenceIdeal.main_arg0) := eq_of_heq h
  refine @heq_of_eq (IVec ⟨2, ![1, 65526]⟩ 32) _ _ (funext fun j => ?_)
  have a := kindex0 V M c hM j
  rw [e] at a
  exact a.trans (rindex0 W N c' hN j).symm

/-! ## Layer 1 -/

/-- The last operations ahead of launch 1, and those ahead of the reference's loop. -/
def klast1 : List (List (HloOp Cert.KernelIdeal.τ Cert.KernelIdeal.sig (Elt Ideal))) := [[StableHlo.nullary Cert.KernelIdeal.main_c_7 (constantI Cert.KernelIdeal.S_ 32 0#32)], Cert.KernelIdeal.Gen.hostOps1_12, Cert.KernelIdeal.Gen.hostOps1_13]
def rlast1 : List (HloOp Cert.ReferenceIdeal.τ Cert.ReferenceIdeal.sig (Elt Ideal)) := [StableHlo.reshape Cert.ReferenceIdeal.main_v5 Cert.ReferenceIdeal.main_v56 (rfl : (EltTy.f32 : EltTy) = EltTy.f32) Cert.ReferenceIdeal.Facts₀.shapeCasts_S1x65526x3_S65526x3,
   StableHlo.nullary Cert.ReferenceIdeal.main_cst_10 (constant (F := Ideal) Cert.ReferenceIdeal.S_ .f32 0x501502F9#32),
   StableHlo.unary Cert.ReferenceIdeal.main_cst_10 Cert.ReferenceIdeal.main_v57 (broadcastInDim Cert.ReferenceIdeal.S65526 ![] Cert.ReferenceIdeal.Facts₀.bcast_S_S65526),
   StableHlo.nullary Cert.ReferenceIdeal.main_c_11 (constantI Cert.ReferenceIdeal.S_ 32 0#32),
   StableHlo.unary Cert.ReferenceIdeal.main_c_11 Cert.ReferenceIdeal.main_v58 (broadcastInDim Cert.ReferenceIdeal.S32768 ![] Cert.ReferenceIdeal.Facts₀.bcast_S_S32768),
   StableHlo.nullary Cert.ReferenceIdeal.main_c_12 (constantI Cert.ReferenceIdeal.S_ 32 1#32),
   StableHlo.nullary Cert.ReferenceIdeal.main_c_13 (constantI Cert.ReferenceIdeal.S_ 32 0#32),
   StableHlo.unary Cert.ReferenceIdeal.main_v56 Cert.ReferenceIdeal.main_v59_0 id,
   StableHlo.unary Cert.ReferenceIdeal.main_c_13 Cert.ReferenceIdeal.main_v59_1 id,
   StableHlo.unary Cert.ReferenceIdeal.main_c_12 Cert.ReferenceIdeal.main_v59_2 id,
   StableHlo.unary Cert.ReferenceIdeal.main_v57 Cert.ReferenceIdeal.main_v59_3 id,
   StableHlo.unary Cert.ReferenceIdeal.main_v58 Cert.ReferenceIdeal.main_v59_4 id]
/-- The operations that make the samples the layer's indices. -/
def khead1 : List (List (HloOp Cert.KernelIdeal.τ Cert.KernelIdeal.sig (Elt Ideal))) := [Cert.KernelIdeal.Gen.hostOps2]
def rhead1 : List (HloOp Cert.ReferenceIdeal.τ Cert.ReferenceIdeal.sig (Elt Ideal)) :=
  [StableHlo.unary Cert.ReferenceIdeal.main_v59_4 Cert.ReferenceIdeal.main_v60 (broadcastInDim Cert.ReferenceIdeal.S1x32768 ![1] Cert.ReferenceIdeal.Facts₀.bcast_S32768_S1x32768_1)]

section
open Cert.KernelIdeal Cert.KernelIdeal.Gen
variable (V : KV)

/-- Launch 1: operand 0 holds coordinate 0 of the points, each at its number. -/
theorem coord1_0 (i : (Sq 512).Idx) (h : num i < 65526) : (afterL klast1 V main_v80 : FVec Ideal (Sq 512) .f32) i = pts (n := 65526) (V Cert.KernelIdeal.main_v18) 0 (num i) := by
  simp only [klast1, StableHlo.afterL_cons, StableHlo.afterL_nil]
  after_reads_simp
  exact coord_eq (n := 65526) (N := 65536) (R := 512) rfl (by omega) (V Cert.KernelIdeal.main_v18) _ _ pads_S1x65526x3_S1x65536x3_000_0100_000 h_S_ _ 0 (by omega) slices_S1x3x65536_S1x1x65536_0_0_0 _ _ _ i h

/-- Launch 1: operand 1 holds coordinate 1 of the points, each at its number. -/
theorem coord1_1 (i : (Sq 512).Idx) (h : num i < 65526) : (afterL klast1 V main_v81 : FVec Ideal (Sq 512) .f32) i = pts (n := 65526) (V Cert.KernelIdeal.main_v18) 1 (num i) := by
  simp only [klast1, StableHlo.afterL_cons, StableHlo.afterL_nil]
  after_reads_simp
  exact coord_eq (n := 65526) (N := 65536) (R := 512) rfl (by omega) (V Cert.KernelIdeal.main_v18) _ _ pads_S1x65526x3_S1x65536x3_000_0100_000 h_S_ _ 1 (by omega) slices_S1x3x65536_S1x1x65536_0_1_0 _ _ _ i h

/-- Launch 1: operand 2 holds coordinate 2 of the points, each at its number. -/
theorem coord1_2 (i : (Sq 512).Idx) (h : num i < 65526) : (afterL klast1 V main_v82 : FVec Ideal (Sq 512) .f32) i = pts (n := 65526) (V Cert.KernelIdeal.main_v18) 2 (num i) := by
  simp only [klast1, StableHlo.afterL_cons, StableHlo.afterL_nil]
  after_reads_simp
  exact coord_eq (n := 65526) (N := 65536) (R := 512) rfl (by omega) (V Cert.KernelIdeal.main_v18) _ _ pads_S1x65526x3_S1x65536x3_000_0100_000 h_S_ _ 2 (by omega) slices_S1x3x65536_S1x1x65536_0_2_0 _ _ _ i h

end

/-- The kernel's samples. -/
theorem kindex1 (V : KV) (M : Mem Cert.KernelIdeal.nD Cert.KernelIdeal.τ Cert.KernelIdeal.sig Ideal) (c : Dev Cert.KernelIdeal.nD) (hM : M c = afterL klast1 V)
    (j : (⟨2, ![1, 32768]⟩ : Shape).Idx) : (afterL khead1 (put M Cert.KernelIdeal.main_v83 (kout1 M) c) Cert.KernelIdeal.main_v85 : IVec ⟨2, ![1, 32768]⟩ 32) j
      = BitVec.ofNat 32 (state 65526 (pts (n := 65526) (V Cert.KernelIdeal.main_v18) 0) (pts (n := 65526) (V Cert.KernelIdeal.main_v18) 1) (pts (n := 65526) (V Cert.KernelIdeal.main_v18) 2) far (j 1).val).2 := by
  have hj : (j 1).val < 32768 := (j 1).isLt
  have hout := kout1_eq M c (pts (n := 65526) (V Cert.KernelIdeal.main_v18) 0) (pts (n := 65526) (V Cert.KernelIdeal.main_v18) 1) (pts (n := 65526) (V Cert.KernelIdeal.main_v18) 2)
    (fun i h => by rw [hM]; exact coord1_0 V i h) (fun i h => by rw [hM]; exact coord1_1 V i h) (fun i h => by rw [hM]; exact coord1_2 V i h)
  have hput : put M Cert.KernelIdeal.main_v83 (kout1 M) c Cert.KernelIdeal.main_v83 = kout1 M c := put_self ..
  generalize put M Cert.KernelIdeal.main_v83 (kout1 M) c = U at hput ⊢
  rw [← hput] at hout
  simp only [khead1, StableHlo.afterL_cons, StableHlo.afterL_nil]
  after_reads_simp
  exact spread_eq (N := 32768) (R := 256) rfl _ _ (by omega) _ j (fun t => BitVec.ofNat 32 (state 65526 (pts (n := 65526) (V Cert.KernelIdeal.main_v18) 0) (pts (n := 65526) (V Cert.KernelIdeal.main_v18) 1) (pts (n := 65526) (V Cert.KernelIdeal.main_v18) 2) far t).2) 32767 hout (by omega)

/-- The reference's. -/
theorem rindex1 (W : RV) (N : Mem Cert.ReferenceIdeal.nD Cert.ReferenceIdeal.τ Cert.ReferenceIdeal.sig Ideal) (c : Dev Cert.ReferenceIdeal.nD) (hN : N c = after rlast1 W)
    (j : (⟨2, ![1, 32768]⟩ : Shape).Idx) : (after rhead1 (after rcond2 (StableHlo.atTrip rcond2 [rbody2] N 32767 c)) Cert.ReferenceIdeal.main_v60 : IVec ⟨2, ![1, 32768]⟩ 32) j
      = BitVec.ofNat 32 (state 65526 (pts (n := 65526) (W Cert.ReferenceIdeal.main_v5) 0) (pts (n := 65526) (W Cert.ReferenceIdeal.main_v5) 1) (pts (n := 65526) (W Cert.ReferenceIdeal.main_v5) 2) far (j 1).val).2 := by
  have start : Gone (n := 65526) (m := 32768) (pts (n := 65526) (W Cert.ReferenceIdeal.main_v5)) far 0 (N c Cert.ReferenceIdeal.main_v59_0) (N c Cert.ReferenceIdeal.main_v59_2) (N c Cert.ReferenceIdeal.main_v59_3) (N c Cert.ReferenceIdeal.main_v59_4) := by
    rw [hN]
    simp only [rlast1, rops0, rops0_L, rs0, StableHlo.afterL_cons, StableHlo.afterL_nil]
    after_reads_simp
    exact gone_start (n := 65526) (m := 32768) (W Cert.ReferenceIdeal.main_v5) Cert.ReferenceIdeal.Facts₀.shapeCasts_S1x65526x3_S65526x3 Cert.ReferenceIdeal.Facts₀.bcast_S_S65526 Cert.ReferenceIdeal.Facts₀.bcast_S_S32768
  have loop := samples2 (pts (n := 65526) (W Cert.ReferenceIdeal.main_v5)) far_nonneg N c start
  generalize after rcond2 (StableHlo.atTrip rcond2 [rbody2] N 32767 c) = U at loop ⊢
  simp only [rhead1]
  after_reads_simp
  exact (broadcastInDim_apply _ _ _ j (ValueIdx.ix1 (j 1)) (fun a => match a with | ⟨0, _⟩ => rfl)).trans (loop _)

/-- The layer's indices agree where the points do. -/
theorem index1 (V : KV) (W : RV) (h : Agree V W (Cert.KernelIdeal.main_v18, Cert.ReferenceIdeal.main_v5)) (M : Mem Cert.KernelIdeal.nD Cert.KernelIdeal.τ Cert.KernelIdeal.sig Ideal) (c : Dev Cert.KernelIdeal.nD) (hM : M c = afterL klast1 V)
    (N : Mem Cert.ReferenceIdeal.nD Cert.ReferenceIdeal.τ Cert.ReferenceIdeal.sig Ideal) (c' : Dev Cert.ReferenceIdeal.nD) (hN : N c' = after rlast1 W) :
    Agree (afterL khead1 (put M Cert.KernelIdeal.main_v83 (kout1 M) c)) (after rhead1 (after rcond2 (StableHlo.atTrip rcond2 [rbody2] N 32767 c'))) (Cert.KernelIdeal.main_v85, Cert.ReferenceIdeal.main_v60) := by
  have e : @Eq (FVec Ideal ⟨3, ![1, 65526, 3]⟩ .f32) (V Cert.KernelIdeal.main_v18) (W Cert.ReferenceIdeal.main_v5) := eq_of_heq h
  refine @heq_of_eq (IVec ⟨2, ![1, 32768]⟩ 32) _ _ (funext fun j => ?_)
  have a := kindex1 V M c hM j
  rw [e] at a
  exact a.trans (rindex1 W N c' hN j).symm

/-! ## Layer 2 -/

/-- The last operations ahead of launch 2, and those ahead of the reference's loop. -/
def klast2 : List (List (HloOp Cert.KernelIdeal.τ Cert.KernelIdeal.sig (Elt Ideal))) := [[StableHlo.nullary Cert.KernelIdeal.main_c_16 (constantI Cert.KernelIdeal.S_ 32 0#32)], Cert.KernelIdeal.Gen.hostOps2_12, Cert.KernelIdeal.Gen.hostOps2_13]
def rlast2 : List (HloOp Cert.ReferenceIdeal.τ Cert.ReferenceIdeal.sig (Elt Ideal)) := [StableHlo.reshape Cert.ReferenceIdeal.main_v61 Cert.ReferenceIdeal.main_v111 (rfl : (EltTy.f32 : EltTy) = EltTy.f32) Cert.ReferenceIdeal.Facts₀.shapeCasts_S1x32768x3_S32768x3,
   StableHlo.nullary Cert.ReferenceIdeal.main_cst_22 (constant (F := Ideal) Cert.ReferenceIdeal.S_ .f32 0x501502F9#32),
   StableHlo.unary Cert.ReferenceIdeal.main_cst_22 Cert.ReferenceIdeal.main_v112 (broadcastInDim Cert.ReferenceIdeal.S32768 ![] Cert.ReferenceIdeal.Facts₀.bcast_S_S32768),
   StableHlo.nullary Cert.ReferenceIdeal.main_c_23 (constantI Cert.ReferenceIdeal.S_ 32 0#32),
   StableHlo.unary Cert.ReferenceIdeal.main_c_23 Cert.ReferenceIdeal.main_v113 (broadcastInDim Cert.ReferenceIdeal.S16384 ![] Cert.ReferenceIdeal.Facts₀.bcast_S_S16384),
   StableHlo.nullary Cert.ReferenceIdeal.main_c_24 (constantI Cert.ReferenceIdeal.S_ 32 1#32),
   StableHlo.nullary Cert.ReferenceIdeal.main_c_25 (constantI Cert.ReferenceIdeal.S_ 32 0#32),
   StableHlo.unary Cert.ReferenceIdeal.main_v111 Cert.ReferenceIdeal.main_v114_0 id,
   StableHlo.unary Cert.ReferenceIdeal.main_c_25 Cert.ReferenceIdeal.main_v114_1 id,
   StableHlo.unary Cert.ReferenceIdeal.main_c_24 Cert.ReferenceIdeal.main_v114_2 id,
   StableHlo.unary Cert.ReferenceIdeal.main_v112 Cert.ReferenceIdeal.main_v114_3 id,
   StableHlo.unary Cert.ReferenceIdeal.main_v113 Cert.ReferenceIdeal.main_v114_4 id]
/-- The operations that make the samples the layer's indices. -/
def khead2 : List (List (HloOp Cert.KernelIdeal.τ Cert.KernelIdeal.sig (Elt Ideal))) := [Cert.KernelIdeal.Gen.hostOps3]
def rhead2 : List (HloOp Cert.ReferenceIdeal.τ Cert.ReferenceIdeal.sig (Elt Ideal)) :=
  [StableHlo.unary Cert.ReferenceIdeal.main_v114_4 Cert.ReferenceIdeal.main_v115 (broadcastInDim Cert.ReferenceIdeal.S1x16384 ![1] Cert.ReferenceIdeal.Facts₀.bcast_S16384_S1x16384_1)]

section
open Cert.KernelIdeal Cert.KernelIdeal.Gen
variable (V : KV)

/-- Launch 2: operand 0 holds coordinate 0 of the points, each at its number. -/
theorem coord2_0 (i : (Sq 256).Idx) (h : num i < 32768) : (afterL klast2 V main_v147 : FVec Ideal (Sq 256) .f32) i = pts (n := 32768) (V Cert.KernelIdeal.main_v86) 0 (num i) := by
  simp only [klast2, StableHlo.afterL_cons, StableHlo.afterL_nil]
  after_reads_simp
  exact coord_eq (n := 32768) (N := 32768) (R := 256) rfl (by omega) (V Cert.KernelIdeal.main_v86) _ _ pads_S1x32768x3_S1x32768x3_000_000_000 h_S_ _ 0 (by omega) slices_S1x3x32768_S1x1x32768_0_0_0 _ _ _ i h

/-- Launch 2: operand 1 holds coordinate 1 of the points, each at its number. -/
theorem coord2_1 (i : (Sq 256).Idx) (h : num i < 32768) : (afterL klast2 V main_v148 : FVec Ideal (Sq 256) .f32) i = pts (n := 32768) (V Cert.KernelIdeal.main_v86) 1 (num i) := by
  simp only [klast2, StableHlo.afterL_cons, StableHlo.afterL_nil]
  after_reads_simp
  exact coord_eq (n := 32768) (N := 32768) (R := 256) rfl (by omega) (V Cert.KernelIdeal.main_v86) _ _ pads_S1x32768x3_S1x32768x3_000_000_000 h_S_ _ 1 (by omega) slices_S1x3x32768_S1x1x32768_0_1_0 _ _ _ i h

/-- Launch 2: operand 2 holds coordinate 2 of the points, each at its number. -/
theorem coord2_2 (i : (Sq 256).Idx) (h : num i < 32768) : (afterL klast2 V main_v149 : FVec Ideal (Sq 256) .f32) i = pts (n := 32768) (V Cert.KernelIdeal.main_v86) 2 (num i) := by
  simp only [klast2, StableHlo.afterL_cons, StableHlo.afterL_nil]
  after_reads_simp
  exact coord_eq (n := 32768) (N := 32768) (R := 256) rfl (by omega) (V Cert.KernelIdeal.main_v86) _ _ pads_S1x32768x3_S1x32768x3_000_000_000 h_S_ _ 2 (by omega) slices_S1x3x32768_S1x1x32768_0_2_0 _ _ _ i h

end

/-- The kernel's samples. -/
theorem kindex2 (V : KV) (M : Mem Cert.KernelIdeal.nD Cert.KernelIdeal.τ Cert.KernelIdeal.sig Ideal) (c : Dev Cert.KernelIdeal.nD) (hM : M c = afterL klast2 V)
    (j : (⟨2, ![1, 16384]⟩ : Shape).Idx) : (afterL khead2 (put M Cert.KernelIdeal.main_v150 (kout2 M) c) Cert.KernelIdeal.main_v152 : IVec ⟨2, ![1, 16384]⟩ 32) j
      = BitVec.ofNat 32 (state 32768 (pts (n := 32768) (V Cert.KernelIdeal.main_v86) 0) (pts (n := 32768) (V Cert.KernelIdeal.main_v86) 1) (pts (n := 32768) (V Cert.KernelIdeal.main_v86) 2) far (j 1).val).2 := by
  have hj : (j 1).val < 16384 := (j 1).isLt
  have hout := kout2_eq M c (pts (n := 32768) (V Cert.KernelIdeal.main_v86) 0) (pts (n := 32768) (V Cert.KernelIdeal.main_v86) 1) (pts (n := 32768) (V Cert.KernelIdeal.main_v86) 2)
    (fun i h => by rw [hM]; exact coord2_0 V i h) (fun i h => by rw [hM]; exact coord2_1 V i h) (fun i h => by rw [hM]; exact coord2_2 V i h)
  have hput : put M Cert.KernelIdeal.main_v150 (kout2 M) c Cert.KernelIdeal.main_v150 = kout2 M c := put_self ..
  generalize put M Cert.KernelIdeal.main_v150 (kout2 M) c = U at hput ⊢
  rw [← hput] at hout
  simp only [khead2, StableHlo.afterL_cons, StableHlo.afterL_nil]
  after_reads_simp
  exact spread_eq (N := 16384) (R := 128) rfl _ _ (by omega) _ j (fun t => BitVec.ofNat 32 (state 32768 (pts (n := 32768) (V Cert.KernelIdeal.main_v86) 0) (pts (n := 32768) (V Cert.KernelIdeal.main_v86) 1) (pts (n := 32768) (V Cert.KernelIdeal.main_v86) 2) far t).2) 16383 hout (by omega)

/-- The reference's. -/
theorem rindex2 (W : RV) (N : Mem Cert.ReferenceIdeal.nD Cert.ReferenceIdeal.τ Cert.ReferenceIdeal.sig Ideal) (c : Dev Cert.ReferenceIdeal.nD) (hN : N c = after rlast2 W)
    (j : (⟨2, ![1, 16384]⟩ : Shape).Idx) : (after rhead2 (after rcond4 (StableHlo.atTrip rcond4 [rbody4] N 16383 c)) Cert.ReferenceIdeal.main_v115 : IVec ⟨2, ![1, 16384]⟩ 32) j
      = BitVec.ofNat 32 (state 32768 (pts (n := 32768) (W Cert.ReferenceIdeal.main_v61) 0) (pts (n := 32768) (W Cert.ReferenceIdeal.main_v61) 1) (pts (n := 32768) (W Cert.ReferenceIdeal.main_v61) 2) far (j 1).val).2 := by
  have start : Gone (n := 32768) (m := 16384) (pts (n := 32768) (W Cert.ReferenceIdeal.main_v61)) far 0 (N c Cert.ReferenceIdeal.main_v114_0) (N c Cert.ReferenceIdeal.main_v114_2) (N c Cert.ReferenceIdeal.main_v114_3) (N c Cert.ReferenceIdeal.main_v114_4) := by
    rw [hN]
    simp only [rlast2, rops0, rops0_L, rs0, StableHlo.afterL_cons, StableHlo.afterL_nil]
    after_reads_simp
    exact gone_start (n := 32768) (m := 16384) (W Cert.ReferenceIdeal.main_v61) Cert.ReferenceIdeal.Facts₀.shapeCasts_S1x32768x3_S32768x3 Cert.ReferenceIdeal.Facts₀.bcast_S_S32768 Cert.ReferenceIdeal.Facts₀.bcast_S_S16384
  have loop := samples4 (pts (n := 32768) (W Cert.ReferenceIdeal.main_v61)) far_nonneg N c start
  generalize after rcond4 (StableHlo.atTrip rcond4 [rbody4] N 16383 c) = U at loop ⊢
  simp only [rhead2]
  after_reads_simp
  exact (broadcastInDim_apply _ _ _ j (ValueIdx.ix1 (j 1)) (fun a => match a with | ⟨0, _⟩ => rfl)).trans (loop _)

/-- The layer's indices agree where the points do. -/
theorem index2 (V : KV) (W : RV) (h : Agree V W (Cert.KernelIdeal.main_v86, Cert.ReferenceIdeal.main_v61)) (M : Mem Cert.KernelIdeal.nD Cert.KernelIdeal.τ Cert.KernelIdeal.sig Ideal) (c : Dev Cert.KernelIdeal.nD) (hM : M c = afterL klast2 V)
    (N : Mem Cert.ReferenceIdeal.nD Cert.ReferenceIdeal.τ Cert.ReferenceIdeal.sig Ideal) (c' : Dev Cert.ReferenceIdeal.nD) (hN : N c' = after rlast2 W) :
    Agree (afterL khead2 (put M Cert.KernelIdeal.main_v150 (kout2 M) c)) (after rhead2 (after rcond4 (StableHlo.atTrip rcond4 [rbody4] N 16383 c'))) (Cert.KernelIdeal.main_v152, Cert.ReferenceIdeal.main_v115) := by
  have e : @Eq (FVec Ideal ⟨3, ![1, 32768, 3]⟩ .f32) (V Cert.KernelIdeal.main_v86) (W Cert.ReferenceIdeal.main_v61) := eq_of_heq h
  refine @heq_of_eq (IVec ⟨2, ![1, 16384]⟩ 32) _ _ (funext fun j => ?_)
  have a := kindex2 V M c hM j
  rw [e] at a
  exact a.trans (rindex2 W N c' hN j).symm

/-! ## Layer 3 -/

/-- The last operations ahead of launch 3, and those ahead of the reference's loop. -/
def klast3 : List (List (HloOp Cert.KernelIdeal.τ Cert.KernelIdeal.sig (Elt Ideal))) := [[StableHlo.nullary Cert.KernelIdeal.main_c_25 (constantI Cert.KernelIdeal.S_ 32 0#32)], Cert.KernelIdeal.Gen.hostOps3_12, Cert.KernelIdeal.Gen.hostOps3_13]
def rlast3 : List (HloOp Cert.ReferenceIdeal.τ Cert.ReferenceIdeal.sig (Elt Ideal)) := [StableHlo.reshape Cert.ReferenceIdeal.main_v116 Cert.ReferenceIdeal.main_v166 (rfl : (EltTy.f32 : EltTy) = EltTy.f32) Cert.ReferenceIdeal.Facts₀.shapeCasts_S1x16384x3_S16384x3,
   StableHlo.nullary Cert.ReferenceIdeal.main_cst_34 (constant (F := Ideal) Cert.ReferenceIdeal.S_ .f32 0x501502F9#32),
   StableHlo.unary Cert.ReferenceIdeal.main_cst_34 Cert.ReferenceIdeal.main_v167 (broadcastInDim Cert.ReferenceIdeal.S16384 ![] Cert.ReferenceIdeal.Facts₀.bcast_S_S16384),
   StableHlo.nullary Cert.ReferenceIdeal.main_c_35 (constantI Cert.ReferenceIdeal.S_ 32 0#32),
   StableHlo.unary Cert.ReferenceIdeal.main_c_35 Cert.ReferenceIdeal.main_v168 (broadcastInDim Cert.ReferenceIdeal.S8192 ![] Cert.ReferenceIdeal.Facts₀.bcast_S_S8192),
   StableHlo.nullary Cert.ReferenceIdeal.main_c_36 (constantI Cert.ReferenceIdeal.S_ 32 1#32),
   StableHlo.nullary Cert.ReferenceIdeal.main_c_37 (constantI Cert.ReferenceIdeal.S_ 32 0#32),
   StableHlo.unary Cert.ReferenceIdeal.main_v166 Cert.ReferenceIdeal.main_v169_0 id,
   StableHlo.unary Cert.ReferenceIdeal.main_c_37 Cert.ReferenceIdeal.main_v169_1 id,
   StableHlo.unary Cert.ReferenceIdeal.main_c_36 Cert.ReferenceIdeal.main_v169_2 id,
   StableHlo.unary Cert.ReferenceIdeal.main_v167 Cert.ReferenceIdeal.main_v169_3 id,
   StableHlo.unary Cert.ReferenceIdeal.main_v168 Cert.ReferenceIdeal.main_v169_4 id]
/-- The operations that make the samples the layer's indices. -/
def khead3 : List (List (HloOp Cert.KernelIdeal.τ Cert.KernelIdeal.sig (Elt Ideal))) := [Cert.KernelIdeal.Gen.hostOps4]
def rhead3 : List (HloOp Cert.ReferenceIdeal.τ Cert.ReferenceIdeal.sig (Elt Ideal)) :=
  [StableHlo.unary Cert.ReferenceIdeal.main_v169_4 Cert.ReferenceIdeal.main_v170 (broadcastInDim Cert.ReferenceIdeal.S1x8192 ![1] Cert.ReferenceIdeal.Facts₀.bcast_S8192_S1x8192_1)]

section
open Cert.KernelIdeal Cert.KernelIdeal.Gen
variable (V : KV)

/-- Launch 3: operand 0 holds coordinate 0 of the points, each at its number. -/
theorem coord3_0 (i : (Sq 128).Idx) (h : num i < 16384) : (afterL klast3 V main_v214 : FVec Ideal (Sq 128) .f32) i = pts (n := 16384) (V Cert.KernelIdeal.main_v153) 0 (num i) := by
  simp only [klast3, StableHlo.afterL_cons, StableHlo.afterL_nil]
  after_reads_simp
  exact coord_eq (n := 16384) (N := 16384) (R := 128) rfl (by omega) (V Cert.KernelIdeal.main_v153) _ _ pads_S1x16384x3_S1x16384x3_000_000_000 h_S_ _ 0 (by omega) slices_S1x3x16384_S1x1x16384_0_0_0 _ _ _ i h

/-- Launch 3: operand 1 holds coordinate 1 of the points, each at its number. -/
theorem coord3_1 (i : (Sq 128).Idx) (h : num i < 16384) : (afterL klast3 V main_v215 : FVec Ideal (Sq 128) .f32) i = pts (n := 16384) (V Cert.KernelIdeal.main_v153) 1 (num i) := by
  simp only [klast3, StableHlo.afterL_cons, StableHlo.afterL_nil]
  after_reads_simp
  exact coord_eq (n := 16384) (N := 16384) (R := 128) rfl (by omega) (V Cert.KernelIdeal.main_v153) _ _ pads_S1x16384x3_S1x16384x3_000_000_000 h_S_ _ 1 (by omega) slices_S1x3x16384_S1x1x16384_0_1_0 _ _ _ i h

/-- Launch 3: operand 2 holds coordinate 2 of the points, each at its number. -/
theorem coord3_2 (i : (Sq 128).Idx) (h : num i < 16384) : (afterL klast3 V main_v216 : FVec Ideal (Sq 128) .f32) i = pts (n := 16384) (V Cert.KernelIdeal.main_v153) 2 (num i) := by
  simp only [klast3, StableHlo.afterL_cons, StableHlo.afterL_nil]
  after_reads_simp
  exact coord_eq (n := 16384) (N := 16384) (R := 128) rfl (by omega) (V Cert.KernelIdeal.main_v153) _ _ pads_S1x16384x3_S1x16384x3_000_000_000 h_S_ _ 2 (by omega) slices_S1x3x16384_S1x1x16384_0_2_0 _ _ _ i h

end

/-- The kernel's samples. -/
theorem kindex3 (V : KV) (M : Mem Cert.KernelIdeal.nD Cert.KernelIdeal.τ Cert.KernelIdeal.sig Ideal) (c : Dev Cert.KernelIdeal.nD) (hM : M c = afterL klast3 V)
    (j : (⟨2, ![1, 8192]⟩ : Shape).Idx) : (afterL khead3 (put M Cert.KernelIdeal.main_v217 (kout3 M) c) Cert.KernelIdeal.main_v219 : IVec ⟨2, ![1, 8192]⟩ 32) j
      = BitVec.ofNat 32 (state 16384 (pts (n := 16384) (V Cert.KernelIdeal.main_v153) 0) (pts (n := 16384) (V Cert.KernelIdeal.main_v153) 1) (pts (n := 16384) (V Cert.KernelIdeal.main_v153) 2) far (j 1).val).2 := by
  have hj : (j 1).val < 8192 := (j 1).isLt
  have hout := kout3_eq M c (pts (n := 16384) (V Cert.KernelIdeal.main_v153) 0) (pts (n := 16384) (V Cert.KernelIdeal.main_v153) 1) (pts (n := 16384) (V Cert.KernelIdeal.main_v153) 2)
    (fun i h => by rw [hM]; exact coord3_0 V i h) (fun i h => by rw [hM]; exact coord3_1 V i h) (fun i h => by rw [hM]; exact coord3_2 V i h)
  have hput : put M Cert.KernelIdeal.main_v217 (kout3 M) c Cert.KernelIdeal.main_v217 = kout3 M c := put_self ..
  generalize put M Cert.KernelIdeal.main_v217 (kout3 M) c = U at hput ⊢
  rw [← hput] at hout
  simp only [khead3, StableHlo.afterL_cons, StableHlo.afterL_nil]
  after_reads_simp
  exact spread_eq (N := 8192) (R := 64) rfl _ _ (by omega) _ j (fun t => BitVec.ofNat 32 (state 16384 (pts (n := 16384) (V Cert.KernelIdeal.main_v153) 0) (pts (n := 16384) (V Cert.KernelIdeal.main_v153) 1) (pts (n := 16384) (V Cert.KernelIdeal.main_v153) 2) far t).2) 8191 hout (by omega)

/-- The reference's. -/
theorem rindex3 (W : RV) (N : Mem Cert.ReferenceIdeal.nD Cert.ReferenceIdeal.τ Cert.ReferenceIdeal.sig Ideal) (c : Dev Cert.ReferenceIdeal.nD) (hN : N c = after rlast3 W)
    (j : (⟨2, ![1, 8192]⟩ : Shape).Idx) : (after rhead3 (after rcond6 (StableHlo.atTrip rcond6 [rbody6] N 8191 c)) Cert.ReferenceIdeal.main_v170 : IVec ⟨2, ![1, 8192]⟩ 32) j
      = BitVec.ofNat 32 (state 16384 (pts (n := 16384) (W Cert.ReferenceIdeal.main_v116) 0) (pts (n := 16384) (W Cert.ReferenceIdeal.main_v116) 1) (pts (n := 16384) (W Cert.ReferenceIdeal.main_v116) 2) far (j 1).val).2 := by
  have start : Gone (n := 16384) (m := 8192) (pts (n := 16384) (W Cert.ReferenceIdeal.main_v116)) far 0 (N c Cert.ReferenceIdeal.main_v169_0) (N c Cert.ReferenceIdeal.main_v169_2) (N c Cert.ReferenceIdeal.main_v169_3) (N c Cert.ReferenceIdeal.main_v169_4) := by
    rw [hN]
    simp only [rlast3, rops0, rops0_L, rs0, StableHlo.afterL_cons, StableHlo.afterL_nil]
    after_reads_simp
    exact gone_start (n := 16384) (m := 8192) (W Cert.ReferenceIdeal.main_v116) Cert.ReferenceIdeal.Facts₀.shapeCasts_S1x16384x3_S16384x3 Cert.ReferenceIdeal.Facts₀.bcast_S_S16384 Cert.ReferenceIdeal.Facts₀.bcast_S_S8192
  have loop := samples6 (pts (n := 16384) (W Cert.ReferenceIdeal.main_v116)) far_nonneg N c start
  generalize after rcond6 (StableHlo.atTrip rcond6 [rbody6] N 8191 c) = U at loop ⊢
  simp only [rhead3]
  after_reads_simp
  exact (broadcastInDim_apply _ _ _ j (ValueIdx.ix1 (j 1)) (fun a => match a with | ⟨0, _⟩ => rfl)).trans (loop _)

/-- The layer's indices agree where the points do. -/
theorem index3 (V : KV) (W : RV) (h : Agree V W (Cert.KernelIdeal.main_v153, Cert.ReferenceIdeal.main_v116)) (M : Mem Cert.KernelIdeal.nD Cert.KernelIdeal.τ Cert.KernelIdeal.sig Ideal) (c : Dev Cert.KernelIdeal.nD) (hM : M c = afterL klast3 V)
    (N : Mem Cert.ReferenceIdeal.nD Cert.ReferenceIdeal.τ Cert.ReferenceIdeal.sig Ideal) (c' : Dev Cert.ReferenceIdeal.nD) (hN : N c' = after rlast3 W) :
    Agree (afterL khead3 (put M Cert.KernelIdeal.main_v217 (kout3 M) c)) (after rhead3 (after rcond6 (StableHlo.atTrip rcond6 [rbody6] N 8191 c'))) (Cert.KernelIdeal.main_v219, Cert.ReferenceIdeal.main_v170) := by
  have e : @Eq (FVec Ideal ⟨3, ![1, 16384, 3]⟩ .f32) (V Cert.KernelIdeal.main_v153) (W Cert.ReferenceIdeal.main_v116) := eq_of_heq h
  refine @heq_of_eq (IVec ⟨2, ![1, 8192]⟩ 32) _ _ (funext fun j => ?_)
  have a := kindex3 V M c hM j
  rw [e] at a
  exact a.trans (rindex3 W N c' hN j).symm

end Cert.Layer
-- ==== Proof.Layer0.lean ====
/-
  What layer 0 of the kernel's host program and of the reference's have in common: everything but the sampling.
-/
module

public import proofs.«01_k».proof.Proof.KEnd
public import proofs.«01_k».proof.Proof.RRun
public import proofs.«01_k».proof.Proof.Sim

@[expose] public section

noncomputable section

namespace Cert.Layer

open Cert.Host
open Idealize.ShloMosaic

variable {F : FTy → Type} [FloatOps F]

set_option maxRecDepth 100000 in
set_option maxHeartbeats 40000000 in
/-- The samples' coordinates and the ball query's operands; the query's loop condition; its body; the layer's features. -/
def layer0 :
    Sim (F := F) [Cert.KernelIdeal.Gen.hostOps1_1, Cert.KernelIdeal.Gen.hostOps1_2] ((Cert.ReferenceIdeal.Run.rops1_L (F := F)).1.drop 1)
    × Sim (F := F) [Cert.KernelIdeal.Fps.kcond0] Cert.ReferenceIdeal.Run.rcond1
    × Sim (F := F) Cert.KernelIdeal.Fps.kbody0 (Cert.ReferenceIdeal.Run.rbody1_T (F := F)).1
    × Sim (F := F) Cert.KernelIdeal.Fps.kops2 (Cert.ReferenceIdeal.Run.rops2_L (F := F)).1 := by
  refine ⟨?_, ?_, ?_, ?_⟩ <;>
  ( apply Sim.mk
    repeat first
      | (apply SameL.cons
         · first
            | with_reducible exact Same.tnullary
            | with_reducible exact Same.tunary
            | with_reducible exact Same.tbinary
            | with_reducible exact Same.tternary
            | with_reducible exact Same.treshape
            | with_reducible exact Same.tunaryIndexed
            | with_reducible exact Same.tbinaryIndexed
            | (with_reducible apply Same.reshape (Ta := ⟨_, _⟩) (Ty := ⟨_, _⟩)
               all_goals rfl)
            | (with_reducible apply Same.nullary (Ty := ⟨_, _⟩)
               all_goals first | rfl | exact HEq.rfl)
            | (with_reducible apply Same.unary (Ta := ⟨_, _⟩) (Ty := ⟨_, _⟩)
               all_goals first | rfl | exact HEq.rfl)
            | (with_reducible apply Same.binary (Ta := ⟨_, _⟩) (Tb := ⟨_, _⟩) (Ty := ⟨_, _⟩)
               all_goals first | rfl | exact HEq.rfl)
            | (with_reducible apply Same.ternary (Ta := ⟨_, _⟩) (Tb := ⟨_, _⟩) (Tc := ⟨_, _⟩) (Ty := ⟨_, _⟩)
               all_goals first | rfl | exact HEq.rfl))
      | apply SameL.skip
    exact SameL.stop )

theorem left0_0 : ((layer0 (F := F)).1.ks', (layer0 (F := F)).1.l') = ([], []) := rfl
theorem left0_1 : ((layer0 (F := F)).2.1.ks', (layer0 (F := F)).2.1.l') = ([], []) := rfl
theorem left0_2 : ((layer0 (F := F)).2.2.1.ks', (layer0 (F := F)).2.2.1.l') = ([], []) := rfl

end Cert.Layer

end
-- ==== Proof.Layer1.lean ====
/-
  What layer 1 of the kernel's host program and of the reference's have in common: everything but the sampling.
-/
module

public import proofs.«01_k».proof.Proof.KEnd
public import proofs.«01_k».proof.Proof.RRun
public import proofs.«01_k».proof.Proof.Sim

@[expose] public section

noncomputable section

namespace Cert.Layer

open Cert.Host
open Idealize.ShloMosaic

variable {F : FTy → Type} [FloatOps F]

set_option maxRecDepth 100000 in
set_option maxHeartbeats 40000000 in
/-- The samples' coordinates and the ball query's operands; the query's loop condition; its body; the layer's features. -/
def layer1 :
    Sim (F := F) [Cert.KernelIdeal.Gen.hostOps2_1, Cert.KernelIdeal.Gen.hostOps2_2] ((Cert.ReferenceIdeal.Run.rops3_L (F := F)).1.drop 1)
    × Sim (F := F) [Cert.KernelIdeal.Fps.kcond1] Cert.ReferenceIdeal.Run.rcond3
    × Sim (F := F) Cert.KernelIdeal.Fps.kbody1 (Cert.ReferenceIdeal.Run.rbody3_T (F := F)).1
    × Sim (F := F) Cert.KernelIdeal.Fps.kops4 (Cert.ReferenceIdeal.Run.rops4_L (F := F)).1 := by
  refine ⟨?_, ?_, ?_, ?_⟩ <;>
  ( apply Sim.mk
    repeat first
      | (apply SameL.cons
         · first
            | with_reducible exact Same.tnullary
            | with_reducible exact Same.tunary
            | with_reducible exact Same.tbinary
            | with_reducible exact Same.tternary
            | with_reducible exact Same.treshape
            | with_reducible exact Same.tunaryIndexed
            | with_reducible exact Same.tbinaryIndexed
            | (with_reducible apply Same.reshape (Ta := ⟨_, _⟩) (Ty := ⟨_, _⟩)
               all_goals rfl)
            | (with_reducible apply Same.nullary (Ty := ⟨_, _⟩)
               all_goals first | rfl | exact HEq.rfl)
            | (with_reducible apply Same.unary (Ta := ⟨_, _⟩) (Ty := ⟨_, _⟩)
               all_goals first | rfl | exact HEq.rfl)
            | (with_reducible apply Same.binary (Ta := ⟨_, _⟩) (Tb := ⟨_, _⟩) (Ty := ⟨_, _⟩)
               all_goals first | rfl | exact HEq.rfl)
            | (with_reducible apply Same.ternary (Ta := ⟨_, _⟩) (Tb := ⟨_, _⟩) (Tc := ⟨_, _⟩) (Ty := ⟨_, _⟩)
               all_goals first | rfl | exact HEq.rfl))
      | apply SameL.skip
    exact SameL.stop )

theorem left1_0 : ((layer1 (F := F)).1.ks', (layer1 (F := F)).1.l') = ([], []) := rfl
theorem left1_1 : ((layer1 (F := F)).2.1.ks', (layer1 (F := F)).2.1.l') = ([], []) := rfl
theorem left1_2 : ((layer1 (F := F)).2.2.1.ks', (layer1 (F := F)).2.2.1.l') = ([], []) := rfl

end Cert.Layer

end
-- ==== Proof.Layer2.lean ====
/-
  What layer 2 of the kernel's host program and of the reference's have in common: everything but the sampling.
-/
module

public import proofs.«01_k».proof.Proof.KEnd
public import proofs.«01_k».proof.Proof.RRun
public import proofs.«01_k».proof.Proof.Sim

@[expose] public section

noncomputable section

namespace Cert.Layer

open Cert.Host
open Idealize.ShloMosaic

variable {F : FTy → Type} [FloatOps F]

set_option maxRecDepth 100000 in
set_option maxHeartbeats 40000000 in
/-- The samples' coordinates and the ball query's operands; the query's loop condition; its body; the layer's features. -/
def layer2 :
    Sim (F := F) [Cert.KernelIdeal.Gen.hostOps3_1, Cert.KernelIdeal.Gen.hostOps3_2] ((Cert.ReferenceIdeal.Run.rops5_L (F := F)).1.drop 1)
    × Sim (F := F) [Cert.KernelIdeal.Fps.kcond2] Cert.ReferenceIdeal.Run.rcond5
    × Sim (F := F) Cert.KernelIdeal.Fps.kbody2 (Cert.ReferenceIdeal.Run.rbody5_T (F := F)).1
    × Sim (F := F) Cert.KernelIdeal.Fps.kops6 (Cert.ReferenceIdeal.Run.rops6_L (F := F)).1 := by
  refine ⟨?_, ?_, ?_, ?_⟩ <;>
  ( apply Sim.mk
    repeat first
      | (apply SameL.cons
         · first
            | with_reducible exact Same.tnullary
            | with_reducible exact Same.tunary
            | with_reducible exact Same.tbinary
            | with_reducible exact Same.tternary
            | with_reducible exact Same.treshape
            | with_reducible exact Same.tunaryIndexed
            | with_reducible exact Same.tbinaryIndexed
            | (with_reducible apply Same.reshape (Ta := ⟨_, _⟩) (Ty := ⟨_, _⟩)
               all_goals rfl)
            | (with_reducible apply Same.nullary (Ty := ⟨_, _⟩)
               all_goals first | rfl | exact HEq.rfl)
            | (with_reducible apply Same.unary (Ta := ⟨_, _⟩) (Ty := ⟨_, _⟩)
               all_goals first | rfl | exact HEq.rfl)
            | (with_reducible apply Same.binary (Ta := ⟨_, _⟩) (Tb := ⟨_, _⟩) (Ty := ⟨_, _⟩)
               all_goals first | rfl | exact HEq.rfl)
            | (with_reducible apply Same.ternary (Ta := ⟨_, _⟩) (Tb := ⟨_, _⟩) (Tc := ⟨_, _⟩) (Ty := ⟨_, _⟩)
               all_goals first | rfl | exact HEq.rfl))
      | apply SameL.skip
    exact SameL.stop )

theorem left2_0 : ((layer2 (F := F)).1.ks', (layer2 (F := F)).1.l') = ([], []) := rfl
theorem left2_1 : ((layer2 (F := F)).2.1.ks', (layer2 (F := F)).2.1.l') = ([], []) := rfl
theorem left2_2 : ((layer2 (F := F)).2.2.1.ks', (layer2 (F := F)).2.2.1.l') = ([], []) := rfl

end Cert.Layer

end
-- ==== Proof.Layer3.lean ====
/-
  What layer 3 of the kernel's host program and of the reference's have in common: everything but the sampling.
-/
module

public import proofs.«01_k».proof.Proof.KEnd
public import proofs.«01_k».proof.Proof.RRun
public import proofs.«01_k».proof.Proof.Sim

@[expose] public section

noncomputable section

namespace Cert.Layer

open Cert.Host
open Idealize.ShloMosaic

variable {F : FTy → Type} [FloatOps F]

set_option maxRecDepth 100000 in
set_option maxHeartbeats 40000000 in
/-- The samples' coordinates and the ball query's operands; the query's loop condition; its body; the layer's features. -/
def layer3 :
    Sim (F := F) [Cert.KernelIdeal.Gen.hostOps4_1, Cert.KernelIdeal.Gen.hostOps4_2] ((Cert.ReferenceIdeal.Run.rops7_L (F := F)).1.drop 1)
    × Sim (F := F) [Cert.KernelIdeal.Fps.kcond3] Cert.ReferenceIdeal.Run.rcond7
    × Sim (F := F) Cert.KernelIdeal.Fps.kbody3 (Cert.ReferenceIdeal.Run.rbody7_T (F := F)).1
    × Sim (F := F) Cert.KernelIdeal.Fps.kops8 (Cert.ReferenceIdeal.Run.rops8_L (F := F)).1 := by
  refine ⟨?_, ?_, ?_, ?_⟩ <;>
  ( apply Sim.mk
    repeat first
      | (apply SameL.cons
         · first
            | with_reducible exact Same.tnullary
            | with_reducible exact Same.tunary
            | with_reducible exact Same.tbinary
            | with_reducible exact Same.tternary
            | with_reducible exact Same.treshape
            | with_reducible exact Same.tunaryIndexed
            | with_reducible exact Same.tbinaryIndexed
            | (with_reducible apply Same.reshape (Ta := ⟨_, _⟩) (Ty := ⟨_, _⟩)
               all_goals rfl)
            | (with_reducible apply Same.nullary (Ty := ⟨_, _⟩)
               all_goals first | rfl | exact HEq.rfl)
            | (with_reducible apply Same.unary (Ta := ⟨_, _⟩) (Ty := ⟨_, _⟩)
               all_goals first | rfl | exact HEq.rfl)
            | (with_reducible apply Same.binary (Ta := ⟨_, _⟩) (Tb := ⟨_, _⟩) (Ty := ⟨_, _⟩)
               all_goals first | rfl | exact HEq.rfl)
            | (with_reducible apply Same.ternary (Ta := ⟨_, _⟩) (Tb := ⟨_, _⟩) (Tc := ⟨_, _⟩) (Ty := ⟨_, _⟩)
               all_goals first | rfl | exact HEq.rfl))
      | apply SameL.skip
    exact SameL.stop )

theorem left3_0 : ((layer3 (F := F)).1.ks', (layer3 (F := F)).1.l') = ([], []) := rfl
theorem left3_1 : ((layer3 (F := F)).2.1.ks', (layer3 (F := F)).2.1.l') = ([], []) := rfl
theorem left3_2 : ((layer3 (F := F)).2.2.1.ks', (layer3 (F := F)).2.2.1.l') = ([], []) := rfl

end Cert.Layer

end
-- ==== Proof.Glue.lean ====
/-
  The kernel's buffers and the reference's agree, layer by layer, from the arguments to the results.
-/
module

public import proofs.«01_k».proof.Proof.Samples
public import proofs.«01_k».proof.Proof.Layer0
public import proofs.«01_k».proof.Proof.Layer1
public import proofs.«01_k».proof.Proof.Layer2
public import proofs.«01_k».proof.Proof.Layer3

@[expose] public section

set_option maxRecDepth 100000

noncomputable section

namespace Cert.Layer

open Cert.Host Cert.KernelIdeal.Fps Cert.ReferenceIdeal.Run
open Idealize.ShloMosaic Idealize.ShloMosaic.TcCoe
open Idealize.ShloMosaic.StableHlo (afterL after atTrip)

local notation "KV" => Valuation Cert.KernelIdeal.τ Cert.KernelIdeal.sig (Elt Ideal)
local notation "RV" => Valuation Cert.ReferenceIdeal.τ Cert.ReferenceIdeal.sig (Elt Ideal)
local notation "KOps" => List (HloOp Cert.KernelIdeal.τ Cert.KernelIdeal.sig (Elt Ideal))
local notation "ROps" => List (HloOp Cert.ReferenceIdeal.τ Cert.ReferenceIdeal.sig (Elt Ideal))
local notation "KM" => Mem Cert.KernelIdeal.nD Cert.KernelIdeal.τ Cert.KernelIdeal.sig Ideal
local notation "RM" => Mem Cert.ReferenceIdeal.nD Cert.ReferenceIdeal.τ Cert.ReferenceIdeal.sig Ideal
local notation "TWIN" => Twin Cert.KernelIdeal.sig Cert.ReferenceIdeal.sig

/-- The buffers that must agree ahead of some operations for those of `B` to agree after them. -/
def needs (d : List (List TWIN × TWIN)) (B : List TWIN) : List TWIN := d.foldr (fun o B => o.1.filter (· ∉ B) ++ B.filter (· ≠ o.2)) B

/-- What must agree at a loop with condition `dc` and body `db`, for `B` to agree after it: a few trips back. -/
def invariant (dc db : List (List TWIN × TWIN)) (B : List TWIN) : List TWIN :=
  let step (C : List TWIN) : List TWIN := (needs dc (needs db C)).filter (· ∉ C) ++ C
  step (step (step (needs dc B)))

/-- Following `d` from `A` reaches every twin of `B`. -/
def reaches (d : List (List TWIN × TWIN)) (A B : List TWIN) : Bool := (follow d A).any fun A' => B.all (· ∈ A')

/-- Where following reaches, it has a value that holds every twin asked for. -/
theorem reaches_spec {d A B} (h : reaches d A B = true) : ∃ A', follow d A = some A' ∧ ∀ p ∈ B, p ∈ A' := by
  unfold reaches at h
  cases hf : follow d A with
  | none => rw [hf] at h; exact absurd h (by simp)
  | some A' => rw [hf] at h; exact ⟨A', rfl, fun p hp => by simpa using List.all_eq_true.mp h p hp⟩

/-- Operations that two programs share keep agreement. -/
theorem share {ks : List KOps} {l : ROps} (s : Sim (F := Ideal) ks l) {A B : List TWIN} (h : reaches s.d A B = true) {V : KV} {W : RV}
    (hA : ∀ p ∈ A, Agree V W p) : ∃ V' W', afterL ks V = afterL s.ks' V' ∧ after l W = after s.l' W' ∧ ∀ p ∈ B, Agree V' W' p := by
  obtain ⟨A', hf, hB⟩ := reaches_spec h
  obtain ⟨V', W', e, e', h'⟩ := s.same.agree hA hf
  exact ⟨V', W', e, e', fun p hp => h' p (hB p hp)⟩

/-- The same where nothing is left of either. -/
theorem share_all {ks : List KOps} {l : ROps} (s : Sim (F := Ideal) ks l) (hs : (s.ks', s.l') = ([], [])) {A B : List TWIN} (h : reaches s.d A B = true) {V : KV} {W : RV}
    (hA : ∀ p ∈ A, Agree V W p) : ∀ p ∈ B, Agree (afterL ks V) (after l W) p := by
  obtain ⟨V', W', e, e', h'⟩ := share s h hA
  rw [(Prod.mk.inj hs).1] at e
  rw [(Prod.mk.inj hs).2] at e'
  rw [e, e']
  exact h'

/-- Counted loops that two programs share keep agreement. -/
theorem share_loop {kc : KOps} {rc : ROps} {kb : List KOps} {rb : ROps} (sc : Sim (F := Ideal) [kc] rc) (hc : (sc.ks', sc.l') = ([], [])) (sb : Sim (F := Ideal) kb rb)
    (hb : (sb.ks', sb.l') = ([], [])) {A B : List TWIN} (h : reaches sc.d A B = true) (h' : reaches sb.d B A = true) (V : KM) (W : RM) (c : Dev Cert.KernelIdeal.nD)
    (c' : Dev Cert.ReferenceIdeal.nD) (hA : ∀ p ∈ A, Agree (V c) (W c') p) : ∀ n, ∀ p ∈ A, Agree (atTrip kc kb V n c) (atTrip rc [rb] W n c') p
  | 0 => hA
  | n + 1 => share_all sb hb h' (share_all sc hc h (share_loop sc hc sb hb h h' V W c c' hA n))

/-- What the kernel writes from the operations ahead of a launch to the layer's indices, and what the reference does. -/
structure Span (klast khead : List KOps) (out : Ref Cert.KernelIdeal.sig .tc) (rlast rc rb rhead : ROps) where
  kl : {W : List (Ref Cert.KernelIdeal.sig .tc) // WritesL klast W}
  kh : {W : List (Ref Cert.KernelIdeal.sig .tc) // WritesL khead W}
  rl : {W : List (Ref Cert.ReferenceIdeal.sig .tc) // WritesL [rlast] W}
  rc' : {W : List (Ref Cert.ReferenceIdeal.sig .tc) // WritesL [rc] W}
  rb' : {W : List (Ref Cert.ReferenceIdeal.sig .tc) // WritesL [rb] W}
  rh : {W : List (Ref Cert.ReferenceIdeal.sig .tc) // WritesL [rhead] W}

section
variable {klast khead : List KOps} {out : Ref Cert.KernelIdeal.sig .tc} {rlast rc rb rhead : ROps}

/-- The span writes neither buffer of a twin. -/
def Span.free (s : Span klast khead out rlast rc rb rhead) (p : TWIN) : Bool :=
  decide (p.1 ∉ s.kl.1) && decide (p.1 ∉ s.kh.1) && decide (p.1 ≠ out) && decide (p.2 ∉ s.rl.1) && decide (p.2 ∉ s.rc'.1) && decide (p.2 ∉ s.rb'.1) && decide (p.2 ∉ s.rh.1)

/-- A twin that the span does not write goes on agreeing. -/
theorem Span.keep (s : Span klast khead out rlast rc rb rhead) {p : TWIN} (hp : s.free p = true) {V : KV} {W : RV} (h : Agree V W p) (M : KM) (c : Dev Cert.KernelIdeal.nD)
    (hM : M c = afterL klast V) (o) (N : RM) (c' : Dev Cert.ReferenceIdeal.nD) (hN : N c' = after rlast W) (n : ℕ) :
    Agree (afterL khead (put M out o c)) (after rhead (after rc (atTrip rc [rb] N n c'))) p := by
  simp only [Span.free, Bool.and_eq_true, decide_eq_true_eq] at hp
  obtain ⟨⟨⟨⟨⟨⟨h1, h2⟩, h3⟩, h4⟩, h5⟩, h6⟩, h7⟩ := hp
  have e : afterL khead (put M out o c) p.1 = V p.1 := (afterL_keep s.kh.2 h2 _).trans ((put_ne M out o c p.1 h3).trans ((congrFun hM _).trans (afterL_keep s.kl.2 h1 V)))
  have e' : after rhead (after rc (atTrip rc [rb] N n c')) p.2 = W p.2 := (afterL_keep s.rh.2 h7 _).trans ((afterL_keep s.rc'.2 h5 _).trans
    ((atTrip_keep s.rc'.2 s.rb'.2 h5 h6 N c' n).trans ((congrFun hN _).trans (afterL_keep s.rl.2 h4 W))))
  unfold Agree
  rw [e, e']
  exact h

/-- One layer: buffers that agree ahead of the launch, and indices that agree after it, give buffers that agree ahead of the next. -/
theorem layer_agree (s : Span klast khead out rlast rc rb rhead) {k1 kb kt : List KOps} {kc : KOps} {r1 rq rqb rt : ROps}
    (s1 : Sim (F := Ideal) k1 r1) (h1 : (s1.ks', s1.l') = ([], [])) (s2 : Sim (F := Ideal) [kc] rq) (h2 : (s2.ks', s2.l') = ([], [])) (s3 : Sim (F := Ideal) kb rqb)
    (h3 : (s3.ks', s3.l') = ([], [])) (s4 : Sim (F := Ideal) kt rt) {A : List TWIN} {i : TWIN} {B C A' : List TWIN} (hfree : A.all s.free = true)
    (c1 : reaches s1.d (i :: A) B = true) (c2 : reaches s2.d B C = true) (c3 : reaches s3.d C B = true) (c4 : reaches s4.d C A' = true)
    {V : KV} {W : RV} (h : ∀ p ∈ A, Agree V W p) (M : KM) (c : Dev Cert.KernelIdeal.nD) (hM : M c = afterL klast V) (o) (N : RM) (c' : Dev Cert.ReferenceIdeal.nD)
    (hN : N c' = after rlast W) (n m : ℕ) (hi : Agree (afterL khead (put M out o c)) (after rhead (after rc (atTrip rc [rb] N n c'))) i) :
    ∃ V' W', afterL kt (after kc (atTrip kc kb (fun c => afterL k1 (afterL khead (put M out o c))) m c)) = afterL s4.ks' V'
      ∧ after rt (after rq (atTrip rq [rqb] (fun c => after r1 (after rhead (after rc (atTrip rc [rb] N n c)))) m c')) = after s4.l' W' ∧ ∀ p ∈ A', Agree V' W' p := by
  have a0 : ∀ p ∈ i :: A, Agree (afterL khead (put M out o c)) (after rhead (after rc (atTrip rc [rb] N n c'))) p := by
    intro p hp
    rcases List.mem_cons.mp hp with rfl | hp
    · exact hi
    · exact s.keep (List.all_eq_true.mp hfree p hp) (h p hp) M c hM o N c' hN n
  have a1 := share_all s1 h1 c1 a0
  have a2 := share_loop s2 h2 s3 h3 c2 c3 (fun c => afterL k1 (afterL khead (put M out o c))) (fun c => after r1 (after rhead (after rc (atTrip rc [rb] N n c)))) c c' a1 m
  exact share s4 c4 (share_all s2 h2 c2 a2)
end

/-- The arguments and the results. -/
abbrev args : List TWIN := [(Cert.KernelIdeal.main_arg0, Cert.ReferenceIdeal.main_arg0), (Cert.KernelIdeal.main_arg1, Cert.ReferenceIdeal.main_arg1), (Cert.KernelIdeal.main_arg2, Cert.ReferenceIdeal.main_arg2), (Cert.KernelIdeal.main_arg3, Cert.ReferenceIdeal.main_arg3), (Cert.KernelIdeal.main_arg4, Cert.ReferenceIdeal.main_arg4), (Cert.KernelIdeal.main_arg5, Cert.ReferenceIdeal.main_arg5), (Cert.KernelIdeal.main_arg6, Cert.ReferenceIdeal.main_arg6), (Cert.KernelIdeal.main_arg7, Cert.ReferenceIdeal.main_arg7), (Cert.KernelIdeal.main_arg8, Cert.ReferenceIdeal.main_arg8), (Cert.KernelIdeal.main_arg9, Cert.ReferenceIdeal.main_arg9), (Cert.KernelIdeal.main_arg10, Cert.ReferenceIdeal.main_arg10), (Cert.KernelIdeal.main_arg11, Cert.ReferenceIdeal.main_arg11), (Cert.KernelIdeal.main_arg12, Cert.ReferenceIdeal.main_arg12), (Cert.KernelIdeal.main_arg13, Cert.ReferenceIdeal.main_arg13)]
/-- What is live ahead of each launch, and at the end: the arguments and the results so far. -/
def live0 : List TWIN := args
def live1 : List TWIN := (Cert.KernelIdeal.main_v18, Cert.ReferenceIdeal.main_v5) :: (Cert.KernelIdeal.main_v68, Cert.ReferenceIdeal.main_v55) :: live0
def live2 : List TWIN := (Cert.KernelIdeal.main_v86, Cert.ReferenceIdeal.main_v61) :: (Cert.KernelIdeal.main_v135, Cert.ReferenceIdeal.main_v110) :: live1
def live3 : List TWIN := (Cert.KernelIdeal.main_v153, Cert.ReferenceIdeal.main_v116) :: (Cert.KernelIdeal.main_v202, Cert.ReferenceIdeal.main_v165) :: live2
def live4 : List TWIN := (Cert.KernelIdeal.main_v220, Cert.ReferenceIdeal.main_v171) :: (Cert.KernelIdeal.main_v269, Cert.ReferenceIdeal.main_v220) :: live3

/-! ## Layer 0 -/

/-- What is written around launch 0. -/
def span0 : Span klast0 khead0 Cert.KernelIdeal.main_v14 rlast0 rcond0 rbody0 rhead0 := by
  refine ⟨kops0_W, ?_, rops0_W, rcond0_W, rbody0_W, ?_⟩
  all_goals
    apply Subtype.mk
    repeat first | exact WritesL.nil | apply WritesL.skip | apply WritesL.cons (Eq.refl _)

/-- What must agree at the ball query's exit, at its loop, and after its test. -/
def exit0 : List TWIN := needs (layer0 (F := Ideal)).2.2.2.d live1
def loop0 : List TWIN := invariant (layer0 (F := Ideal)).2.1.d (layer0 (F := Ideal)).2.2.1.d exit0
def test0 : List TWIN := exit0 ++ needs (layer0 (F := Ideal)).2.2.1.d loop0

/-- What is live ahead of launch 0 is not written around it. -/
theorem free0 : live0.all span0.free = true := by decide +kernel
/-- Layer 0: the indices and what is live give what must agree at the ball query's loop. -/
theorem enter0 : reaches (layer0 (F := Ideal)).1.d ((Cert.KernelIdeal.main_v17, Cert.ReferenceIdeal.main_v4) :: live0) loop0 = true := by decide +kernel
/-- Layer 0: the loop's test keeps what the trip and the exit need. -/
theorem cond0 : reaches (layer0 (F := Ideal)).2.1.d loop0 test0 = true := by decide +kernel
/-- Layer 0: the loop's body gives back what must agree at the loop. -/
theorem body0 : reaches (layer0 (F := Ideal)).2.2.1.d test0 loop0 = true := by decide +kernel
/-- Layer 0: after the exit, what is live ahead of the next launch agrees. -/
theorem leave0 : reaches (layer0 (F := Ideal)).2.2.2.d test0 live1 = true := by decide +kernel

/-! ## Layer 1 -/

/-- What is written around launch 1. -/
def span1 : Span klast1 khead1 Cert.KernelIdeal.main_v83 rlast1 rcond2 rbody2 rhead1 := by
  refine ⟨?_, ?_, ?_, rcond2_W, rbody2_W, ?_⟩
  all_goals
    apply Subtype.mk
    repeat first | exact WritesL.nil | apply WritesL.skip | apply WritesL.cons (Eq.refl _)

/-- What must agree at the ball query's exit, at its loop, and after its test. -/
def exit1 : List TWIN := needs (layer1 (F := Ideal)).2.2.2.d live2
def loop1 : List TWIN := invariant (layer1 (F := Ideal)).2.1.d (layer1 (F := Ideal)).2.2.1.d exit1
def test1 : List TWIN := exit1 ++ needs (layer1 (F := Ideal)).2.2.1.d loop1

/-- What is live ahead of launch 1 is not written around it. -/
theorem free1 : live1.all span1.free = true := by decide +kernel
/-- Layer 1: the indices and what is live give what must agree at the ball query's loop. -/
theorem enter1 : reaches (layer1 (F := Ideal)).1.d ((Cert.KernelIdeal.main_v85, Cert.ReferenceIdeal.main_v60) :: live1) loop1 = true := by decide +kernel
/-- Layer 1: the loop's test keeps what the trip and the exit need. -/
theorem cond1 : reaches (layer1 (F := Ideal)).2.1.d loop1 test1 = true := by decide +kernel
/-- Layer 1: the loop's body gives back what must agree at the loop. -/
theorem body1 : reaches (layer1 (F := Ideal)).2.2.1.d test1 loop1 = true := by decide +kernel
/-- Layer 1: after the exit, what is live ahead of the next launch agrees. -/
theorem leave1 : reaches (layer1 (F := Ideal)).2.2.2.d test1 live2 = true := by decide +kernel

/-! ## Layer 2 -/

/-- What is written around launch 2. -/
def span2 : Span klast2 khead2 Cert.KernelIdeal.main_v150 rlast2 rcond4 rbody4 rhead2 := by
  refine ⟨?_, ?_, ?_, rcond4_W, rbody4_W, ?_⟩
  all_goals
    apply Subtype.mk
    repeat first | exact WritesL.nil | apply WritesL.skip | apply WritesL.cons (Eq.refl _)

/-- What must agree at the ball query's exit, at its loop, and after its test. -/
def exit2 : List TWIN := needs (layer2 (F := Ideal)).2.2.2.d live3
def loop2 : List TWIN := invariant (layer2 (F := Ideal)).2.1.d (layer2 (F := Ideal)).2.2.1.d exit2
def test2 : List TWIN := exit2 ++ needs (layer2 (F := Ideal)).2.2.1.d loop2

/-- What is live ahead of launch 2 is not written around it. -/
theorem free2 : live2.all span2.free = true := by decide +kernel
/-- Layer 2: the indices and what is live give what must agree at the ball query's loop. -/
theorem enter2 : reaches (layer2 (F := Ideal)).1.d ((Cert.KernelIdeal.main_v152, Cert.ReferenceIdeal.main_v115) :: live2) loop2 = true := by decide +kernel
/-- Layer 2: the loop's test keeps what the trip and the exit need. -/
theorem cond2 : reaches (layer2 (F := Ideal)).2.1.d loop2 test2 = true := by decide +kernel
/-- Layer 2: the loop's body gives back what must agree at the loop. -/
theorem body2 : reaches (layer2 (F := Ideal)).2.2.1.d test2 loop2 = true := by decide +kernel
/-- Layer 2: after the exit, what is live ahead of the next launch agrees. -/
theorem leave2 : reaches (layer2 (F := Ideal)).2.2.2.d test2 live3 = true := by decide +kernel

/-! ## Layer 3 -/

/-- What is written around launch 3. -/
def span3 : Span klast3 khead3 Cert.KernelIdeal.main_v217 rlast3 rcond6 rbody6 rhead3 := by
  refine ⟨?_, ?_, ?_, rcond6_W, rbody6_W, ?_⟩
  all_goals
    apply Subtype.mk
    repeat first | exact WritesL.nil | apply WritesL.skip | apply WritesL.cons (Eq.refl _)

/-- What must agree at the ball query's exit, at its loop, and after its test. -/
def exit3 : List TWIN := needs (layer3 (F := Ideal)).2.2.2.d live4
def loop3 : List TWIN := invariant (layer3 (F := Ideal)).2.1.d (layer3 (F := Ideal)).2.2.1.d exit3
def test3 : List TWIN := exit3 ++ needs (layer3 (F := Ideal)).2.2.1.d loop3

/-- What is live ahead of launch 3 is not written around it. -/
theorem free3 : live3.all span3.free = true := by decide +kernel
/-- Layer 3: the indices and what is live give what must agree at the ball query's loop. -/
theorem enter3 : reaches (layer3 (F := Ideal)).1.d ((Cert.KernelIdeal.main_v219, Cert.ReferenceIdeal.main_v170) :: live3) loop3 = true := by decide +kernel
/-- Layer 3: the loop's test keeps what the trip and the exit need. -/
theorem cond3 : reaches (layer3 (F := Ideal)).2.1.d loop3 test3 = true := by decide +kernel
/-- Layer 3: the loop's body gives back what must agree at the loop. -/
theorem body3 : reaches (layer3 (F := Ideal)).2.2.1.d test3 loop3 = true := by decide +kernel
/-- Layer 3: after the exit, what is live ahead of the next launch agrees. -/
theorem leave3 : reaches (layer3 (F := Ideal)).2.2.2.d test3 live4 = true := by decide +kernel

end Cert.Layer
-- ==== Proof.Values.lean ====
/-
  The kernel's results and the reference's agree where the arguments do.
-/
module

public import proofs.«01_k».proof.Proof.Glue

@[expose] public section

set_option maxRecDepth 100000

noncomputable section

namespace Cert.Layer

open Cert.Host Cert.KernelIdeal.Fps Cert.ReferenceIdeal.Run
open Idealize.ShloMosaic Idealize.ShloMosaic.TcCoe
open Idealize.ShloMosaic.StableHlo (afterL after atTrip)

local notation "KV" => Valuation Cert.KernelIdeal.τ Cert.KernelIdeal.sig (Elt Ideal)
local notation "RV" => Valuation Cert.ReferenceIdeal.τ Cert.ReferenceIdeal.sig (Elt Ideal)
local notation "KM" => Mem Cert.KernelIdeal.nD Cert.KernelIdeal.τ Cert.KernelIdeal.sig Ideal
local notation "RM" => Mem Cert.ReferenceIdeal.nD Cert.ReferenceIdeal.τ Cert.ReferenceIdeal.sig Ideal

/-! ## Layer 0 -/

/-- Layer 0: the kernel's stretch after the launch begins with the operations that make the indices. -/
theorem khead0_eq (U : KV) : afterL kops1 U = afterL [Cert.KernelIdeal.Gen.hostOps1_1, Cert.KernelIdeal.Gen.hostOps1_2] (afterL khead0 U) := rfl
/-- Layer 0: so does the reference's stretch after its sampling loop. -/
theorem rhead0_eq (U : RV) : after rops1 U = after ((rops1_L (F := Ideal)).1.drop 1) (after rhead0 U) := rfl
/-- Layer 0: the reference's stretch after the ball query, written out. -/
theorem rtail0_eq : rops2 (F := Ideal) = (rops2_L (F := Ideal)).1 := rfl
/-- Layer 0: the body of the reference's ball query, written out. -/
theorem rloop0_eq : rbody1 (F := Ideal) = (rbody1_T (F := Ideal)).1 := rfl
/-- Layer 0: what the two programs do after the features and before the next sampling. -/
theorem left0_3 : ((layer0 (F := Ideal)).2.2.2.ks', (layer0 (F := Ideal)).2.2.2.l') = (klast1, rlast1) := rfl

/-- From the launch of layer 0 to that of the next. -/
theorem step0 (X : KM) (Y : RM) (c : Dev Cert.KernelIdeal.nD) (c' : Dev Cert.ReferenceIdeal.nD) {V : KV} {W : RV} (hM : kpre0 X c = afterL klast0 V)
    (hN : rpre0 Y c' = after rlast0 W) (h : ∀ p ∈ live0, Agree V W p) : ∃ (V' : KV) (W' : RV), kpre1 (klayer0 X) c = afterL klast1 V' ∧ rpre2 (rpost1 (rpost0 Y)) c' = after rlast1 W' ∧ ∀ p ∈ live1, Agree V' W' p := by
  have hi := index0 V W (h (Cert.KernelIdeal.main_arg0, Cert.ReferenceIdeal.main_arg0) (List.elem_iff.mp (by decide +kernel))) (kpre0 X) c hM (rpre0 Y) c' hN
  obtain ⟨V', W', e, e', a⟩ := layer_agree span0 layer0.1 left0_0 layer0.2.1 left0_1 layer0.2.2.1 left0_2 layer0.2.2.2 free0 enter0 cond0 body0 leave0 h (kpre0 X) c hM
    (kout0 (kpre0 X)) (rpre0 Y) c' hN 65525 128 hi
  rw [(Prod.mk.inj left0_3).1] at e
  rw [(Prod.mk.inj left0_3).2] at e'
  refine ⟨V', W', Eq.trans ?_ e, Eq.trans ?_ e', a⟩
  · unfold kpre1 klayer0 kquery0 kfps0
    simp -implicitDefEqProofs only [khead0_eq]
  · unfold rpre2 rpost1 rpre1 rpost0
    simp -implicitDefEqProofs only [rhead0_eq, rtail0_eq, rloop0_eq]

/-! ## Layer 1 -/

/-- Layer 1: the kernel's stretch after the launch begins with the operations that make the indices. -/
theorem khead1_eq (U : KV) : afterL kops3 U = afterL [Cert.KernelIdeal.Gen.hostOps2_1, Cert.KernelIdeal.Gen.hostOps2_2] (afterL khead1 U) := rfl
/-- Layer 1: so does the reference's stretch after its sampling loop. -/
theorem rhead1_eq (U : RV) : after rops3 U = after ((rops3_L (F := Ideal)).1.drop 1) (after rhead1 U) := rfl
/-- Layer 1: the reference's stretch after the ball query, written out. -/
theorem rtail1_eq : rops4 (F := Ideal) = (rops4_L (F := Ideal)).1 := rfl
/-- Layer 1: the body of the reference's ball query, written out. -/
theorem rloop1_eq : rbody3 (F := Ideal) = (rbody3_T (F := Ideal)).1 := rfl
/-- Layer 1: what the two programs do after the features and before the next sampling. -/
theorem left1_3 : ((layer1 (F := Ideal)).2.2.2.ks', (layer1 (F := Ideal)).2.2.2.l') = (klast2, rlast2) := rfl

/-- From the launch of layer 1 to that of the next. -/
theorem step1 (X : KM) (Y : RM) (c : Dev Cert.KernelIdeal.nD) (c' : Dev Cert.ReferenceIdeal.nD) {V : KV} {W : RV} (hM : kpre1 X c = afterL klast1 V)
    (hN : rpre2 Y c' = after rlast1 W) (h : ∀ p ∈ live1, Agree V W p) : ∃ (V' : KV) (W' : RV), kpre2 (klayer1 X) c = afterL klast2 V' ∧ rpre4 (rpost3 (rpost2 Y)) c' = after rlast2 W' ∧ ∀ p ∈ live2, Agree V' W' p := by
  have hi := index1 V W (h (Cert.KernelIdeal.main_v18, Cert.ReferenceIdeal.main_v5) (List.elem_iff.mp (by decide +kernel))) (kpre1 X) c hM (rpre2 Y) c' hN
  obtain ⟨V', W', e, e', a⟩ := layer_agree span1 layer1.1 left1_0 layer1.2.1 left1_1 layer1.2.2.1 left1_2 layer1.2.2.2 free1 enter1 cond1 body1 leave1 h (kpre1 X) c hM
    (kout1 (kpre1 X)) (rpre2 Y) c' hN 32767 64 hi
  rw [(Prod.mk.inj left1_3).1] at e
  rw [(Prod.mk.inj left1_3).2] at e'
  refine ⟨V', W', Eq.trans ?_ e, Eq.trans ?_ e', a⟩
  · unfold kpre2 klayer1 kquery1 kfps1
    simp -implicitDefEqProofs only [khead1_eq]
  · unfold rpre4 rpost3 rpre3 rpost2
    simp -implicitDefEqProofs only [rhead1_eq, rtail1_eq, rloop1_eq]

/-! ## Layer 2 -/

/-- Layer 2: the kernel's stretch after the launch begins with the operations that make the indices. -/
theorem khead2_eq (U : KV) : afterL kops5 U = afterL [Cert.KernelIdeal.Gen.hostOps3_1, Cert.KernelIdeal.Gen.hostOps3_2] (afterL khead2 U) := rfl
/-- Layer 2: so does the reference's stretch after its sampling loop. -/
theorem rhead2_eq (U : RV) : after rops5 U = after ((rops5_L (F := Ideal)).1.drop 1) (after rhead2 U) := rfl
/-- Layer 2: the reference's stretch after the ball query, written out. -/
theorem rtail2_eq : rops6 (F := Ideal) = (rops6_L (F := Ideal)).1 := rfl
/-- Layer 2: the body of the reference's ball query, written out. -/
theorem rloop2_eq : rbody5 (F := Ideal) = (rbody5_T (F := Ideal)).1 := rfl
/-- Layer 2: what the two programs do after the features and before the next sampling. -/
theorem left2_3 : ((layer2 (F := Ideal)).2.2.2.ks', (layer2 (F := Ideal)).2.2.2.l') = (klast3, rlast3) := rfl

/-- From the launch of layer 2 to that of the next. -/
theorem step2 (X : KM) (Y : RM) (c : Dev Cert.KernelIdeal.nD) (c' : Dev Cert.ReferenceIdeal.nD) {V : KV} {W : RV} (hM : kpre2 X c = afterL klast2 V)
    (hN : rpre4 Y c' = after rlast2 W) (h : ∀ p ∈ live2, Agree V W p) : ∃ (V' : KV) (W' : RV), kpre3 (klayer2 X) c = afterL klast3 V' ∧ rpre6 (rpost5 (rpost4 Y)) c' = after rlast3 W' ∧ ∀ p ∈ live3, Agree V' W' p := by
  have hi := index2 V W (h (Cert.KernelIdeal.main_v86, Cert.ReferenceIdeal.main_v61) (List.elem_iff.mp (by decide +kernel))) (kpre2 X) c hM (rpre4 Y) c' hN
  obtain ⟨V', W', e, e', a⟩ := layer_agree span2 layer2.1 left2_0 layer2.2.1 left2_1 layer2.2.2.1 left2_2 layer2.2.2.2 free2 enter2 cond2 body2 leave2 h (kpre2 X) c hM
    (kout2 (kpre2 X)) (rpre4 Y) c' hN 16383 32 hi
  rw [(Prod.mk.inj left2_3).1] at e
  rw [(Prod.mk.inj left2_3).2] at e'
  refine ⟨V', W', Eq.trans ?_ e, Eq.trans ?_ e', a⟩
  · unfold kpre3 klayer2 kquery2 kfps2
    simp -implicitDefEqProofs only [khead2_eq]
  · unfold rpre6 rpost5 rpre5 rpost4
    simp -implicitDefEqProofs only [rhead2_eq, rtail2_eq, rloop2_eq]

/-! ## Layer 3 -/

/-- Layer 3: the kernel's stretch after the launch begins with the operations that make the indices. -/
theorem khead3_eq (U : KV) : afterL kops7 U = afterL [Cert.KernelIdeal.Gen.hostOps4_1, Cert.KernelIdeal.Gen.hostOps4_2] (afterL khead3 U) := rfl
/-- Layer 3: so does the reference's stretch after its sampling loop. -/
theorem rhead3_eq (U : RV) : after rops7 U = after ((rops7_L (F := Ideal)).1.drop 1) (after rhead3 U) := rfl
/-- Layer 3: the reference's stretch after the ball query, written out. -/
theorem rtail3_eq : rops8 (F := Ideal) = (rops8_L (F := Ideal)).1 := rfl
/-- Layer 3: the body of the reference's ball query, written out. -/
theorem rloop3_eq : rbody7 (F := Ideal) = (rbody7_T (F := Ideal)).1 := rfl
/-- Layer 3: what the two programs do after the features and before the next sampling. -/
theorem left3_3 : ((layer3 (F := Ideal)).2.2.2.ks', (layer3 (F := Ideal)).2.2.2.l') = ([], []) := rfl

/-- From the launch of layer 3 to the end. -/
theorem step3 (X : KM) (Y : RM) (c : Dev Cert.KernelIdeal.nD) (c' : Dev Cert.ReferenceIdeal.nD) {V : KV} {W : RV} (hM : kpre3 X c = afterL klast3 V)
    (hN : rpre6 Y c' = after rlast3 W) (h : ∀ p ∈ live3, Agree V W p) : ∃ (V' : KV) (W' : RV), afterL kops8 (klayer3 X c) = V' ∧ after rops8 (rpost7 (rpost6 Y) c') = W' ∧ ∀ p ∈ live4, Agree V' W' p := by
  have hi := index3 V W (h (Cert.KernelIdeal.main_v153, Cert.ReferenceIdeal.main_v116) (List.elem_iff.mp (by decide +kernel))) (kpre3 X) c hM (rpre6 Y) c' hN
  obtain ⟨V', W', e, e', a⟩ := layer_agree span3 layer3.1 left3_0 layer3.2.1 left3_1 layer3.2.2.1 left3_2 layer3.2.2.2 free3 enter3 cond3 body3 leave3 h (kpre3 X) c hM
    (kout3 (kpre3 X)) (rpre6 Y) c' hN 8191 16 hi
  rw [(Prod.mk.inj left3_3).1] at e
  rw [(Prod.mk.inj left3_3).2] at e'
  refine ⟨V', W', Eq.trans ?_ e, Eq.trans ?_ e', a⟩
  · unfold klayer3 kquery3 kfps3
    simp -implicitDefEqProofs only [khead3_eq]
  · unfold rpost7 rpre7 rpost6
    simp -implicitDefEqProofs only [rhead3_eq, rtail3_eq, rloop3_eq]

/-- THE PROGRAMS AGREE: where the arguments agree, so do the results. -/
theorem ends_agree (X : KM) (Y : RM) (c : Dev Cert.KernelIdeal.nD) (c' : Dev Cert.ReferenceIdeal.nD) (h : ∀ p ∈ args, Agree (X c) (Y c') p) :
    ∀ p ∈ live4, Agree (kend X c) (rend Y c') p := by
  obtain ⟨V1, W1, e1, f1, a1⟩ := step0 X Y c c' (V := X c) (W := Y c') rfl rfl h
  obtain ⟨V2, W2, e2, f2, a2⟩ := step1 (klayer0 X) (rpost1 (rpost0 Y)) c c' e1 f1 a1
  obtain ⟨V3, W3, e3, f3, a3⟩ := step2 (klayer1 (klayer0 X)) (rpost3 (rpost2 (rpost1 (rpost0 Y)))) c c' e2 f2 a2
  obtain ⟨V4, W4, e4, f4, a4⟩ := step3 (klayer2 (klayer1 (klayer0 X))) (rpost5 (rpost4 (rpost3 (rpost2 (rpost1 (rpost0 Y)))))) c c' e3 f3 a3
  unfold kend rend
  rw [e4, f4]
  exact a4

end Cert.Layer
-- ==== Proof.Algebraic.lean ====
/-
  The idealized kernel and the idealized reference, from agreeing arguments, run to equal results.
-/
module

public import proofs.«01_k».proof.Proof.Values

@[expose] public section

set_option maxRecDepth 100000

noncomputable section

namespace Cert.Layer

open Cert.Host Cert.KernelIdeal.Fps Cert.ReferenceIdeal.Run
open Idealize.ShloMosaic Idealize.ShloMosaic.TcCoe Idealize.SL.Sem
open Idealize.ShloMosaic.StableHlo (launchContents)

/-- Where a core's buffer lies, in the kernel and in the reference. -/
abbrev kloc (c : Dev Cert.KernelIdeal.nD) (r : Ref Cert.KernelIdeal.sig .tc) : Loc Cert.KernelIdeal.nD Cert.KernelIdeal.τ Cert.KernelIdeal.sig :=
  (c.tc : Thread Cert.KernelIdeal.nD Cert.KernelIdeal.τ).loc r
abbrev rloc (c : Dev Cert.ReferenceIdeal.nD) (r : Ref Cert.ReferenceIdeal.sig .tc) : Loc Cert.ReferenceIdeal.nD Cert.ReferenceIdeal.τ Cert.ReferenceIdeal.sig :=
  (c.tc : Thread Cert.ReferenceIdeal.nD Cert.ReferenceIdeal.τ).loc r

/-- The memories agree in the arguments. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : @Eq (FVec Ideal ⟨3, ![1, 65536, 3]⟩ .f32) (m' (rloc c Cert.ReferenceIdeal.main_arg0)) (m (kloc c Cert.KernelIdeal.main_arg0))
        ∧ @Eq (FVec Ideal ⟨3, ![1, 3, 65536]⟩ .f32) (m' (rloc c Cert.ReferenceIdeal.main_arg1)) (m (kloc c Cert.KernelIdeal.main_arg1))
        ∧ @Eq (FVec Ideal ⟨2, ![64, 6]⟩ .f32) (m' (rloc c Cert.ReferenceIdeal.main_arg2)) (m (kloc c Cert.KernelIdeal.main_arg2))
        ∧ @Eq (FVec Ideal ⟨1, ![64]⟩ .f32) (m' (rloc c Cert.ReferenceIdeal.main_arg3)) (m (kloc c Cert.KernelIdeal.main_arg3))
        ∧ @Eq (FVec Ideal ⟨1, ![64]⟩ .f32) (m' (rloc c Cert.ReferenceIdeal.main_arg4)) (m (kloc c Cert.KernelIdeal.main_arg4))
        ∧ @Eq (FVec Ideal ⟨2, ![128, 67]⟩ .f32) (m' (rloc c Cert.ReferenceIdeal.main_arg5)) (m (kloc c Cert.KernelIdeal.main_arg5))
        ∧ @Eq (FVec Ideal ⟨1, ![128]⟩ .f32) (m' (rloc c Cert.ReferenceIdeal.main_arg6)) (m (kloc c Cert.KernelIdeal.main_arg6))
        ∧ @Eq (FVec Ideal ⟨1, ![128]⟩ .f32) (m' (rloc c Cert.ReferenceIdeal.main_arg7)) (m (kloc c Cert.KernelIdeal.main_arg7))
        ∧ @Eq (FVec Ideal ⟨2, ![256, 131]⟩ .f32) (m' (rloc c Cert.ReferenceIdeal.main_arg8)) (m (kloc c Cert.KernelIdeal.main_arg8))
        ∧ @Eq (FVec Ideal ⟨1, ![256]⟩ .f32) (m' (rloc c Cert.ReferenceIdeal.main_arg9)) (m (kloc c Cert.KernelIdeal.main_arg9))
        ∧ @Eq (FVec Ideal ⟨1, ![256]⟩ .f32) (m' (rloc c Cert.ReferenceIdeal.main_arg10)) (m (kloc c Cert.KernelIdeal.main_arg10))
        ∧ @Eq (FVec Ideal ⟨2, ![256, 259]⟩ .f32) (m' (rloc c Cert.ReferenceIdeal.main_arg11)) (m (kloc c Cert.KernelIdeal.main_arg11))
        ∧ @Eq (FVec Ideal ⟨1, ![256]⟩ .f32) (m' (rloc c Cert.ReferenceIdeal.main_arg12)) (m (kloc c Cert.KernelIdeal.main_arg12))
        ∧ @Eq (FVec Ideal ⟨1, ![256]⟩ .f32) (m' (rloc c Cert.ReferenceIdeal.main_arg13)) (m (kloc c Cert.KernelIdeal.main_arg13))) :
    ∀ p ∈ args, Agree (launchContents m c) (launchContents m' c) p := by
  obtain ⟨h0, h1, h2, h3, h4, h5, h6, h7, h8, h9, h10, h11, h12, h13⟩ := h
  refine List.forall_mem_cons.2 ⟨@heq_of_eq (FVec Ideal ⟨3, ![1, 65536, 3]⟩ .f32) _ _ h0.symm, List.forall_mem_cons.2 ⟨@heq_of_eq (FVec Ideal ⟨3, ![1, 3, 65536]⟩ .f32) _ _ h1.symm, List.forall_mem_cons.2 ⟨@heq_of_eq (FVec Ideal ⟨2, ![64, 6]⟩ .f32) _ _ h2.symm, List.forall_mem_cons.2 ⟨@heq_of_eq (FVec Ideal ⟨1, ![64]⟩ .f32) _ _ h3.symm, List.forall_mem_cons.2 ⟨@heq_of_eq (FVec Ideal ⟨1, ![64]⟩ .f32) _ _ h4.symm, List.forall_mem_cons.2 ⟨@heq_of_eq (FVec Ideal ⟨2, ![128, 67]⟩ .f32) _ _ h5.symm, List.forall_mem_cons.2 ⟨@heq_of_eq (FVec Ideal ⟨1, ![128]⟩ .f32) _ _ h6.symm, List.forall_mem_cons.2 ⟨@heq_of_eq (FVec Ideal ⟨1, ![128]⟩ .f32) _ _ h7.symm, List.forall_mem_cons.2 ⟨@heq_of_eq (FVec Ideal ⟨2, ![256, 131]⟩ .f32) _ _ h8.symm, List.forall_mem_cons.2 ⟨@heq_of_eq (FVec Ideal ⟨1, ![256]⟩ .f32) _ _ h9.symm, List.forall_mem_cons.2 ⟨@heq_of_eq (FVec Ideal ⟨1, ![256]⟩ .f32) _ _ h10.symm, List.forall_mem_cons.2 ⟨@heq_of_eq (FVec Ideal ⟨2, ![256, 259]⟩ .f32) _ _ h11.symm, List.forall_mem_cons.2 ⟨@heq_of_eq (FVec Ideal ⟨1, ![256]⟩ .f32) _ _ h12.symm, List.forall_mem_cons.2 ⟨@heq_of_eq (FVec Ideal ⟨1, ![256]⟩ .f32) _ _ h13.symm, fun _ hp => absurd hp List.not_mem_nil⟩⟩⟩⟩⟩⟩⟩⟩⟩⟩⟩⟩⟩⟩

/-- The results agree. -/
theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (h : ∀ p ∈ args, Agree (launchContents m c) (launchContents m' c) p) :
    @Eq (FVec Ideal ⟨3, ![1, 65536, 3]⟩ .f32) (rend (launchContents m') c Cert.ReferenceIdeal.main_arg0) (kend (launchContents m) c Cert.KernelIdeal.main_arg0)
        ∧ @Eq (FVec Ideal ⟨3, ![1, 65526, 3]⟩ .f32) (rend (launchContents m') c Cert.ReferenceIdeal.main_v5) (kend (launchContents m) c Cert.KernelIdeal.main_v18)
        ∧ @Eq (FVec Ideal ⟨3, ![1, 32768, 3]⟩ .f32) (rend (launchContents m') c Cert.ReferenceIdeal.main_v61) (kend (launchContents m) c Cert.KernelIdeal.main_v86)
        ∧ @Eq (FVec Ideal ⟨3, ![1, 16384, 3]⟩ .f32) (rend (launchContents m') c Cert.ReferenceIdeal.main_v116) (kend (launchContents m) c Cert.KernelIdeal.main_v153)
        ∧ @Eq (FVec Ideal ⟨3, ![1, 8192, 3]⟩ .f32) (rend (launchContents m') c Cert.ReferenceIdeal.main_v171) (kend (launchContents m) c Cert.KernelIdeal.main_v220)
        ∧ @Eq (FVec Ideal ⟨3, ![1, 3, 65536]⟩ .f32) (rend (launchContents m') c Cert.ReferenceIdeal.main_arg1) (kend (launchContents m) c Cert.KernelIdeal.main_arg1)
        ∧ @Eq (FVec Ideal ⟨3, ![1, 64, 65526]⟩ .f32) (rend (launchContents m') c Cert.ReferenceIdeal.main_v55) (kend (launchContents m) c Cert.KernelIdeal.main_v68)
        ∧ @Eq (FVec Ideal ⟨3, ![1, 128, 32768]⟩ .f32) (rend (launchContents m') c Cert.ReferenceIdeal.main_v110) (kend (launchContents m) c Cert.KernelIdeal.main_v135)
        ∧ @Eq (FVec Ideal ⟨3, ![1, 256, 16384]⟩ .f32) (rend (launchContents m') c Cert.ReferenceIdeal.main_v165) (kend (launchContents m) c Cert.KernelIdeal.main_v202)
        ∧ @Eq (FVec Ideal ⟨3, ![1, 256, 8192]⟩ .f32) (rend (launchContents m') c Cert.ReferenceIdeal.main_v220) (kend (launchContents m) c Cert.KernelIdeal.main_v269) := by
  have a := ends_agree (launchContents m) (launchContents m') c c h
  exact ⟨(@eq_of_heq (FVec Ideal ⟨3, ![1, 65536, 3]⟩ .f32) _ _ (a (Cert.KernelIdeal.main_arg0, Cert.ReferenceIdeal.main_arg0) (List.elem_iff.mp (by decide +kernel)))).symm,
    (@eq_of_heq (FVec Ideal ⟨3, ![1, 65526, 3]⟩ .f32) _ _ (a (Cert.KernelIdeal.main_v18, Cert.ReferenceIdeal.main_v5) (List.elem_iff.mp (by decide +kernel)))).symm,
    (@eq_of_heq (FVec Ideal ⟨3, ![1, 32768, 3]⟩ .f32) _ _ (a (Cert.KernelIdeal.main_v86, Cert.ReferenceIdeal.main_v61) (List.elem_iff.mp (by decide +kernel)))).symm,
    (@eq_of_heq (FVec Ideal ⟨3, ![1, 16384, 3]⟩ .f32) _ _ (a (Cert.KernelIdeal.main_v153, Cert.ReferenceIdeal.main_v116) (List.elem_iff.mp (by decide +kernel)))).symm,
    (@eq_of_heq (FVec Ideal ⟨3, ![1, 8192, 3]⟩ .f32) _ _ (a (Cert.KernelIdeal.main_v220, Cert.ReferenceIdeal.main_v171) (List.elem_iff.mp (by decide +kernel)))).symm,
    (@eq_of_heq (FVec Ideal ⟨3, ![1, 3, 65536]⟩ .f32) _ _ (a (Cert.KernelIdeal.main_arg1, Cert.ReferenceIdeal.main_arg1) (List.elem_iff.mp (by decide +kernel)))).symm,
    (@eq_of_heq (FVec Ideal ⟨3, ![1, 64, 65526]⟩ .f32) _ _ (a (Cert.KernelIdeal.main_v68, Cert.ReferenceIdeal.main_v55) (List.elem_iff.mp (by decide +kernel)))).symm,
    (@eq_of_heq (FVec Ideal ⟨3, ![1, 128, 32768]⟩ .f32) _ _ (a (Cert.KernelIdeal.main_v135, Cert.ReferenceIdeal.main_v110) (List.elem_iff.mp (by decide +kernel)))).symm,
    (@eq_of_heq (FVec Ideal ⟨3, ![1, 256, 16384]⟩ .f32) _ _ (a (Cert.KernelIdeal.main_v202, Cert.ReferenceIdeal.main_v165) (List.elem_iff.mp (by decide +kernel)))).symm,
    (@eq_of_heq (FVec Ideal ⟨3, ![1, 256, 8192]⟩ .f32) _ _ (a (Cert.KernelIdeal.main_v269, Cert.ReferenceIdeal.main_v220) (List.elem_iff.mp (by decide +kernel)))).symm⟩

set_option backward.isDefEq.respectTransparency.types false in
/-- THE KERNEL COMPUTES THE REFERENCE: from memories that agree in the arguments both run, to equal results and with the arguments unchanged. -/
theorem algebraic
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg)
    (_ : True) (h : ∀ c : Dev Cert.KernelIdeal.nD,
        @Eq (FVec Ideal ⟨3, ![1, 65536, 3]⟩ .f32) (m' (rloc c Cert.ReferenceIdeal.main_arg0)) (m (kloc c Cert.KernelIdeal.main_arg0))
        ∧ @Eq (FVec Ideal ⟨3, ![1, 3, 65536]⟩ .f32) (m' (rloc c Cert.ReferenceIdeal.main_arg1)) (m (kloc c Cert.KernelIdeal.main_arg1))
        ∧ @Eq (FVec Ideal ⟨2, ![64, 6]⟩ .f32) (m' (rloc c Cert.ReferenceIdeal.main_arg2)) (m (kloc c Cert.KernelIdeal.main_arg2))
        ∧ @Eq (FVec Ideal ⟨1, ![64]⟩ .f32) (m' (rloc c Cert.ReferenceIdeal.main_arg3)) (m (kloc c Cert.KernelIdeal.main_arg3))
        ∧ @Eq (FVec Ideal ⟨1, ![64]⟩ .f32) (m' (rloc c Cert.ReferenceIdeal.main_arg4)) (m (kloc c Cert.KernelIdeal.main_arg4))
        ∧ @Eq (FVec Ideal ⟨2, ![128, 67]⟩ .f32) (m' (rloc c Cert.ReferenceIdeal.main_arg5)) (m (kloc c Cert.KernelIdeal.main_arg5))
        ∧ @Eq (FVec Ideal ⟨1, ![128]⟩ .f32) (m' (rloc c Cert.ReferenceIdeal.main_arg6)) (m (kloc c Cert.KernelIdeal.main_arg6))
        ∧ @Eq (FVec Ideal ⟨1, ![128]⟩ .f32) (m' (rloc c Cert.ReferenceIdeal.main_arg7)) (m (kloc c Cert.KernelIdeal.main_arg7))
        ∧ @Eq (FVec Ideal ⟨2, ![256, 131]⟩ .f32) (m' (rloc c Cert.ReferenceIdeal.main_arg8)) (m (kloc c Cert.KernelIdeal.main_arg8))
        ∧ @Eq (FVec Ideal ⟨1, ![256]⟩ .f32) (m' (rloc c Cert.ReferenceIdeal.main_arg9)) (m (kloc c Cert.KernelIdeal.main_arg9))
        ∧ @Eq (FVec Ideal ⟨1, ![256]⟩ .f32) (m' (rloc c Cert.ReferenceIdeal.main_arg10)) (m (kloc c Cert.KernelIdeal.main_arg10))
        ∧ @Eq (FVec Ideal ⟨2, ![256, 259]⟩ .f32) (m' (rloc c Cert.ReferenceIdeal.main_arg11)) (m (kloc c Cert.KernelIdeal.main_arg11))
        ∧ @Eq (FVec Ideal ⟨1, ![256]⟩ .f32) (m' (rloc c Cert.ReferenceIdeal.main_arg12)) (m (kloc c Cert.KernelIdeal.main_arg12))
        ∧ @Eq (FVec Ideal ⟨1, ![256]⟩ .f32) (m' (rloc c Cert.ReferenceIdeal.main_arg13)) (m (kloc c Cert.KernelIdeal.main_arg13))) :
    ∃ (v0 : (c : Dev Cert.KernelIdeal.nD) → Buf (Elt Ideal) (kloc c Cert.KernelIdeal.main_arg0)) (v1 : (c : Dev Cert.KernelIdeal.nD) → Buf (Elt Ideal) (kloc c Cert.KernelIdeal.main_v18)) (v2 : (c : Dev Cert.KernelIdeal.nD) → Buf (Elt Ideal) (kloc c Cert.KernelIdeal.main_v86)) (v3 : (c : Dev Cert.KernelIdeal.nD) → Buf (Elt Ideal) (kloc c Cert.KernelIdeal.main_v153)) (v4 : (c : Dev Cert.KernelIdeal.nD) → Buf (Elt Ideal) (kloc c Cert.KernelIdeal.main_v220)) (v5 : (c : Dev Cert.KernelIdeal.nD) → Buf (Elt Ideal) (kloc c Cert.KernelIdeal.main_arg1)) (v6 : (c : Dev Cert.KernelIdeal.nD) → Buf (Elt Ideal) (kloc c Cert.KernelIdeal.main_v68)) (v7 : (c : Dev Cert.KernelIdeal.nD) → Buf (Elt Ideal) (kloc c Cert.KernelIdeal.main_v135)) (v8 : (c : Dev Cert.KernelIdeal.nD) → Buf (Elt Ideal) (kloc c Cert.KernelIdeal.main_v202)) (v9 : (c : Dev Cert.KernelIdeal.nD) → Buf (Elt Ideal) (kloc c Cert.KernelIdeal.main_v269)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem (kloc c Cert.KernelIdeal.main_arg0) = v0 c
        ∧ r.2.mem (kloc c Cert.KernelIdeal.main_v18) = v1 c
        ∧ r.2.mem (kloc c Cert.KernelIdeal.main_v86) = v2 c
        ∧ r.2.mem (kloc c Cert.KernelIdeal.main_v153) = v3 c
        ∧ r.2.mem (kloc c Cert.KernelIdeal.main_v220) = v4 c
        ∧ r.2.mem (kloc c Cert.KernelIdeal.main_arg1) = v5 c
        ∧ r.2.mem (kloc c Cert.KernelIdeal.main_v68) = v6 c
        ∧ r.2.mem (kloc c Cert.KernelIdeal.main_v135) = v7 c
        ∧ r.2.mem (kloc c Cert.KernelIdeal.main_v202) = v8 c
        ∧ r.2.mem (kloc c Cert.KernelIdeal.main_v269) = v9 c
        ∧ r.2.mem (kloc c Cert.KernelIdeal.main_arg0) = m (kloc c Cert.KernelIdeal.main_arg0)
        ∧ r.2.mem (kloc c Cert.KernelIdeal.main_arg1) = m (kloc c Cert.KernelIdeal.main_arg1)
        ∧ r.2.mem (kloc c Cert.KernelIdeal.main_arg2) = m (kloc c Cert.KernelIdeal.main_arg2)
        ∧ r.2.mem (kloc c Cert.KernelIdeal.main_arg3) = m (kloc c Cert.KernelIdeal.main_arg3)
        ∧ r.2.mem (kloc c Cert.KernelIdeal.main_arg4) = m (kloc c Cert.KernelIdeal.main_arg4)
        ∧ r.2.mem (kloc c Cert.KernelIdeal.main_arg5) = m (kloc c Cert.KernelIdeal.main_arg5)
        ∧ r.2.mem (kloc c Cert.KernelIdeal.main_arg6) = m (kloc c Cert.KernelIdeal.main_arg6)
        ∧ r.2.mem (kloc c Cert.KernelIdeal.main_arg7) = m (kloc c Cert.KernelIdeal.main_arg7)
        ∧ r.2.mem (kloc c Cert.KernelIdeal.main_arg8) = m (kloc c Cert.KernelIdeal.main_arg8)
        ∧ r.2.mem (kloc c Cert.KernelIdeal.main_arg9) = m (kloc c Cert.KernelIdeal.main_arg9)
        ∧ r.2.mem (kloc c Cert.KernelIdeal.main_arg10) = m (kloc c Cert.KernelIdeal.main_arg10)
        ∧ r.2.mem (kloc c Cert.KernelIdeal.main_arg11) = m (kloc c Cert.KernelIdeal.main_arg11)
        ∧ r.2.mem (kloc c Cert.KernelIdeal.main_arg12) = m (kloc c Cert.KernelIdeal.main_arg12)
        ∧ r.2.mem (kloc c Cert.KernelIdeal.main_arg13) = m (kloc c Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
        @Eq (FVec Ideal ⟨3, ![1, 65536, 3]⟩ .f32) (r.2.mem (rloc c Cert.ReferenceIdeal.main_arg0)) (v0 c)
        ∧ @Eq (FVec Ideal ⟨3, ![1, 65526, 3]⟩ .f32) (r.2.mem (rloc c Cert.ReferenceIdeal.main_v5)) (v1 c)
        ∧ @Eq (FVec Ideal ⟨3, ![1, 32768, 3]⟩ .f32) (r.2.mem (rloc c Cert.ReferenceIdeal.main_v61)) (v2 c)
        ∧ @Eq (FVec Ideal ⟨3, ![1, 16384, 3]⟩ .f32) (r.2.mem (rloc c Cert.ReferenceIdeal.main_v116)) (v3 c)
        ∧ @Eq (FVec Ideal ⟨3, ![1, 8192, 3]⟩ .f32) (r.2.mem (rloc c Cert.ReferenceIdeal.main_v171)) (v4 c)
        ∧ @Eq (FVec Ideal ⟨3, ![1, 3, 65536]⟩ .f32) (r.2.mem (rloc c Cert.ReferenceIdeal.main_arg1)) (v5 c)
        ∧ @Eq (FVec Ideal ⟨3, ![1, 64, 65526]⟩ .f32) (r.2.mem (rloc c Cert.ReferenceIdeal.main_v55)) (v6 c)
        ∧ @Eq (FVec Ideal ⟨3, ![1, 128, 32768]⟩ .f32) (r.2.mem (rloc c Cert.ReferenceIdeal.main_v110)) (v7 c)
        ∧ @Eq (FVec Ideal ⟨3, ![1, 256, 16384]⟩ .f32) (r.2.mem (rloc c Cert.ReferenceIdeal.main_v165)) (v8 c)
        ∧ @Eq (FVec Ideal ⟨3, ![1, 256, 8192]⟩ .f32) (r.2.mem (rloc c Cert.ReferenceIdeal.main_v220)) (v9 c)
        ∧ r.2.mem (rloc c Cert.ReferenceIdeal.main_arg0) = m' (rloc c Cert.ReferenceIdeal.main_arg0)
        ∧ r.2.mem (rloc c Cert.ReferenceIdeal.main_arg1) = m' (rloc c Cert.ReferenceIdeal.main_arg1)
        ∧ r.2.mem (rloc c Cert.ReferenceIdeal.main_arg2) = m' (rloc c Cert.ReferenceIdeal.main_arg2)
        ∧ r.2.mem (rloc c Cert.ReferenceIdeal.main_arg3) = m' (rloc c Cert.ReferenceIdeal.main_arg3)
        ∧ r.2.mem (rloc c Cert.ReferenceIdeal.main_arg4) = m' (rloc c Cert.ReferenceIdeal.main_arg4)
        ∧ r.2.mem (rloc c Cert.ReferenceIdeal.main_arg5) = m' (rloc c Cert.ReferenceIdeal.main_arg5)
        ∧ r.2.mem (rloc c Cert.ReferenceIdeal.main_arg6) = m' (rloc c Cert.ReferenceIdeal.main_arg6)
        ∧ r.2.mem (rloc c Cert.ReferenceIdeal.main_arg7) = m' (rloc c Cert.ReferenceIdeal.main_arg7)
        ∧ r.2.mem (rloc c Cert.ReferenceIdeal.main_arg8) = m' (rloc c Cert.ReferenceIdeal.main_arg8)
        ∧ r.2.mem (rloc c Cert.ReferenceIdeal.main_arg9) = m' (rloc c Cert.ReferenceIdeal.main_arg9)
        ∧ r.2.mem (rloc c Cert.ReferenceIdeal.main_arg10) = m' (rloc c Cert.ReferenceIdeal.main_arg10)
        ∧ r.2.mem (rloc c Cert.ReferenceIdeal.main_arg11) = m' (rloc c Cert.ReferenceIdeal.main_arg11)
        ∧ r.2.mem (rloc c Cert.ReferenceIdeal.main_arg12) = m' (rloc c Cert.ReferenceIdeal.main_arg12)
        ∧ r.2.mem (rloc c Cert.ReferenceIdeal.main_arg13) = m' (rloc c Cert.ReferenceIdeal.main_arg13)) := by
  refine ⟨fun c => kend (launchContents m) c Cert.KernelIdeal.main_arg0, fun c => kend (launchContents m) c Cert.KernelIdeal.main_v18, fun c => kend (launchContents m) c Cert.KernelIdeal.main_v86, fun c => kend (launchContents m) c Cert.KernelIdeal.main_v153, fun c => kend (launchContents m) c Cert.KernelIdeal.main_v220, fun c => kend (launchContents m) c Cert.KernelIdeal.main_arg1, fun c => kend (launchContents m) c Cert.KernelIdeal.main_v68, fun c => kend (launchContents m) c Cert.KernelIdeal.main_v135, fun c => kend (launchContents m) c Cert.KernelIdeal.main_v202, fun c => kend (launchContents m) c Cert.KernelIdeal.main_v269, (θ_run _ _ _).mono (fun r h' c => ?_) (krun m g), (θ_run _ _ _).mono (fun r h' c => ?_) (rrun m' g')⟩
  · have k : ∀ a ∈ kargs, (Proc.devRef .tc a : DevRef Cert.KernelIdeal.τ Cert.KernelIdeal.sig).isScoped = false → r.2.mem (kloc c a) = m (kloc c a) :=
      fun a ha hs => (h'.1 c a hs).trans (kend_keep (kargs_kept a ha) _ c)
    exact ⟨h'.1 c Cert.KernelIdeal.main_arg0 rfl, h'.1 c Cert.KernelIdeal.main_v18 rfl, h'.1 c Cert.KernelIdeal.main_v86 rfl, h'.1 c Cert.KernelIdeal.main_v153 rfl, h'.1 c Cert.KernelIdeal.main_v220 rfl, h'.1 c Cert.KernelIdeal.main_arg1 rfl, h'.1 c Cert.KernelIdeal.main_v68 rfl, h'.1 c Cert.KernelIdeal.main_v135 rfl, h'.1 c Cert.KernelIdeal.main_v202 rfl, h'.1 c Cert.KernelIdeal.main_v269 rfl, k Cert.KernelIdeal.main_arg0 (by decide) rfl, k Cert.KernelIdeal.main_arg1 (by decide) rfl, k Cert.KernelIdeal.main_arg2 (by decide) rfl, k Cert.KernelIdeal.main_arg3 (by decide) rfl, k Cert.KernelIdeal.main_arg4 (by decide) rfl, k Cert.KernelIdeal.main_arg5 (by decide) rfl, k Cert.KernelIdeal.main_arg6 (by decide) rfl, k Cert.KernelIdeal.main_arg7 (by decide) rfl, k Cert.KernelIdeal.main_arg8 (by decide) rfl, k Cert.KernelIdeal.main_arg9 (by decide) rfl, k Cert.KernelIdeal.main_arg10 (by decide) rfl, k Cert.KernelIdeal.main_arg11 (by decide) rfl, k Cert.KernelIdeal.main_arg12 (by decide) rfl, k Cert.KernelIdeal.main_arg13 (by decide) rfl⟩
  · have k : ∀ a ∈ rargs, (Proc.devRef .tc a : DevRef Cert.ReferenceIdeal.τ Cert.ReferenceIdeal.sig).isScoped = false → r.2.mem (rloc c a) = m' (rloc c a) :=
      fun a ha hs => (h'.1 c a hs).trans (rend_keep (rargs_kept a ha) _ c)
    obtain ⟨e0, e1, e2, e3, e4, e5, e6, e7, e8, e9⟩ := results_agree m m' c (args_agree m m' c (h c))
    exact ⟨@Eq.trans (FVec Ideal ⟨3, ![1, 65536, 3]⟩ .f32) _ _ _ (h'.1 c Cert.ReferenceIdeal.main_arg0 rfl) e0, @Eq.trans (FVec Ideal ⟨3, ![1, 65526, 3]⟩ .f32) _ _ _ (h'.1 c Cert.ReferenceIdeal.main_v5 rfl) e1, @Eq.trans (FVec Ideal ⟨3, ![1, 32768, 3]⟩ .f32) _ _ _ (h'.1 c Cert.ReferenceIdeal.main_v61 rfl) e2, @Eq.trans (FVec Ideal ⟨3, ![1, 16384, 3]⟩ .f32) _ _ _ (h'.1 c Cert.ReferenceIdeal.main_v116 rfl) e3, @Eq.trans (FVec Ideal ⟨3, ![1, 8192, 3]⟩ .f32) _ _ _ (h'.1 c Cert.ReferenceIdeal.main_v171 rfl) e4, @Eq.trans (FVec Ideal ⟨3, ![1, 3, 65536]⟩ .f32) _ _ _ (h'.1 c Cert.ReferenceIdeal.main_arg1 rfl) e5, @Eq.trans (FVec Ideal ⟨3, ![1, 64, 65526]⟩ .f32) _ _ _ (h'.1 c Cert.ReferenceIdeal.main_v55 rfl) e6, @Eq.trans (FVec Ideal ⟨3, ![1, 128, 32768]⟩ .f32) _ _ _ (h'.1 c Cert.ReferenceIdeal.main_v110 rfl) e7, @Eq.trans (FVec Ideal ⟨3, ![1, 256, 16384]⟩ .f32) _ _ _ (h'.1 c Cert.ReferenceIdeal.main_v165 rfl) e8, @Eq.trans (FVec Ideal ⟨3, ![1, 256, 8192]⟩ .f32) _ _ _ (h'.1 c Cert.ReferenceIdeal.main_v220 rfl) e9, k Cert.ReferenceIdeal.main_arg0 (by decide) rfl, k Cert.ReferenceIdeal.main_arg1 (by decide) rfl, k Cert.ReferenceIdeal.main_arg2 (by decide) rfl, k Cert.ReferenceIdeal.main_arg3 (by decide) rfl, k Cert.ReferenceIdeal.main_arg4 (by decide) rfl, k Cert.ReferenceIdeal.main_arg5 (by decide) rfl, k Cert.ReferenceIdeal.main_arg6 (by decide) rfl, k Cert.ReferenceIdeal.main_arg7 (by decide) rfl, k Cert.ReferenceIdeal.main_arg8 (by decide) rfl, k Cert.ReferenceIdeal.main_arg9 (by decide) rfl, k Cert.ReferenceIdeal.main_arg10 (by decide) rfl, k Cert.ReferenceIdeal.main_arg11 (by decide) rfl, k Cert.ReferenceIdeal.main_arg12 (by decide) rfl, k Cert.ReferenceIdeal.main_arg13 (by decide) rfl⟩

end Cert.Layer
-- ==== Proof.lean ====
/-
  The proof of this directory's certificate (Defs.lean): the first version of the kernel, taken whole.

    frames        — the kernel's host program is a list of items, stretches of operations, four launches and four counted loops
                    (`Proof/Items.lean`, `Proof/KRun.lean`), and runs to their composition (`Proof/KEnd.lean`); each launch's body is run once at
                    symbolic operands, its loop by an invariant (`Proof/Bodies.lean`, `Proof/Regs.lean`); no item writes an argument
                    (`Proof/KFrame.lean`). `Proof/Bits/` says the same of the program as printed. The reference's host program is a list of stretches
                    and eight counted loops (`Proof/RLists.lean`, `Proof/RRun.lean`, `Proof/RFrame.lean`).
    values        — farthest-point sampling on its own, as a recursion on distances (`Proof/Sample.lean`); each launch computes it
                    (`Proof/KSample.lean`), and so does each of the reference's sampling loops (`Proof/RSample.lean`, `Proof/RFps.lean`), so the
                    layers' indices agree where their points do (`Proof/Samples.lean`). The rest of a layer is the same operations on both sides
                    (`Proof/Sim.lean`, `Proof/Layer0.lean` to `Layer3.lean`); following the buffers through them gives the results
                    (`Proof/Glue.lean`, `Proof/Values.lean`, `Proof/Algebraic.lean`).
-/
module

public import proofs.«01_k».proof.Defs
public import proofs.«01_k».proof.Proof.Bits.KFrame
public import proofs.«01_k».proof.Proof.KFrame
public import proofs.«01_k».proof.Proof.RFrame
public import proofs.«01_k».proof.Proof.Algebraic

@[expose] public section

noncomputable section

namespace Cert.Proof

open Idealize.ShloMosaic Idealize.SL.Sem

set_option maxHeartbeats 400000000 in
theorem claim : Cert.Claim := ⟨Cert.Kernel.Gen.facts, Cert.KernelIdeal.Gen.facts, Cert.ReferenceIdeal.Gen.facts,
  fun m g _ => Cert.Kernel.Fps.kquiescent m g,
  fun m g _ => Cert.KernelIdeal.Fps.kquiescent m g,
  fun m g _ => Cert.ReferenceIdeal.Run.rquiescent m g,
  trivial,
  Cert.Layer.algebraic⟩

end Cert.Proof

end
